-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_MemoryKernel (m : (ℓ : Loc Cert.MemoryKernel.nD Cert.MemoryKernel.τ Cert.MemoryKernel.sig) → Buf (Elt Bits) ℓ) : Prop :=
  True

def Pre_MemoryKernelIdeal (m : (ℓ : Loc Cert.MemoryKernelIdeal.nD Cert.MemoryKernelIdeal.τ Cert.MemoryKernelIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_MixerSKernel (m : (ℓ : Loc Cert.MixerSKernel.nD Cert.MixerSKernel.τ Cert.MixerSKernel.sig) → Buf (Elt Bits) ℓ) : Prop :=
  True

def Pre_MixerSKernelIdeal (m : (ℓ : Loc Cert.MixerSKernelIdeal.nD Cert.MixerSKernelIdeal.τ Cert.MixerSKernelIdeal.sig) → Buf (Elt Ideal) ℓ) : Prop :=
  True

def Pre_MixerSReferenceIdeal (m : (ℓ : Loc Cert.MixerSReferenceIdeal.nD Cert.MixerSReferenceIdeal.τ Cert.MixerSReferenceIdeal.sig) → Buf (Elt Ideal) ℓ) : Prop :=
  True

def Pre_FfnSKernel (m : (ℓ : Loc Cert.FfnSKernel.nD Cert.FfnSKernel.τ Cert.FfnSKernel.sig) → Buf (Elt Bits) ℓ) : Prop :=
  True

def Pre_FfnSKernelIdeal (m : (ℓ : Loc Cert.FfnSKernelIdeal.nD Cert.FfnSKernelIdeal.τ Cert.FfnSKernelIdeal.sig) → Buf (Elt Ideal) ℓ) : Prop :=
  True

def Pre_FfnSReferenceIdeal (m : (ℓ : Loc Cert.FfnSReferenceIdeal.nD Cert.FfnSReferenceIdeal.τ Cert.FfnSReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_MemKvKernel (m : (ℓ : Loc Cert.MemKvKernel.nD Cert.MemKvKernel.τ Cert.MemKvKernel.sig) → Buf (Elt Bits) ℓ) : Prop :=
  True

def Pre_MemKvKernelIdeal (m : (ℓ : Loc Cert.MemKvKernelIdeal.nD Cert.MemKvKernelIdeal.τ Cert.MemKvKernelIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_InSKernel (m : (ℓ : Loc Cert.InSKernel.nD Cert.InSKernel.τ Cert.InSKernel.sig) → Buf (Elt Bits) ℓ) : Prop :=
  True

def Pre_InSKernelIdeal (m : (ℓ : Loc Cert.InSKernelIdeal.nD Cert.InSKernelIdeal.τ Cert.InSKernelIdeal.sig) → Buf (Elt Ideal) ℓ) : Prop :=
  True

def Pre_InSReferenceIdeal (m : (ℓ : Loc Cert.InSReferenceIdeal.nD Cert.InSReferenceIdeal.τ Cert.InSReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4))
      ∧ r.2.sem = fun _ => 0)

def quiescent_MemoryKernel [hMemoryKernel : Cert.MemoryKernel.Facts] : Prop :=
  ∀ (m : (ℓ : Loc Cert.MemoryKernel.nD Cert.MemoryKernel.τ Cert.MemoryKernel.sig) → Buf (Elt Bits) ℓ) (g : Dev Cert.MemoryKernel.nD → PrngReg), Pre_MemoryKernel m →
    θ_run (Cert.MemoryKernel.defs (F := Bits)) (onTc (τ := Cert.MemoryKernel.τ) (Cert.MemoryKernel.main (F := Bits))) ⟨m, fun _ => 0, g⟩ (fun r => (∀ c : Dev Cert.MemoryKernel.nD,
      r.2.mem ((c.tc : Thread Cert.MemoryKernel.nD Cert.MemoryKernel.τ).loc Cert.MemoryKernel.main_arg0) = m ((c.tc : Thread Cert.MemoryKernel.nD Cert.MemoryKernel.τ).loc Cert.MemoryKernel.main_arg0)
      ∧ r.2.mem ((c.tc : Thread Cert.MemoryKernel.nD Cert.MemoryKernel.τ).loc Cert.MemoryKernel.main_arg1) = m ((c.tc : Thread Cert.MemoryKernel.nD Cert.MemoryKernel.τ).loc Cert.MemoryKernel.main_arg1)
      ∧ r.2.mem ((c.tc : Thread Cert.MemoryKernel.nD Cert.MemoryKernel.τ).loc Cert.MemoryKernel.main_arg2) = m ((c.tc : Thread Cert.MemoryKernel.nD Cert.MemoryKernel.τ).loc Cert.MemoryKernel.main_arg2)
      ∧ r.2.mem ((c.tc : Thread Cert.MemoryKernel.nD Cert.MemoryKernel.τ).loc Cert.MemoryKernel.main_arg3) = m ((c.tc : Thread Cert.MemoryKernel.nD Cert.MemoryKernel.τ).loc Cert.MemoryKernel.main_arg3))
      ∧ r.2.sem = fun _ => 0)

def quiescent_MemoryKernelIdeal [hMemoryKernelIdeal : Cert.MemoryKernelIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg), Pre_MemoryKernelIdeal m →
    θ_run (Cert.MemoryKernelIdeal.defs (F := Ideal)) (onTc (τ := Cert.MemoryKernelIdeal.τ) (Cert.MemoryKernelIdeal.main (F := Ideal))) ⟨m, fun _ => 0, g⟩ (fun r => (∀ c : Dev Cert.MemoryKernelIdeal.nD,
      r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
      ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
      ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2)
      ∧ r.2.mem ((c.tc : Thread Cert.MemoryKernelIdeal.nD Cert.MemoryKernelIdeal.τ).loc Cert.MemoryKernelIdeal.main_arg3) = m ((c.tc : Thread Cert.MemoryKernelIdeal.nD Cert.MemoryKernelIdeal.τ).loc Cert.MemoryKernelIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_MixerSKernel [hMixerSKernel : Cert.MixerSKernel.Facts] : Prop :=
  ∀ (m : (ℓ : Loc Cert.MixerSKernel.nD Cert.MixerSKernel.τ Cert.MixerSKernel.sig) → Buf (Elt Bits) ℓ) (g : Dev Cert.MixerSKernel.nD → PrngReg), Pre_MixerSKernel m →
    θ_run (Cert.MixerSKernel.defs (F := Bits)) (onTc (τ := Cert.MixerSKernel.τ) (Cert.MixerSKernel.main (F := Bits))) ⟨m, fun _ => 0, g⟩ (fun r => (∀ c : Dev Cert.MixerSKernel.nD,
      r.2.mem ((c.tc : Thread Cert.MixerSKernel.nD Cert.MixerSKernel.τ).loc Cert.MixerSKernel.main_arg0) = m ((c.tc : Thread Cert.MixerSKernel.nD Cert.MixerSKernel.τ).loc Cert.MixerSKernel.main_arg0)
      ∧ r.2.mem ((c.tc : Thread Cert.MixerSKernel.nD Cert.MixerSKernel.τ).loc Cert.MixerSKernel.main_arg1) = m ((c.tc : Thread Cert.MixerSKernel.nD Cert.MixerSKernel.τ).loc Cert.MixerSKernel.main_arg1)
      ∧ r.2.mem ((c.tc : Thread Cert.MixerSKernel.nD Cert.MixerSKernel.τ).loc Cert.MixerSKernel.main_arg2) = m ((c.tc : Thread Cert.MixerSKernel.nD Cert.MixerSKernel.τ).loc Cert.MixerSKernel.main_arg2)
      ∧ r.2.mem ((c.tc : Thread Cert.MixerSKernel.nD Cert.MixerSKernel.τ).loc Cert.MixerSKernel.main_arg3) = m ((c.tc : Thread Cert.MixerSKernel.nD Cert.MixerSKernel.τ).loc Cert.MixerSKernel.main_arg3)
      ∧ r.2.mem ((c.tc : Thread Cert.MixerSKernel.nD Cert.MixerSKernel.τ).loc Cert.MixerSKernel.main_arg4) = m ((c.tc : Thread Cert.MixerSKernel.nD Cert.MixerSKernel.τ).loc Cert.MixerSKernel.main_arg4))
      ∧ r.2.sem = fun _ => 0)

def quiescent_MixerSKernelIdeal [hMixerSKernelIdeal : Cert.MixerSKernelIdeal.Facts] : Prop :=
  ∀ (m : (ℓ : Loc Cert.MixerSKernelIdeal.nD Cert.MixerSKernelIdeal.τ Cert.MixerSKernelIdeal.sig) → Buf (Elt Ideal) ℓ) (g : Dev Cert.MixerSKernelIdeal.nD → PrngReg), Pre_MixerSKernelIdeal m →
    θ_run (Cert.MixerSKernelIdeal.defs (F := Ideal)) (onTc (τ := Cert.MixerSKernelIdeal.τ) (Cert.MixerSKernelIdeal.main (F := Ideal))) ⟨m, fun _ => 0, g⟩ (fun r => (∀ c : Dev Cert.MixerSKernelIdeal.nD,
      r.2.mem ((c.tc : Thread Cert.MixerSKernelIdeal.nD Cert.MixerSKernelIdeal.τ).loc Cert.MixerSKernelIdeal.main_arg0) = m ((c.tc : Thread Cert.MixerSKernelIdeal.nD Cert.MixerSKernelIdeal.τ).loc Cert.MixerSKernelIdeal.main_arg0)
      ∧ r.2.mem ((c.tc : Thread Cert.MixerSKernelIdeal.nD Cert.MixerSKernelIdeal.τ).loc Cert.MixerSKernelIdeal.main_arg1) = m ((c.tc : Thread Cert.MixerSKernelIdeal.nD Cert.MixerSKernelIdeal.τ).loc Cert.MixerSKernelIdeal.main_arg1)
      ∧ r.2.mem ((c.tc : Thread Cert.MixerSKernelIdeal.nD Cert.MixerSKernelIdeal.τ).loc Cert.MixerSKernelIdeal.main_arg2) = m ((c.tc : Thread Cert.MixerSKernelIdeal.nD Cert.MixerSKernelIdeal.τ).loc Cert.MixerSKernelIdeal.main_arg2)
      ∧ r.2.mem ((c.tc : Thread Cert.MixerSKernelIdeal.nD Cert.MixerSKernelIdeal.τ).loc Cert.MixerSKernelIdeal.main_arg3) = m ((c.tc : Thread Cert.MixerSKernelIdeal.nD Cert.MixerSKernelIdeal.τ).loc Cert.MixerSKernelIdeal.main_arg3)
      ∧ r.2.mem ((c.tc : Thread Cert.MixerSKernelIdeal.nD Cert.MixerSKernelIdeal.τ).loc Cert.MixerSKernelIdeal.main_arg4) = m ((c.tc : Thread Cert.MixerSKernelIdeal.nD Cert.MixerSKernelIdeal.τ).loc Cert.MixerSKernelIdeal.main_arg4))
      ∧ r.2.sem = fun _ => 0)

def quiescent_MixerSReferenceIdeal [hMixerSReferenceIdeal : Cert.MixerSReferenceIdeal.Facts] : Prop :=
  ∀ (m : (ℓ : Loc Cert.MixerSReferenceIdeal.nD Cert.MixerSReferenceIdeal.τ Cert.MixerSReferenceIdeal.sig) → Buf (Elt Ideal) ℓ) (g : Dev Cert.MixerSReferenceIdeal.nD → PrngReg), Pre_MixerSReferenceIdeal m →
    θ_run (Cert.MixerSReferenceIdeal.defs (F := Ideal)) (onTc (τ := Cert.MixerSReferenceIdeal.τ) (Cert.MixerSReferenceIdeal.main (F := Ideal))) ⟨m, fun _ => 0, g⟩ (fun r => (∀ c : Dev Cert.MixerSReferenceIdeal.nD,
      r.2.mem ((c.tc : Thread Cert.MixerSReferenceIdeal.nD Cert.MixerSReferenceIdeal.τ).loc Cert.MixerSReferenceIdeal.main_arg0) = m ((c.tc : Thread Cert.MixerSReferenceIdeal.nD Cert.MixerSReferenceIdeal.τ).loc Cert.MixerSReferenceIdeal.main_arg0)
      ∧ r.2.mem ((c.tc : Thread Cert.MixerSReferenceIdeal.nD Cert.MixerSReferenceIdeal.τ).loc Cert.MixerSReferenceIdeal.main_arg1) = m ((c.tc : Thread Cert.MixerSReferenceIdeal.nD Cert.MixerSReferenceIdeal.τ).loc Cert.MixerSReferenceIdeal.main_arg1)
      ∧ r.2.mem ((c.tc : Thread Cert.MixerSReferenceIdeal.nD Cert.MixerSReferenceIdeal.τ).loc Cert.MixerSReferenceIdeal.main_arg2) = m ((c.tc : Thread Cert.MixerSReferenceIdeal.nD Cert.MixerSReferenceIdeal.τ).loc Cert.MixerSReferenceIdeal.main_arg2)
      ∧ r.2.mem ((c.tc : Thread Cert.MixerSReferenceIdeal.nD Cert.MixerSReferenceIdeal.τ).loc Cert.MixerSReferenceIdeal.main_arg3) = m ((c.tc : Thread Cert.MixerSReferenceIdeal.nD Cert.MixerSReferenceIdeal.τ).loc Cert.MixerSReferenceIdeal.main_arg3)
      ∧ r.2.mem ((c.tc : Thread Cert.MixerSReferenceIdeal.nD Cert.MixerSReferenceIdeal.τ).loc Cert.MixerSReferenceIdeal.main_arg4) = m ((c.tc : Thread Cert.MixerSReferenceIdeal.nD Cert.MixerSReferenceIdeal.τ).loc Cert.MixerSReferenceIdeal.main_arg4))
      ∧ r.2.sem = fun _ => 0)

def quiescent_FfnSKernel [hFfnSKernel : Cert.FfnSKernel.Facts] : Prop :=
  ∀ (m : (ℓ : Loc Cert.FfnSKernel.nD Cert.FfnSKernel.τ Cert.FfnSKernel.sig) → Buf (Elt Bits) ℓ) (g : Dev Cert.FfnSKernel.nD → PrngReg), Pre_FfnSKernel m →
    θ_run (Cert.FfnSKernel.defs (F := Bits)) (onTc (τ := Cert.FfnSKernel.τ) (Cert.FfnSKernel.main (F := Bits))) ⟨m, fun _ => 0, g⟩ (fun r => (∀ c : Dev Cert.FfnSKernel.nD,
      r.2.mem ((c.tc : Thread Cert.FfnSKernel.nD Cert.FfnSKernel.τ).loc Cert.FfnSKernel.main_arg0) = m ((c.tc : Thread Cert.FfnSKernel.nD Cert.FfnSKernel.τ).loc Cert.FfnSKernel.main_arg0)
      ∧ r.2.mem ((c.tc : Thread Cert.FfnSKernel.nD Cert.FfnSKernel.τ).loc Cert.FfnSKernel.main_arg1) = m ((c.tc : Thread Cert.FfnSKernel.nD Cert.FfnSKernel.τ).loc Cert.FfnSKernel.main_arg1)
      ∧ r.2.mem ((c.tc : Thread Cert.FfnSKernel.nD Cert.FfnSKernel.τ).loc Cert.FfnSKernel.main_arg2) = m ((c.tc : Thread Cert.FfnSKernel.nD Cert.FfnSKernel.τ).loc Cert.FfnSKernel.main_arg2)
      ∧ r.2.mem ((c.tc : Thread Cert.FfnSKernel.nD Cert.FfnSKernel.τ).loc Cert.FfnSKernel.main_arg3) = m ((c.tc : Thread Cert.FfnSKernel.nD Cert.FfnSKernel.τ).loc Cert.FfnSKernel.main_arg3)
      ∧ r.2.mem ((c.tc : Thread Cert.FfnSKernel.nD Cert.FfnSKernel.τ).loc Cert.FfnSKernel.main_arg4) = m ((c.tc : Thread Cert.FfnSKernel.nD Cert.FfnSKernel.τ).loc Cert.FfnSKernel.main_arg4)
      ∧ r.2.mem ((c.tc : Thread Cert.FfnSKernel.nD Cert.FfnSKernel.τ).loc Cert.FfnSKernel.main_arg5) = m ((c.tc : Thread Cert.FfnSKernel.nD Cert.FfnSKernel.τ).loc Cert.FfnSKernel.main_arg5)
      ∧ r.2.mem ((c.tc : Thread Cert.FfnSKernel.nD Cert.FfnSKernel.τ).loc Cert.FfnSKernel.main_arg6) = m ((c.tc : Thread Cert.FfnSKernel.nD Cert.FfnSKernel.τ).loc Cert.FfnSKernel.main_arg6))
      ∧ r.2.sem = fun _ => 0)

def quiescent_FfnSKernelIdeal [hFfnSKernelIdeal : Cert.FfnSKernelIdeal.Facts] : Prop :=
  ∀ (m : (ℓ : Loc Cert.FfnSKernelIdeal.nD Cert.FfnSKernelIdeal.τ Cert.FfnSKernelIdeal.sig) → Buf (Elt Ideal) ℓ) (g : Dev Cert.FfnSKernelIdeal.nD → PrngReg), Pre_FfnSKernelIdeal m →
    θ_run (Cert.FfnSKernelIdeal.defs (F := Ideal)) (onTc (τ := Cert.FfnSKernelIdeal.τ) (Cert.FfnSKernelIdeal.main (F := Ideal))) ⟨m, fun _ => 0, g⟩ (fun r => (∀ c : Dev Cert.FfnSKernelIdeal.nD,
      r.2.mem ((c.tc : Thread Cert.FfnSKernelIdeal.nD Cert.FfnSKernelIdeal.τ).loc Cert.FfnSKernelIdeal.main_arg0) = m ((c.tc : Thread Cert.FfnSKernelIdeal.nD Cert.FfnSKernelIdeal.τ).loc Cert.FfnSKernelIdeal.main_arg0)
      ∧ r.2.mem ((c.tc : Thread Cert.FfnSKernelIdeal.nD Cert.FfnSKernelIdeal.τ).loc Cert.FfnSKernelIdeal.main_arg1) = m ((c.tc : Thread Cert.FfnSKernelIdeal.nD Cert.FfnSKernelIdeal.τ).loc Cert.FfnSKernelIdeal.main_arg1)
      ∧ r.2.mem ((c.tc : Thread Cert.FfnSKernelIdeal.nD Cert.FfnSKernelIdeal.τ).loc Cert.FfnSKernelIdeal.main_arg2) = m ((c.tc : Thread Cert.FfnSKernelIdeal.nD Cert.FfnSKernelIdeal.τ).loc Cert.FfnSKernelIdeal.main_arg2)
      ∧ r.2.mem ((c.tc : Thread Cert.FfnSKernelIdeal.nD Cert.FfnSKernelIdeal.τ).loc Cert.FfnSKernelIdeal.main_arg3) = m ((c.tc : Thread Cert.FfnSKernelIdeal.nD Cert.FfnSKernelIdeal.τ).loc Cert.FfnSKernelIdeal.main_arg3)
      ∧ r.2.mem ((c.tc : Thread Cert.FfnSKernelIdeal.nD Cert.FfnSKernelIdeal.τ).loc Cert.FfnSKernelIdeal.main_arg4) = m ((c.tc : Thread Cert.FfnSKernelIdeal.nD Cert.FfnSKernelIdeal.τ).loc Cert.FfnSKernelIdeal.main_arg4)
      ∧ r.2.mem ((c.tc : Thread Cert.FfnSKernelIdeal.nD Cert.FfnSKernelIdeal.τ).loc Cert.FfnSKernelIdeal.main_arg5) = m ((c.tc : Thread Cert.FfnSKernelIdeal.nD Cert.FfnSKernelIdeal.τ).loc Cert.FfnSKernelIdeal.main_arg5)
      ∧ r.2.mem ((c.tc : Thread Cert.FfnSKernelIdeal.nD Cert.FfnSKernelIdeal.τ).loc Cert.FfnSKernelIdeal.main_arg6) = m ((c.tc : Thread Cert.FfnSKernelIdeal.nD Cert.FfnSKernelIdeal.τ).loc Cert.FfnSKernelIdeal.main_arg6))
      ∧ r.2.sem = fun _ => 0)

def quiescent_FfnSReferenceIdeal [hFfnSReferenceIdeal : Cert.FfnSReferenceIdeal.Facts] : Prop :=
  ∀ (m : (ℓ : Loc Cert.FfnSReferenceIdeal.nD Cert.FfnSReferenceIdeal.τ Cert.FfnSReferenceIdeal.sig) → Buf (Elt Ideal) ℓ) (g : Dev Cert.FfnSReferenceIdeal.nD → PrngReg), Pre_FfnSReferenceIdeal m →
    θ_run (Cert.FfnSReferenceIdeal.defs (F := Ideal)) (onTc (τ := Cert.FfnSReferenceIdeal.τ) (Cert.FfnSReferenceIdeal.main (F := Ideal))) ⟨m, fun _ => 0, g⟩ (fun r => (∀ c : Dev Cert.FfnSReferenceIdeal.nD,
      r.2.mem ((c.tc : Thread Cert.FfnSReferenceIdeal.nD Cert.FfnSReferenceIdeal.τ).loc Cert.FfnSReferenceIdeal.main_arg0) = m ((c.tc : Thread Cert.FfnSReferenceIdeal.nD Cert.FfnSReferenceIdeal.τ).loc Cert.FfnSReferenceIdeal.main_arg0)
      ∧ r.2.mem ((c.tc : Thread Cert.FfnSReferenceIdeal.nD Cert.FfnSReferenceIdeal.τ).loc Cert.FfnSReferenceIdeal.main_arg1) = m ((c.tc : Thread Cert.FfnSReferenceIdeal.nD Cert.FfnSReferenceIdeal.τ).loc Cert.FfnSReferenceIdeal.main_arg1)
      ∧ r.2.mem ((c.tc : Thread Cert.FfnSReferenceIdeal.nD Cert.FfnSReferenceIdeal.τ).loc Cert.FfnSReferenceIdeal.main_arg2) = m ((c.tc : Thread Cert.FfnSReferenceIdeal.nD Cert.FfnSReferenceIdeal.τ).loc Cert.FfnSReferenceIdeal.main_arg2)
      ∧ r.2.mem ((c.tc : Thread Cert.FfnSReferenceIdeal.nD Cert.FfnSReferenceIdeal.τ).loc Cert.FfnSReferenceIdeal.main_arg3) = m ((c.tc : Thread Cert.FfnSReferenceIdeal.nD Cert.FfnSReferenceIdeal.τ).loc Cert.FfnSReferenceIdeal.main_arg3)
      ∧ r.2.mem ((c.tc : Thread Cert.FfnSReferenceIdeal.nD Cert.FfnSReferenceIdeal.τ).loc Cert.FfnSReferenceIdeal.main_arg4) = m ((c.tc : Thread Cert.FfnSReferenceIdeal.nD Cert.FfnSReferenceIdeal.τ).loc Cert.FfnSReferenceIdeal.main_arg4)
      ∧ r.2.mem ((c.tc : Thread Cert.FfnSReferenceIdeal.nD Cert.FfnSReferenceIdeal.τ).loc Cert.FfnSReferenceIdeal.main_arg5) = m ((c.tc : Thread Cert.FfnSReferenceIdeal.nD Cert.FfnSReferenceIdeal.τ).loc Cert.FfnSReferenceIdeal.main_arg5)
      ∧ r.2.mem ((c.tc : Thread Cert.FfnSReferenceIdeal.nD Cert.FfnSReferenceIdeal.τ).loc Cert.FfnSReferenceIdeal.main_arg6) = m ((c.tc : Thread Cert.FfnSReferenceIdeal.nD Cert.FfnSReferenceIdeal.τ).loc Cert.FfnSReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_MemKvKernel [hMemKvKernel : Cert.MemKvKernel.Facts] : Prop :=
  ∀ (m : (ℓ : Loc Cert.MemKvKernel.nD Cert.MemKvKernel.τ Cert.MemKvKernel.sig) → Buf (Elt Bits) ℓ) (g : Dev Cert.MemKvKernel.nD → PrngReg), Pre_MemKvKernel m →
    θ_run (Cert.MemKvKernel.defs (F := Bits)) (onTc (τ := Cert.MemKvKernel.τ) (Cert.MemKvKernel.main (F := Bits))) ⟨m, fun _ => 0, g⟩ (fun r => (∀ c : Dev Cert.MemKvKernel.nD,
      r.2.mem ((c.tc : Thread Cert.MemKvKernel.nD Cert.MemKvKernel.τ).loc Cert.MemKvKernel.main_arg0) = m ((c.tc : Thread Cert.MemKvKernel.nD Cert.MemKvKernel.τ).loc Cert.MemKvKernel.main_arg0)
      ∧ r.2.mem ((c.tc : Thread Cert.MemKvKernel.nD Cert.MemKvKernel.τ).loc Cert.MemKvKernel.main_arg1) = m ((c.tc : Thread Cert.MemKvKernel.nD Cert.MemKvKernel.τ).loc Cert.MemKvKernel.main_arg1)
      ∧ r.2.mem ((c.tc : Thread Cert.MemKvKernel.nD Cert.MemKvKernel.τ).loc Cert.MemKvKernel.main_arg2) = m ((c.tc : Thread Cert.MemKvKernel.nD Cert.MemKvKernel.τ).loc Cert.MemKvKernel.main_arg2)
      ∧ r.2.mem ((c.tc : Thread Cert.MemKvKernel.nD Cert.MemKvKernel.τ).loc Cert.MemKvKernel.main_arg3) = m ((c.tc : Thread Cert.MemKvKernel.nD Cert.MemKvKernel.τ).loc Cert.MemKvKernel.main_arg3))
      ∧ r.2.sem = fun _ => 0)

def quiescent_MemKvKernelIdeal [hMemKvKernelIdeal : Cert.MemKvKernelIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg), Pre_MemKvKernelIdeal m →
    θ_run (Cert.MemKvKernelIdeal.defs (F := Ideal)) (onTc (τ := Cert.MemKvKernelIdeal.τ) (Cert.MemKvKernelIdeal.main (F := Ideal))) ⟨m, fun _ => 0, g⟩ (fun r => (∀ c : Dev Cert.MemKvKernelIdeal.nD,
      r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
      ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1)
      ∧ r.2.mem ((c.tc : Thread Cert.MemKvKernelIdeal.nD Cert.MemKvKernelIdeal.τ).loc Cert.MemKvKernelIdeal.main_arg2) = m ((c.tc : Thread Cert.MemKvKernelIdeal.nD Cert.MemKvKernelIdeal.τ).loc Cert.MemKvKernelIdeal.main_arg2)
      ∧ r.2.mem ((c.tc : Thread Cert.MemKvKernelIdeal.nD Cert.MemKvKernelIdeal.τ).loc Cert.MemKvKernelIdeal.main_arg3) = m ((c.tc : Thread Cert.MemKvKernelIdeal.nD Cert.MemKvKernelIdeal.τ).loc Cert.MemKvKernelIdeal.main_arg3))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3))
      ∧ r.2.sem = fun _ => 0)

def quiescent_InSKernel [hInSKernel : Cert.InSKernel.Facts] : Prop :=
  ∀ (m : (ℓ : Loc Cert.InSKernel.nD Cert.InSKernel.τ Cert.InSKernel.sig) → Buf (Elt Bits) ℓ) (g : Dev Cert.InSKernel.nD → PrngReg), Pre_InSKernel m →
    θ_run (Cert.InSKernel.defs (F := Bits)) (onTc (τ := Cert.InSKernel.τ) (Cert.InSKernel.main (F := Bits))) ⟨m, fun _ => 0, g⟩ (fun r => (∀ c : Dev Cert.InSKernel.nD,
      r.2.mem ((c.tc : Thread Cert.InSKernel.nD Cert.InSKernel.τ).loc Cert.InSKernel.main_arg0) = m ((c.tc : Thread Cert.InSKernel.nD Cert.InSKernel.τ).loc Cert.InSKernel.main_arg0)
      ∧ r.2.mem ((c.tc : Thread Cert.InSKernel.nD Cert.InSKernel.τ).loc Cert.InSKernel.main_arg1) = m ((c.tc : Thread Cert.InSKernel.nD Cert.InSKernel.τ).loc Cert.InSKernel.main_arg1)
      ∧ r.2.mem ((c.tc : Thread Cert.InSKernel.nD Cert.InSKernel.τ).loc Cert.InSKernel.main_arg2) = m ((c.tc : Thread Cert.InSKernel.nD Cert.InSKernel.τ).loc Cert.InSKernel.main_arg2)
      ∧ r.2.mem ((c.tc : Thread Cert.InSKernel.nD Cert.InSKernel.τ).loc Cert.InSKernel.main_arg3) = m ((c.tc : Thread Cert.InSKernel.nD Cert.InSKernel.τ).loc Cert.InSKernel.main_arg3)
      ∧ r.2.mem ((c.tc : Thread Cert.InSKernel.nD Cert.InSKernel.τ).loc Cert.InSKernel.main_arg4) = m ((c.tc : Thread Cert.InSKernel.nD Cert.InSKernel.τ).loc Cert.InSKernel.main_arg4))
      ∧ r.2.sem = fun _ => 0)

def quiescent_InSKernelIdeal [hInSKernelIdeal : Cert.InSKernelIdeal.Facts] : Prop :=
  ∀ (m : (ℓ : Loc Cert.InSKernelIdeal.nD Cert.InSKernelIdeal.τ Cert.InSKernelIdeal.sig) → Buf (Elt Ideal) ℓ) (g : Dev Cert.InSKernelIdeal.nD → PrngReg), Pre_InSKernelIdeal m →
    θ_run (Cert.InSKernelIdeal.defs (F := Ideal)) (onTc (τ := Cert.InSKernelIdeal.τ) (Cert.InSKernelIdeal.main (F := Ideal))) ⟨m, fun _ => 0, g⟩ (fun r => (∀ c : Dev Cert.InSKernelIdeal.nD,
      r.2.mem ((c.tc : Thread Cert.InSKernelIdeal.nD Cert.InSKernelIdeal.τ).loc Cert.InSKernelIdeal.main_arg0) = m ((c.tc : Thread Cert.InSKernelIdeal.nD Cert.InSKernelIdeal.τ).loc Cert.InSKernelIdeal.main_arg0)
      ∧ r.2.mem ((c.tc : Thread Cert.InSKernelIdeal.nD Cert.InSKernelIdeal.τ).loc Cert.InSKernelIdeal.main_arg1) = m ((c.tc : Thread Cert.InSKernelIdeal.nD Cert.InSKernelIdeal.τ).loc Cert.InSKernelIdeal.main_arg1)
      ∧ r.2.mem ((c.tc : Thread Cert.InSKernelIdeal.nD Cert.InSKernelIdeal.τ).loc Cert.InSKernelIdeal.main_arg2) = m ((c.tc : Thread Cert.InSKernelIdeal.nD Cert.InSKernelIdeal.τ).loc Cert.InSKernelIdeal.main_arg2)
      ∧ r.2.mem ((c.tc : Thread Cert.InSKernelIdeal.nD Cert.InSKernelIdeal.τ).loc Cert.InSKernelIdeal.main_arg3) = m ((c.tc : Thread Cert.InSKernelIdeal.nD Cert.InSKernelIdeal.τ).loc Cert.InSKernelIdeal.main_arg3)
      ∧ r.2.mem ((c.tc : Thread Cert.InSKernelIdeal.nD Cert.InSKernelIdeal.τ).loc Cert.InSKernelIdeal.main_arg4) = m ((c.tc : Thread Cert.InSKernelIdeal.nD Cert.InSKernelIdeal.τ).loc Cert.InSKernelIdeal.main_arg4))
      ∧ r.2.sem = fun _ => 0)

def quiescent_InSReferenceIdeal [hInSReferenceIdeal : Cert.InSReferenceIdeal.Facts] : Prop :=
  ∀ (m : (ℓ : Loc Cert.InSReferenceIdeal.nD Cert.InSReferenceIdeal.τ Cert.InSReferenceIdeal.sig) → Buf (Elt Ideal) ℓ) (g : Dev Cert.InSReferenceIdeal.nD → PrngReg), Pre_InSReferenceIdeal m →
    θ_run (Cert.InSReferenceIdeal.defs (F := Ideal)) (onTc (τ := Cert.InSReferenceIdeal.τ) (Cert.InSReferenceIdeal.main (F := Ideal))) ⟨m, fun _ => 0, g⟩ (fun r => (∀ c : Dev Cert.InSReferenceIdeal.nD,
      r.2.mem ((c.tc : Thread Cert.InSReferenceIdeal.nD Cert.InSReferenceIdeal.τ).loc Cert.InSReferenceIdeal.main_arg0) = m ((c.tc : Thread Cert.InSReferenceIdeal.nD Cert.InSReferenceIdeal.τ).loc Cert.InSReferenceIdeal.main_arg0)
      ∧ r.2.mem ((c.tc : Thread Cert.InSReferenceIdeal.nD Cert.InSReferenceIdeal.τ).loc Cert.InSReferenceIdeal.main_arg1) = m ((c.tc : Thread Cert.InSReferenceIdeal.nD Cert.InSReferenceIdeal.τ).loc Cert.InSReferenceIdeal.main_arg1)
      ∧ r.2.mem ((c.tc : Thread Cert.InSReferenceIdeal.nD Cert.InSReferenceIdeal.τ).loc Cert.InSReferenceIdeal.main_arg2) = m ((c.tc : Thread Cert.InSReferenceIdeal.nD Cert.InSReferenceIdeal.τ).loc Cert.InSReferenceIdeal.main_arg2)
      ∧ r.2.mem ((c.tc : Thread Cert.InSReferenceIdeal.nD Cert.InSReferenceIdeal.τ).loc Cert.InSReferenceIdeal.main_arg3) = m ((c.tc : Thread Cert.InSReferenceIdeal.nD Cert.InSReferenceIdeal.τ).loc Cert.InSReferenceIdeal.main_arg3)
      ∧ r.2.mem ((c.tc : Thread Cert.InSReferenceIdeal.nD Cert.InSReferenceIdeal.τ).loc Cert.InSReferenceIdeal.main_arg4) = m ((c.tc : Thread Cert.InSReferenceIdeal.nD Cert.InSReferenceIdeal.τ).loc Cert.InSReferenceIdeal.main_arg4))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v8_0)) (v1 : (c : Dev Cert.FfnKernelIdeal.nD) → Buf (Elt Ideal) ((c.tc : Thread Cert.FfnKernelIdeal.nD Cert.FfnKernelIdeal.τ).loc Cert.FfnKernelIdeal.main_v8_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v8_0) = v0 c
          ∧ r.2.mem ((c.tc : Thread Cert.FfnKernelIdeal.nD Cert.FfnKernelIdeal.τ).loc Cert.FfnKernelIdeal.main_v8_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v45) = v0 c
          ∧ r.2.mem ((c.tc : Thread Cert.FfnReferenceIdeal.nD Cert.FfnReferenceIdeal.τ).loc Cert.FfnReferenceIdeal.main_v47) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixerKernel_MixerKernelIdeal : Prop :=
  True

def algebraic_MixerKernelIdeal_MixerReferenceIdeal [hMixerKernelIdeal : Cert.MixerKernelIdeal.Facts] [hMixerReferenceIdeal : Cert.MixerReferenceIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerKernelIdeal m →
    (∀ c : Dev Cert.MixerKernelIdeal.nD,
      m' ((c.tc : Thread Cert.MixerReferenceIdeal.nD Cert.MixerReferenceIdeal.τ).loc Cert.MixerReferenceIdeal.main_arg0) = m ((c.tc : Thread Cert.MixerKernelIdeal.nD Cert.MixerKernelIdeal.τ).loc Cert.MixerKernelIdeal.main_arg0)
      ∧ m' ((c.tc : Thread Cert.MixerReferenceIdeal.nD Cert.MixerReferenceIdeal.τ).loc Cert.MixerReferenceIdeal.main_arg1) = m ((c.tc : Thread Cert.MixerKernelIdeal.nD Cert.MixerKernelIdeal.τ).loc Cert.MixerKernelIdeal.main_arg1)
      ∧ m' ((c.tc : Thread Cert.MixerReferenceIdeal.nD Cert.MixerReferenceIdeal.τ).loc Cert.MixerReferenceIdeal.main_arg2) = m ((c.tc : Thread Cert.MixerKernelIdeal.nD Cert.MixerKernelIdeal.τ).loc Cert.MixerKernelIdeal.main_arg2)
      ∧ m' ((c.tc : Thread Cert.MixerReferenceIdeal.nD Cert.MixerReferenceIdeal.τ).loc Cert.MixerReferenceIdeal.main_arg3) = m ((c.tc : Thread Cert.MixerKernelIdeal.nD Cert.MixerKernelIdeal.τ).loc Cert.MixerKernelIdeal.main_arg3)
      ∧ m' ((c.tc : Thread Cert.MixerReferenceIdeal.nD Cert.MixerReferenceIdeal.τ).loc Cert.MixerReferenceIdeal.main_arg4) = m ((c.tc : Thread Cert.MixerKernelIdeal.nD Cert.MixerKernelIdeal.τ).loc Cert.MixerKernelIdeal.main_arg4)) →
    ∃ (v0 : (c : Dev Cert.MixerKernelIdeal.nD) → Buf (Elt Ideal) ((c.tc : Thread Cert.MixerKernelIdeal.nD Cert.MixerKernelIdeal.τ).loc Cert.MixerKernelIdeal.main_v9)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          r.2.mem ((c.tc : Thread Cert.MixerKernelIdeal.nD Cert.MixerKernelIdeal.τ).loc Cert.MixerKernelIdeal.main_v9) = v0 c
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v26) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4))

def preserves_MemoryKernel_MemoryKernelIdeal : Prop :=
  True

def algebraic_MemoryKernelIdeal_MemoryReferenceIdeal [hMemoryKernelIdeal : Cert.MemoryKernelIdeal.Facts] [hMemoryReferenceIdeal : Cert.MemoryReferenceIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryKernelIdeal m →
    (∀ c : Dev Cert.MemoryKernelIdeal.nD,
      m' ((c.tc : Thread Cert.MemoryReferenceIdeal.nD Cert.MemoryReferenceIdeal.τ).loc Cert.MemoryReferenceIdeal.main_arg0) = m ((c.tc : Thread Cert.MemoryKernelIdeal.nD Cert.MemoryKernelIdeal.τ).loc Cert.MemoryKernelIdeal.main_arg0)
      ∧ m' ((c.tc : Thread Cert.MemoryReferenceIdeal.nD Cert.MemoryReferenceIdeal.τ).loc Cert.MemoryReferenceIdeal.main_arg1) = m ((c.tc : Thread Cert.MemoryKernelIdeal.nD Cert.MemoryKernelIdeal.τ).loc Cert.MemoryKernelIdeal.main_arg1)
      ∧ m' ((c.tc : Thread Cert.MemoryReferenceIdeal.nD Cert.MemoryReferenceIdeal.τ).loc Cert.MemoryReferenceIdeal.main_arg2) = m ((c.tc : Thread Cert.MemoryKernelIdeal.nD Cert.MemoryKernelIdeal.τ).loc Cert.MemoryKernelIdeal.main_arg2)
      ∧ m' ((c.tc : Thread Cert.MemoryReferenceIdeal.nD Cert.MemoryReferenceIdeal.τ).loc Cert.MemoryReferenceIdeal.main_arg3) = m ((c.tc : Thread Cert.MemoryKernelIdeal.nD Cert.MemoryKernelIdeal.τ).loc Cert.MemoryKernelIdeal.main_arg3)) →
    ∃ (v0 : (c : Dev Cert.MemoryKernelIdeal.nD) → Buf (Elt Ideal) ((c.tc : Thread Cert.MemoryKernelIdeal.nD Cert.MemoryKernelIdeal.τ).loc Cert.MemoryKernelIdeal.main_v4)),
      θ_run (Cert.MemoryKernelIdeal.defs (F := Ideal)) (onTc (τ := Cert.MemoryKernelIdeal.τ) (Cert.MemoryKernelIdeal.main (F := Ideal))) ⟨m, fun _ => 0, g⟩ (fun r => ∀ c : Dev Cert.MemoryKernelIdeal.nD,
          r.2.mem ((c.tc : Thread Cert.MemoryKernelIdeal.nD Cert.MemoryKernelIdeal.τ).loc Cert.MemoryKernelIdeal.main_v4) = v0 c
          ∧ r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
          ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
          ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2)
          ∧ r.2.mem ((c.tc : Thread Cert.MemoryKernelIdeal.nD Cert.MemoryKernelIdeal.τ).loc Cert.MemoryKernelIdeal.main_arg3) = m ((c.tc : Thread Cert.MemoryKernelIdeal.nD Cert.MemoryKernelIdeal.τ).loc Cert.MemoryKernelIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v31) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_MixerSKernel_MixerSKernelIdeal : Prop :=
  True

def algebraic_MixerSKernelIdeal_MixerSReferenceIdeal [hMixerSKernelIdeal : Cert.MixerSKernelIdeal.Facts] [hMixerSReferenceIdeal : Cert.MixerSReferenceIdeal.Facts] : Prop :=
  ∀ (m : (ℓ : Loc Cert.MixerSKernelIdeal.nD Cert.MixerSKernelIdeal.τ Cert.MixerSKernelIdeal.sig) → Buf (Elt Ideal) ℓ) (g : Dev Cert.MixerSKernelIdeal.nD → PrngReg)
    (m' : (ℓ : Loc Cert.MixerSReferenceIdeal.nD Cert.MixerSReferenceIdeal.τ Cert.MixerSReferenceIdeal.sig) → Buf (Elt Ideal) ℓ) (g' : Dev Cert.MixerSReferenceIdeal.nD → PrngReg), Pre_MixerSKernelIdeal m →
    (∀ c : Dev Cert.MixerSKernelIdeal.nD,
      m' ((c.tc : Thread Cert.MixerSReferenceIdeal.nD Cert.MixerSReferenceIdeal.τ).loc Cert.MixerSReferenceIdeal.main_arg0) = m ((c.tc : Thread Cert.MixerSKernelIdeal.nD Cert.MixerSKernelIdeal.τ).loc Cert.MixerSKernelIdeal.main_arg0)
      ∧ m' ((c.tc : Thread Cert.MixerSReferenceIdeal.nD Cert.MixerSReferenceIdeal.τ).loc Cert.MixerSReferenceIdeal.main_arg1) = m ((c.tc : Thread Cert.MixerSKernelIdeal.nD Cert.MixerSKernelIdeal.τ).loc Cert.MixerSKernelIdeal.main_arg1)
      ∧ m' ((c.tc : Thread Cert.MixerSReferenceIdeal.nD Cert.MixerSReferenceIdeal.τ).loc Cert.MixerSReferenceIdeal.main_arg2) = m ((c.tc : Thread Cert.MixerSKernelIdeal.nD Cert.MixerSKernelIdeal.τ).loc Cert.MixerSKernelIdeal.main_arg2)
      ∧ m' ((c.tc : Thread Cert.MixerSReferenceIdeal.nD Cert.MixerSReferenceIdeal.τ).loc Cert.MixerSReferenceIdeal.main_arg3) = m ((c.tc : Thread Cert.MixerSKernelIdeal.nD Cert.MixerSKernelIdeal.τ).loc Cert.MixerSKernelIdeal.main_arg3)
      ∧ m' ((c.tc : Thread Cert.MixerSReferenceIdeal.nD Cert.MixerSReferenceIdeal.τ).loc Cert.MixerSReferenceIdeal.main_arg4) = m ((c.tc : Thread Cert.MixerSKernelIdeal.nD Cert.MixerSKernelIdeal.τ).loc Cert.MixerSKernelIdeal.main_arg4)) →
    ∃ (v0 : (c : Dev Cert.MixerSKernelIdeal.nD) → Buf (Elt Ideal) ((c.tc : Thread Cert.MixerSKernelIdeal.nD Cert.MixerSKernelIdeal.τ).loc Cert.MixerSKernelIdeal.main_v20_0)) (v1 : (c : Dev Cert.MixerSKernelIdeal.nD) → Buf (Elt Ideal) ((c.tc : Thread Cert.MixerSKernelIdeal.nD Cert.MixerSKernelIdeal.τ).loc Cert.MixerSKernelIdeal.main_v20_1)),
      θ_run (Cert.MixerSKernelIdeal.defs (F := Ideal)) (onTc (τ := Cert.MixerSKernelIdeal.τ) (Cert.MixerSKernelIdeal.main (F := Ideal))) ⟨m, fun _ => 0, g⟩ (fun r => ∀ c : Dev Cert.MixerSKernelIdeal.nD,
          r.2.mem ((c.tc : Thread Cert.MixerSKernelIdeal.nD Cert.MixerSKernelIdeal.τ).loc Cert.MixerSKernelIdeal.main_v20_0) = v0 c
          ∧ r.2.mem ((c.tc : Thread Cert.MixerSKernelIdeal.nD Cert.MixerSKernelIdeal.τ).loc Cert.MixerSKernelIdeal.main_v20_1) = v1 c
          ∧ r.2.mem ((c.tc : Thread Cert.MixerSKernelIdeal.nD Cert.MixerSKernelIdeal.τ).loc Cert.MixerSKernelIdeal.main_arg0) = m ((c.tc : Thread Cert.MixerSKernelIdeal.nD Cert.MixerSKernelIdeal.τ).loc Cert.MixerSKernelIdeal.main_arg0)
          ∧ r.2.mem ((c.tc : Thread Cert.MixerSKernelIdeal.nD Cert.MixerSKernelIdeal.τ).loc Cert.MixerSKernelIdeal.main_arg1) = m ((c.tc : Thread Cert.MixerSKernelIdeal.nD Cert.MixerSKernelIdeal.τ).loc Cert.MixerSKernelIdeal.main_arg1)
          ∧ r.2.mem ((c.tc : Thread Cert.MixerSKernelIdeal.nD Cert.MixerSKernelIdeal.τ).loc Cert.MixerSKernelIdeal.main_arg2) = m ((c.tc : Thread Cert.MixerSKernelIdeal.nD Cert.MixerSKernelIdeal.τ).loc Cert.MixerSKernelIdeal.main_arg2)
          ∧ r.2.mem ((c.tc : Thread Cert.MixerSKernelIdeal.nD Cert.MixerSKernelIdeal.τ).loc Cert.MixerSKernelIdeal.main_arg3) = m ((c.tc : Thread Cert.MixerSKernelIdeal.nD Cert.MixerSKernelIdeal.τ).loc Cert.MixerSKernelIdeal.main_arg3)
          ∧ r.2.mem ((c.tc : Thread Cert.MixerSKernelIdeal.nD Cert.MixerSKernelIdeal.τ).loc Cert.MixerSKernelIdeal.main_arg4) = m ((c.tc : Thread Cert.MixerSKernelIdeal.nD Cert.MixerSKernelIdeal.τ).loc Cert.MixerSKernelIdeal.main_arg4))
      ∧ θ_run (Cert.MixerSReferenceIdeal.defs (F := Ideal)) (onTc (τ := Cert.MixerSReferenceIdeal.τ) (Cert.MixerSReferenceIdeal.main (F := Ideal))) ⟨m', fun _ => 0, g'⟩ (fun r => ∀ c : Dev Cert.MixerSReferenceIdeal.nD,
          r.2.mem ((c.tc : Thread Cert.MixerSReferenceIdeal.nD Cert.MixerSReferenceIdeal.τ).loc Cert.MixerSReferenceIdeal.main_v29) = v0 c
          ∧ r.2.mem ((c.tc : Thread Cert.MixerSReferenceIdeal.nD Cert.MixerSReferenceIdeal.τ).loc Cert.MixerSReferenceIdeal.main_v31) = v1 c
          ∧ r.2.mem ((c.tc : Thread Cert.MixerSReferenceIdeal.nD Cert.MixerSReferenceIdeal.τ).loc Cert.MixerSReferenceIdeal.main_arg0) = m' ((c.tc : Thread Cert.MixerSReferenceIdeal.nD Cert.MixerSReferenceIdeal.τ).loc Cert.MixerSReferenceIdeal.main_arg0)
          ∧ r.2.mem ((c.tc : Thread Cert.MixerSReferenceIdeal.nD Cert.MixerSReferenceIdeal.τ).loc Cert.MixerSReferenceIdeal.main_arg1) = m' ((c.tc : Thread Cert.MixerSReferenceIdeal.nD Cert.MixerSReferenceIdeal.τ).loc Cert.MixerSReferenceIdeal.main_arg1)
          ∧ r.2.mem ((c.tc : Thread Cert.MixerSReferenceIdeal.nD Cert.MixerSReferenceIdeal.τ).loc Cert.MixerSReferenceIdeal.main_arg2) = m' ((c.tc : Thread Cert.MixerSReferenceIdeal.nD Cert.MixerSReferenceIdeal.τ).loc Cert.MixerSReferenceIdeal.main_arg2)
          ∧ r.2.mem ((c.tc : Thread Cert.MixerSReferenceIdeal.nD Cert.MixerSReferenceIdeal.τ).loc Cert.MixerSReferenceIdeal.main_arg3) = m' ((c.tc : Thread Cert.MixerSReferenceIdeal.nD Cert.MixerSReferenceIdeal.τ).loc Cert.MixerSReferenceIdeal.main_arg3)
          ∧ r.2.mem ((c.tc : Thread Cert.MixerSReferenceIdeal.nD Cert.MixerSReferenceIdeal.τ).loc Cert.MixerSReferenceIdeal.main_arg4) = m' ((c.tc : Thread Cert.MixerSReferenceIdeal.nD Cert.MixerSReferenceIdeal.τ).loc Cert.MixerSReferenceIdeal.main_arg4))

def preserves_FfnSKernel_FfnSKernelIdeal : Prop :=
  True

def algebraic_FfnSKernelIdeal_FfnSReferenceIdeal [hFfnSKernelIdeal : Cert.FfnSKernelIdeal.Facts] [hFfnSReferenceIdeal : Cert.FfnSReferenceIdeal.Facts] : Prop :=
  ∀ (m : (ℓ : Loc Cert.FfnSKernelIdeal.nD Cert.FfnSKernelIdeal.τ Cert.FfnSKernelIdeal.sig) → Buf (Elt Ideal) ℓ) (g : Dev Cert.FfnSKernelIdeal.nD → PrngReg)
    (m' : (ℓ : Loc Cert.FfnSReferenceIdeal.nD Cert.FfnSReferenceIdeal.τ Cert.FfnSReferenceIdeal.sig) → Buf (Elt Ideal) ℓ) (g' : Dev Cert.FfnSReferenceIdeal.nD → PrngReg), Pre_FfnSKernelIdeal m →
    (∀ c : Dev Cert.FfnSKernelIdeal.nD,
      m' ((c.tc : Thread Cert.FfnSReferenceIdeal.nD Cert.FfnSReferenceIdeal.τ).loc Cert.FfnSReferenceIdeal.main_arg0) = m ((c.tc : Thread Cert.FfnSKernelIdeal.nD Cert.FfnSKernelIdeal.τ).loc Cert.FfnSKernelIdeal.main_arg0)
      ∧ m' ((c.tc : Thread Cert.FfnSReferenceIdeal.nD Cert.FfnSReferenceIdeal.τ).loc Cert.FfnSReferenceIdeal.main_arg1) = m ((c.tc : Thread Cert.FfnSKernelIdeal.nD Cert.FfnSKernelIdeal.τ).loc Cert.FfnSKernelIdeal.main_arg1)
      ∧ m' ((c.tc : Thread Cert.FfnSReferenceIdeal.nD Cert.FfnSReferenceIdeal.τ).loc Cert.FfnSReferenceIdeal.main_arg2) = m ((c.tc : Thread Cert.FfnSKernelIdeal.nD Cert.FfnSKernelIdeal.τ).loc Cert.FfnSKernelIdeal.main_arg2)
      ∧ m' ((c.tc : Thread Cert.FfnSReferenceIdeal.nD Cert.FfnSReferenceIdeal.τ).loc Cert.FfnSReferenceIdeal.main_arg3) = m ((c.tc : Thread Cert.FfnSKernelIdeal.nD Cert.FfnSKernelIdeal.τ).loc Cert.FfnSKernelIdeal.main_arg3)
      ∧ m' ((c.tc : Thread Cert.FfnSReferenceIdeal.nD Cert.FfnSReferenceIdeal.τ).loc Cert.FfnSReferenceIdeal.main_arg4) = m ((c.tc : Thread Cert.FfnSKernelIdeal.nD Cert.FfnSKernelIdeal.τ).loc Cert.FfnSKernelIdeal.main_arg4)
      ∧ m' ((c.tc : Thread Cert.FfnSReferenceIdeal.nD Cert.FfnSReferenceIdeal.τ).loc Cert.FfnSReferenceIdeal.main_arg5) = m ((c.tc : Thread Cert.FfnSKernelIdeal.nD Cert.FfnSKernelIdeal.τ).loc Cert.FfnSKernelIdeal.main_arg5)
      ∧ m' ((c.tc : Thread Cert.FfnSReferenceIdeal.nD Cert.FfnSReferenceIdeal.τ).loc Cert.FfnSReferenceIdeal.main_arg6) = m ((c.tc : Thread Cert.FfnSKernelIdeal.nD Cert.FfnSKernelIdeal.τ).loc Cert.FfnSKernelIdeal.main_arg6)) →
    ∃ (v0 : (c : Dev Cert.FfnSKernelIdeal.nD) → Buf (Elt Ideal) ((c.tc : Thread Cert.FfnSKernelIdeal.nD Cert.FfnSKernelIdeal.τ).loc Cert.FfnSKernelIdeal.main_v9_0)) (v1 : (c : Dev Cert.FfnSKernelIdeal.nD) → Buf (Elt Ideal) ((c.tc : Thread Cert.FfnSKernelIdeal.nD Cert.FfnSKernelIdeal.τ).loc Cert.FfnSKernelIdeal.main_v9_1)) (v2 : (c : Dev Cert.FfnSKernelIdeal.nD) → Buf (Elt Ideal) ((c.tc : Thread Cert.FfnSKernelIdeal.nD Cert.FfnSKernelIdeal.τ).loc Cert.FfnSKernelIdeal.main_v9_2)) (v3 : (c : Dev Cert.FfnSKernelIdeal.nD) → Buf (Elt Ideal) ((c.tc : Thread Cert.FfnSKernelIdeal.nD Cert.FfnSKernelIdeal.τ).loc Cert.FfnSKernelIdeal.main_v9_3)) (v4 : (c : Dev Cert.FfnSKernelIdeal.nD) → Buf (Elt Ideal) ((c.tc : Thread Cert.FfnSKernelIdeal.nD Cert.FfnSKernelIdeal.τ).loc Cert.FfnSKernelIdeal.main_v9_4)),
      θ_run (Cert.FfnSKernelIdeal.defs (F := Ideal)) (onTc (τ := Cert.FfnSKernelIdeal.τ) (Cert.FfnSKernelIdeal.main (F := Ideal))) ⟨m, fun _ => 0, g⟩ (fun r => ∀ c : Dev Cert.FfnSKernelIdeal.nD,
          r.2.mem ((c.tc : Thread Cert.FfnSKernelIdeal.nD Cert.FfnSKernelIdeal.τ).loc Cert.FfnSKernelIdeal.main_v9_0) = v0 c
          ∧ r.2.mem ((c.tc : Thread Cert.FfnSKernelIdeal.nD Cert.FfnSKernelIdeal.τ).loc Cert.FfnSKernelIdeal.main_v9_1) = v1 c
          ∧ r.2.mem ((c.tc : Thread Cert.FfnSKernelIdeal.nD Cert.FfnSKernelIdeal.τ).loc Cert.FfnSKernelIdeal.main_v9_2) = v2 c
          ∧ r.2.mem ((c.tc : Thread Cert.FfnSKernelIdeal.nD Cert.FfnSKernelIdeal.τ).loc Cert.FfnSKernelIdeal.main_v9_3) = v3 c
          ∧ r.2.mem ((c.tc : Thread Cert.FfnSKernelIdeal.nD Cert.FfnSKernelIdeal.τ).loc Cert.FfnSKernelIdeal.main_v9_4) = v4 c
          ∧ r.2.mem ((c.tc : Thread Cert.FfnSKernelIdeal.nD Cert.FfnSKernelIdeal.τ).loc Cert.FfnSKernelIdeal.main_arg0) = m ((c.tc : Thread Cert.FfnSKernelIdeal.nD Cert.FfnSKernelIdeal.τ).loc Cert.FfnSKernelIdeal.main_arg0)
          ∧ r.2.mem ((c.tc : Thread Cert.FfnSKernelIdeal.nD Cert.FfnSKernelIdeal.τ).loc Cert.FfnSKernelIdeal.main_arg1) = m ((c.tc : Thread Cert.FfnSKernelIdeal.nD Cert.FfnSKernelIdeal.τ).loc Cert.FfnSKernelIdeal.main_arg1)
          ∧ r.2.mem ((c.tc : Thread Cert.FfnSKernelIdeal.nD Cert.FfnSKernelIdeal.τ).loc Cert.FfnSKernelIdeal.main_arg2) = m ((c.tc : Thread Cert.FfnSKernelIdeal.nD Cert.FfnSKernelIdeal.τ).loc Cert.FfnSKernelIdeal.main_arg2)
          ∧ r.2.mem ((c.tc : Thread Cert.FfnSKernelIdeal.nD Cert.FfnSKernelIdeal.τ).loc Cert.FfnSKernelIdeal.main_arg3) = m ((c.tc : Thread Cert.FfnSKernelIdeal.nD Cert.FfnSKernelIdeal.τ).loc Cert.FfnSKernelIdeal.main_arg3)
          ∧ r.2.mem ((c.tc : Thread Cert.FfnSKernelIdeal.nD Cert.FfnSKernelIdeal.τ).loc Cert.FfnSKernelIdeal.main_arg4) = m ((c.tc : Thread Cert.FfnSKernelIdeal.nD Cert.FfnSKernelIdeal.τ).loc Cert.FfnSKernelIdeal.main_arg4)
          ∧ r.2.mem ((c.tc : Thread Cert.FfnSKernelIdeal.nD Cert.FfnSKernelIdeal.τ).loc Cert.FfnSKernelIdeal.main_arg5) = m ((c.tc : Thread Cert.FfnSKernelIdeal.nD Cert.FfnSKernelIdeal.τ).loc Cert.FfnSKernelIdeal.main_arg5)
          ∧ r.2.mem ((c.tc : Thread Cert.FfnSKernelIdeal.nD Cert.FfnSKernelIdeal.τ).loc Cert.FfnSKernelIdeal.main_arg6) = m ((c.tc : Thread Cert.FfnSKernelIdeal.nD Cert.FfnSKernelIdeal.τ).loc Cert.FfnSKernelIdeal.main_arg6))
      ∧ θ_run (Cert.FfnSReferenceIdeal.defs (F := Ideal)) (onTc (τ := Cert.FfnSReferenceIdeal.τ) (Cert.FfnSReferenceIdeal.main (F := Ideal))) ⟨m', fun _ => 0, g'⟩ (fun r => ∀ c : Dev Cert.FfnSReferenceIdeal.nD,
          r.2.mem ((c.tc : Thread Cert.FfnSReferenceIdeal.nD Cert.FfnSReferenceIdeal.τ).loc Cert.FfnSReferenceIdeal.main_v49) = v0 c
          ∧ r.2.mem ((c.tc : Thread Cert.FfnSReferenceIdeal.nD Cert.FfnSReferenceIdeal.τ).loc Cert.FfnSReferenceIdeal.main_v51) = v1 c
          ∧ r.2.mem ((c.tc : Thread Cert.FfnSReferenceIdeal.nD Cert.FfnSReferenceIdeal.τ).loc Cert.FfnSReferenceIdeal.main_v53) = v2 c
          ∧ r.2.mem ((c.tc : Thread Cert.FfnSReferenceIdeal.nD Cert.FfnSReferenceIdeal.τ).loc Cert.FfnSReferenceIdeal.main_v55) = v3 c
          ∧ r.2.mem ((c.tc : Thread Cert.FfnSReferenceIdeal.nD Cert.FfnSReferenceIdeal.τ).loc Cert.FfnSReferenceIdeal.main_v56) = v4 c
          ∧ r.2.mem ((c.tc : Thread Cert.FfnSReferenceIdeal.nD Cert.FfnSReferenceIdeal.τ).loc Cert.FfnSReferenceIdeal.main_arg0) = m' ((c.tc : Thread Cert.FfnSReferenceIdeal.nD Cert.FfnSReferenceIdeal.τ).loc Cert.FfnSReferenceIdeal.main_arg0)
          ∧ r.2.mem ((c.tc : Thread Cert.FfnSReferenceIdeal.nD Cert.FfnSReferenceIdeal.τ).loc Cert.FfnSReferenceIdeal.main_arg1) = m' ((c.tc : Thread Cert.FfnSReferenceIdeal.nD Cert.FfnSReferenceIdeal.τ).loc Cert.FfnSReferenceIdeal.main_arg1)
          ∧ r.2.mem ((c.tc : Thread Cert.FfnSReferenceIdeal.nD Cert.FfnSReferenceIdeal.τ).loc Cert.FfnSReferenceIdeal.main_arg2) = m' ((c.tc : Thread Cert.FfnSReferenceIdeal.nD Cert.FfnSReferenceIdeal.τ).loc Cert.FfnSReferenceIdeal.main_arg2)
          ∧ r.2.mem ((c.tc : Thread Cert.FfnSReferenceIdeal.nD Cert.FfnSReferenceIdeal.τ).loc Cert.FfnSReferenceIdeal.main_arg3) = m' ((c.tc : Thread Cert.FfnSReferenceIdeal.nD Cert.FfnSReferenceIdeal.τ).loc Cert.FfnSReferenceIdeal.main_arg3)
          ∧ r.2.mem ((c.tc : Thread Cert.FfnSReferenceIdeal.nD Cert.FfnSReferenceIdeal.τ).loc Cert.FfnSReferenceIdeal.main_arg4) = m' ((c.tc : Thread Cert.FfnSReferenceIdeal.nD Cert.FfnSReferenceIdeal.τ).loc Cert.FfnSReferenceIdeal.main_arg4)
          ∧ r.2.mem ((c.tc : Thread Cert.FfnSReferenceIdeal.nD Cert.FfnSReferenceIdeal.τ).loc Cert.FfnSReferenceIdeal.main_arg5) = m' ((c.tc : Thread Cert.FfnSReferenceIdeal.nD Cert.FfnSReferenceIdeal.τ).loc Cert.FfnSReferenceIdeal.main_arg5)
          ∧ r.2.mem ((c.tc : Thread Cert.FfnSReferenceIdeal.nD Cert.FfnSReferenceIdeal.τ).loc Cert.FfnSReferenceIdeal.main_arg6) = m' ((c.tc : Thread Cert.FfnSReferenceIdeal.nD Cert.FfnSReferenceIdeal.τ).loc Cert.FfnSReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v11_0)) (v1 : (c : Dev Cert.GateKernelIdeal.nD) → Buf (Elt Ideal) ((c.tc : Thread Cert.GateKernelIdeal.nD Cert.GateKernelIdeal.τ).loc Cert.GateKernelIdeal.main_v11_1)) (v2 : (c : Dev Cert.GateKernelIdeal.nD) → Buf (Elt Ideal) ((c.tc : Thread Cert.GateKernelIdeal.nD Cert.GateKernelIdeal.τ).loc Cert.GateKernelIdeal.main_v11_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v11_0) = v0 c
          ∧ r.2.mem ((c.tc : Thread Cert.GateKernelIdeal.nD Cert.GateKernelIdeal.τ).loc Cert.GateKernelIdeal.main_v11_1) = v1 c
          ∧ r.2.mem ((c.tc : Thread Cert.GateKernelIdeal.nD Cert.GateKernelIdeal.τ).loc Cert.GateKernelIdeal.main_v11_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v29) = v0 c
          ∧ r.2.mem ((c.tc : Thread Cert.GateReferenceIdeal.nD Cert.GateReferenceIdeal.τ).loc Cert.GateReferenceIdeal.main_v30) = v1 c
          ∧ r.2.mem ((c.tc : Thread Cert.GateReferenceIdeal.nD Cert.GateReferenceIdeal.τ).loc Cert.GateReferenceIdeal.main_v31) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_MemKvKernel_MemKvKernelIdeal : Prop :=
  True

def algebraic_MemKvKernelIdeal_MemKvReferenceIdeal [hMemKvKernelIdeal : Cert.MemKvKernelIdeal.Facts] [hMemKvReferenceIdeal : Cert.MemKvReferenceIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvKernelIdeal m →
    (∀ c : Dev Cert.MemKvKernelIdeal.nD,
      m' ((c.tc : Thread Cert.MemKvReferenceIdeal.nD Cert.MemKvReferenceIdeal.τ).loc Cert.MemKvReferenceIdeal.main_arg0) = m ((c.tc : Thread Cert.MemKvKernelIdeal.nD Cert.MemKvKernelIdeal.τ).loc Cert.MemKvKernelIdeal.main_arg0)
      ∧ m' ((c.tc : Thread Cert.MemKvReferenceIdeal.nD Cert.MemKvReferenceIdeal.τ).loc Cert.MemKvReferenceIdeal.main_arg1) = m ((c.tc : Thread Cert.MemKvKernelIdeal.nD Cert.MemKvKernelIdeal.τ).loc Cert.MemKvKernelIdeal.main_arg1)
      ∧ m' ((c.tc : Thread Cert.MemKvReferenceIdeal.nD Cert.MemKvReferenceIdeal.τ).loc Cert.MemKvReferenceIdeal.main_arg2) = m ((c.tc : Thread Cert.MemKvKernelIdeal.nD Cert.MemKvKernelIdeal.τ).loc Cert.MemKvKernelIdeal.main_arg2)
      ∧ m' ((c.tc : Thread Cert.MemKvReferenceIdeal.nD Cert.MemKvReferenceIdeal.τ).loc Cert.MemKvReferenceIdeal.main_arg3) = m ((c.tc : Thread Cert.MemKvKernelIdeal.nD Cert.MemKvKernelIdeal.τ).loc Cert.MemKvKernelIdeal.main_arg3)) →
    ∃ (v0 : (c : Dev Cert.MemKvKernelIdeal.nD) → Buf (Elt Ideal) ((c.tc : Thread Cert.MemKvKernelIdeal.nD Cert.MemKvKernelIdeal.τ).loc Cert.MemKvKernelIdeal.main_v14_0)) (v1 : (c : Dev Cert.MemKvKernelIdeal.nD) → Buf (Elt Ideal) ((c.tc : Thread Cert.MemKvKernelIdeal.nD Cert.MemKvKernelIdeal.τ).loc Cert.MemKvKernelIdeal.main_v14_1)),
      θ_run (Cert.MemKvKernelIdeal.defs (F := Ideal)) (onTc (τ := Cert.MemKvKernelIdeal.τ) (Cert.MemKvKernelIdeal.main (F := Ideal))) ⟨m, fun _ => 0, g⟩ (fun r => ∀ c : Dev Cert.MemKvKernelIdeal.nD,
          r.2.mem ((c.tc : Thread Cert.MemKvKernelIdeal.nD Cert.MemKvKernelIdeal.τ).loc Cert.MemKvKernelIdeal.main_v14_0) = v0 c
          ∧ r.2.mem ((c.tc : Thread Cert.MemKvKernelIdeal.nD Cert.MemKvKernelIdeal.τ).loc Cert.MemKvKernelIdeal.main_v14_1) = v1 c
          ∧ r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
          ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1)
          ∧ r.2.mem ((c.tc : Thread Cert.MemKvKernelIdeal.nD Cert.MemKvKernelIdeal.τ).loc Cert.MemKvKernelIdeal.main_arg2) = m ((c.tc : Thread Cert.MemKvKernelIdeal.nD Cert.MemKvKernelIdeal.τ).loc Cert.MemKvKernelIdeal.main_arg2)
          ∧ r.2.mem ((c.tc : Thread Cert.MemKvKernelIdeal.nD Cert.MemKvKernelIdeal.τ).loc Cert.MemKvKernelIdeal.main_arg3) = m ((c.tc : Thread Cert.MemKvKernelIdeal.nD Cert.MemKvKernelIdeal.τ).loc Cert.MemKvKernelIdeal.main_arg3))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v32) = v0 c
          ∧ r.2.mem ((c.tc : Thread Cert.MemKvReferenceIdeal.nD Cert.MemKvReferenceIdeal.τ).loc Cert.MemKvReferenceIdeal.main_v33) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3))

def preserves_InSKernel_InSKernelIdeal : Prop :=
  True

def algebraic_InSKernelIdeal_InSReferenceIdeal [hInSKernelIdeal : Cert.InSKernelIdeal.Facts] [hInSReferenceIdeal : Cert.InSReferenceIdeal.Facts] : Prop :=
  ∀ (m : (ℓ : Loc Cert.InSKernelIdeal.nD Cert.InSKernelIdeal.τ Cert.InSKernelIdeal.sig) → Buf (Elt Ideal) ℓ) (g : Dev Cert.InSKernelIdeal.nD → PrngReg)
    (m' : (ℓ : Loc Cert.InSReferenceIdeal.nD Cert.InSReferenceIdeal.τ Cert.InSReferenceIdeal.sig) → Buf (Elt Ideal) ℓ) (g' : Dev Cert.InSReferenceIdeal.nD → PrngReg), Pre_InSKernelIdeal m →
    (∀ c : Dev Cert.InSKernelIdeal.nD,
      m' ((c.tc : Thread Cert.InSReferenceIdeal.nD Cert.InSReferenceIdeal.τ).loc Cert.InSReferenceIdeal.main_arg0) = m ((c.tc : Thread Cert.InSKernelIdeal.nD Cert.InSKernelIdeal.τ).loc Cert.InSKernelIdeal.main_arg0)
      ∧ m' ((c.tc : Thread Cert.InSReferenceIdeal.nD Cert.InSReferenceIdeal.τ).loc Cert.InSReferenceIdeal.main_arg1) = m ((c.tc : Thread Cert.InSKernelIdeal.nD Cert.InSKernelIdeal.τ).loc Cert.InSKernelIdeal.main_arg1)
      ∧ m' ((c.tc : Thread Cert.InSReferenceIdeal.nD Cert.InSReferenceIdeal.τ).loc Cert.InSReferenceIdeal.main_arg2) = m ((c.tc : Thread Cert.InSKernelIdeal.nD Cert.InSKernelIdeal.τ).loc Cert.InSKernelIdeal.main_arg2)
      ∧ m' ((c.tc : Thread Cert.InSReferenceIdeal.nD Cert.InSReferenceIdeal.τ).loc Cert.InSReferenceIdeal.main_arg3) = m ((c.tc : Thread Cert.InSKernelIdeal.nD Cert.InSKernelIdeal.τ).loc Cert.InSKernelIdeal.main_arg3)
      ∧ m' ((c.tc : Thread Cert.InSReferenceIdeal.nD Cert.InSReferenceIdeal.τ).loc Cert.InSReferenceIdeal.main_arg4) = m ((c.tc : Thread Cert.InSKernelIdeal.nD Cert.InSKernelIdeal.τ).loc Cert.InSKernelIdeal.main_arg4)) →
    ∃ (v0 : (c : Dev Cert.InSKernelIdeal.nD) → Buf (Elt Ideal) ((c.tc : Thread Cert.InSKernelIdeal.nD Cert.InSKernelIdeal.τ).loc Cert.InSKernelIdeal.main_v19_0)) (v1 : (c : Dev Cert.InSKernelIdeal.nD) → Buf (Elt Ideal) ((c.tc : Thread Cert.InSKernelIdeal.nD Cert.InSKernelIdeal.τ).loc Cert.InSKernelIdeal.main_v19_1)) (v2 : (c : Dev Cert.InSKernelIdeal.nD) → Buf (Elt Ideal) ((c.tc : Thread Cert.InSKernelIdeal.nD Cert.InSKernelIdeal.τ).loc Cert.InSKernelIdeal.main_v19_2)) (v3 : (c : Dev Cert.InSKernelIdeal.nD) → Buf (Elt Ideal) ((c.tc : Thread Cert.InSKernelIdeal.nD Cert.InSKernelIdeal.τ).loc Cert.InSKernelIdeal.main_v19_3)) (v4 : (c : Dev Cert.InSKernelIdeal.nD) → Buf (Elt Ideal) ((c.tc : Thread Cert.InSKernelIdeal.nD Cert.InSKernelIdeal.τ).loc Cert.InSKernelIdeal.main_v19_4)),
      θ_run (Cert.InSKernelIdeal.defs (F := Ideal)) (onTc (τ := Cert.InSKernelIdeal.τ) (Cert.InSKernelIdeal.main (F := Ideal))) ⟨m, fun _ => 0, g⟩ (fun r => ∀ c : Dev Cert.InSKernelIdeal.nD,
          r.2.mem ((c.tc : Thread Cert.InSKernelIdeal.nD Cert.InSKernelIdeal.τ).loc Cert.InSKernelIdeal.main_v19_0) = v0 c
          ∧ r.2.mem ((c.tc : Thread Cert.InSKernelIdeal.nD Cert.InSKernelIdeal.τ).loc Cert.InSKernelIdeal.main_v19_1) = v1 c
          ∧ r.2.mem ((c.tc : Thread Cert.InSKernelIdeal.nD Cert.InSKernelIdeal.τ).loc Cert.InSKernelIdeal.main_v19_2) = v2 c
          ∧ r.2.mem ((c.tc : Thread Cert.InSKernelIdeal.nD Cert.InSKernelIdeal.τ).loc Cert.InSKernelIdeal.main_v19_3) = v3 c
          ∧ r.2.mem ((c.tc : Thread Cert.InSKernelIdeal.nD Cert.InSKernelIdeal.τ).loc Cert.InSKernelIdeal.main_v19_4) = v4 c
          ∧ r.2.mem ((c.tc : Thread Cert.InSKernelIdeal.nD Cert.InSKernelIdeal.τ).loc Cert.InSKernelIdeal.main_arg0) = m ((c.tc : Thread Cert.InSKernelIdeal.nD Cert.InSKernelIdeal.τ).loc Cert.InSKernelIdeal.main_arg0)
          ∧ r.2.mem ((c.tc : Thread Cert.InSKernelIdeal.nD Cert.InSKernelIdeal.τ).loc Cert.InSKernelIdeal.main_arg1) = m ((c.tc : Thread Cert.InSKernelIdeal.nD Cert.InSKernelIdeal.τ).loc Cert.InSKernelIdeal.main_arg1)
          ∧ r.2.mem ((c.tc : Thread Cert.InSKernelIdeal.nD Cert.InSKernelIdeal.τ).loc Cert.InSKernelIdeal.main_arg2) = m ((c.tc : Thread Cert.InSKernelIdeal.nD Cert.InSKernelIdeal.τ).loc Cert.InSKernelIdeal.main_arg2)
          ∧ r.2.mem ((c.tc : Thread Cert.InSKernelIdeal.nD Cert.InSKernelIdeal.τ).loc Cert.InSKernelIdeal.main_arg3) = m ((c.tc : Thread Cert.InSKernelIdeal.nD Cert.InSKernelIdeal.τ).loc Cert.InSKernelIdeal.main_arg3)
          ∧ r.2.mem ((c.tc : Thread Cert.InSKernelIdeal.nD Cert.InSKernelIdeal.τ).loc Cert.InSKernelIdeal.main_arg4) = m ((c.tc : Thread Cert.InSKernelIdeal.nD Cert.InSKernelIdeal.τ).loc Cert.InSKernelIdeal.main_arg4))
      ∧ θ_run (Cert.InSReferenceIdeal.defs (F := Ideal)) (onTc (τ := Cert.InSReferenceIdeal.τ) (Cert.InSReferenceIdeal.main (F := Ideal))) ⟨m', fun _ => 0, g'⟩ (fun r => ∀ c : Dev Cert.InSReferenceIdeal.nD,
          r.2.mem ((c.tc : Thread Cert.InSReferenceIdeal.nD Cert.InSReferenceIdeal.τ).loc Cert.InSReferenceIdeal.main_v51) = v0 c
          ∧ r.2.mem ((c.tc : Thread Cert.InSReferenceIdeal.nD Cert.InSReferenceIdeal.τ).loc Cert.InSReferenceIdeal.main_v52) = v1 c
          ∧ r.2.mem ((c.tc : Thread Cert.InSReferenceIdeal.nD Cert.InSReferenceIdeal.τ).loc Cert.InSReferenceIdeal.main_v53) = v2 c
          ∧ r.2.mem ((c.tc : Thread Cert.InSReferenceIdeal.nD Cert.InSReferenceIdeal.τ).loc Cert.InSReferenceIdeal.main_v54) = v3 c
          ∧ r.2.mem ((c.tc : Thread Cert.InSReferenceIdeal.nD Cert.InSReferenceIdeal.τ).loc Cert.InSReferenceIdeal.main_v57) = v4 c
          ∧ r.2.mem ((c.tc : Thread Cert.InSReferenceIdeal.nD Cert.InSReferenceIdeal.τ).loc Cert.InSReferenceIdeal.main_arg0) = m' ((c.tc : Thread Cert.InSReferenceIdeal.nD Cert.InSReferenceIdeal.τ).loc Cert.InSReferenceIdeal.main_arg0)
          ∧ r.2.mem ((c.tc : Thread Cert.InSReferenceIdeal.nD Cert.InSReferenceIdeal.τ).loc Cert.InSReferenceIdeal.main_arg1) = m' ((c.tc : Thread Cert.InSReferenceIdeal.nD Cert.InSReferenceIdeal.τ).loc Cert.InSReferenceIdeal.main_arg1)
          ∧ r.2.mem ((c.tc : Thread Cert.InSReferenceIdeal.nD Cert.InSReferenceIdeal.τ).loc Cert.InSReferenceIdeal.main_arg2) = m' ((c.tc : Thread Cert.InSReferenceIdeal.nD Cert.InSReferenceIdeal.τ).loc Cert.InSReferenceIdeal.main_arg2)
          ∧ r.2.mem ((c.tc : Thread Cert.InSReferenceIdeal.nD Cert.InSReferenceIdeal.τ).loc Cert.InSReferenceIdeal.main_arg3) = m' ((c.tc : Thread Cert.InSReferenceIdeal.nD Cert.InSReferenceIdeal.τ).loc Cert.InSReferenceIdeal.main_arg3)
          ∧ r.2.mem ((c.tc : Thread Cert.InSReferenceIdeal.nD Cert.InSReferenceIdeal.τ).loc Cert.InSReferenceIdeal.main_arg4) = m' ((c.tc : Thread Cert.InSReferenceIdeal.nD Cert.InSReferenceIdeal.τ).loc Cert.InSReferenceIdeal.main_arg4))

def Claim : Prop :=
  ∃ (hFfnKernel : Cert.FfnKernel.Facts) (hFfnKernelIdeal : Cert.FfnKernelIdeal.Facts) (hFfnReferenceIdeal : Cert.FfnReferenceIdeal.Facts) (hMixerKernel : Cert.MixerKernel.Facts) (hMixerKernelIdeal : Cert.MixerKernelIdeal.Facts) (hMixerReferenceIdeal : Cert.MixerReferenceIdeal.Facts) (hMemoryKernel : Cert.MemoryKernel.Facts) (hMemoryKernelIdeal : Cert.MemoryKernelIdeal.Facts) (hMemoryReferenceIdeal : Cert.MemoryReferenceIdeal.Facts) (hMixerSKernel : Cert.MixerSKernel.Facts) (hMixerSKernelIdeal : Cert.MixerSKernelIdeal.Facts) (hMixerSReferenceIdeal : Cert.MixerSReferenceIdeal.Facts) (hFfnSKernel : Cert.FfnSKernel.Facts) (hFfnSKernelIdeal : Cert.FfnSKernelIdeal.Facts) (hFfnSReferenceIdeal : Cert.FfnSReferenceIdeal.Facts) (hOutKernel : Cert.OutKernel.Facts) (hOutKernelIdeal : Cert.OutKernelIdeal.Facts) (hOutReferenceIdeal : Cert.OutReferenceIdeal.Facts) (hGateKernel : Cert.GateKernel.Facts) (hGateKernelIdeal : Cert.GateKernelIdeal.Facts) (hGateReferenceIdeal : Cert.GateReferenceIdeal.Facts) (hMemKvKernel : Cert.MemKvKernel.Facts) (hMemKvKernelIdeal : Cert.MemKvKernelIdeal.Facts) (hMemKvReferenceIdeal : Cert.MemKvReferenceIdeal.Facts) (hInSKernel : Cert.InSKernel.Facts) (hInSKernelIdeal : Cert.InSKernelIdeal.Facts) (hInSReferenceIdeal : Cert.InSReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixerKernel (hMixerKernel := hMixerKernel)
    ∧ quiescent_MixerKernelIdeal (hMixerKernelIdeal := hMixerKernelIdeal)
    ∧ quiescent_MixerReferenceIdeal (hMixerReferenceIdeal := hMixerReferenceIdeal)
    ∧ quiescent_MemoryKernel (hMemoryKernel := hMemoryKernel)
    ∧ quiescent_MemoryKernelIdeal (hMemoryKernelIdeal := hMemoryKernelIdeal)
    ∧ quiescent_MemoryReferenceIdeal (hMemoryReferenceIdeal := hMemoryReferenceIdeal)
    ∧ quiescent_MixerSKernel (hMixerSKernel := hMixerSKernel)
    ∧ quiescent_MixerSKernelIdeal (hMixerSKernelIdeal := hMixerSKernelIdeal)
    ∧ quiescent_MixerSReferenceIdeal (hMixerSReferenceIdeal := hMixerSReferenceIdeal)
    ∧ quiescent_FfnSKernel (hFfnSKernel := hFfnSKernel)
    ∧ quiescent_FfnSKernelIdeal (hFfnSKernelIdeal := hFfnSKernelIdeal)
    ∧ quiescent_FfnSReferenceIdeal (hFfnSReferenceIdeal := hFfnSReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_MemKvKernel (hMemKvKernel := hMemKvKernel)
    ∧ quiescent_MemKvKernelIdeal (hMemKvKernelIdeal := hMemKvKernelIdeal)
    ∧ quiescent_MemKvReferenceIdeal (hMemKvReferenceIdeal := hMemKvReferenceIdeal)
    ∧ quiescent_InSKernel (hInSKernel := hInSKernel)
    ∧ quiescent_InSKernelIdeal (hInSKernelIdeal := hInSKernelIdeal)
    ∧ quiescent_InSReferenceIdeal (hInSReferenceIdeal := hInSReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MixerKernel_MixerKernelIdeal
    ∧ algebraic_MixerKernelIdeal_MixerReferenceIdeal (hMixerKernelIdeal := hMixerKernelIdeal) (hMixerReferenceIdeal := hMixerReferenceIdeal)
    ∧ preserves_MemoryKernel_MemoryKernelIdeal
    ∧ algebraic_MemoryKernelIdeal_MemoryReferenceIdeal (hMemoryKernelIdeal := hMemoryKernelIdeal) (hMemoryReferenceIdeal := hMemoryReferenceIdeal)
    ∧ preserves_MixerSKernel_MixerSKernelIdeal
    ∧ algebraic_MixerSKernelIdeal_MixerSReferenceIdeal (hMixerSKernelIdeal := hMixerSKernelIdeal) (hMixerSReferenceIdeal := hMixerSReferenceIdeal)
    ∧ preserves_FfnSKernel_FfnSKernelIdeal
    ∧ algebraic_FfnSKernelIdeal_FfnSReferenceIdeal (hFfnSKernelIdeal := hFfnSKernelIdeal) (hFfnSReferenceIdeal := hFfnSReferenceIdeal)
    ∧ preserves_OutKernel_OutKernelIdeal
    ∧ algebraic_OutKernelIdeal_OutReferenceIdeal (hOutKernelIdeal := hOutKernelIdeal) (hOutReferenceIdeal := hOutReferenceIdeal)
    ∧ preserves_GateKernel_GateKernelIdeal
    ∧ algebraic_GateKernelIdeal_GateReferenceIdeal (hGateKernelIdeal := hGateKernelIdeal) (hGateReferenceIdeal := hGateReferenceIdeal)
    ∧ preserves_MemKvKernel_MemKvKernelIdeal
    ∧ algebraic_MemKvKernelIdeal_MemKvReferenceIdeal (hMemKvKernelIdeal := hMemKvKernelIdeal) (hMemKvReferenceIdeal := hMemKvReferenceIdeal)
    ∧ preserves_InSKernel_InSKernelIdeal
    ∧ algebraic_InSKernelIdeal_InSReferenceIdeal (hInSKernelIdeal := hInSKernelIdeal) (hInSReferenceIdeal := hInSReferenceIdeal)
-- ==== FfnKernel.lean ====
abbrev S2x4096x2048 : Shape := ⟨3, ![2, 4096, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048x5632 : Shape := ⟨2, ![2048, 5632]⟩
abbrev S8192x2048 : Shape := ⟨2, ![8192, 2048]⟩
abbrev S1x2048 : Shape := ⟨2, ![1, 2048]⟩
abbrev S1x5632 : Shape := ⟨2, ![1, 5632]⟩
abbrev S8x8x5632 : Shape := ⟨3, ![8, 8, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1x8x512 : Shape := ⟨3, ![1, 8, 512]⟩
abbrev S1040x2048 : Shape := ⟨2, ![1040, 2048]⟩
abbrev S1040x512 : Shape := ⟨2, ![1040, 512]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1024x512 : Shape := ⟨2, ![1024, 512]⟩
abbrev S1024x1024 : Shape := ⟨2, ![1024, 1024]⟩
abbrev S512x1024 : Shape := ⟨2, ![512, 1024]⟩
abbrev S8x512 : Shape := ⟨2, ![8, 512]⟩

abbrev nBuf : Space → Nat
  | .hbm => 16
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S8192x2048, .f32⟩
  | .hbm, ⟨11, _⟩ => ⟨S1x2048, .f32⟩
  | .hbm, ⟨12, _⟩ => ⟨S1x5632, .f32⟩
  | .hbm, ⟨13, _⟩ => ⟨S5632x2048, .bf16⟩
  | .hbm, ⟨14, _⟩ => ⟨S8192x2048, .f32⟩
  | .hbm, ⟨15, _⟩ => ⟨S8x8x5632, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1x8x512, .f32⟩
  | .local _ .vmem, ⟨17, _⟩ => ⟨S1x8x512, .f32⟩
  | .local _ .vmem, ⟨18, _⟩ => ⟨S1040x2048, .bf16⟩
  | .local _ .vmem, ⟨19, _⟩ => ⟨S1040x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S2x4096x2048 : Shape := ⟨3, ![2, 4096, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S2x2x5632 : Shape := ⟨3, ![2, 2, 5632]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4096x5632 : Shape := ⟨3, ![2, 4096, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S8192x2048 : Shape := ⟨2, ![8192, 2048]⟩
abbrev S8x1024x5632 : Shape := ⟨3, ![8, 1024, 5632]⟩
abbrev S8x8x5632 : Shape := ⟨3, ![8, 8, 5632]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S_, .f32⟩
  | .hbm, ⟨7, _⟩ => ⟨S2x2x5632, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x4096x11264, .f32⟩
  | .hbm, ⟨25, _⟩ => ⟨S2x4096x5632, .f32⟩
  | .hbm, ⟨26, _⟩ => ⟨S2x4096x5632, .f32⟩
  | .hbm, ⟨27, _⟩ => ⟨S2x4098x5632, .f32⟩
  | .hbm, ⟨28, _⟩ => ⟨S2x4096x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x4096x5632, .f32⟩
  | .hbm, ⟨33, _⟩ => ⟨S2x4096x5632, .f32⟩
  | .hbm, ⟨34, _⟩ => ⟨S1x1x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S2x4096x5632, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S2x4096x5632, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S_, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S2x4096x2048, .f32⟩
  | .hbm, ⟨62, _⟩ => ⟨S2x4096x2048, .f32⟩
  | .hbm, ⟨63, _⟩ => ⟨S8192x2048, .f32⟩
  | .hbm, ⟨64, _⟩ => ⟨S8x1024x5632, .f32⟩
  | .hbm, ⟨65, _⟩ => ⟨S8x8x5632, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MixerKernel.lean ====
abbrev S2x4096x1536 : Shape := ⟨3, ![2, 4096, 1536]⟩
abbrev S1536 : Shape := ⟨1, ![1536]⟩
abbrev S12x128x128 : Shape := ⟨3, ![12, 128, 128]⟩
abbrev S12x128 : Shape := ⟨2, ![12, 128]⟩
abbrev S_ : Shape := ⟨0, ![]⟩
abbrev S128x128 : Shape := ⟨2, ![128, 128]⟩
abbrev S12x128x1 : Shape := ⟨3, ![12, 128, 1]⟩
abbrev S8192x1536 : Shape := ⟨2, ![8192, 1536]⟩
abbrev S1x1536 : Shape := ⟨2, ![1, 1536]⟩
abbrev S512x1536 : Shape := ⟨2, ![512, 1536]⟩
abbrev S512 : Shape := ⟨1, ![512]⟩
abbrev S512x1 : Shape := ⟨2, ![512, 1]⟩
abbrev S128x512 : Shape := ⟨2, ![128, 512]⟩
abbrev S1x128x128 : Shape := ⟨3, ![1, 128, 128]⟩

abbrev nBuf : Space → Nat
  | .hbm => 28
  | .vmem => 9
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S1536, .f32⟩
  | .hbm, ⟨3, _⟩ => ⟨S12x128x128, .f32⟩
  | .hbm, ⟨4, _⟩ => ⟨S12x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S12x128x128, .i1⟩
  | .hbm, ⟨19, _⟩ => ⟨S12x128x128, .f32⟩
  | .hbm, ⟨20, _⟩ => ⟨S12x128x128, .f32⟩
  | .hbm, ⟨21, _⟩ => ⟨S12x128x128, .bf16⟩
  | .hbm, ⟨22, _⟩ => ⟨S12x128x1, .f32⟩
  | .hbm, ⟨23, _⟩ => ⟨S12x128x128, .f32⟩
  | .hbm, ⟨24, _⟩ => ⟨S8192x1536, .f32⟩
  | .hbm, ⟨25, _⟩ => ⟨S8192x1536, .f32⟩
  | .hbm, ⟨26, _⟩ => ⟨S1x1536, .f32⟩
  | .hbm, ⟨27, _⟩ => ⟨S8192x1536, .bf16⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S12x128x128, .bf16⟩
  | .local _ .vmem, ⟨6, _⟩ => ⟨S12x128x128, .f32⟩
  | .local _ .vmem, ⟨7, _⟩ => ⟨S512x1536, .bf16⟩
  | .local _ .vmem, ⟨8, _⟩ => ⟨S512x1536, .bf16⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixerReferenceIdeal.lean ====
abbrev S2x4096x1536 : Shape := ⟨3, ![2, 4096, 1536]⟩
abbrev S1536 : Shape := ⟨1, ![1536]⟩
abbrev S12x128x128 : Shape := ⟨3, ![12, 128, 128]⟩
abbrev S12x128 : Shape := ⟨2, ![12, 128]⟩
abbrev S_ : Shape := ⟨0, ![]⟩
abbrev S2x4096 : Shape := ⟨2, ![2, 4096]⟩
abbrev S2x4096x1 : Shape := ⟨3, ![2, 4096, 1]⟩
abbrev S1x1x1536 : Shape := ⟨3, ![1, 1, 1536]⟩
abbrev S128x128 : Shape := ⟨2, ![128, 128]⟩
abbrev S2x32x128x12x128 : Shape := ⟨5, ![2, 32, 128, 12, 128]⟩
abbrev S12x2x32x128x128 : Shape := ⟨5, ![12, 2, 32, 128, 128]⟩
abbrev S128x12 : Shape := ⟨2, ![128, 12]⟩
abbrev S1x1x128x12x1 : Shape := ⟨5, ![1, 1, 128, 12, 1]⟩
abbrev S8192x1536 : Shape := ⟨2, ![8192, 1536]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S1536, .f32⟩
  | .hbm, ⟨3, _⟩ => ⟨S12x128x128, .f32⟩
  | .hbm, ⟨4, _⟩ => ⟨S12x128, .f32⟩
  | .hbm, ⟨5, _⟩ => ⟨S2x4096x1536, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1536, .f32⟩
  | .hbm, ⟨17, _⟩ => ⟨S2x4096x1536, .f32⟩
  | .hbm, ⟨18, _⟩ => ⟨S1x1x1536, .f32⟩
  | .hbm, ⟨19, _⟩ => ⟨S2x4096x1536, .f32⟩
  | .hbm, ⟨20, _⟩ => ⟨S2x4096x1536, .f32⟩
  | .hbm, ⟨21, _⟩ => ⟨S_, .i1⟩
  | .hbm, ⟨22, _⟩ => ⟨S128x128, .i1⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S_, .i1⟩
  | .hbm, ⟨30, _⟩ => ⟨S128x128, .i1⟩
  | .hbm, ⟨31, _⟩ => ⟨S128x128, .i1⟩
  | .hbm, ⟨32, _⟩ => ⟨S_, .f32⟩
  | .hbm, ⟨33, _⟩ => ⟨S_, .f32⟩
  | .hbm, ⟨34, _⟩ => ⟨S12x128x128, .i1⟩
  | .hbm, ⟨35, _⟩ => ⟨S12x128x128, .f32⟩
  | .hbm, ⟨36, _⟩ => ⟨S12x128x128, .f32⟩
  | .hbm, ⟨37, _⟩ => ⟨S2x32x128x12x128, .f32⟩
  | .hbm, ⟨38, _⟩ => ⟨S12x2x32x128x128, .f32⟩
  | .hbm, ⟨39, _⟩ => ⟨S2x32x128x12x128, .f32⟩
  | .hbm, ⟨40, _⟩ => ⟨S128x12, .f32⟩
  | .hbm, ⟨41, _⟩ => ⟨S1x1x128x12x1, .f32⟩
  | .hbm, ⟨42, _⟩ => ⟨S2x32x128x12x128, .f32⟩
  | .hbm, ⟨43, _⟩ => ⟨S2x32x128x12x128, .f32⟩
  | .hbm, ⟨44, _⟩ => ⟨S2x4096x1536, .f32⟩
  | .hbm, ⟨45, _⟩ => ⟨S2x4096x1536, .f32⟩
  | .hbm, ⟨46, _⟩ => ⟨S8192x1536, .f32⟩
  | .hbm, ⟨47, _⟩ => ⟨S8192x1536, .bf16⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v14 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== MemoryKernel.lean ====
abbrev S2x4096x512 : Shape := ⟨3, ![2, 4096, 512]⟩
abbrev S128 : Shape := ⟨1, ![128]⟩
abbrev S2x256x4x128 : Shape := ⟨4, ![2, 256, 4, 128]⟩
abbrev S8192x512 : Shape := ⟨2, ![8192, 512]⟩
abbrev S1x128 : Shape := ⟨2, ![1, 128]⟩
abbrev S512x512 : Shape := ⟨2, ![512, 512]⟩
abbrev S256x512 : Shape := ⟨2, ![256, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x512, .f32⟩
  | .hbm, ⟨1, _⟩ => ⟨S128, .f32⟩
  | .hbm, ⟨2, _⟩ => ⟨S2x256x4x128, .f32⟩
  | .hbm, ⟨3, _⟩ => ⟨S2x256x4x128, .f32⟩
  | .hbm, ⟨4, _⟩ => ⟨S8192x512, .f32⟩
  | .hbm, ⟨5, _⟩ => ⟨S1x128, .f32⟩
  | .hbm, ⟨6, _⟩ => ⟨S512x512, .f32⟩
  | .hbm, ⟨7, _⟩ => ⟨S512x512, .f32⟩
  | .hbm, ⟨8, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S512x512, .bf16⟩
  | .local _ .vmem, ⟨8, _⟩ => ⟨S512x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryReferenceIdeal.lean ====
abbrev S2x4096x512 : Shape := ⟨3, ![2, 4096, 512]⟩
abbrev S128 : Shape := ⟨1, ![128]⟩
abbrev S2x256x4x128 : Shape := ⟨4, ![2, 256, 4, 128]⟩
abbrev S2x4096x4x128 : Shape := ⟨4, ![2, 4096, 4, 128]⟩
abbrev S_ : Shape := ⟨0, ![]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S128, .f32⟩
  | .hbm, ⟨2, _⟩ => ⟨S2x256x4x128, .f32⟩
  | .hbm, ⟨3, _⟩ => ⟨S2x256x4x128, .f32⟩
  | .hbm, ⟨4, _⟩ => ⟨S2x4096x4x128, .f32⟩
  | .hbm, ⟨5, _⟩ => ⟨S2x4096x4x128, .f32⟩
  | .hbm, ⟨6, _⟩ => ⟨S_, .f32⟩
  | .hbm, ⟨7, _⟩ => ⟨S2x4096x4, .f32⟩
  | .hbm, ⟨8, _⟩ => ⟨S2x4096x4x1, .f32⟩
  | .hbm, ⟨9, _⟩ => ⟨S_, .f32⟩
  | .hbm, ⟨10, _⟩ => ⟨S2x4096x4x1, .f32⟩
  | .hbm, ⟨11, _⟩ => ⟨S2x4096x4x1, .f32⟩
  | .hbm, ⟨12, _⟩ => ⟨S_, .f32⟩
  | .hbm, ⟨13, _⟩ => ⟨S2x4096x4x1, .f32⟩
  | .hbm, ⟨14, _⟩ => ⟨S2x4096x4x1, .f32⟩
  | .hbm, ⟨15, _⟩ => ⟨S2x4096x4x1, .f32⟩
  | .hbm, ⟨16, _⟩ => ⟨S2x4096x4x128, .f32⟩
  | .hbm, ⟨17, _⟩ => ⟨S2x4096x4x128, .f32⟩
  | .hbm, ⟨18, _⟩ => ⟨S1x1x1x128, .f32⟩
  | .hbm, ⟨19, _⟩ => ⟨S2x4096x4x128, .f32⟩
  | .hbm, ⟨20, _⟩ => ⟨S2x4096x4x128, .f32⟩
  | .hbm, ⟨21, _⟩ => ⟨S2x4x4096x256, .f32⟩
  | .hbm, ⟨22, _⟩ => ⟨S_, .f32⟩
  | .hbm, ⟨23, _⟩ => ⟨S2x4x4096x256, .f32⟩
  | .hbm, ⟨24, _⟩ => ⟨S2x4x4096x256, .f32⟩
  | .hbm, ⟨25, _⟩ => ⟨S_, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S2x4x4096, .f32⟩
  | .hbm, ⟨30, _⟩ => ⟨S2x4x4096x1, .f32⟩
  | .hbm, ⟨31, _⟩ => ⟨S2x4x4096x256, .f32⟩
  | .hbm, ⟨32, _⟩ => ⟨S2x4x4096x256, .f32⟩
  | .hbm, ⟨33, _⟩ => ⟨S2x4x4096x256, .f32⟩
  | .hbm, ⟨34, _⟩ => ⟨S_, .f32⟩
  | .hbm, ⟨35, _⟩ => ⟨S2x4x4096, .f32⟩
  | .hbm, ⟨36, _⟩ => ⟨S2x4x4096x1, .f32⟩
  | .hbm, ⟨37, _⟩ => ⟨S2x4x4096x256, .f32⟩
  | .hbm, ⟨38, _⟩ => ⟨S2x4x4096x256, .f32⟩
  | .hbm, ⟨39, _⟩ => ⟨S2x4x128x4096, .f32⟩
  | .hbm, ⟨40, _⟩ => ⟨S2x4096x4x128, .f32⟩
  | .hbm, ⟨41, _⟩ => ⟨S8192x512, .f32⟩
  | .hbm, ⟨42, _⟩ => ⟨S8192x512, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MixerSKernel.lean ====
abbrev S8x1x1536 : Shape := ⟨3, ![8, 1, 1536]⟩
abbrev S1536 : Shape := ⟨1, ![1536]⟩
abbrev S12x128x128 : Shape := ⟨3, ![12, 128, 128]⟩
abbrev S12x128 : Shape := ⟨2, ![12, 128]⟩
abbrev S_ : Shape := ⟨0, ![]⟩
abbrev S128x128 : Shape := ⟨2, ![128, 128]⟩
abbrev S12x1x1 : Shape := ⟨3, ![12, 1, 1]⟩
abbrev S12 : Shape := ⟨1, ![12]⟩
abbrev S1x1536 : Shape := ⟨2, ![1, 1536]⟩
abbrev S12x1 : Shape := ⟨2, ![12, 1]⟩
abbrev S8x1536 : Shape := ⟨2, ![8, 1536]⟩
abbrev S16x1536 : Shape := ⟨2, ![16, 1536]⟩
abbrev S16 : Shape := ⟨1, ![16]⟩
abbrev S16x1 : Shape := ⟨2, ![16, 1]⟩

abbrev nBuf : Space → Nat
  | .hbm => 44
  | .vmem => 7
  | .smem => 0
  | _ => 0

abbrev bufTy : (tb : Table) → Fin (tcTables nBuf tb) → BufTy
  | .hbm, ⟨0, _⟩ => ⟨S8x1x1536, .f32⟩
  | .hbm, ⟨1, _⟩ => ⟨S8x1x1536, .f32⟩
  | .hbm, ⟨2, _⟩ => ⟨S1536, .f32⟩
  | .hbm, ⟨3, _⟩ => ⟨S12x128x128, .f32⟩
  | .hbm, ⟨4, _⟩ => ⟨S12x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S12x128x128, .i1⟩
  | .hbm, ⟨19, _⟩ => ⟨S12x128x128, .f32⟩
  | .hbm, ⟨20, _⟩ => ⟨S12x128x128, .f32⟩
  | .hbm, ⟨21, _⟩ => ⟨S12x128x128, .bf16⟩
  | .hbm, ⟨22, _⟩ => ⟨S12x1x1, .bf16⟩
  | .hbm, ⟨23, _⟩ => ⟨S12, .bf16⟩
  | .hbm, ⟨24, _⟩ => ⟨S12, .f32⟩
  | .hbm, ⟨25, _⟩ => ⟨S12x128, .f32⟩
  | .hbm, ⟨26, _⟩ => ⟨S1536, .f32⟩
  | .hbm, ⟨27, _⟩ => ⟨S1x1536, .f32⟩
  | .hbm, ⟨28, _⟩ => ⟨S12x1, .f32⟩
  | .hbm, ⟨29, _⟩ => ⟨S12, .f32⟩
  | .hbm, ⟨30, _⟩ => ⟨S12x128, .f32⟩
  | .hbm, ⟨31, _⟩ => ⟨S1536, .f32⟩
  | .hbm, ⟨32, _⟩ => ⟨S1x1536, .f32⟩
  | .hbm, ⟨33, _⟩ => ⟨S8x1536, .f32⟩
  | .hbm, ⟨34, _⟩ => ⟨S_, .i32⟩
  | .hbm, ⟨35, _⟩ => ⟨S_, .f32⟩
  | .hbm, ⟨36, _⟩ => ⟨S16x1536, .f32⟩
  | .hbm, ⟨37, _⟩ => ⟨S8x1536, .f32⟩
  | .hbm, ⟨38, _⟩ => ⟨S_, .i32⟩
  | .hbm, ⟨39, _⟩ => ⟨S_, .f32⟩
  | .hbm, ⟨40, _⟩ => ⟨S16x1536, .f32⟩
  | .hbm, ⟨41, _⟩ => ⟨S1x1536, .f32⟩
  | .hbm, ⟨42, _⟩ => ⟨S16x1536, .bf16⟩
  | .hbm, ⟨43, _⟩ => ⟨S16x1536, .f32⟩
  | .local _ .vmem, ⟨0, _⟩ => ⟨S16x1536, .f32⟩
  | .local _ .vmem, ⟨1, _⟩ => ⟨S16x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .bf16⟩
  | .local _ .vmem, ⟨6, _⟩ => ⟨S16x1536, .f32⟩
  | _, _ => ⟨S8x1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_call3_v0 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MixerSReferenceIdeal.lean ====
abbrev S8x1x1536 : Shape := ⟨3, ![8, 1, 1536]⟩
abbrev S1536 : Shape := ⟨1, ![1536]⟩
abbrev S12x128x128 : Shape := ⟨3, ![12, 128, 128]⟩
abbrev S12x128 : Shape := ⟨2, ![12, 128]⟩
abbrev S_ : Shape := ⟨0, ![]⟩
abbrev S8x1 : Shape := ⟨2, ![8, 1]⟩
abbrev S8x1x1 : Shape := ⟨3, ![8, 1, 1]⟩
abbrev S1x1x1536 : Shape := ⟨3, ![1, 1, 1536]⟩
abbrev S1x1 : Shape := ⟨2, ![1, 1]⟩
abbrev S12x1x1 : Shape := ⟨3, ![12, 1, 1]⟩
abbrev S8x1x1x12x128 : Shape := ⟨5, ![8, 1, 1, 12, 128]⟩
abbrev S12x8x1x128x1 : Shape := ⟨5, ![12, 8, 1, 128, 1]⟩
abbrev S12x1 : Shape := ⟨2, ![12, 1]⟩
abbrev S1x12 : Shape := ⟨2, ![1, 12]⟩
abbrev S1x1x1x12x1 : Shape := ⟨5, ![1, 1, 1, 12, 1]⟩
abbrev S8x1536 : Shape := ⟨2, ![8, 1536]⟩
abbrev S16x1536 : Shape := ⟨2, ![16, 1536]⟩

abbrev nBuf : Space → Nat
  | .hbm => 57
  | .vmem => 0
  | .smem => 0
  | _ => 0

abbrev bufTy : (tb : Table) → Fin (tcTables nBuf tb) → BufTy
  | .hbm, ⟨0, _⟩ => ⟨S8x1x1536, .f32⟩
  | .hbm, ⟨1, _⟩ => ⟨S8x1x1536, .f32⟩
  | .hbm, ⟨2, _⟩ => ⟨S1536, .f32⟩
  | .hbm, ⟨3, _⟩ => ⟨S12x128x128, .f32⟩
  | .hbm, ⟨4, _⟩ => ⟨S12x128, .f32⟩
  | .hbm, ⟨5, _⟩ => ⟨S8x1x1536, .f32⟩
  | .hbm, ⟨6, _⟩ => ⟨S_, .f32⟩
  | .hbm, ⟨7, _⟩ => ⟨S8x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S_, .f32⟩
  | .hbm, ⟨13, _⟩ => ⟨S8x1x1, .f32⟩
  | .hbm, ⟨14, _⟩ => ⟨S8x1x1, .f32⟩
  | .hbm, ⟨15, _⟩ => ⟨S8x1x1, .f32⟩
  | .hbm, ⟨16, _⟩ => ⟨S8x1x1536, .f32⟩
  | .hbm, ⟨17, _⟩ => ⟨S8x1x1536, .f32⟩
  | .hbm, ⟨18, _⟩ => ⟨S1x1x1536, .f32⟩
  | .hbm, ⟨19, _⟩ => ⟨S8x1x1536, .f32⟩
  | .hbm, ⟨20, _⟩ => ⟨S8x1x1536, .f32⟩
  | .hbm, ⟨21, _⟩ => ⟨S_, .i1⟩
  | .hbm, ⟨22, _⟩ => ⟨S1x1, .i1⟩
  | .hbm, ⟨23, _⟩ => ⟨S1x1, .i32⟩
  | .hbm, ⟨24, _⟩ => ⟨S_, .i32⟩
  | .hbm, ⟨25, _⟩ => ⟨S1x1, .i32⟩
  | .hbm, ⟨26, _⟩ => ⟨S1x1, .i32⟩
  | .hbm, ⟨27, _⟩ => ⟨S1x1, .i32⟩
  | .hbm, ⟨28, _⟩ => ⟨S1x1, .i1⟩
  | .hbm, ⟨29, _⟩ => ⟨S_, .i1⟩
  | .hbm, ⟨30, _⟩ => ⟨S1x1, .i1⟩
  | .hbm, ⟨31, _⟩ => ⟨S1x1, .i1⟩
  | .hbm, ⟨32, _⟩ => ⟨S12x1x1, .f32⟩
  | .hbm, ⟨33, _⟩ => ⟨S_, .f32⟩
  | .hbm, ⟨34, _⟩ => ⟨S_, .f32⟩
  | .hbm, ⟨35, _⟩ => ⟨S12x1x1, .i1⟩
  | .hbm, ⟨36, _⟩ => ⟨S12x1x1, .f32⟩
  | .hbm, ⟨37, _⟩ => ⟨S12x1x1, .f32⟩
  | .hbm, ⟨38, _⟩ => ⟨S8x1x1x12x128, .f32⟩
  | .hbm, ⟨39, _⟩ => ⟨S12x8x1x128x1, .f32⟩
  | .hbm, ⟨40, _⟩ => ⟨S8x1x1x12x128, .f32⟩
  | .hbm, ⟨41, _⟩ => ⟨S12x1, .f32⟩
  | .hbm, ⟨42, _⟩ => ⟨S1x12, .f32⟩
  | .hbm, ⟨43, _⟩ => ⟨S1x1x1x12x1, .f32⟩
  | .hbm, ⟨44, _⟩ => ⟨S8x1x1x12x128, .f32⟩
  | .hbm, ⟨45, _⟩ => ⟨S8x1x1x12x128, .f32⟩
  | .hbm, ⟨46, _⟩ => ⟨S8x1x1536, .f32⟩
  | .hbm, ⟨47, _⟩ => ⟨S8x1x1536, .f32⟩
  | .hbm, ⟨48, _⟩ => ⟨S8x1536, .f32⟩
  | .hbm, ⟨49, _⟩ => ⟨S_, .i32⟩
  | .hbm, ⟨50, _⟩ => ⟨S_, .f32⟩
  | .hbm, ⟨51, _⟩ => ⟨S16x1536, .f32⟩
  | .hbm, ⟨52, _⟩ => ⟨S16x1536, .bf16⟩
  | .hbm, ⟨53, _⟩ => ⟨S8x1536, .f32⟩
  | .hbm, ⟨54, _⟩ => ⟨S_, .i32⟩
  | .hbm, ⟨55, _⟩ => ⟨S_, .f32⟩
  | .hbm, ⟨56, _⟩ => ⟨S16x1536, .f32⟩
  | _, _ => ⟨S8x1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_call2_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_call3_v0 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== FfnSKernel.lean ====
abbrev S8x1x2048 : Shape := ⟨3, ![8, 1, 2048]⟩
abbrev S2048 : Shape := ⟨1, ![2048]⟩
abbrev S4x2048x11264 : Shape := ⟨3, ![4, 2048, 11264]⟩
abbrev S3x5632 : Shape := ⟨2, ![3, 5632]⟩
abbrev S5632 : Shape := ⟨1, ![5632]⟩
abbrev S8x2x5632 : Shape := ⟨3, ![8, 2, 5632]⟩
abbrev S4x5632x2048 : Shape := ⟨3, ![4, 5632, 2048]⟩
abbrev S8x2048 : Shape := ⟨2, ![8, 2048]⟩
abbrev S_ : Shape := ⟨0, ![]⟩
abbrev S16x2048 : Shape := ⟨2, ![16, 2048]⟩
abbrev S16x2x5632 : Shape := ⟨3, ![16, 2, 5632]⟩
abbrev S1x2048 : Shape := ⟨2, ![1, 2048]⟩
abbrev S1x5632 : Shape := ⟨2, ![1, 5632]⟩
abbrev S16x1x5632 : Shape := ⟨3, ![16, 1, 5632]⟩
abbrev S16x5632 : Shape := ⟨2, ![16, 5632]⟩
abbrev S2048x5632 : Shape := ⟨2, ![2048, 5632]⟩
abbrev S5632x2048 : Shape := ⟨2, ![5632, 2048]⟩
abbrev S1x2048x512 : Shape := ⟨3, ![1, 2048, 512]⟩
abbrev S3x512 : Shape := ⟨2, ![3, 512]⟩
abbrev S1x512 : Shape := ⟨2, ![1, 512]⟩
abbrev S16x512 : Shape := ⟨2, ![16, 512]⟩
abbrev S1x512x2048 : Shape := ⟨3, ![1, 512, 2048]⟩
abbrev S2048x512 : Shape := ⟨2, ![2048, 512]⟩
abbrev S512x2048 : Shape := ⟨2, ![512, 2048]⟩
abbrev S16 : Shape := ⟨1, ![16]⟩
abbrev S16x1 : Shape := ⟨2, ![16, 1]⟩

abbrev nBuf : Space → Nat
  | .hbm => 25
  | .vmem => 26
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S4x2048x11264, .f32⟩
  | .hbm, ⟨3, _⟩ => ⟨S3x5632, .f32⟩
  | .hbm, ⟨4, _⟩ => ⟨S5632, .f32⟩
  | .hbm, ⟨5, _⟩ => ⟨S8x2x5632, .f32⟩
  | .hbm, ⟨6, _⟩ => ⟨S4x5632x2048, .f32⟩
  | .hbm, ⟨7, _⟩ => ⟨S8x2048, .f32⟩
  | .hbm, ⟨8, _⟩ => ⟨S_, .i32⟩
  | .hbm, ⟨9, _⟩ => ⟨S_, .f32⟩
  | .hbm, ⟨10, _⟩ => ⟨S16x2048, .f32⟩
  | .hbm, ⟨11, _⟩ => ⟨S_, .i32⟩
  | .hbm, ⟨12, _⟩ => ⟨S_, .f32⟩
  | .hbm, ⟨13, _⟩ => ⟨S16x2x5632, .f32⟩
  | .hbm, ⟨14, _⟩ => ⟨S1x2048, .f32⟩
  | .hbm, ⟨15, _⟩ => ⟨S1x5632, .f32⟩
  | .hbm, ⟨16, _⟩ => ⟨S16x1x5632, .f32⟩
  | .hbm, ⟨17, _⟩ => ⟨S16x5632, .f32⟩
  | .hbm, ⟨18, _⟩ => ⟨S16x1x5632, .f32⟩
  | .hbm, ⟨19, _⟩ => ⟨S16x5632, .f32⟩
  | .hbm, ⟨20, _⟩ => ⟨S16x2048, .f32⟩
  | .hbm, ⟨21, _⟩ => ⟨S16x5632, .f32⟩
  | .hbm, ⟨22, _⟩ => ⟨S2048x5632, .bf16⟩
  | .hbm, ⟨23, _⟩ => ⟨S2048x5632, .bf16⟩
  | .hbm, ⟨24, _⟩ => ⟨S5632x2048, .bf16⟩
  | .local _ .vmem, ⟨0, _⟩ => ⟨S16x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S1x512x2048, .f32⟩
  | .local _ .vmem, ⟨15, _⟩ => ⟨S1x512x2048, .f32⟩
  | .local _ .vmem, ⟨16, _⟩ => ⟨S16x2048, .f32⟩
  | .local _ .vmem, ⟨17, _⟩ => ⟨S16x512, .f32⟩
  | .local _ .vmem, ⟨18, _⟩ => ⟨S16x512, .f32⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S512x2048, .bf16⟩
  | .local _ .vmem, ⟨24, _⟩ => ⟨S512x2048, .bf16⟩
  | .local _ .vmem, ⟨25, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c0_i32_33 : BitVec 32 := 0#32
  let v44 : BitVec 1 := Scalar.cmpi .eq arg0 c0_i32_33
  let v45 : BitVec 32 := Scalar.extui v44
  let c0_i32_34 : BitVec 32 := 0#32
  let v46 : BitVec 1 := Scalar.cmpi .ne v45 c0_i32_34
  v46

def k0_cond3 (i : grid0.Coords) : BitVec 1 :=
  let arg0 : BitVec 32 := BitVec.ofNat 32 (i 0).val
  let c0_i32_35 : BitVec 32 := 0#32
  let v47 : BitVec 1 := Scalar.cmpi .sgt arg0 c0_i32_35
  let v48 : BitVec 32 := Scalar.extui v47
  let c0_i32_36 : BitVec 32 := 0#32
  let v49 : BitVec 1 := Scalar.cmpi .ne v48 c0_i32_36
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnSReferenceIdeal.lean ====
abbrev S8x1x2048 : Shape := ⟨3, ![8, 1, 2048]⟩
abbrev S2048 : Shape := ⟨1, ![2048]⟩
abbrev S4x2048x11264 : Shape := ⟨3, ![4, 2048, 11264]⟩
abbrev S3x5632 : Shape := ⟨2, ![3, 5632]⟩
abbrev S5632 : Shape := ⟨1, ![5632]⟩
abbrev S8x2x5632 : Shape := ⟨3, ![8, 2, 5632]⟩
abbrev S4x5632x2048 : Shape := ⟨3, ![4, 5632, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x11264 : Shape := ⟨3, ![8, 1, 11264]⟩
abbrev S8x1x5632 : Shape := ⟨3, ![8, 1, 5632]⟩
abbrev S8x3x5632 : Shape := ⟨3, ![8, 3, 5632]⟩
abbrev S1x5632 : Shape := ⟨2, ![1, 5632]⟩
abbrev S1x1x5632 : Shape := ⟨3, ![1, 1, 5632]⟩
abbrev S8x2048 : Shape := ⟨2, ![8, 2048]⟩
abbrev S16x2048 : Shape := ⟨2, ![16, 2048]⟩
abbrev S8x5632 : Shape := ⟨2, ![8, 5632]⟩
abbrev S16x5632 : Shape := ⟨2, ![16, 5632]⟩
abbrev S2048x5632 : Shape := ⟨2, ![2048, 5632]⟩

abbrev nBuf : Space → Nat
  | .hbm => 79
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S4x2048x11264, .f32⟩
  | .hbm, ⟨3, _⟩ => ⟨S3x5632, .f32⟩
  | .hbm, ⟨4, _⟩ => ⟨S5632, .f32⟩
  | .hbm, ⟨5, _⟩ => ⟨S8x2x5632, .f32⟩
  | .hbm, ⟨6, _⟩ => ⟨S4x5632x2048, .f32⟩
  | .hbm, ⟨7, _⟩ => ⟨S1x2048x11264, .f32⟩
  | .hbm, ⟨8, _⟩ => ⟨S2048x11264, .f32⟩
  | .hbm, ⟨9, _⟩ => ⟨S1x5632x2048, .f32⟩
  | .hbm, ⟨10, _⟩ => ⟨S5632x2048, .f32⟩
  | .hbm, ⟨11, _⟩ => ⟨S8x1x2048, .f32⟩
  | .hbm, ⟨12, _⟩ => ⟨S_, .f32⟩
  | .hbm, ⟨13, _⟩ => ⟨S8x1, .f32⟩
  | .hbm, ⟨14, _⟩ => ⟨S8x1x1, .f32⟩
  | .hbm, ⟨15, _⟩ => ⟨S_, .f32⟩
  | .hbm, ⟨16, _⟩ => ⟨S8x1x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S8x1x1, .f32⟩
  | .hbm, ⟨22, _⟩ => ⟨S8x1x2048, .f32⟩
  | .hbm, ⟨23, _⟩ => ⟨S8x1x2048, .f32⟩
  | .hbm, ⟨24, _⟩ => ⟨S1x1x2048, .f32⟩
  | .hbm, ⟨25, _⟩ => ⟨S8x1x2048, .f32⟩
  | .hbm, ⟨26, _⟩ => ⟨S8x1x2048, .f32⟩
  | .hbm, ⟨27, _⟩ => ⟨S8x1x11264, .f32⟩
  | .hbm, ⟨28, _⟩ => ⟨S8x1x5632, .f32⟩
  | .hbm, ⟨29, _⟩ => ⟨S8x1x5632, .f32⟩
  | .hbm, ⟨30, _⟩ => ⟨S8x3x5632, .f32⟩
  | .hbm, ⟨31, _⟩ => ⟨S8x1x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x1x5632, .f32⟩
  | .hbm, ⟨36, _⟩ => ⟨S8x1x5632, .f32⟩
  | .hbm, ⟨37, _⟩ => ⟨S1x1x5632, .f32⟩
  | .hbm, ⟨38, _⟩ => ⟨S8x1x5632, .f32⟩
  | .hbm, ⟨39, _⟩ => ⟨S8x1x5632, .f32⟩
  | .hbm, ⟨40, _⟩ => ⟨S8x1x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x1x5632, .f32⟩
  | .hbm, ⟨45, _⟩ => ⟨S8x1x5632, .f32⟩
  | .hbm, ⟨46, _⟩ => ⟨S8x1x5632, .f32⟩
  | .hbm, ⟨47, _⟩ => ⟨S8x1x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x1x5632, .f32⟩
  | .hbm, ⟨52, _⟩ => ⟨S8x1x5632, .f32⟩
  | .hbm, ⟨53, _⟩ => ⟨S8x1x5632, .f32⟩
  | .hbm, ⟨54, _⟩ => ⟨S8x1x5632, .f32⟩
  | .hbm, ⟨55, _⟩ => ⟨S8x1x5632, .f32⟩
  | .hbm, ⟨56, _⟩ => ⟨S_, .f32⟩
  | .hbm, ⟨57, _⟩ => ⟨S8x1x5632, .f32⟩
  | .hbm, ⟨58, _⟩ => ⟨S8x1x5632, .f32⟩
  | .hbm, ⟨59, _⟩ => ⟨S_, .f32⟩
  | .hbm, ⟨60, _⟩ => ⟨S8x1x5632, .f32⟩
  | .hbm, ⟨61, _⟩ => ⟨S8x1x5632, .f32⟩
  | .hbm, ⟨62, _⟩ => ⟨S8x1x5632, .f32⟩
  | .hbm, ⟨63, _⟩ => ⟨S8x1x5632, .f32⟩
  | .hbm, ⟨64, _⟩ => ⟨S8x1x2048, .f32⟩
  | .hbm, ⟨65, _⟩ => ⟨S8x1x2048, .f32⟩
  | .hbm, ⟨66, _⟩ => ⟨S8x2048, .f32⟩
  | .hbm, ⟨67, _⟩ => ⟨S_, .i32⟩
  | .hbm, ⟨68, _⟩ => ⟨S_, .f32⟩
  | .hbm, ⟨69, _⟩ => ⟨S16x2048, .f32⟩
  | .hbm, ⟨70, _⟩ => ⟨S8x5632, .f32⟩
  | .hbm, ⟨71, _⟩ => ⟨S_, .i32⟩
  | .hbm, ⟨72, _⟩ => ⟨S_, .f32⟩
  | .hbm, ⟨73, _⟩ => ⟨S16x5632, .f32⟩
  | .hbm, ⟨74, _⟩ => ⟨S2048x5632, .f32⟩
  | .hbm, ⟨75, _⟩ => ⟨S2048x5632, .bf16⟩
  | .hbm, ⟨76, _⟩ => ⟨S2048x5632, .f32⟩
  | .hbm, ⟨77, _⟩ => ⟨S2048x5632, .bf16⟩
  | .hbm, ⟨78, _⟩ => ⟨S5632x2048, .bf16⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_c_2 : Ref sig .tc := ⟨.hbm, 71, rfl⟩
abbrev main_call2_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== OutKernel.lean ====
abbrev S2x4096x2048 : Shape := ⟨3, ![2, 4096, 2048]⟩
abbrev S2x4096x1536 : Shape := ⟨3, ![2, 4096, 1536]⟩
abbrev S2x4096x512 : Shape := ⟨3, ![2, 4096, 512]⟩
abbrev S2048x2048 : Shape := ⟨2, ![2048, 2048]⟩
abbrev S8192x1536 : Shape := ⟨2, ![8192, 1536]⟩
abbrev S8192x512 : Shape := ⟨2, ![8192, 512]⟩
abbrev S8192x2048 : Shape := ⟨2, ![8192, 2048]⟩
abbrev S2048x1536 : Shape := ⟨2, ![2048, 1536]⟩
abbrev S2048x512 : Shape := ⟨2, ![2048, 512]⟩
abbrev S1536x512 : Shape := ⟨2, ![1536, 512]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1536, .f32⟩
  | .hbm, ⟨2, _⟩ => ⟨S2x4096x512, .f32⟩
  | .hbm, ⟨3, _⟩ => ⟨S2048x2048, .f32⟩
  | .hbm, ⟨4, _⟩ => ⟨S8192x1536, .f32⟩
  | .hbm, ⟨5, _⟩ => ⟨S8192x1536, .bf16⟩
  | .hbm, ⟨6, _⟩ => ⟨S8192x512, .f32⟩
  | .hbm, ⟨7, _⟩ => ⟨S8192x512, .bf16⟩
  | .hbm, ⟨8, _⟩ => ⟨S2048x2048, .bf16⟩
  | .hbm, ⟨9, _⟩ => ⟨S8192x2048, .f32⟩
  | .hbm, ⟨10, _⟩ => ⟨S8192x2048, .f32⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S2048x512, .bf16⟩
  | .local _ .vmem, ⟨4, _⟩ => ⟨S1536x512, .bf16⟩
  | .local _ .vmem, ⟨5, _⟩ => ⟨S1536x512, .bf16⟩
  | .local _ .vmem, ⟨6, _⟩ => ⟨S512x512, .bf16⟩
  | .local _ .vmem, ⟨7, _⟩ => ⟨S512x512, .bf16⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S2x4096x2048 : Shape := ⟨3, ![2, 4096, 2048]⟩
abbrev S2x4096x1536 : Shape := ⟨3, ![2, 4096, 1536]⟩
abbrev S2x4096x512 : Shape := ⟨3, ![2, 4096, 512]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1536, .f32⟩
  | .hbm, ⟨2, _⟩ => ⟨S2x4096x512, .f32⟩
  | .hbm, ⟨3, _⟩ => ⟨S2048x2048, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GateKernel.lean ====
abbrev S2x4096x2048 : Shape := ⟨3, ![2, 4096, 2048]⟩
abbrev S2048 : Shape := ⟨1, ![2048]⟩
abbrev S2048x3584 : Shape := ⟨2, ![2048, 3584]⟩
abbrev S8192x2048 : Shape := ⟨2, ![8192, 2048]⟩
abbrev S1x2048 : Shape := ⟨2, ![1, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8192x1536 : Shape := ⟨2, ![8192, 1536]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 34
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x3584, .f32⟩
  | .hbm, ⟨3, _⟩ => ⟨S8192x2048, .f32⟩
  | .hbm, ⟨4, _⟩ => ⟨S1x2048, .f32⟩
  | .hbm, ⟨5, _⟩ => ⟨S2048x3584, .bf16⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S8192x1536, .f32⟩
  | .hbm, ⟨32, _⟩ => ⟨S8192x1536, .f32⟩
  | .hbm, ⟨33, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S256x256, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v11_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .sge arg1 c3_i32_3
  let c6_i32 : BitVec 32 := 6#32
  let v9 : BitVec 1 := Scalar.cmpi .slt arg1 c6_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c6_i32_5 : BitVec 32 := 6#32
  let v13 : BitVec 1 := Scalar.cmpi .sge arg1 c6_i32_5
  let c7_i32 : BitVec 32 := 7#32
  let v14 : BitVec 1 := Scalar.cmpi .slt arg1 c7_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateReferenceIdeal.lean ====
abbrev S2x4096x2048 : Shape := ⟨3, ![2, 4096, 2048]⟩
abbrev S2048 : Shape := ⟨1, ![2048]⟩
abbrev S2048x3584 : Shape := ⟨2, ![2048, 3584]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x3584 : Shape := ⟨3, ![2, 4096, 3584]⟩
abbrev S8192x3584 : Shape := ⟨2, ![8192, 3584]⟩
abbrev S8192x3072 : Shape := ⟨2, ![8192, 3072]⟩
abbrev S8192x1536 : Shape := ⟨2, ![8192, 1536]⟩
abbrev S8192x512 : Shape := ⟨2, ![8192, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x3584, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x3584, .f32⟩
  | .hbm, ⟨20, _⟩ => ⟨S8192x3584, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S_, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x1536, .f32⟩
  | .hbm, ⟨40, _⟩ => ⟨S8192x1536, .f32⟩
  | .hbm, ⟨41, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MemKvKernel.lean ====
abbrev S2x256x2048 : Shape := ⟨3, ![2, 256, 2048]⟩
abbrev S2048 : Shape := ⟨1, ![2048]⟩
abbrev S4x2048x1024 : Shape := ⟨3, ![4, 2048, 1024]⟩
abbrev S128 : Shape := ⟨1, ![128]⟩
abbrev S512x2048 : Shape := ⟨2, ![512, 2048]⟩
abbrev S1x2048 : Shape := ⟨2, ![1, 2048]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x512 : Shape := ⟨2, ![512, 512]⟩
abbrev S1x2048x512 : Shape := ⟨3, ![1, 2048, 512]⟩
abbrev S512 : Shape := ⟨1, ![512]⟩
abbrev S512x1 : Shape := ⟨2, ![512, 1]⟩
abbrev S2048x512 : Shape := ⟨2, ![2048, 512]⟩
abbrev S512x256 : Shape := ⟨2, ![512, 256]⟩

abbrev nBuf : Space → Nat
  | .hbm => 37
  | .vmem => 11
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x1024, .f32⟩
  | .hbm, ⟨3, _⟩ => ⟨S128, .f32⟩
  | .hbm, ⟨4, _⟩ => ⟨S512x2048, .f32⟩
  | .hbm, ⟨5, _⟩ => ⟨S1x2048, .f32⟩
  | .hbm, ⟨6, _⟩ => ⟨S1x128, .f32⟩
  | .hbm, ⟨7, _⟩ => ⟨S1x1x1x128, .f32⟩
  | .hbm, ⟨8, _⟩ => ⟨S1x1x4x128, .f32⟩
  | .hbm, ⟨9, _⟩ => ⟨S1x512, .f32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S512x512, .f32⟩
  | .hbm, ⟨36, _⟩ => ⟨S512x512, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S256x256, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemKvReferenceIdeal.lean ====
abbrev S2x256x2048 : Shape := ⟨3, ![2, 256, 2048]⟩
abbrev S2048 : Shape := ⟨1, ![2048]⟩
abbrev S4x2048x1024 : Shape := ⟨3, ![4, 2048, 1024]⟩
abbrev S128 : Shape := ⟨1, ![128]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S512x512 : Shape := ⟨2, ![512, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x1024, .f32⟩
  | .hbm, ⟨3, _⟩ => ⟨S128, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S1x2048x1024, .f32⟩
  | .hbm, ⟨21, _⟩ => ⟨S2048x1024, .f32⟩
  | .hbm, ⟨22, _⟩ => ⟨S2x256x1024, .f32⟩
  | .hbm, ⟨23, _⟩ => ⟨S2x256x512, .f32⟩
  | .hbm, ⟨24, _⟩ => ⟨S2x256x512, .f32⟩
  | .hbm, ⟨25, _⟩ => ⟨S2x256x4x128, .f32⟩
  | .hbm, ⟨26, _⟩ => ⟨S2x256x4x128, .f32⟩
  | .hbm, ⟨27, _⟩ => ⟨S_, .f32⟩
  | .hbm, ⟨28, _⟩ => ⟨S2x256x4, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S_, .f32⟩
  | .hbm, ⟨34, _⟩ => ⟨S2x256x4x1, .f32⟩
  | .hbm, ⟨35, _⟩ => ⟨S2x256x4x1, .f32⟩
  | .hbm, ⟨36, _⟩ => ⟨S2x256x4x1, .f32⟩
  | .hbm, ⟨37, _⟩ => ⟨S2x256x4x128, .f32⟩
  | .hbm, ⟨38, _⟩ => ⟨S2x256x4x128, .f32⟩
  | .hbm, ⟨39, _⟩ => ⟨S1x1x1x128, .f32⟩
  | .hbm, ⟨40, _⟩ => ⟨S2x256x4x128, .f32⟩
  | .hbm, ⟨41, _⟩ => ⟨S2x256x4x128, .f32⟩
  | .hbm, ⟨42, _⟩ => ⟨S512x512, .f32⟩
  | .hbm, ⟨43, _⟩ => ⟨S512x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== InSKernel.lean ====
abbrev S8x1x2048 : Shape := ⟨3, ![8, 1, 2048]⟩
abbrev S2048 : Shape := ⟨1, ![2048]⟩
abbrev S2x2048x5120 : Shape := ⟨3, ![2, 2048, 5120]⟩
abbrev S64 : Shape := ⟨1, ![64]⟩
abbrev S8x2048 : Shape := ⟨2, ![8, 2048]⟩
abbrev S_ : Shape := ⟨0, ![]⟩
abbrev S16x2048 : Shape := ⟨2, ![16, 2048]⟩
abbrev S1x2048 : Shape := ⟨2, ![1, 2048]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x1536 : Shape := ⟨2, ![16, 1536]⟩
abbrev S16x512 : Shape := ⟨2, ![16, 512]⟩
abbrev S2048x5120 : Shape := ⟨2, ![2048, 5120]⟩
abbrev S1x2048x512 : Shape := ⟨3, ![1, 2048, 512]⟩
abbrev S2048x512 : Shape := ⟨2, ![2048, 512]⟩
abbrev S16 : Shape := ⟨1, ![16]⟩
abbrev S16x1 : Shape := ⟨2, ![16, 1]⟩
abbrev S16x256 : Shape := ⟨2, ![16, 256]⟩

abbrev nBuf : Space → Nat
  | .hbm => 48
  | .vmem => 18
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2x2048x5120, .f32⟩
  | .hbm, ⟨3, _⟩ => ⟨S64, .f32⟩
  | .hbm, ⟨4, _⟩ => ⟨S64, .f32⟩
  | .hbm, ⟨5, _⟩ => ⟨S8x2048, .f32⟩
  | .hbm, ⟨6, _⟩ => ⟨S_, .i32⟩
  | .hbm, ⟨7, _⟩ => ⟨S_, .f32⟩
  | .hbm, ⟨8, _⟩ => ⟨S16x2048, .f32⟩
  | .hbm, ⟨9, _⟩ => ⟨S1x2048, .f32⟩
  | .hbm, ⟨10, _⟩ => ⟨S1x64, .f32⟩
  | .hbm, ⟨11, _⟩ => ⟨S1x1x1x64, .f32⟩
  | .hbm, ⟨12, _⟩ => ⟨S1x1x8x64, .f32⟩
  | .hbm, ⟨13, _⟩ => ⟨S1x512, .f32⟩
  | .hbm, ⟨14, _⟩ => ⟨S1x64, .f32⟩
  | .hbm, ⟨15, _⟩ => ⟨S1x1x1x64, .f32⟩
  | .hbm, ⟨16, _⟩ => ⟨S1x1x8x64, .f32⟩
  | .hbm, ⟨17, _⟩ => ⟨S1x512, .f32⟩
  | .hbm, ⟨18, _⟩ => ⟨S256, .i32⟩
  | .hbm, ⟨19, _⟩ => ⟨S_, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S1x256, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .bf16⟩
  | .hbm, ⟨43, _⟩ => ⟨S16x1536, .f32⟩
  | .hbm, ⟨44, _⟩ => ⟨S16x1536, .f32⟩
  | .hbm, ⟨45, _⟩ => ⟨S16x1536, .f32⟩
  | .hbm, ⟨46, _⟩ => ⟨S16x512, .f32⟩
  | .hbm, ⟨47, _⟩ => ⟨S2048x5120, .bf16⟩
  | .local _ .vmem, ⟨0, _⟩ => ⟨S16x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S256x256, .bf16⟩
  | .local _ .vmem, ⟨5, _⟩ => ⟨S1x512, .f32⟩
  | .local _ .vmem, ⟨6, _⟩ => ⟨S1x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S2048x512, .bf16⟩
  | .local _ .vmem, ⟨16, _⟩ => ⟨S2048x512, .bf16⟩
  | .local _ .vmem, ⟨17, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_v19_2 : Ref sig .tc := ⟨.hbm, 45, rfl⟩
abbrev main_v19_3 : Ref sig .tc := ⟨.hbm, 46, rfl⟩
abbrev main_v19_4 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 10], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .sge arg1 c3_i32_3
  let c6_i32 : BitVec 32 := 6#32
  let v9 : BitVec 1 := Scalar.cmpi .slt arg1 c6_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c6_i32_5 : BitVec 32 := 6#32
  let v13 : BitVec 1 := Scalar.cmpi .sge arg1 c6_i32_5
  let c9_i32 : BitVec 32 := 9#32
  let v14 : BitVec 1 := Scalar.cmpi .slt arg1 c9_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c9_i32_7 : BitVec 32 := 9#32
  let v18 : BitVec 1 := Scalar.cmpi .sge arg1 c9_i32_7
  let c10_i32 : BitVec 32 := 10#32
  let v19 : BitVec 1 := Scalar.cmpi .slt arg1 c10_i32
  let v20 : BitVec 1 := Scalar.andi v18 v19
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== InSReferenceIdeal.lean ====
abbrev S8x1x2048 : Shape := ⟨3, ![8, 1, 2048]⟩
abbrev S2048 : Shape := ⟨1, ![2048]⟩
abbrev S2x2048x5120 : Shape := ⟨3, ![2, 2048, 5120]⟩
abbrev S64 : Shape := ⟨1, ![64]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S1x2048x5120 : Shape := ⟨3, ![1, 2048, 5120]⟩
abbrev S2048x5120 : Shape := ⟨2, ![2048, 5120]⟩
abbrev S8x1x5120 : Shape := ⟨3, ![8, 1, 5120]⟩
abbrev S8x5120 : Shape := ⟨2, ![8, 5120]⟩
abbrev S8x1536 : Shape := ⟨2, ![8, 1536]⟩
abbrev S8x512 : Shape := ⟨2, ![8, 512]⟩
abbrev S8x24x64 : Shape := ⟨3, ![8, 24, 64]⟩
abbrev S8x24 : Shape := ⟨2, ![8, 24]⟩
abbrev S8x24x1 : Shape := ⟨3, ![8, 24, 1]⟩
abbrev S1x1x64 : Shape := ⟨3, ![1, 1, 64]⟩
abbrev S16x1536 : Shape := ⟨2, ![16, 1536]⟩
abbrev S16x512 : Shape := ⟨2, ![16, 512]⟩

abbrev nBuf : Space → Nat
  | .hbm => 80
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2x2048x5120, .f32⟩
  | .hbm, ⟨3, _⟩ => ⟨S64, .f32⟩
  | .hbm, ⟨4, _⟩ => ⟨S64, .f32⟩
  | .hbm, ⟨5, _⟩ => ⟨S8x1x2048, .f32⟩
  | .hbm, ⟨6, _⟩ => ⟨S_, .f32⟩
  | .hbm, ⟨7, _⟩ => ⟨S8x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S_, .f32⟩
  | .hbm, ⟨13, _⟩ => ⟨S8x1x1, .f32⟩
  | .hbm, ⟨14, _⟩ => ⟨S8x1x1, .f32⟩
  | .hbm, ⟨15, _⟩ => ⟨S8x1x1, .f32⟩
  | .hbm, ⟨16, _⟩ => ⟨S8x1x2048, .f32⟩
  | .hbm, ⟨17, _⟩ => ⟨S8x1x2048, .f32⟩
  | .hbm, ⟨18, _⟩ => ⟨S1x1x2048, .f32⟩
  | .hbm, ⟨19, _⟩ => ⟨S8x1x2048, .f32⟩
  | .hbm, ⟨20, _⟩ => ⟨S8x1x2048, .f32⟩
  | .hbm, ⟨21, _⟩ => ⟨S1x2048x5120, .f32⟩
  | .hbm, ⟨22, _⟩ => ⟨S2048x5120, .f32⟩
  | .hbm, ⟨23, _⟩ => ⟨S8x1x5120, .f32⟩
  | .hbm, ⟨24, _⟩ => ⟨S8x5120, .f32⟩
  | .hbm, ⟨25, _⟩ => ⟨S8x1536, .f32⟩
  | .hbm, ⟨26, _⟩ => ⟨S8x1536, .f32⟩
  | .hbm, ⟨27, _⟩ => ⟨S8x1536, .f32⟩
  | .hbm, ⟨28, _⟩ => ⟨S8x512, .f32⟩
  | .hbm, ⟨29, _⟩ => ⟨S8x24x64, .f32⟩
  | .hbm, ⟨30, _⟩ => ⟨S8x24x64, .f32⟩
  | .hbm, ⟨31, _⟩ => ⟨S_, .f32⟩
  | .hbm, ⟨32, _⟩ => ⟨S8x24, .f32⟩
  | .hbm, ⟨33, _⟩ => ⟨S8x24x1, .f32⟩
  | .hbm, ⟨34, _⟩ => ⟨S_, .f32⟩
  | .hbm, ⟨35, _⟩ => ⟨S8x24x1, .f32⟩
  | .hbm, ⟨36, _⟩ => ⟨S8x24x1, .f32⟩
  | .hbm, ⟨37, _⟩ => ⟨S_, .f32⟩
  | .hbm, ⟨38, _⟩ => ⟨S8x24x1, .f32⟩
  | .hbm, ⟨39, _⟩ => ⟨S8x24x1, .f32⟩
  | .hbm, ⟨40, _⟩ => ⟨S8x24x1, .f32⟩
  | .hbm, ⟨41, _⟩ => ⟨S8x24x64, .f32⟩
  | .hbm, ⟨42, _⟩ => ⟨S8x24x64, .f32⟩
  | .hbm, ⟨43, _⟩ => ⟨S1x1x64, .f32⟩
  | .hbm, ⟨44, _⟩ => ⟨S8x24x64, .f32⟩
  | .hbm, ⟨45, _⟩ => ⟨S8x24x64, .f32⟩
  | .hbm, ⟨46, _⟩ => ⟨S8x1536, .f32⟩
  | .hbm, ⟨47, _⟩ => ⟨S8x24x64, .f32⟩
  | .hbm, ⟨48, _⟩ => ⟨S8x24x64, .f32⟩
  | .hbm, ⟨49, _⟩ => ⟨S_, .f32⟩
  | .hbm, ⟨50, _⟩ => ⟨S8x24, .f32⟩
  | .hbm, ⟨51, _⟩ => ⟨S8x24x1, .f32⟩
  | .hbm, ⟨52, _⟩ => ⟨S_, .f32⟩
  | .hbm, ⟨53, _⟩ => ⟨S8x24x1, .f32⟩
  | .hbm, ⟨54, _⟩ => ⟨S8x24x1, .f32⟩
  | .hbm, ⟨55, _⟩ => ⟨S_, .f32⟩
  | .hbm, ⟨56, _⟩ => ⟨S8x24x1, .f32⟩
  | .hbm, ⟨57, _⟩ => ⟨S8x24x1, .f32⟩
  | .hbm, ⟨58, _⟩ => ⟨S8x24x1, .f32⟩
  | .hbm, ⟨59, _⟩ => ⟨S8x24x64, .f32⟩
  | .hbm, ⟨60, _⟩ => ⟨S8x24x64, .f32⟩
  | .hbm, ⟨61, _⟩ => ⟨S1x1x64, .f32⟩
  | .hbm, ⟨62, _⟩ => ⟨S8x24x64, .f32⟩
  | .hbm, ⟨63, _⟩ => ⟨S8x24x64, .f32⟩
  | .hbm, ⟨64, _⟩ => ⟨S8x1536, .f32⟩
  | .hbm, ⟨65, _⟩ => ⟨S_, .i32⟩
  | .hbm, ⟨66, _⟩ => ⟨S_, .f32⟩
  | .hbm, ⟨67, _⟩ => ⟨S16x1536, .f32⟩
  | .hbm, ⟨68, _⟩ => ⟨S_, .i32⟩
  | .hbm, ⟨69, _⟩ => ⟨S_, .f32⟩
  | .hbm, ⟨70, _⟩ => ⟨S16x1536, .f32⟩
  | .hbm, ⟨71, _⟩ => ⟨S_, .i32⟩
  | .hbm, ⟨72, _⟩ => ⟨S_, .f32⟩
  | .hbm, ⟨73, _⟩ => ⟨S16x1536, .f32⟩
  | .hbm, ⟨74, _⟩ => ⟨S_, .i32⟩
  | .hbm, ⟨75, _⟩ => ⟨S_, .f32⟩
  | .hbm, ⟨76, _⟩ => ⟨S16x512, .f32⟩
  | .hbm, ⟨77, _⟩ => ⟨S1x2048x5120, .f32⟩
  | .hbm, ⟨78, _⟩ => ⟨S2048x5120, .f32⟩
  | .hbm, ⟨79, _⟩ => ⟨S2048x5120, .bf16⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c : Ref sig .tc := ⟨.hbm, 65, rfl⟩
abbrev main_call0_v0 : Ref sig .tc := ⟨.hbm, 66, rfl⟩
abbrev main_v51 : Ref sig .tc := ⟨.hbm, 67, rfl⟩
abbrev main_c_8 : Ref sig .tc := ⟨.hbm, 68, rfl⟩
abbrev main_call1_v0 : Ref sig .tc := ⟨.hbm, 69, rfl⟩
abbrev main_v52 : Ref sig .tc := ⟨.hbm, 70, rfl⟩
abbrev main_c_9 : Ref sig .tc := ⟨.hbm, 71, rfl⟩
abbrev main_call2_v0 : Ref sig .tc := ⟨.hbm, 72, rfl⟩
abbrev main_v53 : Ref sig .tc := ⟨.hbm, 73, rfl⟩
abbrev main_c_10 : Ref sig .tc := ⟨.hbm, 74, rfl⟩
abbrev main_call3_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.GateRun.lean ====
/-
  What one grid step of the in projection's kernel does to the buffers it is handed, in each of its four cases.
-/
module

public import proofs.«01_k».proof.Proof.Gen.GateKernelIdeal.Skeleton
public import proofs.«01_k».proof.Proof.Gen.GateKernelIdeal.Frame
public import Idealize.ShloMosaic.Lib.Pipeline.ReadBack
public import Idealize.ShloMosaic.Lib.WordCmp
public import Idealize.ShloMosaic.Lib.Exec
public import Idealize.ShloMosaic.Lib.Pipeline.ValueKit
public import Idealize.ShloMosaic.Lib.VecWindow
public import Idealize.ShloMosaic.Lib.Tactic

@[expose] public section

set_option maxRecDepth 16384

noncomputable section

namespace Cert.GateKernelIdeal.Step

open Cert.GateKernelIdeal Cert.GateKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

/-- The kernel's first test: the step is the first of its row block. -/
abbrev isNew (i : grid0.Coords) : Prop :=
  (Scalar.cmpi .ne (Scalar.extui (Scalar.cmpi .eq (BitVec.ofNat 32 (i 1).val) 0#32)) 0#32) = 1#1

set_option maxHeartbeats 1000000 in
/-- The first step of a row block: the normalised rows go into the scratch, and the gated product of the scratch and the weights into output 4. -/
theorem run_new (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S256x256 .bf16) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x2048 .bf16) (harg9 : arg9.IsWhole)
    (hc0 : isNew i) (hc1 : k0_cond2 i = 1#1) (hc2 : ¬k0_cond3 i = 1#1) (hc3 : ¬k0_cond4 i = 1#1)
    (x0 : Vec F S1024x2048 .f32) (x1 : Vec F S1x2048 .f32) (x2 : Vec F S2048x512 .bf16) (x3 : Vec F S256x256 .bf16)
    (y5 y6 : Vec F S1024x512 .f32) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ owns (c : Thread nD τ) arg7 fullShare y5
        ∗ owns (c : Thread nD τ) arg8 fullShare y6
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay2 (k0_pay1 x0 x1) x2)
            ∗ owns (c : Thread nD τ) arg7 fullShare y5
            ∗ owns (c : Thread nD τ) arg8 fullShare y6
            ∗ owns (c : Thread nD τ) arg9 fullShare (k0_pay1 x0 x1)) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full]
    unfold run_new.sl.v18 run_new.sl.HS0_1
    rw [View.readCov_full, View.readAt_full, View.readAt_full, View.readAt_full, harg2.read_unread, harg3.read_unread, harg4.read_unread]
  isplitl [H5]
  · iexists _; isplitr; swap; · iexact H5
    ipureintro
    exact hf5
  isplitl [H6]
  · iexists _; isplitr; swap; · iexact H6
    ipureintro
    exact hf6
  iexists _; isplitr; swap; · iexact HS0
  ipureintro
  unfold run_new.sl.HS0_1
  rw [View.read_writes_full, View.readAt_full, View.readAt_full, harg2.read_unread, harg3.read_unread]

set_option maxHeartbeats 1000000 in
/-- A later step of the first three: the gated product of the scratch and the weights goes into output 4. -/
theorem run_u (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S256x256 .bf16) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x2048 .bf16) (harg9 : arg9.IsWhole)
    (hc0 : ¬isNew i) (hc1 : k0_cond2 i = 1#1) (hc2 : ¬k0_cond3 i = 1#1) (hc3 : ¬k0_cond4 i = 1#1)
    (x0 : Vec F S1024x2048 .f32) (x1 : Vec F S1x2048 .f32) (x2 : Vec F S2048x512 .bf16) (x3 : Vec F S256x256 .bf16)
    (y5 y6 : Vec F S1024x512 .f32) (h : Vec F S1024x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ owns (c : Thread nD τ) arg7 fullShare y5
        ∗ owns (c : Thread nD τ) arg8 fullShare y6
        ∗ owns (c : Thread nD τ) arg9 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay2 h x2)
            ∗ owns (c : Thread nD τ) arg7 fullShare y5
            ∗ owns (c : Thread nD τ) arg8 fullShare y6
            ∗ owns (c : Thread nD τ) arg9 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg9.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, harg4.read_unread, harg9.read_unread]
  isplitl [H5]
  · iexists _; isplitr; swap; · iexact H5
    ipureintro
    exact hf5
  isplitl [H6]
  · iexists _; isplitr; swap; · iexact H6
    ipureintro
    exact hf6
  iexists _; isplitr; swap; · iexact HS0
  ipureintro
  exact harg9.read_unread _

set_option maxHeartbeats 1000000 in
/-- A step of the next three: the gated product goes into output 5. -/
theorem run_v (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S256x256 .bf16) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x2048 .bf16) (harg9 : arg9.IsWhole)
    (hc0 : ¬isNew i) (hc1 : ¬k0_cond2 i = 1#1) (hc2 : k0_cond3 i = 1#1) (hc3 : ¬k0_cond4 i = 1#1)
    (x0 : Vec F S1024x2048 .f32) (x1 : Vec F S1x2048 .f32) (x2 : Vec F S2048x512 .bf16) (x3 : Vec F S256x256 .bf16)
    (y4 y6 : Vec F S1024x512 .f32) (h : Vec F S1024x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare y4
        ∗ (∃ d, owns (c : Thread nD τ) arg7 fullShare d)
        ∗ owns (c : Thread nD τ) arg8 fullShare y6
        ∗ owns (c : Thread nD τ) arg9 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare y4
            ∗ owns (c : Thread nD τ) arg7 fullShare (k0_pay3 h x2)
            ∗ owns (c : Thread nD τ) arg8 fullShare y6
            ∗ owns (c : Thread nD τ) arg9 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg9.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact hf4
  isplitl [H5]
  · iexists _; isplitr; swap; · iexact H5
    ipureintro
    rw [View.read_writes_full, View.readAt_full, View.readAt_full, harg4.read_unread, harg9.read_unread]
  isplitl [H6]
  · iexists _; isplitr; swap; · iexact H6
    ipureintro
    exact hf6
  iexists _; isplitr; swap; · iexact HS0
  ipureintro
  exact harg9.read_unread _

set_option maxHeartbeats 1000000 in
/-- The last step of a row block: the plain product goes into output 6. -/
theorem run_q (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S256x256 .bf16) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x2048 .bf16) (harg9 : arg9.IsWhole)
    (hc0 : ¬isNew i) (hc1 : ¬k0_cond2 i = 1#1) (hc2 : ¬k0_cond3 i = 1#1) (hc3 : k0_cond4 i = 1#1)
    (x0 : Vec F S1024x2048 .f32) (x1 : Vec F S1x2048 .f32) (x2 : Vec F S2048x512 .bf16) (x3 : Vec F S256x256 .bf16)
    (y4 y5 : Vec F S1024x512 .f32) (h : Vec F S1024x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare y4
        ∗ owns (c : Thread nD τ) arg7 fullShare y5
        ∗ (∃ d, owns (c : Thread nD τ) arg8 fullShare d)
        ∗ owns (c : Thread nD τ) arg9 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare y4
            ∗ owns (c : Thread nD τ) arg7 fullShare y5
            ∗ owns (c : Thread nD τ) arg8 fullShare (k0_pay4 h x2)
            ∗ owns (c : Thread nD τ) arg9 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg9.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact hf4
  isplitl [H5]
  · iexists _; isplitr; swap; · iexact H5
    ipureintro
    exact hf5
  isplitl [H6]
  · iexists _; isplitr; swap; · iexact H6
    ipureintro
    rw [View.read_writes_full, View.readAt_full, View.readAt_full, harg4.read_unread, harg9.read_unread]
  iexists _; isplitr; swap; · iexact HS0
  ipureintro
  exact harg9.read_unread _

end Cert.GateKernelIdeal.Step

end
-- ==== Proof.GateFrame.lean ====
/-
  The whole run of the in projection's kernel: what the scratch holds between two steps, what each output's buffer
  holds after a step, and from these that the run ends with the arguments unchanged and each output made of the
  blocks named here.
-/
module

public import proofs.«01_k».proof.Proof.GateRun
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace Cert.GateKernelIdeal.Step

open Cert.GateKernelIdeal Cert.GateKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]
variable (m : (ℓ : Loc nD τ sig) → Buf (Elt F) ℓ) (ρ : Dev nD → PrngReg)

/-! ## Which case a step is -/

theorem isNew_iff : ∀ t : Fin cfg0.N, isNew (grid0.coords t) ↔ t.val % 7 = 0 :=
  (by decide +kernel : ∀ t : Fin grid0.N, isNew (grid0.coords t) ↔ t.val % 7 = 0)
theorem cond2_iff : ∀ t : Fin cfg0.N, k0_cond2 (grid0.coords t) = 1#1 ↔ t.val % 7 ≤ 2 :=
  (by decide +kernel : ∀ t : Fin grid0.N, k0_cond2 (grid0.coords t) = 1#1 ↔ t.val % 7 ≤ 2)
theorem cond3_iff : ∀ t : Fin cfg0.N, k0_cond3 (grid0.coords t) = 1#1 ↔ 3 ≤ t.val % 7 ∧ t.val % 7 ≤ 5 :=
  (by decide +kernel : ∀ t : Fin grid0.N, k0_cond3 (grid0.coords t) = 1#1 ↔ 3 ≤ t.val % 7 ∧ t.val % 7 ≤ 5)
theorem cond4_iff : ∀ t : Fin cfg0.N, k0_cond4 (grid0.coords t) = 1#1 ↔ t.val % 7 = 6 :=
  (by decide +kernel : ∀ t : Fin grid0.N, k0_cond4 (grid0.coords t) = 1#1 ↔ t.val % 7 = 6)

theorem flush4_iff : ∀ t : Fin cfg0.N, (cfg0.win 4).flush t = true ↔ t.val % 7 = 0 ∨ t.val % 7 = 1 ∨ t.val % 7 = 6 :=
  (by decide +kernel : ∀ t : Fin grid0.N, win0_4.flush t = true ↔ t.val % 7 = 0 ∨ t.val % 7 = 1 ∨ t.val % 7 = 6)
theorem flush5_iff : ∀ t : Fin cfg0.N, (cfg0.win 5).flush t = true ↔ t.val % 7 = 3 ∨ t.val % 7 = 4 ∨ t.val % 7 = 6 :=
  (by decide +kernel : ∀ t : Fin grid0.N, win0_5.flush t = true ↔ t.val % 7 = 3 ∨ t.val % 7 = 4 ∨ t.val % 7 = 6)
theorem fetch4 : ∀ t : Fin cfg0.N, (cfg0.win 4).fetch t = false := (by decide +kernel : ∀ t : Fin grid0.N, win0_4.fetch t = false)
theorem fetch5 : ∀ t : Fin cfg0.N, (cfg0.win 5).fetch t = false := (by decide +kernel : ∀ t : Fin grid0.N, win0_5.fetch t = false)

/-! ## What the buffers hold -/

/-- Step `j` of the row block that step `k` belongs to. -/
def stepOf (k j : ℕ) : Fin cfg0.N := ⟨(7 * (k / 7) + j) % 56, lt_of_lt_of_eq (Nat.mod_lt _ (by decide)) N_0.symm⟩

theorem stepOf_self (t : Fin cfg0.N) : stepOf t.val (t.val % 7) = t := by
  have ht := lt_of_lt_of_eq t.isLt (show cfg0.N = 56 from N_0)
  refine Fin.ext ?_
  show (7 * (t.val / 7) + t.val % 7) % 56 = t.val
  omega

/-- The scratch during the row block of step `k`: its normalised rows. -/
def rows (c : Dev nD) (k : ℕ) : Vec F S1024x2048 .bf16 := k0_pay1 (iblk m c 0 (stepOf k 0)) (iblk m c 1 (stepOf k 0))

theorem rows_pred (c : Dev nD) (k : ℕ) (h : k % 7 ≠ 0) : rows m c (k - 1) = rows m c k := by
  have e : stepOf (k - 1) 0 = stepOf k 0 := Fin.ext (by
    show (7 * ((k - 1) / 7) + 0) % 56 = (7 * (k / 7) + 0) % 56
    omega)
  unfold rows; rw [e]

/-- Output 4's buffer after step `t`: the gated product of the last of the first three steps reached. -/
def u4 (c : Dev nD) (t : Fin cfg0.N) : Vec F S1024x512 .f32 := k0_pay2 (rows m c t.val) (iblk m c 2 (stepOf t.val (min (t.val % 7) 2)))
/-- Output 5's buffer after step `t`, from step 3 of the row block on. -/
def v5 (c : Dev nD) (t : Fin cfg0.N) : Vec F S1024x512 .f32 := k0_pay3 (rows m c t.val) (iblk m c 2 (stepOf t.val (min (t.val % 7) 5)))
/-- Output 6's buffer after the last step of a row block. -/
def q6 (c : Dev nD) (t : Fin cfg0.N) : Vec F S1024x512 .f32 := k0_pay4 (rows m c t.val) (iblk m c 2 t)

/-- The scratch, whole. -/
abbrev scM : Memref sig .tc .vmem S1024x2048 .bf16 := Memref.whole cc0_scratch0

theorem PhiA0_eq (c : Dev nD) : (Pipeline.ΦA spec0 c : sProp (MT nD τ sig Unit (Elt F) ℕ (UR sig nD τ) ℕ))
    = iprop(iprop(∃ d, owns (c : Thread nD τ) scM fullShare d) ∗ (∃ r, prngReg c r)) := by
  unfold Pipeline.ΦA; rw [scopedRest0_eq]; simp only [scM, owns_whole]; try rfl

/-- What is held besides the windows before step `n`: at the start of a row block the scratch at anything, later in it
    the scratch at the block's normalised rows. -/
def held (c : Dev nD) (n : ℕ) : sProp (MT nD τ sig Unit (Elt F) ℕ (UR sig nD τ) ℕ) :=
  if n % 7 = 0 then Pipeline.ΦA spec0 c else iprop(owns (c : Thread nD τ) scM fullShare (rows m c (n - 1)) ∗ (∃ r, prngReg c r))

theorem held_new (c : Dev nD) (n : ℕ) (h : n % 7 = 0) :
    held m c n = iprop(iprop(∃ d, owns (c : Thread nD τ) scM fullShare d) ∗ (∃ r, prngReg c r)) := by
  unfold held; rw [if_pos h, PhiA0_eq]
theorem held_old (c : Dev nD) (n : ℕ) (h : n % 7 ≠ 0) :
    held m c n = iprop(owns (c : Thread nD τ) scM fullShare (rows m c (n - 1)) ∗ (∃ r, prngReg c r)) := by
  unfold held; rw [if_neg h]

/-- The proof data: the arrays as the region finds them, the inputs' blocks left in place, `held` between steps. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => u4 m c t
    | ⟨5, _⟩ => v5 m c t
    | ⟨6, _⟩ => q6 m c t
  Φ n := held m c n.val
  q _ := fullShare
  owed _ := 0

/-- The outputs, held to what is said of them and no more. -/
def isOutput : Fin cfg0.W → Bool := fun w => match w with
  | ⟨4, _⟩ => true
  | ⟨5, _⟩ => true
  | ⟨6, _⟩ => true
  | _ => false

/-- What is said of an output's buffer after step `t`. -/
def said (c : Dev nD) (w : Fin cfg0.W) (t : Fin cfg0.N) (X : (cfg0.win w).block.Idx → Elt F (cfg0.win w).elt) : Prop :=
  (w = 4 → X = (dat m c).after w t) ∧ (w = 5 → 3 ≤ t.val % 7 → X = (dat m c).after w t) ∧ (w = 6 → t.val % 7 = 6 → X = (dat m c).after w t)

/-- The proof data of the run. -/
abbrev rdat (c : Dev nD) : RDat τ (Elt F) Unit ℕ (UR sig nD τ) ℕ cfg0 c := (dat m c).toRRel isOutput (said m c)

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = u4 m c t := by dsimp only [dat]
theorem after_5 (c : Dev nD) (t : Fin cfg0.N) : (dat m c).after 5 t = v5 m c t := by dsimp only [dat]
theorem after_6 (c : Dev nD) (t : Fin cfg0.N) : (dat m c).after 6 t = q6 m c t := by dsimp only [dat]
theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d

theorem said_4 (c : Dev nD) (t : Fin cfg0.N) (X : Vec F S1024x512 .f32) : said m c 4 t X ↔ X = u4 m c t := by
  refine ⟨fun h => (h.1 rfl).trans (after_4 m c t), fun h => ⟨fun _ => h.trans (after_4 m c t).symm, fun e => absurd e (by decide), fun e => absurd e (by decide)⟩⟩
theorem said_5 (c : Dev nD) (t : Fin cfg0.N) (X : Vec F S1024x512 .f32) : said m c 5 t X ↔ (3 ≤ t.val % 7 → X = v5 m c t) := by
  refine ⟨fun h g => (h.2.1 rfl g).trans (after_5 m c t), fun h => ⟨fun e => absurd e (by decide), fun _ g => (h g).trans (after_5 m c t).symm, fun e => absurd e (by decide)⟩⟩
theorem said_6 (c : Dev nD) (t : Fin cfg0.N) (X : Vec F S1024x512 .f32) : said m c 6 t X ↔ (t.val % 7 = 6 → X = q6 m c t) := by
  refine ⟨fun h g => (h.2.2 rfl g).trans (after_6 m c t), fun h => ⟨fun e => absurd e (by decide), fun e => absurd e (by decide), fun _ g => (h g).trans (after_6 m c t).symm⟩⟩

/-! ## A step that leaves an output alone keeps what is said of it -/

theorem stepOf_pred (k j : ℕ) (h : k % 7 ≠ 0) : stepOf (k - 1) j = stepOf k j :=
  Fin.ext (by
    show (7 * ((k - 1) / 7) + j) % 56 = (7 * (k / 7) + j) % 56
    have e : (k - 1) / 7 = k / 7 := by omega
    rw [e])

theorem u4_pred (c : Dev nD) (t t' : Fin cfg0.N) (e : t'.val = t.val - 1) (h : 3 ≤ t.val % 7) : u4 m c t' = u4 m c t := by
  unfold u4
  rw [e, rows_pred m c _ (by omega), stepOf_pred _ _ (by omega), show min ((t.val - 1) % 7) 2 = min (t.val % 7) 2 by omega]
theorem v5_pred (c : Dev nD) (t t' : Fin cfg0.N) (e : t'.val = t.val - 1) (h : t.val % 7 = 6) : v5 m c t' = v5 m c t := by
  unfold v5
  rw [e, rows_pred m c _ (by omega), stepOf_pred _ _ (by omega), show min ((t.val - 1) % 7) 5 = min (t.val % 7) 5 by omega]

theorem kept_4 (c : Dev nD) (t : Fin cfg0.N) (h : 3 ≤ t.val % 7) (Y : Vec F S1024x512 .f32) (hY : (rdat m c).Finds 4 t Y) : said m c 4 t Y := by
  rw [RDat.finds_of_pos (rdat m c) (fetch4 t) (by omega)] at hY
  rcases hY with hf | hl
  · rw [flush4_iff] at hf
    have : (t.val - 1) % 7 = 0 ∨ (t.val - 1) % 7 = 1 ∨ (t.val - 1) % 7 = 6 := hf
    omega
  · have := (dat m c).toRRel_leaves (w := 4) rfl hl
    rw [said_4] at this ⊢
    rw [this]; exact u4_pred m c t _ rfl h
theorem kept_5 (c : Dev nD) (t : Fin cfg0.N) (h : t.val % 7 < 3 ∨ t.val % 7 = 6) (Y : Vec F S1024x512 .f32) (hY : (rdat m c).Finds 5 t Y) : said m c 5 t Y := by
  rw [said_5]; intro g
  have h6 : t.val % 7 = 6 := by omega
  rw [RDat.finds_of_pos (rdat m c) (fetch5 t) (by omega)] at hY
  rcases hY with hf | hl
  · rw [flush5_iff] at hf
    have : (t.val - 1) % 7 = 3 ∨ (t.val - 1) % 7 = 4 ∨ (t.val - 1) % 7 = 6 := hf
    omega
  · have := (dat m c).toRRel_leaves (w := 5) rfl hl
    rw [said_5] at this
    rw [this (show 3 ≤ (t.val - 1) % 7 by omega)]; exact v5_pred m c t _ rfl h6

/-! ## The body at any step -/

/-- What the body is called with at step `t`, -/
def bodyPre (c : Dev nD) (t : Fin cfg0.N) : sProp (MT nD τ sig Unit (Elt F) ℕ (UR sig nD τ) ℕ) :=
  iprop(held m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y))
/-- and what it returns. -/
def bodyPost (c : Dev nD) (t : Fin cfg0.N) : sProp (MT nD τ sig Unit (Elt F) ℕ (UR sig nD τ) ℕ) :=
  iprop(held m c (t.val + 1) ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ (∃ X, ⌜said m c 4 t X⌝ ∗ owns (c : Thread nD τ) (st0_4 t) fullShare X)
    ∗ (∃ X, ⌜said m c 5 t X⌝ ∗ owns (c : Thread nD τ) (st0_5 t) fullShare X)
    ∗ (∃ X, ⌜said m c 6 t X⌝ ∗ owns (c : Thread nD τ) (st0_6 t) fullShare X))

theorem u4_of (c : Dev nD) (t : Fin cfg0.N) (h : t.val % 7 ≤ 2) : u4 m c t = k0_pay2 (rows m c t.val) (iblk m c 2 t) := by
  unfold u4; rw [show min (t.val % 7) 2 = t.val % 7 by omega, stepOf_self]
theorem v5_of (c : Dev nD) (t : Fin cfg0.N) (h : t.val % 7 ≤ 5) : v5 m c t = k0_pay3 (rows m c t.val) (iblk m c 2 t) := by
  unfold v5; rw [show min (t.val % 7) 5 = t.val % 7 by omega, stepOf_self]
theorem rows_new (c : Dev nD) (t : Fin cfg0.N) (h : t.val % 7 = 0) : rows m c t.val = k0_pay1 (iblk m c 0 t) (iblk m c 1 t) := by
  have e := stepOf_self t
  rw [h] at e
  unfold rows; rw [e]
theorem u4_new (c : Dev nD) (t : Fin cfg0.N) (h : t.val % 7 = 0) :
    u4 m c t = k0_pay2 (k0_pay1 (iblk m c 0 t) (iblk m c 1 t)) (iblk m c 2 t) := by
  rw [u4_of m c t (by omega), rows_new m c t h]

set_option maxHeartbeats 800000 in
/-- The first step of a row block. -/
theorem body_new (c : Dev nD) (t : Fin cfg0.N) (h0 : t.val % 7 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [held_new m c t.val (by omega), held_old m c (t.val + 1) (by omega),
    show (dat m c).owesAt () t.succ = (dat m c).owesAt () t.castSucc from rfl, after_0, after_1, after_2, after_3, show t.val + 1 - 1 = t.val by omega]
  iintro ⟨⟨⟨%ds, HS⟩, Hr⟩, Ho, ⟨%d0, H0⟩, ⟨%d1, H1⟩, ⟨%d2, H2⟩, ⟨%d3, H3⟩, ⟨%d4, %hd4, H4⟩, ⟨%d5, %hd5, H5⟩, ⟨%d6, %hd6, H6⟩⟩
  iapply (run_new c (grid0.coords t) _ _ _ _ _ _ _ _ _ _ _ _ _ _ _ (Memref.isWhole_whole _) (by rw [isNew_iff]; exact h0) (by rw [cond2_iff]; omega) (by rw [cond3_iff]; omega) (by rw [cond4_iff]; omega)
    (iblk m c 0 t) (iblk m c 1 t) (iblk m c 2 t) (iblk m c 3 t) d5 d6 _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS]; · iexists _; iexact HS
  iintro ⟨H0, H1, H2, H3, H4, H5, H6, HS⟩
  isplitl [HS Hr]
  · isplitl [HS]
    · rw [rows_new m c t h0]; iexact HS
    iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact (said_4 m c t _).mpr (u4_new m c t h0).symm
  isplitl [H5]
  · iexists _; isplitr; swap; · iexact H5
    ipureintro; exact kept_5 m c t (by omega) _ hd5
  iexists _; isplitr; swap; · iexact H6
  ipureintro; exact (said_6 m c t _).mpr fun g => absurd g (by omega)

set_option maxHeartbeats 800000 in
/-- The next two. -/
theorem body_u (c : Dev nD) (t : Fin cfg0.N) (h0 : t.val % 7 ≠ 0) (h1 : t.val % 7 ≤ 2) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [held_old m c t.val (by omega), held_old m c (t.val + 1) (by omega),
    show (dat m c).owesAt () t.succ = (dat m c).owesAt () t.castSucc from rfl, after_0, after_1, after_2, after_3, show t.val + 1 - 1 = t.val by omega]
  rw [rows_pred m c t.val (by omega)]
  iintro ⟨⟨HS, Hr⟩, Ho, ⟨%d0, H0⟩, ⟨%d1, H1⟩, ⟨%d2, H2⟩, ⟨%d3, H3⟩, ⟨%d4, %hd4, H4⟩, ⟨%d5, %hd5, H5⟩, ⟨%d6, %hd6, H6⟩⟩
  iapply (run_u c (grid0.coords t) _ _ _ _ _ _ _ _ _ _ _ _ _ _ _ (Memref.isWhole_whole _) (by rw [isNew_iff]; exact h0) (by rw [cond2_iff]; omega) (by rw [cond3_iff]; omega) (by rw [cond4_iff]; omega)
    (iblk m c 0 t) (iblk m c 1 t) (iblk m c 2 t) (iblk m c 3 t) d5 d6 (rows m c t.val) _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS]; · iexact HS
  iintro ⟨H0, H1, H2, H3, H4, H5, H6, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact (said_4 m c t _).mpr (u4_of m c t (by omega)).symm
  isplitl [H5]
  · iexists _; isplitr; swap; · iexact H5
    ipureintro; exact kept_5 m c t (by omega) _ hd5
  iexists _; isplitr; swap; · iexact H6
  ipureintro; exact (said_6 m c t _).mpr fun g => absurd g (by omega)

set_option maxHeartbeats 800000 in
/-- The three after them. -/
theorem body_v (c : Dev nD) (t : Fin cfg0.N) (h0 : 3 ≤ t.val % 7) (h1 : t.val % 7 ≤ 5) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [held_old m c t.val (by omega), held_old m c (t.val + 1) (by omega),
    show (dat m c).owesAt () t.succ = (dat m c).owesAt () t.castSucc from rfl, after_0, after_1, after_2, after_3, show t.val + 1 - 1 = t.val by omega]
  rw [rows_pred m c t.val (by omega)]
  iintro ⟨⟨HS, Hr⟩, Ho, ⟨%d0, H0⟩, ⟨%d1, H1⟩, ⟨%d2, H2⟩, ⟨%d3, H3⟩, ⟨%d4, %hd4, H4⟩, ⟨%d5, %hd5, H5⟩, ⟨%d6, %hd6, H6⟩⟩
  iapply (run_v c (grid0.coords t) _ _ _ _ _ _ _ _ _ _ _ _ _ _ _ (Memref.isWhole_whole _) (by rw [isNew_iff]; omega) (by rw [cond2_iff]; omega) (by rw [cond3_iff]; omega) (by rw [cond4_iff]; omega)
    (iblk m c 0 t) (iblk m c 1 t) (iblk m c 2 t) (iblk m c 3 t) d4 d6 (rows m c t.val) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact kept_4 m c t (by omega) _ hd4
  isplitl [H5]
  · iexists _; isplitr; swap; · iexact H5
    ipureintro; exact (said_5 m c t _).mpr fun _ => (v5_of m c t (by omega)).symm
  iexists _; isplitr; swap; · iexact H6
  ipureintro; exact (said_6 m c t _).mpr fun g => absurd g (by omega)

set_option maxHeartbeats 800000 in
/-- The last. -/
theorem body_q (c : Dev nD) (t : Fin cfg0.N) (h0 : t.val % 7 = 6) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [held_old m c t.val (by omega), held_new m c (t.val + 1) (by omega),
    show (dat m c).owesAt () t.succ = (dat m c).owesAt () t.castSucc from rfl, after_0, after_1, after_2, after_3]
  rw [rows_pred m c t.val (by omega)]
  iintro ⟨⟨HS, Hr⟩, Ho, ⟨%d0, H0⟩, ⟨%d1, H1⟩, ⟨%d2, H2⟩, ⟨%d3, H3⟩, ⟨%d4, %hd4, H4⟩, ⟨%d5, %hd5, H5⟩, ⟨%d6, %hd6, H6⟩⟩
  iapply (run_q c (grid0.coords t) _ _ _ _ _ _ _ _ _ _ _ _ _ _ _ (Memref.isWhole_whole _) (by rw [isNew_iff]; omega) (by rw [cond2_iff]; omega) (by rw [cond3_iff]; omega) (by rw [cond4_iff]; omega)
    (iblk m c 0 t) (iblk m c 1 t) (iblk m c 2 t) (iblk m c 3 t) d4 d5 (rows m c t.val) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hr]
  · isplitl [HS]
    · iexists _; iexact HS
    iexact Hr
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro; exact kept_4 m c t (by omega) _ hd4
  isplitl [H5]
  · iexists _; isplitr; swap; · iexact H5
    ipureintro; exact kept_5 m c t (by omega) _ hd5
  iexists _; isplitr; swap; · iexact H6
  ipureintro; exact (said_6 m c t _).mpr fun _ => rfl

/-- The body at any step. -/
theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact body_new m c t h0
  by_cases h2 : t.val % 7 ≤ 2
  · exact body_u m c t h0 h2
  by_cases h5 : t.val % 7 ≤ 5
  · exact body_v m c t (by omega) h5
  exact body_q m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ isOutput (said m c) := fun t => by
  rw [bigSep_W0, bigSep_W0, defs₀_row]
  exact triple_restated (sound_body m c t) rfl .rfl fun _ => .rfl

/-! ## The run -/

theorem held_first (c : Dev nD) : (Pipeline.ΦA spec0 c : sProp (MT nD τ sig Unit (Elt F) ℕ (UR sig nD τ) ℕ)) ⊢ (rdat m c).Φ 0 := by
  show _ ⊢ held m c 0
  unfold held; rw [if_pos (by decide)]
theorem held_last (c : Dev nD) : (rdat m c).Φ (Fin.last cfg0.N) ⊢ (Pipeline.ΦA spec0 c : sProp (MT nD τ sig Unit (Elt F) ℕ (UR sig nD τ) ℕ)) := by
  show held m c cfg0.N ⊢ _
  unfold held; rw [if_pos (by rw [show cfg0.N = 56 from N_0])]

set_option backward.isDefEq.respectTransparency.types false in
/-- The run ends, its arrays as the proof data say, every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := held_first m) (hout := held_last m)

theorem run_main : θ_run defs (onTc (τ := τ) (main (F := F))) (s₀ m ρ) (RDat.FramePost cfg0 (rdat m) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The run ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GateKernelIdeal.Step

end
-- ==== Proof.MemKvRun.lean ====
/-
  What each of the two grid steps of the memory's projection does to the buffers it is handed.
-/
module

public import proofs.«01_k».proof.Proof.Gen.MemKvKernelIdeal.Skeleton
public import proofs.«01_k».proof.Proof.Gen.MemKvKernelIdeal.Frame
public import Idealize.ShloMosaic.Lib.Pipeline.ReadBack
public import Idealize.ShloMosaic.Lib.WordCmp
public import Idealize.ShloMosaic.Lib.Exec
public import Idealize.ShloMosaic.Lib.Pipeline.ValueKit
public import Idealize.ShloMosaic.Lib.VecWindow
public import Idealize.ShloMosaic.Lib.Tactic

@[expose] public section

set_option maxRecDepth 16384

noncomputable section

namespace Cert.MemKvKernelIdeal.Step

open Cert.MemKvKernelIdeal Cert.MemKvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

/-- The kernel's first test: the step is the first. -/
abbrev isNew (i : grid0.Coords) : Prop :=
  (Scalar.cmpi .ne (Scalar.extui (Scalar.cmpi .eq (BitVec.ofNat 32 (i 1).val) 0#32)) 0#32) = 1#1

set_option maxHeartbeats 1000000 in
/-- The first step: the normalised rows go into the scratch, and the keys into output 5. -/
theorem run_k (c : Dev nD) (i : grid0.Coords) (arg2 : Memref sig .tc .vmem S512x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x2048 .bf16) (harg9 : arg9.IsWhole)
    (hc0 : isNew i) (hc1 : k0_cond2 i = 1#1) (hc2 : ¬k0_cond3 i = 1#1)
    (x0 : Vec F S512x2048 .f32) (x1 : Vec F S1x2048 .f32) (x2 : Vec F S1x2048x512 .f32) (x3 : Vec F S256x256 .bf16) (x4 : Vec F S1x512 .f32)
    (y6 : Vec F S512x512 .f32) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ owns (c : Thread nD τ) arg8 fullShare y6
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (k0_pay2 (k0_pay1 x0 x1) x2 x3 x3 x4)
            ∗ owns (c : Thread nD τ) arg8 fullShare y6
            ∗ owns (c : Thread nD τ) arg9 fullShare (k0_pay1 x0 x1)) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]
    unfold run_k.sl.v13 run_k.sl.HS0_1
    rw [View.readCov_full, View.readAt_full, View.readAt_full, View.readAt_full, View.readAt_full, View.readAt_full, harg2.read_unread, harg3.read_unread, harg4.read_unread, harg5.read_unread, harg6.read_unread]
  isplitl [H6]
  · iexists _; isplitr; swap; · iexact H6
    ipureintro
    exact hf6
  iexists _; isplitr; swap; · iexact HS0
  ipureintro
  unfold run_k.sl.HS0_1
  rw [View.read_writes_full, View.readAt_full, View.readAt_full, harg2.read_unread, harg3.read_unread]

set_option maxHeartbeats 1000000 in
/-- The second step: the plain product goes into output 6. -/
theorem run_v (c : Dev nD) (i : grid0.Coords) (arg2 : Memref sig .tc .vmem S512x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x2048 .bf16) (harg9 : arg9.IsWhole)
    (hc0 : ¬isNew i) (hc1 : ¬k0_cond2 i = 1#1) (hc2 : k0_cond3 i = 1#1)
    (x0 : Vec F S512x2048 .f32) (x1 : Vec F S1x2048 .f32) (x2 : Vec F S1x2048x512 .f32) (x3 : Vec F S256x256 .bf16) (x4 : Vec F S1x512 .f32)
    (y5 : Vec F S512x512 .f32) (h : Vec F S512x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare y5
        ∗ (∃ d, owns (c : Thread nD τ) arg8 fullShare d)
        ∗ owns (c : Thread nD τ) arg9 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare y5
            ∗ owns (c : Thread nD τ) arg8 fullShare (k0_pay3 h x2)
            ∗ owns (c : Thread nD τ) arg9 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4
  obtain rfl := harg9.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact hf5
  isplitl [H6]
  · iexists _; isplitr; swap; · iexact H6
    ipureintro
    rw [View.read_writes_full, View.readAt_full, View.readAt_full, harg4.read_unread, harg9.read_unread]
  iexists _; isplitr; swap; · iexact HS0
  ipureintro
  exact harg9.read_unread _

end Cert.MemKvKernelIdeal.Step

end
-- ==== Proof.MemKvFrame.lean ====
/-
  The whole run of the memory's projection: what the scratch holds between two steps, what each output's buffer
  holds after a step, and from these that the run ends with the arguments unchanged and each output made of the
  blocks named here.
-/
module

public import proofs.«01_k».proof.Proof.MemKvRun
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace Cert.MemKvKernelIdeal.Step

open Cert.MemKvKernelIdeal Cert.MemKvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]
variable (m : (ℓ : Loc nD τ sig) → Buf (Elt F) ℓ) (ρ : Dev nD → PrngReg)

/-! ## Which case a step is -/

theorem isNew_iff : ∀ t : Fin cfg0.N, isNew (grid0.coords t) ↔ t.val = 0 :=
  (by decide +kernel : ∀ t : Fin grid0.N, isNew (grid0.coords t) ↔ t.val = 0)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val = 1 :=
  (by decide +kernel : ∀ t : Fin grid0.N, k0_cond3 (grid0.coords t) = 1#1 ↔ t.val = 1)
theorem fetch5 : ∀ t : Fin cfg0.N, (cfg0.win 5).fetch t = false := (by decide +kernel : ∀ t : Fin grid0.N, win0_5.fetch t = false)

/-! ## What the buffers hold -/

/-- The first step and the second. -/
def first : Fin cfg0.N := ⟨0, lt_of_lt_of_eq (by decide) N_0.symm⟩
def second : Fin cfg0.N := ⟨1, lt_of_lt_of_eq (by decide) N_0.symm⟩

theorem step_cases (t : Fin cfg0.N) : t = first ∨ t = second := by
  have ht := lt_of_lt_of_eq t.isLt (show cfg0.N = 2 from N_0)
  rcases (by omega : t.val = 0 ∨ t.val = 1) with h | h
  · exact .inl (Fin.ext h)
  · exact .inr (Fin.ext h)

/-- The scratch from the first step on: the normalised rows. -/
def rows (c : Dev nD) : Vec F S512x2048 .bf16 := k0_pay1 (iblk m c 0 first) (iblk m c 1 first)
/-- Output 5's buffer after either step: the keys. -/
def k5 (c : Dev nD) : Vec F S512x512 .f32 := k0_pay2 (rows m c) (iblk m c 2 first) (iblk m c 3 first) (iblk m c 3 first) (iblk m c 4 first)
/-- Output 6's buffer after the second step: the values. -/
def v6 (c : Dev nD) : Vec F S512x512 .f32 := k0_pay3 (rows m c) (iblk m c 2 second)

/-- The scratch, whole. -/
abbrev scM : Memref sig .tc .vmem S512x2048 .bf16 := Memref.whole cc0_scratch0

theorem PhiA0_eq (c : Dev nD) : (Pipeline.ΦA spec0 c : sProp (MT nD τ sig Unit (Elt F) ℕ (UR sig nD τ) ℕ))
    = iprop(iprop(∃ d, owns (c : Thread nD τ) scM fullShare d) ∗ (∃ r, prngReg c r)) := by
  unfold Pipeline.ΦA; rw [scopedRest0_eq]; simp only [scM, owns_whole]; try rfl

/-- What is held besides the windows before step `n`: between the steps the scratch at the normalised rows, before and
    after them the scratch at anything. -/
def held (c : Dev nD) (n : ℕ) : sProp (MT nD τ sig Unit (Elt F) ℕ (UR sig nD τ) ℕ) :=
  if n % 2 = 0 then Pipeline.ΦA spec0 c else iprop(owns (c : Thread nD τ) scM fullShare (rows m c) ∗ (∃ r, prngReg c r))

theorem held_new (c : Dev nD) (n : ℕ) (h : n % 2 = 0) :
    held m c n = iprop(iprop(∃ d, owns (c : Thread nD τ) scM fullShare d) ∗ (∃ r, prngReg c r)) := by
  unfold held; rw [if_pos h, PhiA0_eq]
theorem held_old (c : Dev nD) (n : ℕ) (h : n % 2 ≠ 0) :
    held m c n = iprop(owns (c : Thread nD τ) scM fullShare (rows m c) ∗ (∃ r, prngReg c r)) := by
  unfold held; rw [if_neg h]

/-- The proof data: the arrays as the region finds them, the inputs' blocks left in place, `held` between steps. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k5 m c
    | ⟨6, _⟩ => v6 m c
  Φ n := held m c n.val
  q _ := fullShare
  owed _ := 0

/-- The outputs, held to what is said of them and no more. -/
def isOutput : Fin cfg0.W → Bool := fun w => match w with
  | ⟨5, _⟩ => true
  | ⟨6, _⟩ => true
  | _ => false

/-- What is said of an output's buffer after step `t`. -/
def said (c : Dev nD) (w : Fin cfg0.W) (t : Fin cfg0.N) (X : (cfg0.win w).block.Idx → Elt F (cfg0.win w).elt) : Prop :=
  (w = 5 → X = (dat m c).after w t) ∧ (w = 6 → t.val = 1 → X = (dat m c).after w t)

/-- The proof data of the run. -/
abbrev rdat (c : Dev nD) : RDat τ (Elt F) Unit ℕ (UR sig nD τ) ℕ cfg0 c := (dat m c).toRRel isOutput (said m c)

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = k5 m c := by dsimp only [dat]
theorem after_6 (c : Dev nD) (t : Fin cfg0.N) : (dat m c).after 6 t = v6 m c := by dsimp only [dat]
theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d
theorem before_4 (c : Dev nD) (t : Fin cfg0.N) (d) : (dat m c).before 4 t d = iblk m c 4 t := before0_4_of m (dat m c) (A_eq m c 4) (after_4 m c) t d

theorem said_5 (c : Dev nD) (t : Fin cfg0.N) (X : Vec F S512x512 .f32) : said m c 5 t X ↔ X = k5 m c := by
  refine ⟨fun h => (h.1 rfl).trans (after_5 m c t), fun h => ⟨fun _ => h.trans (after_5 m c t).symm, fun e => absurd e (by decide)⟩⟩
theorem said_6 (c : Dev nD) (t : Fin cfg0.N) (X : Vec F S512x512 .f32) : said m c 6 t X ↔ (t.val = 1 → X = v6 m c) := by
  refine ⟨fun h g => (h.2 rfl g).trans (after_6 m c t), fun h => ⟨fun e => absurd e (by decide), fun _ g => (h g).trans (after_6 m c t).symm⟩⟩

/-- The second step leaves the keys alone, and finds them as the first left them. -/
theorem kept_5 (c : Dev nD) (t : Fin cfg0.N) (h : t.val = 1) (Y : Vec F S512x512 .f32) (hY : (rdat m c).Finds 5 t Y) : said m c 5 t Y := by
  rw [RDat.finds_of_pos (rdat m c) (fetch5 t) (by omega)] at hY
  rcases hY with hf | hl
  · rw [flush0_5] at hf
    have : (t.val - 1) % 2 = 1 := hf
    omega
  · have := (dat m c).toRRel_leaves (w := 5) rfl hl
    rw [said_5] at this ⊢
    exact this

/-! ## The body at either step -/

/-- What the body is called with at step `t`, -/
def bodyPre (c : Dev nD) (t : Fin cfg0.N) : sProp (MT nD τ sig Unit (Elt F) ℕ (UR sig nD τ) ℕ) :=
  iprop(held m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y))
/-- and what it returns. -/
def bodyPost (c : Dev nD) (t : Fin cfg0.N) : sProp (MT nD τ sig Unit (Elt F) ℕ (UR sig nD τ) ℕ) :=
  iprop(held m c (t.val + 1) ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ (∃ X, ⌜said m c 5 t X⌝ ∗ owns (c : Thread nD τ) (st0_5 t) fullShare X)
    ∗ (∃ X, ⌜said m c 6 t X⌝ ∗ owns (c : Thread nD τ) (st0_6 t) fullShare X))

set_option maxHeartbeats 800000 in
/-- The first step. -/
theorem body_k (c : Dev nD) :
    bodyPre m c first ⊢ wp frame (wpE (defs₀ (F := F)) Variants.none c none) Set.univ (bodyAt0 first) (fun _ => bodyPost m c first) := by
  have ht : (first : Fin cfg0.N).val = 0 := rfl
  unfold bodyPre bodyPost bodyAt0
  simp only [before_0, before_1, before_2, before_3, before_4]
  rw [held_new m c (first : Fin cfg0.N).val (by omega), held_old m c ((first : Fin cfg0.N).val + 1) (by omega),
    show (dat m c).owesAt () (first : Fin cfg0.N).succ = (dat m c).owesAt () (first : Fin cfg0.N).castSucc from rfl, after_0, after_1, after_2, after_3, after_4]
  iintro ⟨⟨⟨%ds, HS⟩, Hr⟩, Ho, ⟨%d0, H0⟩, ⟨%d1, H1⟩, ⟨%d2, H2⟩, ⟨%d3, H3⟩, ⟨%d4, H4⟩, ⟨%d5, %hd5, H5⟩, ⟨%d6, %hd6, H6⟩⟩
  iapply (run_k c (grid0.coords first) _ _ _ _ _ _ _ _ _ _ _ _ _ _ _ (Memref.isWhole_whole _) (by rw [isNew_iff]; omega) (by rw [cond2_iff]; omega) (by rw [cond3_iff]; omega)
    (iblk m c 0 first) (iblk m c 1 first) (iblk m c 2 first) (iblk m c 3 first) (iblk m c 4 first) d6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexists _; iexact HS
  iintro ⟨H0, H1, H2, H3, H4, H5, H6, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact (said_5 m c _ _).mpr rfl
  iexists _; isplitr; swap; · iexact H6
  ipureintro; exact (said_6 m c _ _).mpr fun g => absurd g (by omega)

set_option maxHeartbeats 800000 in
/-- The second. -/
theorem body_v (c : Dev nD) :
    bodyPre m c second ⊢ wp frame (wpE (defs₀ (F := F)) Variants.none c none) Set.univ (bodyAt0 second) (fun _ => bodyPost m c second) := by
  have ht : (second : Fin cfg0.N).val = 1 := rfl
  unfold bodyPre bodyPost bodyAt0
  simp only [before_0, before_1, before_2, before_3, before_4]
  rw [held_old m c (second : Fin cfg0.N).val (by omega), held_new m c ((second : Fin cfg0.N).val + 1) (by omega),
    show (dat m c).owesAt () (second : Fin cfg0.N).succ = (dat m c).owesAt () (second : Fin cfg0.N).castSucc from rfl, after_0, after_1, after_2, after_3, after_4]
  iintro ⟨⟨HS, Hr⟩, Ho, ⟨%d0, H0⟩, ⟨%d1, H1⟩, ⟨%d2, H2⟩, ⟨%d3, H3⟩, ⟨%d4, H4⟩, ⟨%d5, %hd5, H5⟩, ⟨%d6, %hd6, H6⟩⟩
  iapply (run_v c (grid0.coords second) _ _ _ _ _ _ _ _ _ _ _ _ _ _ _ (Memref.isWhole_whole _) (by rw [isNew_iff]; omega) (by rw [cond2_iff]; omega) (by rw [cond3_iff]; omega)
    (iblk m c 0 second) (iblk m c 1 second) (iblk m c 2 second) (iblk m c 3 second) (iblk m c 4 second) d5 (rows m c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hr]
  · isplitl [HS]
    · iexists _; iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact kept_5 m c _ ht _ hd5
  iexists _; isplitr; swap; · iexact H6
  ipureintro; exact (said_6 m c _ _).mpr fun g => rfl

/-- The body at either step. -/
theorem sound_body (c : Dev nD) (t : Fin cfg0.N) :
    bodyPre m c t ⊢ wp frame (wpE (defs₀ (F := F)) Variants.none c none) Set.univ (bodyAt0 t) (fun _ => bodyPost m c t) := by
  rcases step_cases t with rfl | rfl
  · exact body_k m c
  · exact body_v m c

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ isOutput (said m c) := fun t => by
  rw [bigSep_W0, bigSep_W0, defs₀_row]
  exact triple_restated (sound_body m c t) rfl .rfl fun _ => .rfl

/-! ## The run -/

theorem held_first (c : Dev nD) : (Pipeline.ΦA spec0 c : sProp (MT nD τ sig Unit (Elt F) ℕ (UR sig nD τ) ℕ)) ⊢ (rdat m c).Φ 0 := by
  show _ ⊢ held m c 0
  unfold held; rw [if_pos (by decide)]
theorem held_last (c : Dev nD) : (rdat m c).Φ (Fin.last cfg0.N) ⊢ (Pipeline.ΦA spec0 c : sProp (MT nD τ sig Unit (Elt F) ℕ (UR sig nD τ) ℕ)) := by
  show held m c cfg0.N ⊢ _
  unfold held; rw [if_pos (by rw [show cfg0.N = 2 from N_0])]

set_option backward.isDefEq.respectTransparency.types false in
/-- The run ends, its arrays as the proof data say, every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := held_first m) (hout := held_last m)

theorem run_main : θ_run defs (onTc (τ := τ) (main (F := F))) (s₀ m ρ) (RDat.FramePost cfg0 (rdat m) (V m)) :=
  (θ_run defs _ _).mono (fun _ h => h.1) (run_main_quiescent m ρ)

/-- The weights' array, which the steps read themselves, is as launched. -/
theorem kept_weights (r : PUnit × MemSt nD τ sig (Elt F)) (h : RDat.FramePost cfg0 (rdat m) (V m) r) (c : Dev nD) :
    r.2.mem ((c.tc : Thread nD τ).loc main_arg2) = m ((c.tc : Thread nD τ).loc main_arg2) :=
  (RDat.FramePost.arr_in h c 2 rfl).trans (V_main_arg2 m c)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      kept_weights m _ h c,
      ((h c).2 main_arg3 (Pipeline.mem_restRefs_of main_arg3 (by decide) (by decide))).trans (V_main_arg3 m c)⟩) (run_main m ρ)

/-- The run ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MemKvKernelIdeal.Step

end
-- ==== Proof.InSRun.lean ====
/-
  What one grid step of the sample group's in projection does to the buffers it is handed, in each of its five cases.
-/
module

public import proofs.«01_k».proof.Proof.Gen.InSKernelIdeal.Skeleton
public import proofs.«01_k».proof.Proof.Gen.InSKernelIdeal.Frame
public import Idealize.ShloMosaic.Lib.Pipeline.ReadBack
public import Idealize.ShloMosaic.Lib.WordCmp
public import Idealize.ShloMosaic.Lib.Exec
public import Idealize.ShloMosaic.Lib.Pipeline.ValueKit
public import Idealize.ShloMosaic.Lib.VecWindow
public import Idealize.ShloMosaic.Lib.Tactic

@[expose] public section

set_option maxRecDepth 16384

noncomputable section

namespace Cert.InSKernelIdeal.Step

open Cert.InSKernelIdeal Cert.InSKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

/-- The kernel's first test: the step is the first. -/
abbrev isNew (i : grid0.Coords) : Prop :=
  (Scalar.cmpi .ne (Scalar.extui (Scalar.cmpi .eq (BitVec.ofNat 32 (i 1).val) 0#32)) 0#32) = 1#1

set_option maxHeartbeats 1000000 in
/-- The first step: the normalised rows go into the scratch, and the first tile of queries into output 6. -/
theorem run_new (c : Dev nD) (i : grid0.Coords) (arg2 : Memref sig .tc .vmem S16x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S16x512 .f32) (harg8 : arg8.IsWhole) (arg9 : Memref sig .tc .vmem S16x512 .f32) (harg9 : arg9.IsWhole)
    (arg10 : Memref sig .tc .vmem S16x512 .f32) (harg10 : arg10.IsWhole) (arg11 : Memref sig .tc .vmem S16x512 .f32) (harg11 : arg11.IsWhole)
    (arg12 : Memref sig .tc .vmem S2048x512 .bf16) (harg12 : arg12.IsWhole) (arg13 : Memref sig .tc .vmem S16x2048 .bf16) (harg13 : arg13.IsWhole)

    (hc0 : isNew i) (hc1 : k0_cond2 i = 1#1) (hc2 : ¬k0_cond3 i = 1#1) (hc3 : ¬k0_cond4 i = 1#1) (hc4 : ¬k0_cond5 i = 1#1)
    (x0 : Vec F S16x2048 .f32) (x1 : Vec F S1x2048 .f32) (x2 : Vec F S1x2048x512 .f32) (x3 : Vec F S256x256 .bf16) (x4 : Vec F S1x512 .f32) (x5 : Vec F S1x512 .f32)
    (y7 y8 y9 : Vec F S16x512 .f32) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ owns (c : Thread nD τ) arg9 fullShare y7
        ∗ owns (c : Thread nD τ) arg10 fullShare y8
        ∗ owns (c : Thread nD τ) arg11 fullShare y9
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay3 (k0_pay1 x0 x1) x2 x3 x3 x4)
            ∗ owns (c : Thread nD τ) arg9 fullShare y7
            ∗ owns (c : Thread nD τ) arg10 fullShare y8
            ∗ owns (c : Thread nD τ) arg11 fullShare y9
            ∗ owns (c : Thread nD τ) arg12 fullShare (k0_pay2 x2)
            ∗ owns (c : Thread nD τ) arg13 fullShare (k0_pay1 x0 x1)) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩, ⟨%ds0, %fs0, -, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_full]
    unfold run_new.sl.v23 run_new.sl.HS0_1
    rw [View.readCov_full, View.readAt_full, View.readAt_full, View.readAt_full, View.readAt_full, View.readAt_full, harg2.read_unread, harg3.read_unread, harg4.read_unread, harg5.read_unread, harg6.read_unread]
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    exact hf9
  isplitl [H10]
  · iexists _; isplitr; swap; · iexact H10
    ipureintro
    rw [View.read_writes_full, View.readAt_full, harg4.read_unread]
  iexists _; isplitr; swap; · iexact HS0
  ipureintro
  unfold run_new.sl.HS0_1
  rw [View.read_writes_full, View.readAt_full, View.readAt_full, harg2.read_unread, harg3.read_unread]

set_option maxHeartbeats 1000000 in
/-- The next two steps: a tile of queries goes into output 6. -/
theorem run_q (c : Dev nD) (i : grid0.Coords) (arg2 : Memref sig .tc .vmem S16x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S16x512 .f32) (harg8 : arg8.IsWhole) (arg9 : Memref sig .tc .vmem S16x512 .f32) (harg9 : arg9.IsWhole)
    (arg10 : Memref sig .tc .vmem S16x512 .f32) (harg10 : arg10.IsWhole) (arg11 : Memref sig .tc .vmem S16x512 .f32) (harg11 : arg11.IsWhole)
    (arg12 : Memref sig .tc .vmem S2048x512 .bf16) (harg12 : arg12.IsWhole) (arg13 : Memref sig .tc .vmem S16x2048 .bf16) (harg13 : arg13.IsWhole)

    (hc0 : ¬isNew i) (hc1 : k0_cond2 i = 1#1) (hc2 : ¬k0_cond3 i = 1#1) (hc3 : ¬k0_cond4 i = 1#1) (hc4 : ¬k0_cond5 i = 1#1)
    (x0 : Vec F S16x2048 .f32) (x1 : Vec F S1x2048 .f32) (x2 : Vec F S1x2048x512 .f32) (x3 : Vec F S256x256 .bf16) (x4 : Vec F S1x512 .f32) (x5 : Vec F S1x512 .f32)
    (y7 y8 y9 : Vec F S16x512 .f32) (h : Vec F S16x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ owns (c : Thread nD τ) arg9 fullShare y7
        ∗ owns (c : Thread nD τ) arg10 fullShare y8
        ∗ owns (c : Thread nD τ) arg11 fullShare y9
        ∗ (∃ d, owns (c : Thread nD τ) arg12 fullShare d)
        ∗ owns (c : Thread nD τ) arg13 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay3 h x2 x3 x3 x4)
            ∗ owns (c : Thread nD τ) arg9 fullShare y7
            ∗ owns (c : Thread nD τ) arg10 fullShare y8
            ∗ owns (c : Thread nD τ) arg11 fullShare y9
            ∗ owns (c : Thread nD τ) arg12 fullShare (k0_pay2 x2)
            ∗ owns (c : Thread nD τ) arg13 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg13.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_full]
    rw [View.readAt_full, View.readAt_full, View.readAt_full, View.readAt_full, harg4.read_unread, harg5.read_unread, harg6.read_unread, harg13.read_unread]
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    exact hf9
  isplitl [H10]
  · iexists _; isplitr; swap; · iexact H10
    ipureintro
    rw [View.read_writes_full, View.readAt_full, harg4.read_unread]
  iexists _; isplitr; swap; · iexact HS0
  ipureintro
  exact harg13.read_unread _

set_option maxHeartbeats 1000000 in
/-- A step of the next three: a tile of keys goes into output 7. -/
theorem run_k (c : Dev nD) (i : grid0.Coords) (arg2 : Memref sig .tc .vmem S16x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S16x512 .f32) (harg8 : arg8.IsWhole) (arg9 : Memref sig .tc .vmem S16x512 .f32) (harg9 : arg9.IsWhole)
    (arg10 : Memref sig .tc .vmem S16x512 .f32) (harg10 : arg10.IsWhole) (arg11 : Memref sig .tc .vmem S16x512 .f32) (harg11 : arg11.IsWhole)
    (arg12 : Memref sig .tc .vmem S2048x512 .bf16) (harg12 : arg12.IsWhole) (arg13 : Memref sig .tc .vmem S16x2048 .bf16) (harg13 : arg13.IsWhole)

    (hc0 : ¬isNew i) (hc1 : ¬k0_cond2 i = 1#1) (hc2 : k0_cond3 i = 1#1) (hc3 : ¬k0_cond4 i = 1#1) (hc4 : ¬k0_cond5 i = 1#1)
    (x0 : Vec F S16x2048 .f32) (x1 : Vec F S1x2048 .f32) (x2 : Vec F S1x2048x512 .f32) (x3 : Vec F S256x256 .bf16) (x4 : Vec F S1x512 .f32) (x5 : Vec F S1x512 .f32)
    (y6 y8 y9 : Vec F S16x512 .f32) (h : Vec F S16x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare y6
        ∗ (∃ d, owns (c : Thread nD τ) arg9 fullShare d)
        ∗ owns (c : Thread nD τ) arg10 fullShare y8
        ∗ owns (c : Thread nD τ) arg11 fullShare y9
        ∗ (∃ d, owns (c : Thread nD τ) arg12 fullShare d)
        ∗ owns (c : Thread nD τ) arg13 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare (k0_pay5 h x2 x3 x3 x5)
            ∗ owns (c : Thread nD τ) arg10 fullShare y8
            ∗ owns (c : Thread nD τ) arg11 fullShare y9
            ∗ owns (c : Thread nD τ) arg12 fullShare (k0_pay4 x2)
            ∗ owns (c : Thread nD τ) arg13 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg13.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact hf6
  isplitl [H7]
  · iexists _; isplitr; swap; · iexact H7
    ipureintro
    rw [View.read_writes_full]
    rw [View.readAt_full, View.readAt_full, View.readAt_full, View.readAt_full, harg4.read_unread, harg5.read_unread, harg7.read_unread, harg13.read_unread]
  isplitl [H8]
  · iexists _; isplitr; swap; · iexact H8
    ipureintro
    exact hf8
  isplitl [H9]
  · iexists _; isplitr; swap; · iexact H9
    ipureintro
    exact hf9
  isplitl [H10]
  · iexists _; isplitr; swap; · iexact H10
    ipureintro
    rw [View.read_writes_full, View.readAt_full, harg4.read_unread]
  iexists _; isplitr; swap; · iexact HS0
  ipureintro
  exact harg13.read_unread _

set_option maxHeartbeats 1000000 in
/-- A step of the three after them: a tile of values goes into output 8. -/
theorem run_v (c : Dev nD) (i : grid0.Coords) (arg2 : Memref sig .tc .vmem S16x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S16x512 .f32) (harg8 : arg8.IsWhole) (arg9 : Memref sig .tc .vmem S16x512 .f32) (harg9 : arg9.IsWhole)
    (arg10 : Memref sig .tc .vmem S16x512 .f32) (harg10 : arg10.IsWhole) (arg11 : Memref sig .tc .vmem S16x512 .f32) (harg11 : arg11.IsWhole)
    (arg12 : Memref sig .tc .vmem S2048x512 .bf16) (harg12 : arg12.IsWhole) (arg13 : Memref sig .tc .vmem S16x2048 .bf16) (harg13 : arg13.IsWhole)

    (hc0 : ¬isNew i) (hc1 : ¬k0_cond2 i = 1#1) (hc2 : ¬k0_cond3 i = 1#1) (hc3 : k0_cond4 i = 1#1) (hc4 : ¬k0_cond5 i = 1#1)
    (x0 : Vec F S16x2048 .f32) (x1 : Vec F S1x2048 .f32) (x2 : Vec F S1x2048x512 .f32) (x3 : Vec F S256x256 .bf16) (x4 : Vec F S1x512 .f32) (x5 : Vec F S1x512 .f32)
    (y6 y7 y9 : Vec F S16x512 .f32) (h : Vec F S16x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare y6
        ∗ owns (c : Thread nD τ) arg9 fullShare y7
        ∗ (∃ d, owns (c : Thread nD τ) arg10 fullShare d)
        ∗ owns (c : Thread nD τ) arg11 fullShare y9
        ∗ (∃ d, owns (c : Thread nD τ) arg12 fullShare d)
        ∗ owns (c : Thread nD τ) arg13 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare (k0_pay7 h x2)
            ∗ owns (c : Thread nD τ) arg11 fullShare y9
            ∗ owns (c : Thread nD τ) arg12 fullShare (k0_pay6 x2)
            ∗ owns (c : Thread nD τ) arg13 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg13.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact hf6
  isplitl [H7]
  · iexists _; isplitr; swap; · iexact H7
    ipureintro
    exact hf7
  isplitl [H8]
  · iexists _; isplitr; swap; · iexact H8
    ipureintro
    rw [View.read_writes_full]
    rw [View.readAt_full, View.readAt_full, harg4.read_unread, harg13.read_unread]
  isplitl [H9]
  · iexists _; isplitr; swap; · iexact H9
    ipureintro
    exact hf9
  isplitl [H10]
  · iexists _; isplitr; swap; · iexact H10
    ipureintro
    rw [View.read_writes_full, View.readAt_full, harg4.read_unread]
  iexists _; isplitr; swap; · iexact HS0
  ipureintro
  exact harg13.read_unread _

set_option maxHeartbeats 1000000 in
/-- The last step: the memory's queries go into output 9. -/
theorem run_m (c : Dev nD) (i : grid0.Coords) (arg2 : Memref sig .tc .vmem S16x2048 .f32) (harg2 : arg2.IsWhole) (arg3 : Memref sig .tc .vmem S1x2048 .f32) (harg3 : arg3.IsWhole)
    (arg4 : Memref sig .tc .vmem S1x2048x512 .f32) (harg4 : arg4.IsWhole) (arg5 : Memref sig .tc .vmem S256x256 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S16x512 .f32) (harg8 : arg8.IsWhole) (arg9 : Memref sig .tc .vmem S16x512 .f32) (harg9 : arg9.IsWhole)
    (arg10 : Memref sig .tc .vmem S16x512 .f32) (harg10 : arg10.IsWhole) (arg11 : Memref sig .tc .vmem S16x512 .f32) (harg11 : arg11.IsWhole)
    (arg12 : Memref sig .tc .vmem S2048x512 .bf16) (harg12 : arg12.IsWhole) (arg13 : Memref sig .tc .vmem S16x2048 .bf16) (harg13 : arg13.IsWhole)

    (hc0 : ¬isNew i) (hc1 : ¬k0_cond2 i = 1#1) (hc2 : ¬k0_cond3 i = 1#1) (hc3 : ¬k0_cond4 i = 1#1) (hc4 : k0_cond5 i = 1#1)
    (x0 : Vec F S16x2048 .f32) (x1 : Vec F S1x2048 .f32) (x2 : Vec F S1x2048x512 .f32) (x3 : Vec F S256x256 .bf16) (x4 : Vec F S1x512 .f32) (x5 : Vec F S1x512 .f32)
    (y6 y7 y8 : Vec F S16x512 .f32) (h : Vec F S16x2048 .bf16) (K : PUnit → sProp (MT nD τ sig Unit (Elt F) ℕ (UR sig nD τ) ℕ)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare y6
        ∗ owns (c : Thread nD τ) arg9 fullShare y7
        ∗ owns (c : Thread nD τ) arg10 fullShare y8
        ∗ (∃ d, owns (c : Thread nD τ) arg11 fullShare d)
        ∗ (∃ d, owns (c : Thread nD τ) arg12 fullShare d)
        ∗ owns (c : Thread nD τ) arg13 fullShare h
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare y8
            ∗ owns (c : Thread nD τ) arg11 fullShare (k0_pay9 h x2)
            ∗ owns (c : Thread nD τ) arg12 fullShare (k0_pay8 x2)
            ∗ owns (c : Thread nD τ) arg13 fullShare h) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg13.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact hf6
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    rw [View.read_writes_full]
    rw [View.readAt_full, View.readAt_full, harg4.read_unread, harg13.read_unread]
  isplitl [H10]
  · iexists _; isplitr; swap; · iexact H10
    ipureintro
    rw [View.read_writes_full, View.readAt_full, harg4.read_unread]
  iexists _; isplitr; swap; · iexact HS0
  ipureintro
  exact harg13.read_unread _

end Cert.InSKernelIdeal.Step

end
-- ==== Proof.InSFrame.lean ====
/-
  The whole run of the sample group's in projection: what the scratch holds between two steps, what each output's buffer
  holds after a step, and from these that the run ends with the arguments unchanged and each output made of the
  blocks named here.
-/
module

public import proofs.«01_k».proof.Proof.InSRun
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace Cert.InSKernelIdeal.Step

open Cert.InSKernelIdeal Cert.InSKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]
variable (m : (ℓ : Loc nD τ sig) → Buf (Elt F) ℓ) (ρ : Dev nD → PrngReg)

/-! ## Which case a step is -/

theorem isNew_iff : ∀ t : Fin cfg0.N, isNew (grid0.coords t) ↔ t.val = 0 :=
  (by decide +kernel : ∀ t : Fin grid0.N, isNew (grid0.coords t) ↔ t.val = 0)
theorem cond2_iff : ∀ t : Fin cfg0.N, k0_cond2 (grid0.coords t) = 1#1 ↔ t.val ≤ 2 :=
  (by decide +kernel : ∀ t : Fin grid0.N, k0_cond2 (grid0.coords t) = 1#1 ↔ t.val ≤ 2)
theorem cond3_iff : ∀ t : Fin cfg0.N, k0_cond3 (grid0.coords t) = 1#1 ↔ 3 ≤ t.val ∧ t.val ≤ 5 :=
  (by decide +kernel : ∀ t : Fin grid0.N, k0_cond3 (grid0.coords t) = 1#1 ↔ 3 ≤ t.val ∧ t.val ≤ 5)
theorem cond4_iff : ∀ t : Fin cfg0.N, k0_cond4 (grid0.coords t) = 1#1 ↔ 6 ≤ t.val ∧ t.val ≤ 8 :=
  (by decide +kernel : ∀ t : Fin grid0.N, k0_cond4 (grid0.coords t) = 1#1 ↔ 6 ≤ t.val ∧ t.val ≤ 8)
theorem cond5_iff : ∀ t : Fin cfg0.N, k0_cond5 (grid0.coords t) = 1#1 ↔ t.val = 9 :=
  (by decide +kernel : ∀ t : Fin grid0.N, k0_cond5 (grid0.coords t) = 1#1 ↔ t.val = 9)
theorem flush6_iff : ∀ t : Fin cfg0.N, (cfg0.win 6).flush t = true ↔ t.val = 0 ∨ t.val = 1 ∨ t.val = 9 :=
  (by decide +kernel : ∀ t : Fin grid0.N, win0_6.flush t = true ↔ t.val = 0 ∨ t.val = 1 ∨ t.val = 9)
theorem flush7_iff : ∀ t : Fin cfg0.N, (cfg0.win 7).flush t = true ↔ t.val = 3 ∨ t.val = 4 ∨ t.val = 9 :=
  (by decide +kernel : ∀ t : Fin grid0.N, win0_7.flush t = true ↔ t.val = 3 ∨ t.val = 4 ∨ t.val = 9)
theorem flush8_iff : ∀ t : Fin cfg0.N, (cfg0.win 8).flush t = true ↔ t.val = 6 ∨ t.val = 7 ∨ t.val = 9 :=
  (by decide +kernel : ∀ t : Fin grid0.N, win0_8.flush t = true ↔ t.val = 6 ∨ t.val = 7 ∨ t.val = 9)
theorem flush9_iff : ∀ t : Fin cfg0.N, (cfg0.win 9).flush t = true ↔ t.val = 9 :=
  (by decide +kernel : ∀ t : Fin grid0.N, win0_9.flush t = true ↔ t.val = 9)
theorem fetch6 : ∀ t : Fin cfg0.N, (cfg0.win 6).fetch t = false := (by decide +kernel : ∀ t : Fin grid0.N, win0_6.fetch t = false)
theorem fetch7 : ∀ t : Fin cfg0.N, (cfg0.win 7).fetch t = false := (by decide +kernel : ∀ t : Fin grid0.N, win0_7.fetch t = false)
theorem fetch8 : ∀ t : Fin cfg0.N, (cfg0.win 8).fetch t = false := (by decide +kernel : ∀ t : Fin grid0.N, win0_8.fetch t = false)

/-! ## What the buffers hold -/

/-- Step `j`. -/
def step (j : ℕ) : Fin cfg0.N := ⟨j % 10, lt_of_lt_of_eq (Nat.mod_lt _ (by decide)) N_0.symm⟩

theorem step_self (t : Fin cfg0.N) : step t.val = t :=
  Fin.ext (Nat.mod_eq_of_lt (lt_of_lt_of_eq t.isLt (show cfg0.N = 10 from N_0)))

/-- The scratch from the first step on: the normalised rows. -/
def rows (c : Dev nD) : Vec F S16x2048 .bf16 := k0_pay1 (iblk m c 0 (step 0)) (iblk m c 1 (step 0))

/-- The tiles that a step can make: of queries, -/
def qTile (c : Dev nD) (s : Fin cfg0.N) : Vec F S16x512 .f32 := k0_pay3 (rows m c) (iblk m c 2 s) (iblk m c 3 s) (iblk m c 3 s) (iblk m c 4 s)
/-- of keys, -/
def kTile (c : Dev nD) (s : Fin cfg0.N) : Vec F S16x512 .f32 := k0_pay5 (rows m c) (iblk m c 2 s) (iblk m c 3 s) (iblk m c 3 s) (iblk m c 5 s)
/-- and of the plain product. -/
def vTile (c : Dev nD) (s : Fin cfg0.N) : Vec F S16x512 .f32 := k0_pay7 (rows m c) (iblk m c 2 s)

/-- Output 6's buffer after step `t`: the last tile of queries made. -/
def q6 (c : Dev nD) (t : Fin cfg0.N) : Vec F S16x512 .f32 := qTile m c (step (min t.val 2))
/-- Output 7's buffer after step `t`, from step 3 on. -/
def k7 (c : Dev nD) (t : Fin cfg0.N) : Vec F S16x512 .f32 := kTile m c (step (min t.val 5))
/-- Output 8's buffer after step `t`, from step 6 on. -/
def v8 (c : Dev nD) (t : Fin cfg0.N) : Vec F S16x512 .f32 := vTile m c (step (min t.val 8))
/-- Output 9's buffer after the last step. -/
def m9 (c : Dev nD) (t : Fin cfg0.N) : Vec F S16x512 .f32 := vTile m c t
/-- Output 10's buffer after step `t`: the step's columns of the weights. -/
def w10 (c : Dev nD) (t : Fin cfg0.N) : Vec F S2048x512 .bf16 := k0_pay2 (iblk m c 2 t)

/-- The scratch, whole. -/
abbrev scM : Memref sig .tc .vmem S16x2048 .bf16 := Memref.whole cc0_scratch0

theorem PhiA0_eq (c : Dev nD) : (Pipeline.ΦA spec0 c : sProp (MT nD τ sig Unit (Elt F) ℕ (UR sig nD τ) ℕ))
    = iprop(iprop(∃ d, owns (c : Thread nD τ) scM fullShare d) ∗ (∃ r, prngReg c r)) := by
  unfold Pipeline.ΦA; rw [scopedRest0_eq]; simp only [scM, owns_whole]; try rfl

/-- What is held besides the windows before step `n`: at the start and at the end the scratch at anything, between them the
    scratch at the normalised rows. -/
def held (c : Dev nD) (n : ℕ) : sProp (MT nD τ sig Unit (Elt F) ℕ (UR sig nD τ) ℕ) :=
  if n % 10 = 0 then Pipeline.ΦA spec0 c else iprop(owns (c : Thread nD τ) scM fullShare (rows m c) ∗ (∃ r, prngReg c r))

theorem held_new (c : Dev nD) (n : ℕ) (h : n % 10 = 0) :
    held m c n = iprop(iprop(∃ d, owns (c : Thread nD τ) scM fullShare d) ∗ (∃ r, prngReg c r)) := by
  unfold held; rw [if_pos h, PhiA0_eq]
theorem held_old (c : Dev nD) (n : ℕ) (h : n % 10 ≠ 0) :
    held m c n = iprop(owns (c : Thread nD τ) scM fullShare (rows m c) ∗ (∃ r, prngReg c r)) := by
  unfold held; rw [if_neg h]

/-- The proof data: the arrays as the region finds them, the inputs' blocks left in place, `held` between steps. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => q6 m c t
    | ⟨7, _⟩ => k7 m c t
    | ⟨8, _⟩ => v8 m c t
    | ⟨9, _⟩ => m9 m c t
    | ⟨10, _⟩ => w10 m c t
  Φ n := held m c n.val
  q _ := fullShare
  owed _ := 0

/-- The outputs, held to what is said of them and no more. -/
def isOutput : Fin cfg0.W → Bool := fun w => match w with
  | ⟨6, _⟩ => true
  | ⟨7, _⟩ => true
  | ⟨8, _⟩ => true
  | ⟨9, _⟩ => true
  | ⟨10, _⟩ => true
  | _ => false

/-- What is said of an output's buffer after step `t`. -/
def said (c : Dev nD) (w : Fin cfg0.W) (t : Fin cfg0.N) (X : (cfg0.win w).block.Idx → Elt F (cfg0.win w).elt) : Prop :=
  (w = 6 → X = (dat m c).after w t) ∧ (w = 7 → 3 ≤ t.val → X = (dat m c).after w t) ∧ (w = 8 → 6 ≤ t.val → X = (dat m c).after w t) ∧ (w = 9 → t.val = 9 → X = (dat m c).after w t) ∧ (w = 10 → X = (dat m c).after w t)

/-- The proof data of the run. -/
abbrev rdat (c : Dev nD) : RDat τ (Elt F) Unit ℕ (UR sig nD τ) ℕ cfg0 c := (dat m c).toRRel isOutput (said m c)

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = q6 m c t := by dsimp only [dat]
theorem after_7 (c : Dev nD) (t : Fin cfg0.N) : (dat m c).after 7 t = k7 m c t := by dsimp only [dat]
theorem after_8 (c : Dev nD) (t : Fin cfg0.N) : (dat m c).after 8 t = v8 m c t := by dsimp only [dat]
theorem after_9 (c : Dev nD) (t : Fin cfg0.N) : (dat m c).after 9 t = m9 m c t := by dsimp only [dat]
theorem after_10 (c : Dev nD) (t : Fin cfg0.N) : (dat m c).after 10 t = w10 m c t := by dsimp only [dat]
theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d
theorem before_4 (c : Dev nD) (t : Fin cfg0.N) (d) : (dat m c).before 4 t d = iblk m c 4 t := before0_4_of m (dat m c) (A_eq m c 4) (after_4 m c) t d
theorem before_5 (c : Dev nD) (t : Fin cfg0.N) (d) : (dat m c).before 5 t d = iblk m c 5 t := before0_5_of m (dat m c) (A_eq m c 5) (after_5 m c) t d

theorem said_6 (c : Dev nD) (t : Fin cfg0.N) (X : Vec F S16x512 .f32) : said m c 6 t X ↔ X = q6 m c t := by
  refine ⟨fun h => (h.1 rfl).trans (after_6 m c t), fun h => ⟨fun _ => h.trans (after_6 m c t).symm, fun e => absurd e (by decide), fun e => absurd e (by decide), fun e => absurd e (by decide), fun e => absurd e (by decide)⟩⟩
theorem said_7 (c : Dev nD) (t : Fin cfg0.N) (X : Vec F S16x512 .f32) : said m c 7 t X ↔ (3 ≤ t.val → X = k7 m c t) := by
  refine ⟨fun h g => (h.2.1 rfl g).trans (after_7 m c t), fun h => ⟨fun e => absurd e (by decide), fun _ g => (h g).trans (after_7 m c t).symm, fun e => absurd e (by decide), fun e => absurd e (by decide), fun e => absurd e (by decide)⟩⟩
theorem said_8 (c : Dev nD) (t : Fin cfg0.N) (X : Vec F S16x512 .f32) : said m c 8 t X ↔ (6 ≤ t.val → X = v8 m c t) := by
  refine ⟨fun h g => (h.2.2.1 rfl g).trans (after_8 m c t), fun h => ⟨fun e => absurd e (by decide), fun e => absurd e (by decide), fun _ g => (h g).trans (after_8 m c t).symm, fun e => absurd e (by decide), fun e => absurd e (by decide)⟩⟩
theorem said_9 (c : Dev nD) (t : Fin cfg0.N) (X : Vec F S16x512 .f32) : said m c 9 t X ↔ (t.val = 9 → X = m9 m c t) := by
  refine ⟨fun h g => (h.2.2.2.1 rfl g).trans (after_9 m c t), fun h => ⟨fun e => absurd e (by decide), fun e => absurd e (by decide), fun e => absurd e (by decide), fun _ g => (h g).trans (after_9 m c t).symm, fun e => absurd e (by decide)⟩⟩
theorem said_10 (c : Dev nD) (t : Fin cfg0.N) (X : Vec F S2048x512 .bf16) : said m c 10 t X ↔ X = w10 m c t := by
  refine ⟨fun h => (h.2.2.2.2 rfl).trans (after_10 m c t), fun h => ⟨fun e => absurd e (by decide), fun e => absurd e (by decide), fun e => absurd e (by decide), fun e => absurd e (by decide), fun _ => h.trans (after_10 m c t).symm⟩⟩

/-! ## A step that leaves an output alone keeps what is said of it -/

theorem q6_pred (c : Dev nD) (t t' : Fin cfg0.N) (e : t'.val = t.val - 1) (h : 3 ≤ t.val) : q6 m c t' = q6 m c t := by
  unfold q6; rw [e, show min (t.val - 1) 2 = min t.val 2 by omega]
theorem kept_6 (c : Dev nD) (t : Fin cfg0.N) (h : 3 ≤ t.val) (Y : Vec F S16x512 .f32) (hY : (rdat m c).Finds 6 t Y) : said m c 6 t Y := by
  have ht := lt_of_lt_of_eq t.isLt (show cfg0.N = 10 from N_0)
  rw [said_6]
  rw [RDat.finds_of_pos (rdat m c) (fetch6 t) (by omega)] at hY
  rcases hY with hf | hl
  · rw [flush6_iff] at hf
    have : t.val - 1 = 0 ∨ t.val - 1 = 1 ∨ t.val - 1 = 9 := hf
    omega
  · have := (dat m c).toRRel_leaves (w := 6) rfl hl
    rw [said_6] at this
    rw [this]; exact q6_pred m c t _ rfl (by omega)
theorem k7_pred (c : Dev nD) (t t' : Fin cfg0.N) (e : t'.val = t.val - 1) (h : 6 ≤ t.val) : k7 m c t' = k7 m c t := by
  unfold k7; rw [e, show min (t.val - 1) 5 = min t.val 5 by omega]
theorem kept_7 (c : Dev nD) (t : Fin cfg0.N) (h : t.val < 3 ∨ 6 ≤ t.val) (Y : Vec F S16x512 .f32) (hY : (rdat m c).Finds 7 t Y) : said m c 7 t Y := by
  have ht := lt_of_lt_of_eq t.isLt (show cfg0.N = 10 from N_0)
  rw [said_7]
  intro g
  rw [RDat.finds_of_pos (rdat m c) (fetch7 t) (by omega)] at hY
  rcases hY with hf | hl
  · rw [flush7_iff] at hf
    have : t.val - 1 = 3 ∨ t.val - 1 = 4 ∨ t.val - 1 = 9 := hf
    omega
  · have := (dat m c).toRRel_leaves (w := 7) rfl hl
    rw [said_7] at this
    rw [this (show 3 ≤ t.val - 1 by omega)]; exact k7_pred m c t _ rfl (by omega)
theorem v8_pred (c : Dev nD) (t t' : Fin cfg0.N) (e : t'.val = t.val - 1) (h : 9 ≤ t.val) : v8 m c t' = v8 m c t := by
  unfold v8; rw [e, show min (t.val - 1) 8 = min t.val 8 by omega]
theorem kept_8 (c : Dev nD) (t : Fin cfg0.N) (h : t.val < 6 ∨ t.val = 9) (Y : Vec F S16x512 .f32) (hY : (rdat m c).Finds 8 t Y) : said m c 8 t Y := by
  have ht := lt_of_lt_of_eq t.isLt (show cfg0.N = 10 from N_0)
  rw [said_8]
  intro g
  rw [RDat.finds_of_pos (rdat m c) (fetch8 t) (by omega)] at hY
  rcases hY with hf | hl
  · rw [flush8_iff] at hf
    have : t.val - 1 = 6 ∨ t.val - 1 = 7 ∨ t.val - 1 = 9 := hf
    omega
  · have := (dat m c).toRRel_leaves (w := 8) rfl hl
    rw [said_8] at this
    rw [this (show 6 ≤ t.val - 1 by omega)]; exact v8_pred m c t _ rfl (by omega)

/-! ## The body at any step -/

/-- What the body is called with at step `t`, -/
def bodyPre (c : Dev nD) (t : Fin cfg0.N) : sProp (MT nD τ sig Unit (Elt F) ℕ (UR sig nD τ) ℕ) :=
  iprop(held m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))
/-- and what it returns. -/
def bodyPost (c : Dev nD) (t : Fin cfg0.N) : sProp (MT nD τ sig Unit (Elt F) ℕ (UR sig nD τ) ℕ) :=
  iprop(held m c (t.val + 1) ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜said m c 6 t X⌝ ∗ owns (c : Thread nD τ) (st0_6 t) fullShare X)
    ∗ (∃ X, ⌜said m c 7 t X⌝ ∗ owns (c : Thread nD τ) (st0_7 t) fullShare X)
    ∗ (∃ X, ⌜said m c 8 t X⌝ ∗ owns (c : Thread nD τ) (st0_8 t) fullShare X)
    ∗ (∃ X, ⌜said m c 9 t X⌝ ∗ owns (c : Thread nD τ) (st0_9 t) fullShare X)
    ∗ (∃ X, ⌜said m c 10 t X⌝ ∗ owns (c : Thread nD τ) (st0_10 t) fullShare X))

theorem q6_of (c : Dev nD) (t : Fin cfg0.N) (h : t.val ≤ 2) : q6 m c t = qTile m c t := by
  unfold q6; rw [show min t.val 2 = t.val by omega, step_self]
theorem k7_of (c : Dev nD) (t : Fin cfg0.N) (h : t.val ≤ 5) : k7 m c t = kTile m c t := by
  unfold k7; rw [show min t.val 5 = t.val by omega, step_self]
theorem v8_of (c : Dev nD) (t : Fin cfg0.N) (h : t.val ≤ 8) : v8 m c t = vTile m c t := by
  unfold v8; rw [show min t.val 8 = t.val by omega, step_self]
theorem rows_new (c : Dev nD) (t : Fin cfg0.N) (h : t.val = 0) : rows m c = k0_pay1 (iblk m c 0 t) (iblk m c 1 t) := by
  have e := step_self t
  rw [h] at e
  unfold rows; rw [e]
theorem q6_new (c : Dev nD) (t : Fin cfg0.N) (h : t.val = 0) :
    q6 m c t = k0_pay3 (k0_pay1 (iblk m c 0 t) (iblk m c 1 t)) (iblk m c 2 t) (iblk m c 3 t) (iblk m c 3 t) (iblk m c 4 t) := by
  rw [q6_of m c t (by omega)]; unfold qTile; rw [rows_new m c t h]

set_option maxHeartbeats 1000000 in
/-- The first step. -/
theorem body_new (c : Dev nD) (t : Fin cfg0.N) (h0 : t.val = 0) :
    bodyPre m c t ⊢ wp frame (wpE (defs₀ (F := F)) Variants.none c none) Set.univ (bodyAt0 t) (fun _ => bodyPost m c t) := by
  have ht := lt_of_lt_of_eq t.isLt (show cfg0.N = 10 from N_0)
  unfold bodyPre bodyPost bodyAt0
  simp only [before_0, before_1, before_2, before_3, before_4, before_5]
  rw [held_new m c t.val (by omega), held_old m c (t.val + 1) (by omega),
    show (dat m c).owesAt () t.succ = (dat m c).owesAt () t.castSucc from rfl, after_0, after_1, after_2, after_3, after_4, after_5]
  iintro ⟨⟨⟨%ds, HS⟩, Hr⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩, ⟨%d9, %hd9, H9⟩, ⟨%d10, %hd10, H10⟩⟩
  iapply (run_new c (grid0.coords t) _ _ _ _ _ _ _ _ _ _ _ _ _ _ _ _ _ _ _ _ _ _ _ (Memref.isWhole_whole _) (by rw [isNew_iff]; omega) (by rw [cond2_iff]; omega) (by rw [cond3_iff]; omega) (by rw [cond4_iff]; omega) (by rw [cond5_iff]; omega)
    (iblk m c 0 t) (iblk m c 1 t) (iblk m c 2 t) (iblk m c 3 t) (iblk m c 4 t) (iblk m c 5 t) d7 d8 d9 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexists _; iexact H10
  isplitl [HS]; · iexists _; iexact HS
  iintro ⟨H0, H1, H2, H3, H4, H5, H6, H7, H8, H9, H10, HS⟩
  isplitl [HS Hr]
  · isplitl [HS]
    · rw [rows_new m c t h0]; iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact (said_6 m c t _).mpr (q6_new m c t h0).symm
  isplitl [H7]
  · iexists _; isplitr; swap; · iexact H7
    ipureintro; exact kept_7 m c t (by omega) _ hd7
  isplitl [H8]
  · iexists _; isplitr; swap; · iexact H8
    ipureintro; exact kept_8 m c t (by omega) _ hd8
  isplitl [H9]
  · iexists _; isplitr; swap; · iexact H9
    ipureintro; exact (said_9 m c t _).mpr fun g => absurd g (by omega)
  iexists _; isplitr; swap; · iexact H10
  ipureintro; exact (said_10 m c t _).mpr rfl

set_option maxHeartbeats 1000000 in
/-- The next two. -/
theorem body_q (c : Dev nD) (t : Fin cfg0.N) (h0 : t.val ≠ 0) (h1 : t.val ≤ 2) :
    bodyPre m c t ⊢ wp frame (wpE (defs₀ (F := F)) Variants.none c none) Set.univ (bodyAt0 t) (fun _ => bodyPost m c t) := by
  have ht := lt_of_lt_of_eq t.isLt (show cfg0.N = 10 from N_0)
  unfold bodyPre bodyPost bodyAt0
  simp only [before_0, before_1, before_2, before_3, before_4, before_5]
  rw [held_old m c t.val (by omega), held_old m c (t.val + 1) (by omega),
    show (dat m c).owesAt () t.succ = (dat m c).owesAt () t.castSucc from rfl, after_0, after_1, after_2, after_3, after_4, after_5]
  iintro ⟨⟨HS, Hr⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩, ⟨%d9, %hd9, H9⟩, ⟨%d10, %hd10, H10⟩⟩
  iapply (run_q c (grid0.coords t) _ _ _ _ _ _ _ _ _ _ _ _ _ _ _ _ _ _ _ _ _ _ _ (Memref.isWhole_whole _) (by rw [isNew_iff]; omega) (by rw [cond2_iff]; omega) (by rw [cond3_iff]; omega) (by rw [cond4_iff]; omega) (by rw [cond5_iff]; omega)
    (iblk m c 0 t) (iblk m c 1 t) (iblk m c 2 t) (iblk m c 3 t) (iblk m c 4 t) (iblk m c 5 t) d7 d8 d9 (rows m c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexists _; iexact H10
  isplitl [HS]; · iexact HS
  iintro ⟨H0, H1, H2, H3, H4, H5, H6, H7, H8, H9, H10, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact (said_6 m c t _).mpr (q6_of m c t (by omega)).symm
  isplitl [H7]
  · iexists _; isplitr; swap; · iexact H7
    ipureintro; exact kept_7 m c t (by omega) _ hd7
  isplitl [H8]
  · iexists _; isplitr; swap; · iexact H8
    ipureintro; exact kept_8 m c t (by omega) _ hd8
  isplitl [H9]
  · iexists _; isplitr; swap; · iexact H9
    ipureintro; exact (said_9 m c t _).mpr fun g => absurd g (by omega)
  iexists _; isplitr; swap; · iexact H10
  ipureintro; exact (said_10 m c t _).mpr rfl

set_option maxHeartbeats 1000000 in
/-- The three after them. -/
theorem body_k (c : Dev nD) (t : Fin cfg0.N) (h0 : 3 ≤ t.val) (h1 : t.val ≤ 5) :
    bodyPre m c t ⊢ wp frame (wpE (defs₀ (F := F)) Variants.none c none) Set.univ (bodyAt0 t) (fun _ => bodyPost m c t) := by
  have ht := lt_of_lt_of_eq t.isLt (show cfg0.N = 10 from N_0)
  unfold bodyPre bodyPost bodyAt0
  simp only [before_0, before_1, before_2, before_3, before_4, before_5]
  rw [held_old m c t.val (by omega), held_old m c (t.val + 1) (by omega),
    show (dat m c).owesAt () t.succ = (dat m c).owesAt () t.castSucc from rfl, after_0, after_1, after_2, after_3, after_4, after_5]
  iintro ⟨⟨HS, Hr⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩, ⟨%d9, %hd9, H9⟩, ⟨%d10, %hd10, H10⟩⟩
  iapply (run_k c (grid0.coords t) _ _ _ _ _ _ _ _ _ _ _ _ _ _ _ _ _ _ _ _ _ _ _ (Memref.isWhole_whole _) (by rw [isNew_iff]; omega) (by rw [cond2_iff]; omega) (by rw [cond3_iff]; omega) (by rw [cond4_iff]; omega) (by rw [cond5_iff]; omega)
    (iblk m c 0 t) (iblk m c 1 t) (iblk m c 2 t) (iblk m c 3 t) (iblk m c 4 t) (iblk m c 5 t) d6 d8 d9 (rows m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [HS]; · iexact HS
  iintro ⟨H0, H1, H2, H3, H4, H5, H6, H7, H8, H9, H10, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact kept_6 m c t (by omega) _ hd6
  isplitl [H7]
  · iexists _; isplitr; swap; · iexact H7
    ipureintro; exact (said_7 m c t _).mpr fun _ => (k7_of m c t (by omega)).symm
  isplitl [H8]
  · iexists _; isplitr; swap; · iexact H8
    ipureintro; exact kept_8 m c t (by omega) _ hd8
  isplitl [H9]
  · iexists _; isplitr; swap; · iexact H9
    ipureintro; exact (said_9 m c t _).mpr fun g => absurd g (by omega)
  iexists _; isplitr; swap; · iexact H10
  ipureintro; exact (said_10 m c t _).mpr rfl

set_option maxHeartbeats 1000000 in
/-- The next three. -/
theorem body_v (c : Dev nD) (t : Fin cfg0.N) (h0 : 6 ≤ t.val) (h1 : t.val ≤ 8) :
    bodyPre m c t ⊢ wp frame (wpE (defs₀ (F := F)) Variants.none c none) Set.univ (bodyAt0 t) (fun _ => bodyPost m c t) := by
  have ht := lt_of_lt_of_eq t.isLt (show cfg0.N = 10 from N_0)
  unfold bodyPre bodyPost bodyAt0
  simp only [before_0, before_1, before_2, before_3, before_4, before_5]
  rw [held_old m c t.val (by omega), held_old m c (t.val + 1) (by omega),
    show (dat m c).owesAt () t.succ = (dat m c).owesAt () t.castSucc from rfl, after_0, after_1, after_2, after_3, after_4, after_5]
  iintro ⟨⟨HS, Hr⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩, ⟨%d9, %hd9, H9⟩, ⟨%d10, %hd10, H10⟩⟩
  iapply (run_v c (grid0.coords t) _ _ _ _ _ _ _ _ _ _ _ _ _ _ _ _ _ _ _ _ _ _ _ (Memref.isWhole_whole _) (by rw [isNew_iff]; omega) (by rw [cond2_iff]; omega) (by rw [cond3_iff]; omega) (by rw [cond4_iff]; omega) (by rw [cond5_iff]; omega)
    (iblk m c 0 t) (iblk m c 1 t) (iblk m c 2 t) (iblk m c 3 t) (iblk m c 4 t) (iblk m c 5 t) d6 d7 d9 (rows m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [HS]; · iexact HS
  iintro ⟨H0, H1, H2, H3, H4, H5, H6, H7, H8, H9, H10, HS⟩
  isplitl [HS Hr]
  · isplitl [HS]
    · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact kept_6 m c t (by omega) _ hd6
  isplitl [H7]
  · iexists _; isplitr; swap; · iexact H7
    ipureintro; exact kept_7 m c t (by omega) _ hd7
  isplitl [H8]
  · iexists _; isplitr; swap; · iexact H8
    ipureintro; exact (said_8 m c t _).mpr fun _ => (v8_of m c t (by omega)).symm
  isplitl [H9]
  · iexists _; isplitr; swap; · iexact H9
    ipureintro; exact (said_9 m c t _).mpr fun g => absurd g (by omega)
  iexists _; isplitr; swap; · iexact H10
  ipureintro; exact (said_10 m c t _).mpr rfl

set_option maxHeartbeats 1000000 in
/-- The last. -/
theorem body_m (c : Dev nD) (t : Fin cfg0.N) (h0 : t.val = 9) :
    bodyPre m c t ⊢ wp frame (wpE (defs₀ (F := F)) Variants.none c none) Set.univ (bodyAt0 t) (fun _ => bodyPost m c t) := by
  have ht := lt_of_lt_of_eq t.isLt (show cfg0.N = 10 from N_0)
  unfold bodyPre bodyPost bodyAt0
  simp only [before_0, before_1, before_2, before_3, before_4, before_5]
  rw [held_old m c t.val (by omega), held_new m c (t.val + 1) (by omega),
    show (dat m c).owesAt () t.succ = (dat m c).owesAt () t.castSucc from rfl, after_0, after_1, after_2, after_3, after_4, after_5]
  iintro ⟨⟨HS, Hr⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩, ⟨%d9, %hd9, H9⟩, ⟨%d10, %hd10, H10⟩⟩
  iapply (run_m c (grid0.coords t) _ _ _ _ _ _ _ _ _ _ _ _ _ _ _ _ _ _ _ _ _ _ _ (Memref.isWhole_whole _) (by rw [isNew_iff]; omega) (by rw [cond2_iff]; omega) (by rw [cond3_iff]; omega) (by rw [cond4_iff]; omega) (by rw [cond5_iff]; omega)
    (iblk m c 0 t) (iblk m c 1 t) (iblk m c 2 t) (iblk m c 3 t) (iblk m c 4 t) (iblk m c 5 t) d6 d7 d8 (rows m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, H9, H10, HS⟩
  isplitl [HS Hr]
  · isplitl [HS]
    · iexists _; iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact kept_6 m c t (by omega) _ hd6
  isplitl [H7]
  · iexists _; isplitr; swap; · iexact H7
    ipureintro; exact kept_7 m c t (by omega) _ hd7
  isplitl [H8]
  · iexists _; isplitr; swap; · iexact H8
    ipureintro; exact kept_8 m c t (by omega) _ hd8
  isplitl [H9]
  · iexists _; isplitr; swap; · iexact H9
    ipureintro; exact (said_9 m c t _).mpr fun _ => rfl
  iexists _; isplitr; swap; · iexact H10
  ipureintro; exact (said_10 m c t _).mpr rfl

/-- The body at any step. -/
theorem sound_body (c : Dev nD) (t : Fin cfg0.N) :
    bodyPre m c t ⊢ wp frame (wpE (defs₀ (F := F)) Variants.none c none) Set.univ (bodyAt0 t) (fun _ => bodyPost m c t) := by
  have ht := lt_of_lt_of_eq t.isLt (show cfg0.N = 10 from N_0)
  by_cases h0 : t.val = 0
  · exact body_new m c t h0
  by_cases h2 : t.val ≤ 2
  · exact body_q m c t h0 h2
  by_cases h5 : t.val ≤ 5
  · exact body_k m c t (by omega) h5
  by_cases h8 : t.val ≤ 8
  · exact body_v m c t (by omega) h8
  exact body_m m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ isOutput (said m c) := fun t => by
  rw [bigSep_W0, bigSep_W0, defs₀_row]
  exact triple_restated (sound_body m c t) rfl .rfl fun _ => .rfl

/-! ## The run -/

theorem held_first (c : Dev nD) : (Pipeline.ΦA spec0 c : sProp (MT nD τ sig Unit (Elt F) ℕ (UR sig nD τ) ℕ)) ⊢ (rdat m c).Φ 0 := by
  show _ ⊢ held m c 0
  unfold held; rw [if_pos (by decide)]
theorem held_last (c : Dev nD) : (rdat m c).Φ (Fin.last cfg0.N) ⊢ (Pipeline.ΦA spec0 c : sProp (MT nD τ sig Unit (Elt F) ℕ (UR sig nD τ) ℕ)) := by
  show held m c cfg0.N ⊢ _
  unfold held; rw [if_pos (by rw [show cfg0.N = 10 from N_0])]

set_option backward.isDefEq.respectTransparency.types false in
/-- The run ends, its arrays as the proof data say, every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := held_first m) (hout := held_last m)

theorem run_main : θ_run defs (onTc (τ := τ) (main (F := F))) (s₀ m ρ) (RDat.FramePost cfg0 (rdat m) (V m)) :=
  (θ_run defs _ _).mono (fun _ h => h.1) (run_main_quiescent m ρ)

/-- The weights' array, which the steps read themselves, is as launched. -/
theorem kept_weights (r : PUnit × MemSt nD τ sig (Elt F)) (h : RDat.FramePost cfg0 (rdat m) (V m) r) (c : Dev nD) :
    r.2.mem ((c.tc : Thread nD τ).loc main_arg2) = m ((c.tc : Thread nD τ).loc main_arg2) :=
  (RDat.FramePost.arr_in h c 2 rfl).trans (V_main_arg2 m c)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      kept_weights m _ h c,
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The run ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InSKernelIdeal.Step

end
-- ==== Proof.FfnStep.lean ====
/-
  What one grid step of the feed-forward kernel leaves in its output block, in its block of convolution rows and in
  the scratch of normalised rows, as formulas of the step's input blocks.
-/
module

public import proofs.«01_k».proof.Proof.Gen.FfnKernelIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.FfnKernelIdeal.Step

open Cert.FfnKernelIdeal Cert.FfnKernelIdeal.Gen Idealize.ShloMosaic Idealize.ShloMosaic.TcCoe

/-- A row's root mean square norm: the row over the root of its mean square plus the small constant, times the norm's
    weights. -/
def rmsRow (x g : Fin 2048 → EReal) (d : Fin 2048) : EReal :=
  x d * Ideal.rsqrt (Ideal.div (∑ k, x k * x k) (Ideal.ofBits .f32 0x45000000#32) + Ideal.ofBits .f32 0x358637BD#32) * g d

/-- The scratch of normalised rows: 16 rows that precede the block (zero where `z`, at a sequence's start), then the
    block's 1024 rows. -/
def hrows (z : Prop) [Decidable z] (x0 : Vec Ideal S1024x2048 .f32) (x1 : Vec Ideal S16x2048 .f32)
    (x2 : Vec Ideal S1x2048 .f32) : Vec Ideal S1040x2048 .bf16 := fun j =>
  if h : (j 0).val < 16 then
    if z then 0 else rmsRow (fun k => x1 (ix2 ⟨(j 0).val, h⟩ k)) (fun k => x2 (ix2 0 k)) (j 1)
  else rmsRow (fun k => x0 (ix2 ⟨(j 0).val - 16, by have := (j 0).isLt; simp at this; omega⟩ k)) (fun k => x2 (ix2 0 k)) (j 1)

/-- The gate's rows before the convolution: the product of the 1040 normalised rows with a column block of the gate's
    weights. -/
def gate (h : Vec Ideal S1040x2048 .bf16) (wa : Vec Ideal S2048x512 .bf16) (r : Fin 1040) (f : Fin 512) : EReal :=
  ∑ k : Fin 2048, h (ix2 r k) * wa (ix2 k f)

/-- The gate's rows after the three taps of the causal convolution. -/
def conv (h : Vec Ideal S1040x2048 .bf16) (wa : Vec Ideal S2048x512 .bf16) (cw : Vec Ideal S3x512 .f32)
    (cb : Vec Ideal S1x512 .f32) (r : Fin 1024) (f : Fin 512) : EReal :=
  cb (ix2 0 f) + gate h wa ⟨14 + r.val, by omega⟩ f * cw (ix2 0 f) + gate h wa ⟨15 + r.val, by omega⟩ f * cw (ix2 1 f)
    + gate h wa ⟨16 + r.val, by omega⟩ f * cw (ix2 2 f)

/-- The gated activations of a block's rows: the convolved gate times its logistic, times the linear half. -/
def act (h : Vec Ideal S1040x2048 .bf16) (wa wb : Vec Ideal S2048x512 .bf16) (cw : Vec Ideal S3x512 .f32)
    (cb : Vec Ideal S1x512 .f32) (r : Fin 1024) (f : Fin 512) : EReal :=
  conv h wa cw cb r f * Ideal.logistic (conv h wa cw cb r f) * ∑ k : Fin 2048, h (ix2 ⟨16 + r.val, by omega⟩ k) * wb (ix2 k f)

/-- What a step adds to the output block. -/
def contrib (h : Vec Ideal S1040x2048 .bf16) (wa wb : Vec Ideal S2048x512 .bf16) (cw : Vec Ideal S3x512 .f32)
    (cb : Vec Ideal S1x512 .f32) (wd : Vec Ideal S512x2048 .bf16) (r : Fin 1024) (d : Fin 2048) : EReal :=
  ∑ f : Fin 512, act h wa wb cw cb r f * wd (ix2 f d)

/-- The zeros of the halo: the kernel's test of the row block's number. -/
theorem halo_bit : ∀ n : Fin 8, Scalar.cmpi .eq (Scalar.select (Scalar.andi (Scalar.xori
      (Scalar.cmpi .slt (Scalar.remsi (BitVec.ofNat 32 n.val) 4#32) 0#32) (Scalar.cmpi .slt 4#32 0#32))
      (Scalar.cmpi .ne (Scalar.remsi (BitVec.ofNat 32 n.val) 4#32) 0#32))
      (Scalar.addi (Scalar.remsi (BitVec.ofNat 32 n.val) 4#32) 4#32) (Scalar.remsi (BitVec.ofNat 32 n.val) 4#32)) 0#32
    = if n.val % 4 = 0 then 1#1 else 0#1 := by decide

theorem hrows_halo (z : Prop) [Decidable z] (x0 : Vec Ideal S1024x2048 .f32) (x1 : Vec Ideal S16x2048 .f32)
    (x2 : Vec Ideal S1x2048 .f32) (r : Fin 16) (d : Fin 2048) :
    hrows z x0 x1 x2 (ix2 ⟨r.val, by omega⟩ d) = if z then 0 else rmsRow (fun k => x1 (ix2 r k)) (fun k => x2 (ix2 0 k)) d := by
  refine (dif_pos (show r.val < 16 from r.isLt)).trans ?_
  rfl

theorem hrows_own (z : Prop) [Decidable z] (x0 : Vec Ideal S1024x2048 .f32) (x1 : Vec Ideal S16x2048 .f32)
    (x2 : Vec Ideal S1x2048 .f32) (r : Fin 1024) (d : Fin 2048) :
    hrows z x0 x1 x2 (ix2 ⟨16 + r.val, by omega⟩ d) = rmsRow (fun k => x0 (ix2 r k)) (fun k => x2 (ix2 0 k)) d := by
  have e2 : (⟨16 + r.val - 16, by omega⟩ : Fin 1024) = r := Fin.ext (by simp only; omega)
  refine (dif_neg (show ¬16 + r.val < 16 by omega)).trans ?_
  exact congrArg (fun q => rmsRow (fun k => x0 (ix2 q k)) (fun k => x2 (ix2 0 k)) d) e2

theorem pay5_apply (x0 : Vec Ideal S1024x2048 .f32) (x2 : Vec Ideal S1x2048 .f32) (j : S1024x2048.Idx) :
    k0_pay5 x0 x2 j = rmsRow (fun k => x0 (ix2 (j 0) k)) (fun k => x2 (ix2 0 k)) (j 1) := by
  idx_vars j
  pointwise [k0_pay5, rmsRow]

theorem pay7_apply (i : grid0.Coords) (x1 : Vec Ideal S16x2048 .f32) (x2 : Vec Ideal S1x2048 .f32) (j : S16x2048.Idx) :
    k0_pay7 (k0_pay6 x1 x2) 4#32 (Scalar.remsi (BitVec.ofNat 32 (i 0).val) 4#32) 0#32 j
      = if (i 0).val % 4 = 0 then 0 else rmsRow (fun k => x1 (ix2 (j 0) k)) (fun k => x2 (ix2 0 k)) (j 1) := by
  idx_vars j
  simp only [k0_pay7]
  rw [halo_bit (i 0)]
  by_cases hz : (i 0).val % 4 = 0
  · rw [if_pos hz, if_pos hz]
    pointwise [k0_pay6, rmsRow]
  · rw [if_neg hz, if_neg hz]
    pointwise [k0_pay6, rmsRow]

/-- The block's own rows of the scratch are what the step stored there. -/
theorem pay5_eq (z : Prop) [Decidable z] (x0 : Vec Ideal S1024x2048 .f32) (x1 : Vec Ideal S16x2048 .f32)
    (x2 : Vec Ideal S1x2048 .f32) :
    k0_pay5 x0 x2 = View.ld (hrows z x0 x1 x2) (Rect.unit ![16, 0] ![1024, 2048] inb_S1040x2048_S1024x2048_16_0) := by
  funext x
  idx_vars x
  rw [pay5_apply]
  pointwise
  exact (hrows_own z _ _ _ _ _).symm

theorem pay8_eq (x0 : Vec Ideal S1024x2048 .f32) : k0_pay8 x0 = x0 := by
  funext x
  idx_vars x
  pointwise [k0_pay8]

theorem pay2_apply (xs0 : Vec Ideal S1040x2048 .bf16) (x3 x4 : Vec Ideal S2048x512 .bf16) (x5 : Vec Ideal S3x512 .f32)
    (x6 : Vec Ideal S1x512 .f32) (x7 : Vec Ideal S512x2048 .bf16) (o : Vec Ideal S1024x2048 .f32) (x : S1024x1024.Idx) :
    k0_pay2 (k0_pay10 (by exact View.ld (Val := Elt Ideal) xs0 (Rect.unit ![16, 0] ![1024, 2048] inb_S1040x2048_S1024x2048_16_0 : Rect S1040x2048)) x4)
      (k0_pay11 x6 (by exact View.ld (Val := Elt Ideal) (k0_pay9 xs0 x3) (Rect.unit ![14, 0] ![1024, 512] inb_S1040x512_S1024x512_14_0 : Rect S1040x512))
        (by exact View.ld (Val := Elt Ideal) x5 (Rect.unit ![0, 0] ![1, 512] inb_S3x512_S1x512_0_0 : Rect S3x512))
        (by exact View.ld (Val := Elt Ideal) (k0_pay9 xs0 x3) (Rect.unit ![15, 0] ![1024, 512] inb_S1040x512_S1024x512_15_0 : Rect S1040x512))
        (by exact View.ld (Val := Elt Ideal) x5 (Rect.unit ![1, 0] ![1, 512] inb_S3x512_S1x512_1_0 : Rect S3x512)))
      (by exact View.ld (Val := Elt Ideal) (k0_pay9 xs0 x3) (Rect.unit ![16, 0] ![1024, 512] inb_S1040x512_S1024x512_16_0 : Rect S1040x512))
      (by exact View.ld (Val := Elt Ideal) x5 (Rect.unit ![2, 0] ![1, 512] inb_S3x512_S1x512_2_0 : Rect S3x512))
      (by exact View.ld (Val := Elt Ideal) o (Rect.unit ![0, 0] ![1024, 1024] inb_S1024x2048_S1024x1024_0_0 : Rect S1024x2048))
      (by exact View.ld (Val := Elt Ideal) x7 (Rect.unit ![0, 0] ![512, 1024] inb_S512x2048_S512x1024_0_0 : Rect S512x2048)) x
    = o (ix2 (x 0) ⟨(x 1).val, by have := (x 1).isLt; simp at this; omega⟩)
      + contrib xs0 x3 x4 x5 x6 x7 (x 0) ⟨(x 1).val, by have := (x 1).isLt; simp at this; omega⟩ := by
  idx_vars x
  pointwise [k0_pay1, k0_pay2, k0_pay10, k0_pay11, k0_pay9, contrib, act, conv, gate]

theorem pay3_apply (xs0 : Vec Ideal S1040x2048 .bf16) (x3 x4 : Vec Ideal S2048x512 .bf16) (x5 : Vec Ideal S3x512 .f32)
    (x6 : Vec Ideal S1x512 .f32) (x7 : Vec Ideal S512x2048 .bf16) (o : Vec Ideal S1024x2048 .f32) (x : S1024x1024.Idx) :
    k0_pay3 (k0_pay10 (by exact View.ld (Val := Elt Ideal) xs0 (Rect.unit ![16, 0] ![1024, 2048] inb_S1040x2048_S1024x2048_16_0 : Rect S1040x2048)) x4)
      (k0_pay11 x6 (by exact View.ld (Val := Elt Ideal) (k0_pay9 xs0 x3) (Rect.unit ![14, 0] ![1024, 512] inb_S1040x512_S1024x512_14_0 : Rect S1040x512))
        (by exact View.ld (Val := Elt Ideal) x5 (Rect.unit ![0, 0] ![1, 512] inb_S3x512_S1x512_0_0 : Rect S3x512))
        (by exact View.ld (Val := Elt Ideal) (k0_pay9 xs0 x3) (Rect.unit ![15, 0] ![1024, 512] inb_S1040x512_S1024x512_15_0 : Rect S1040x512))
        (by exact View.ld (Val := Elt Ideal) x5 (Rect.unit ![1, 0] ![1, 512] inb_S3x512_S1x512_1_0 : Rect S3x512)))
      (by exact View.ld (Val := Elt Ideal) (k0_pay9 xs0 x3) (Rect.unit ![16, 0] ![1024, 512] inb_S1040x512_S1024x512_16_0 : Rect S1040x512))
      (by exact View.ld (Val := Elt Ideal) x5 (Rect.unit ![2, 0] ![1, 512] inb_S3x512_S1x512_2_0 : Rect S3x512))
      (by exact View.ld (Val := Elt Ideal) o (Rect.unit ![0, 1024] ![1024, 1024] inb_S1024x2048_S1024x1024_0_1024 : Rect S1024x2048))
      (by exact View.ld (Val := Elt Ideal) x7 (Rect.unit ![0, 1024] ![512, 1024] inb_S512x2048_S512x1024_0_1024 : Rect S512x2048)) x
    = o (ix2 (x 0) ⟨1024 + (x 1).val, by have := (x 1).isLt; simp at this; omega⟩)
      + contrib xs0 x3 x4 x5 x6 x7 (x 0) ⟨1024 + (x 1).val, by have := (x 1).isLt; simp at this; omega⟩ := by
  idx_vars x
  pointwise [k0_pay1, k0_pay3, k0_pay10, k0_pay11, k0_pay9, contrib, act, conv, gate]

variable (c : Dev nD) (i : grid0.Coords) (a2 : Memref sig .tc .vmem S1024x2048 .f32) (h2 : a2.IsWhole) (a3 : Memref sig .tc .vmem S16x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1024x2048 .f32) (h10 : a10.IsWhole) (a11 : Memref sig .tc .vmem S1x8x512 .f32) (h11 : a11.IsWhole) (a12 : Memref sig .tc .vmem S1040x2048 .bf16) (h12 : a12.IsWhole) (a13 : Memref sig .tc .vmem S1040x512 .f32) (h13 : a13.IsWhole)
  (x0 : Vec Ideal S1024x2048 .f32) (x1 : Vec Ideal S16x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (xo8 : Vec Ideal S1024x2048 .f32) (xs0 : Vec Ideal S1040x2048 .bf16)

theorem canon_h (j : S1040x2048.Idx) :
    View.canon (Val := Elt Ideal) [⟨Rect.unit ![0, 0] ![16, 2048] inb_S1040x2048_S16x2048_0_0,
          k0_pay7 (k0_pay6 x1 x2) (4#32) (Scalar.remsi (BitVec.ofNat 32 (i 0).val) 4#32) 0#32⟩,
        ⟨Rect.unit ![16, 0] ![1024, 2048] inb_S1040x2048_S1024x2048_16_0, k0_pay5 x0 x2⟩]
      j = hrows ((i 0).val % 4 = 0) x0 x1 x2 j := by
  idx_vars j
  have hcover : ∃ p ∈ ([⟨Rect.unit ![0, 0] ![16, 2048] inb_S1040x2048_S16x2048_0_0,
          k0_pay7 (k0_pay6 x1 x2) (4#32) (Scalar.remsi (BitVec.ofNat 32 (i 0).val) 4#32) 0#32⟩,
        ⟨Rect.unit ![16, 0] ![1024, 2048] inb_S1040x2048_S1024x2048_16_0, k0_pay5 x0 x2⟩] :
          List (View.Piece (Elt Ideal) S1040x2048 .bf16)), (ix2 j0 j1 : S1040x2048.Idx) ∈ p.1.set := by
    by_cases h : j0.val < 16
    · refine ⟨_, List.mem_cons_self, ?_⟩
      rw [Rect.mem_set_unit]
      intro a
      match a with
      | ⟨0, _⟩ => exact ⟨Nat.zero_le _, by simpa [ix2] using h⟩
      | ⟨1, _⟩ => exact ⟨Nat.zero_le _, by simpa [ix2] using j1.isLt⟩
    · refine ⟨_, List.mem_cons_of_mem _ List.mem_cons_self, ?_⟩
      rw [Rect.mem_set_unit]
      intro a
      match a with
      | ⟨0, _⟩ => exact ⟨by simpa [ix2] using h, by simpa [ix2] using j0.isLt⟩
      | ⟨1, _⟩ => exact ⟨Nat.zero_le _, by simpa [ix2] using j1.isLt⟩
  canon_tiles x h using hcover
  · have e0 : j0 = ⟨(x 0).val, by omega⟩ := Fin.ext h0
    have e1 : j1 = x 1 := Fin.ext h1
    rw [pay7_apply, e0, e1]
    exact (hrows_halo ((i 0).val % 4 = 0) x0 x1 x2 (x 0) (x 1)).symm
  · have e0 : j0 = ⟨16 + (x 0).val, by omega⟩ := Fin.ext h0
    have e1 : j1 = x 1 := Fin.ext h1
    rw [pay5_apply, e0, e1]
    exact (hrows_own ((i 0).val % 4 = 0) x0 x1 x2 (x 0) (x 1)).symm

theorem readCov_h (a12 : Memref sig .tc .vmem S1040x2048 .bf16) :
    a12.view.readCov [⟨Rect.unit ![0, 0] ![16, 2048] inb_S1040x2048_S16x2048_0_0,
          k0_pay7 (k0_pay6 x1 x2) (4#32) (Scalar.remsi (BitVec.ofNat 32 (i 0).val) 4#32) 0#32⟩,
        ⟨Rect.unit ![16, 0] ![1024, 2048] inb_S1040x2048_S1024x2048_16_0, k0_pay5 x0 x2⟩]
        (Rect.unit ![0, 0] ![1040, 2048] inb_S1040x2048_S1040x2048_0_0).toLoadRect
      = hrows ((i 0).val % 4 = 0) x0 x1 x2 := by
  rw [View.readCov_eq_canon']
  funext j
  idx_vars j
  pointwise
  exact canon_h i x0 x1 x2 _

set_option maxHeartbeats 1000000 in
theorem sout_A (hc : cond0_0 i) :
    sout0_A_0 c i a2 h2 a3 h3 a4 h4 a5 h5 a6 h6 a7 h7 a8 h8 a9 h9 a10 h10 a11 h11 a12 h12 a13 h13 hc x0 x1 x2 x3 x4 x5 x6 x7 = hrows ((i 0).val % 4 = 0) x0 x1 x2 := by
  funext j
  frame_open
  simp (disch := decide) only [↓ View.readCov_skip, ↓ View.readCov_cons_toLoadRect, ↓ View.readCov_fill]
  frame_out
  exact canon_h i x0 x1 x2 j

set_option maxHeartbeats 1000000 in
theorem out9_B (hc : ¬cond0_0 i) (j : S1x8x512.Idx) :
    out0_B_9 c i a2 h2 a3 h3 a4 h4 a5 h5 a6 h6 a7 h7 a8 h8 a9 h9 a10 h10 a11 h11 a12 h12 a13 h13 hc x0 x1 x2 x3 x4 x5 x6 x7 xo8 xs0 j = gate xs0 x3 ⟨1032 + (j 1).val, by have := (j 1).isLt; simp at this; omega⟩ (j 2) := by
  frame_open
  simp (disch := decide) only [↓ View.readCov_skip, ↓ View.readCov_cons_toLoadRect, ↓ View.readCov_fill]
  frame_out
  pointwise [k0_pay4, k0_pay9, gate]

set_option maxHeartbeats 1000000 in
theorem out8_B (hc : ¬cond0_0 i) (j : S1024x2048.Idx) :
    out0_B_8 c i a2 h2 a3 h3 a4 h4 a5 h5 a6 h6 a7 h7 a8 h8 a9 h9 a10 h10 a11 h11 a12 h12 a13 h13 hc x0 x1 x2 x3 x4 x5 x6 x7 xo8 xs0 j = xo8 j + contrib xs0 x3 x4 x5 x6 x7 (j 0) (j 1) := by
  frame_open
  simp (disch := decide) only [↓ View.readCov_skip, ↓ View.readCov_cons_toLoadRect, ↓ View.readCov_fill]
  frame_out
  idx_vars j
  canon_tiles x h
  · rw [pay3_apply xs0 x3 x4 x5 x6 x7 xo8 x]
    have e0 : j0 = x 0 := Fin.ext h0
    have e1 : j1 = ⟨1024 + (x 1).val, by omega⟩ := Fin.ext h1
    rw [e0, e1]

  · rw [pay2_apply xs0 x3 x4 x5 x6 x7 xo8 x]
    have e0 : j0 = x 0 := Fin.ext h0
    have e1 : j1 = ⟨(x 1).val, by omega⟩ := Fin.ext h1
    rw [e0, e1]

set_option maxHeartbeats 1000000 in
theorem out8_A (hc : cond0_0 i) (j : S1024x2048.Idx) :
    out0_A_8 c i a2 h2 a3 h3 a4 h4 a5 h5 a6 h6 a7 h7 a8 h8 a9 h9 a10 h10 a11 h11 a12 h12 a13 h13 hc x0 x1 x2 x3 x4 x5 x6 x7 j = x0 j + contrib (hrows ((i 0).val % 4 = 0) x0 x1 x2) x3 x4 x5 x6 x7 (j 0) (j 1) := by
  frame_open
  simp (disch := decide) only [↓ View.readCov_skip, ↓ View.readCov_cons_toLoadRect, ↓ View.readCov_fill]
  frame_out
  rw [readCov_h i x0 x1 x2 a12, pay5_eq ((i 0).val % 4 = 0) x0 x1 x2, pay8_eq x0]
  idx_vars j
  refine View.canon_append_of_piecesOf (Val := Elt Ideal) (fun y : S1024x2048.Idx => x0 y + contrib (hrows ((i 0).val % 4 = 0) x0 x1 x2) x3 x4 x5 x6 x7 (y 0) (y 1)) [_] [_, _] ⟨fun x => ?_, fun x => ?_, trivial⟩ (ix2 j0 j1) ?_
  · refine (pay3_apply (hrows ((i 0).val % 4 = 0) x0 x1 x2) x3 x4 x5 x6 x7 x0 x).trans ?_
    have e : (ix2 (x 0) ⟨1024 + (x 1).val, by have := (x 1).isLt; simp at this; omega⟩ : S1024x2048.Idx)
        = (Rect.unit ![0, 1024] ![1024, 1024] inb_S1024x2048_S1024x1024_0_1024 : Rect S1024x2048).emb x := by
      funext a
      match a with
      | ⟨0, _⟩ => exact Fin.ext (by simp [ix2])
      | ⟨1, _⟩ => exact Fin.ext (by simp [ix2])
    exact congrArg (fun y : S1024x2048.Idx => x0 y + contrib (hrows ((i 0).val % 4 = 0) x0 x1 x2) x3 x4 x5 x6 x7 (y 0) (y 1)) e
  · refine (pay2_apply (hrows ((i 0).val % 4 = 0) x0 x1 x2) x3 x4 x5 x6 x7 x0 x).trans ?_
    have e : (ix2 (x 0) ⟨(x 1).val, by have := (x 1).isLt; simp at this; omega⟩ : S1024x2048.Idx)
        = (Rect.unit ![0, 0] ![1024, 1024] inb_S1024x2048_S1024x1024_0_0 : Rect S1024x2048).emb x := by
      funext a
      match a with
      | ⟨0, _⟩ => exact Fin.ext (by simp [ix2])
      | ⟨1, _⟩ => exact Fin.ext (by simp [ix2])
    exact congrArg (fun y : S1024x2048.Idx => x0 y + contrib (hrows ((i 0).val % 4 = 0) x0 x1 x2) x3 x4 x5 x6 x7 (y 0) (y 1)) e
  · by_cases h : j1.val < 1024
    · refine ⟨_, List.mem_cons_of_mem _ List.mem_cons_self, ?_⟩
      rw [Rect.mem_set_unit]
      intro a
      match a with
      | ⟨0, _⟩ => exact ⟨Nat.zero_le _, by simpa [ix2] using j0.isLt⟩
      | ⟨1, _⟩ => exact ⟨Nat.zero_le _, by simpa [ix2] using h⟩
    · refine ⟨_, List.mem_cons_self, ?_⟩
      rw [Rect.mem_set_unit]
      intro a
      match a with
      | ⟨0, _⟩ => exact ⟨Nat.zero_le _, by simpa [ix2] using j0.isLt⟩
      | ⟨1, _⟩ => exact ⟨by simpa [ix2] using h, by simpa [ix2] using j1.isLt⟩

set_option maxHeartbeats 1000000 in
theorem out9_A (hc : cond0_0 i) (j : S1x8x512.Idx) :
    out0_A_9 c i a2 h2 a3 h3 a4 h4 a5 h5 a6 h6 a7 h7 a8 h8 a9 h9 a10 h10 a11 h11 a12 h12 a13 h13 hc x0 x1 x2 x3 x4 x5 x6 x7 j = gate (hrows ((i 0).val % 4 = 0) x0 x1 x2) x3 ⟨1032 + (j 1).val, by have := (j 1).isLt; simp at this; omega⟩ (j 2) := by
  frame_open
  simp (disch := decide) only [↓ View.readCov_skip, ↓ View.readCov_cons_toLoadRect, ↓ View.readCov_fill]
  frame_out
  rw [readCov_h i x0 x1 x2 a12]
  pointwise [k0_pay4, k0_pay9, gate]

end Cert.FfnKernelIdeal.Step
end
-- ==== Proof.FfnBlocks.lean ====
/-
  What the feed-forward kernel's input blocks hold, read off the program's arguments: the row blocks of the activations,
  the sixteen rows before a block, the norm's weights, and the column blocks of the weights, taps and offsets.
-/
module

public import proofs.«01_k».proof.Proof.FfnStep

@[expose] public section

set_option maxRecDepth 16384

noncomputable section

namespace Cert.FfnKernelIdeal.Step

open Cert.FfnKernelIdeal Cert.FfnKernelIdeal.Gen Idealize.ShloMosaic Idealize.ShloMosaic.TcCoe

variable (m : (ℓ : Loc nD τ sig) → Buf (Elt Ideal) ℓ)

theorem V_x (c : Dev nD) (r : Fin 8192) (d : Fin 2048) : (V m c main_v4 : Vec Ideal S8192x2048 .f32) (ix2 r d)
    = (m ((c : Thread nD τ).loc main_arg0) : Vec Ideal S2x4096x2048 .f32) (ix3 ⟨r.val / 4096, by omega⟩ ⟨r.val % 4096, by omega⟩ d) := by
  unfold_abbrev_sides
  after_results
  pointwise

theorem V_norm (c : Dev nD) (d : Fin 2048) : (V m c main_v5 : Vec Ideal S1x2048 .f32) (ix2 0 d)
    = (m ((c : Thread nD τ).loc main_arg1) : Vec Ideal S2048 .f32) (ix1 d) := by
  unfold_abbrev_sides
  after_results
  pointwise

theorem V_gate (c : Dev nD) (k : Fin 2048) (f : Fin 5632) : (V m c main_v1 : Vec Ideal S2048x5632 .bf16) (ix2 k f)
    = (m ((c : Thread nD τ).loc main_arg2) : Vec Ideal S2048x11264 .f32) (ix2 k ⟨f.val, by omega⟩) := by
  unfold_abbrev_sides
  after_results
  pointwise

theorem V_lin (c : Dev nD) (k : Fin 2048) (f : Fin 5632) : (V m c main_v3 : Vec Ideal S2048x5632 .bf16) (ix2 k f)
    = (m ((c : Thread nD τ).loc main_arg2) : Vec Ideal S2048x11264 .f32) (ix2 k ⟨5632 + f.val, by omega⟩) := by
  unfold_abbrev_sides
  after_results
  pointwise

theorem V_cb (c : Dev nD) (d : Fin 5632) : (V m c main_v6 : Vec Ideal S1x5632 .f32) (ix2 0 d)
    = (m ((c : Thread nD τ).loc main_arg4) : Vec Ideal S5632 .f32) (ix1 d) := by
  unfold_abbrev_sides
  after_results
  pointwise

theorem V_down (c : Dev nD) (k : Fin 5632) (f : Fin 2048) : (V m c main_v7 : Vec Ideal S5632x2048 .bf16) (ix2 k f)
    = (m ((c : Thread nD τ).loc main_arg5) : Vec Ideal S5632x2048 .f32) (ix2 k f) := by
  unfold_abbrev_sides
  after_results
  pointwise

theorem idx0 : ∀ t : Fin cfg0.N, win0_0.index t = ![t.val / 11, 0] := (by decide +kernel : ∀ t : Fin grid0.N, _)
theorem idx1 : ∀ t : Fin cfg0.N, win0_1.index t = ![64 * (t.val / 11) - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, t.val % 11] := (by decide +kernel : ∀ t : Fin grid0.N, _)
theorem idx5 : ∀ t : Fin cfg0.N, win0_5.index t = ![0, t.val % 11] := (by decide +kernel : ∀ t : Fin grid0.N, _)
theorem idx6 : ∀ t : Fin cfg0.N, win0_6.index t = ![0, t.val % 11] := (by decide +kernel : ∀ t : Fin grid0.N, _)
theorem idx7 : ∀ t : Fin cfg0.N, win0_7.index t = ![t.val % 11, 0] := (by decide +kernel : ∀ t : Fin grid0.N, _)

/-- The activations as 8192 rows. -/
def X (c : Dev nD) (r : Fin 8192) (d : Fin 2048) : EReal :=
  (m ((c : Thread nD τ).loc main_arg0) : Vec Ideal S2x4096x2048 .f32) (ix3 ⟨r.val / 4096, by omega⟩ ⟨r.val % 4096, by omega⟩ d)

/-- The norm's weights. -/
def NG (c : Dev nD) (d : Fin 2048) : EReal := (m ((c : Thread nD τ).loc main_arg1) : Vec Ideal S2048 .f32) (ix1 d)

/-- The up projection's weights. -/
def WU (c : Dev nD) (k : Fin 2048) (f : Fin 11264) : EReal := (m ((c : Thread nD τ).loc main_arg2) : Vec Ideal S2048x11264 .f32) (ix2 k f)

/-- The normalised rows. -/
def H (c : Dev nD) (r : Fin 8192) (d : Fin 2048) : EReal := rmsRow (X m c r) (NG m c) d

/-- The scratch of row block `b`: the sixteen rows before the block, zero at a sequence's start, then the block's rows. -/
def hs (c : Dev nD) (b : Fin 8) : Vec Ideal S1040x2048 .bf16 := fun j =>
  if h : (j 0).val < 16 then
    if b.val % 4 = 0 then 0 else H m c ⟨1024 * b.val + (j 0).val - 16, by omega⟩ (j 1)
  else H m c ⟨1024 * b.val + (j 0).val - 16, by have := (j 0).isLt; simp at this; omega⟩ (j 1)

/-- Column block `q` of the gate's weights. -/
def wg (c : Dev nD) (q : Fin 11) : Vec Ideal S2048x512 .bf16 := fun j =>
  WU m c (j 0) ⟨512 * q.val + (j 1).val, by have := (j 1).isLt; simp at this; omega⟩

/-- Column block `q` of the linear half's weights. -/
def wl (c : Dev nD) (q : Fin 11) : Vec Ideal S2048x512 .bf16 := fun j =>
  WU m c (j 0) ⟨5632 + (512 * q.val + (j 1).val), by have := (j 1).isLt; simp at this; omega⟩

/-- Column block `q` of the convolution's taps. -/
def cw (c : Dev nD) (q : Fin 11) : Vec Ideal S3x512 .f32 := fun j =>
  (m ((c : Thread nD τ).loc main_arg3) : Vec Ideal S3x5632 .f32) (ix2 (j 0) ⟨512 * q.val + (j 1).val, by have := (j 1).isLt; simp at this; omega⟩)

/-- Column block `q` of the convolution's offsets. -/
def cb (c : Dev nD) (q : Fin 11) : Vec Ideal S1x512 .f32 := fun j =>
  (m ((c : Thread nD τ).loc main_arg4) : Vec Ideal S5632 .f32) (ix1 ⟨512 * q.val + (j 1).val, by have := (j 1).isLt; simp at this; omega⟩)

/-- Row block `q` of the down projection's weights. -/
def wd (c : Dev nD) (q : Fin 11) : Vec Ideal S512x2048 .bf16 := fun j =>
  (m ((c : Thread nD τ).loc main_arg5) : Vec Ideal S5632x2048 .f32) (ix2 ⟨512 * q.val + (j 0).val, by have := (j 0).isLt; simp at this; omega⟩ (j 1))

/-- A point's row block. -/
def rb (t : Fin cfg0.N) : Fin 8 := ⟨t.val / 11, by have := t.isLt.trans_eq N_0; omega⟩

/-- A point's column block. -/
def cq (t : Fin cfg0.N) : Fin 11 := ⟨t.val % 11, by omega⟩

theorem blk0 (c : Dev nD) (t : Fin cfg0.N) (p : Fin 1024) (d : Fin 2048) :
    (iblk m c 0 t : Vec Ideal S1024x2048 .f32) (ix2 p d) = X m c ⟨1024 * (rb t).val + p.val, by omega⟩ d := by
  refine Eq.trans ?_ (V_x m c _ d)
  blk_ext [iblk, idx0, rb]

theorem blk1 (c : Dev nD) (t : Fin cfg0.N) (hb : (rb t).val % 4 ≠ 0) (p : Fin 16) (d : Fin 2048) :
    (iblk m c 1 t : Vec Ideal S16x2048 .f32) (ix2 p d) = X m c ⟨1024 * (rb t).val + p.val - 16, by omega⟩ d := by
  refine Eq.trans ?_ (V_x m c _ d)
  unfold rb at hb
  simp only at hb
  blk_ext [iblk, idx1, rb]

theorem blk2 (c : Dev nD) (t : Fin cfg0.N) (d : Fin 2048) :
    (iblk m c 2 t : Vec Ideal S1x2048 .f32) (ix2 0 d) = NG m c d := by
  refine Eq.trans ?_ (V_norm m c d)
  blk_ext [iblk, idx2]

theorem blk3 (c : Dev nD) (t : Fin cfg0.N) : (iblk m c 3 t : Vec Ideal S2048x512 .bf16) = wg m c (cq t) := by
  funext j
  idx_vars j
  refine Eq.trans ?_ (V_gate m c j0 ⟨512 * (cq t).val + j1.val, by omega⟩)
  blk_ext [iblk, idx3, cq]

theorem blk4 (c : Dev nD) (t : Fin cfg0.N) : (iblk m c 4 t : Vec Ideal S2048x512 .bf16) = wl m c (cq t) := by
  funext j
  idx_vars j
  refine Eq.trans ?_ (V_lin m c j0 ⟨512 * (cq t).val + j1.val, by omega⟩)
  blk_ext [iblk, idx4, cq]

theorem blk5 (c : Dev nD) (t : Fin cfg0.N) : (iblk m c 5 t : Vec Ideal S3x512 .f32) = cw m c (cq t) := by
  funext j
  idx_vars j
  unfold cw
  rw [← V_main_arg3 m c]
  blk_ext [iblk, idx5, cq]

theorem blk6 (c : Dev nD) (t : Fin cfg0.N) : (iblk m c 6 t : Vec Ideal S1x512 .f32) = cb m c (cq t) := by
  funext j
  idx_vars j
  obtain rfl : j0 = 0 := Subsingleton.elim _ _
  refine Eq.trans ?_ (V_cb m c ⟨512 * (cq t).val + j1.val, by omega⟩)
  blk_ext [iblk, idx6, cq]

theorem blk7 (c : Dev nD) (t : Fin cfg0.N) : (iblk m c 7 t : Vec Ideal S512x2048 .bf16) = wd m c (cq t) := by
  funext j
  idx_vars j
  refine Eq.trans ?_ (V_down m c ⟨512 * (cq t).val + j0.val, by omega⟩ j1)
  blk_ext [iblk, idx7, cq]

theorem coord0 : ∀ t : Fin cfg0.N, (grid0.coords t 0).val = t.val / 11 := (by decide +kernel : ∀ t : Fin grid0.N, _)

/-- The normalised rows a point computes with are its row block's. -/
theorem hrows_blk (c : Dev nD) (t : Fin cfg0.N) :
    hrows ((grid0.coords t 0).val % 4 = 0) (iblk m c 0 t) (iblk m c 1 t) (iblk m c 2 t) = hs m c (rb t) := by
  funext j
  idx_vars j
  have e2 : (fun k => (iblk m c 2 t : Vec Ideal S1x2048 .f32) (ix2 0 k)) = NG m c := funext fun k => blk2 m c t k
  have ec : (grid0.coords t 0).val % 4 = (rb t).val % 4 := by rw [coord0 t]; rfl
  by_cases h : j0.val < 16
  · refine (hrows_halo _ _ _ _ ⟨j0.val, h⟩ j1).trans ?_
    refine Eq.trans ?_ (dif_pos h).symm
    by_cases hz : (rb t).val % 4 = 0
    · rw [if_pos (ec.trans hz), if_pos hz]
    · rw [if_neg (fun e => hz (ec.symm.trans e)), if_neg hz, e2]
      exact congrArg (fun u => rmsRow u (NG m c) j1) (funext fun k => blk1 m c t hz ⟨j0.val, h⟩ k)
  · obtain ⟨r, hr, rfl⟩ : ∃ (r : Fin 1024) (hr : 16 + r.val < 1040), j0 = ⟨16 + r.val, hr⟩ :=
      ⟨⟨j0.val - 16, by omega⟩, by simp only; omega, Fin.ext (by simp only; omega)⟩
    refine (hrows_own _ _ _ _ r j1).trans ?_
    refine Eq.trans ?_ (dif_neg h).symm
    rw [e2]
    refine (congrArg (fun u => rmsRow u (NG m c) j1) (funext fun k => blk0 m c t r k)).trans ?_
    unfold H
    congr 2
    exact Fin.ext (by simp [ix2]; omega)

end Cert.FfnKernelIdeal.Step
end
-- ==== Proof.FfnFold.lean ====
/-
  What the feed-forward kernel's points leave, folded: after column block q of row block b the output block holds the
  activations plus the contributions of column blocks 0 … q, the scratch the row block's normalised rows.
-/
module

public import proofs.«01_k».proof.Proof.FfnBlocks

@[expose] public section

set_option maxRecDepth 16384

noncomputable section

namespace Cert.FfnKernelIdeal.Step

open Cert.FfnKernelIdeal Cert.FfnKernelIdeal.Gen Idealize.ShloMosaic Idealize.ShloMosaic.TcCoe

variable (m : (ℓ : Loc nD τ sig) → Buf (Elt Ideal) ℓ)

/-- Column block `q`'s contribution to row `p` of row block `b`. -/
def part (c : Dev nD) (b : Fin 8) (q : ℕ) (p : Fin 1024) (d : Fin 2048) : EReal :=
  if h : q < 11 then contrib (hs m c b) (wg m c ⟨q, h⟩) (wl m c ⟨q, h⟩) (cw m c ⟨q, h⟩) (cb m c ⟨q, h⟩) (wd m c ⟨q, h⟩) p d else 0

theorem part_cq (c : Dev nD) (t : Fin cfg0.N) (b : Fin 8) (p : Fin 1024) (d : Fin 2048) :
    contrib (hs m c b) (wg m c (cq t)) (wl m c (cq t)) (cw m c (cq t)) (cb m c (cq t)) (wd m c (cq t)) p d
      = part m c b (t.val % 11) p d := by
  unfold part
  rw [dif_pos (show t.val % 11 < 11 by omega)]
  rfl

/-- Row `p` of row block `b`. -/
def XB (c : Dev nD) (b : Fin 8) (p : Fin 1024) (d : Fin 2048) : EReal := X m c ⟨1024 * b.val + p.val, by omega⟩ d

/-- The state after a point. -/
def Holds (c : Dev nD) (t : Fin cfg0.N) : Prop :=
  (∀ (p : Fin 1024) (d : Fin 2048), (outsAt0 m c t.val t.isLt).1 (ix2 p d) = XB m c (rb t) p d
      + ∑ q ∈ Finset.range (t.val % 11 + 1), part m c (rb t) q p d)
  ∧ (∀ (e : Fin 8) (f : Fin 512), (outsAt0 m c t.val t.isLt).2.1 (ix3 0 e f)
      = gate (hs m c (rb t)) (wg m c (cq t)) ⟨1032 + e.val, by omega⟩ f)
  ∧ (outsAt0 m c t.val t.isLt).2.2 = hs m c (rb t)

theorem holds_A (c : Dev nD) (t : Fin cfg0.N) (h0 : t.val % 11 = 0) : Holds m c t := by
  unfold Holds
  rw [outsAt0_A m c t h0]
  refine ⟨fun p d => ?_, fun e f => ?_, ?_⟩
  · dsimp only
    rw [out8_A, hrows_blk m c t, blk3 m c t, blk4 m c t, blk5 m c t, blk6 m c t, blk7 m c t]
    change _ + contrib (hs m c (rb t)) (wg m c (cq t)) (wl m c (cq t)) (cw m c (cq t)) (cb m c (cq t)) (wd m c (cq t)) p d = _
    rw [part_cq m c t, h0, Nat.zero_add, Finset.sum_range_one]
    exact congrArg (fun u => u + _) (blk0 m c t p d)
  · dsimp only
    rw [out9_A, hrows_blk m c t, blk3 m c t]
    rfl
  · dsimp only
    rw [sout_A, hrows_blk m c t]

theorem holds_B (c : Dev nD) (t s : Fin cfg0.N) (h0 : ¬t.val % 11 = 0) (hs' : s.val = t.val - 1) (ih : Holds m c s) : Holds m c t := by
  have hN : t.val < 88 := t.isLt.trans_eq N_0
  obtain ⟨i8, i9, ihs⟩ := ih
  have er : rb s = rb t := Fin.ext (by unfold rb; simp only; omega)
  have es : s.val % 11 + 1 = t.val % 11 := by omega
  obtain ⟨s, hs⟩ := s
  simp only at hs'
  subst hs'
  unfold Holds
  rw [outsAt0_B m c t h0]
  refine ⟨fun p d => ?_, fun e f => ?_, ?_⟩
  · dsimp only
    rw [out8_B, ihs, i8, er, es, blk3 m c t, blk4 m c t, blk5 m c t, blk6 m c t, blk7 m c t]
    change _ + contrib (Step.hs m c (rb t)) (wg m c (cq t)) (wl m c (cq t)) (cw m c (cq t)) (cb m c (cq t)) (wd m c (cq t)) p d = _
    rw [part_cq m c t, Finset.sum_range_succ, add_assoc]
  · dsimp only
    rw [out9_B, ihs, er, blk3 m c t]
    rfl
  · exact ihs.trans (by rw [er])

theorem holds (c : Dev nD) : ∀ (n : ℕ) (hn : n < cfg0.N), Holds m c ⟨n, hn⟩
  | 0, hn => holds_A m c ⟨0, hn⟩ rfl
  | n + 1, hn => by
    by_cases h0 : (n + 1) % 11 = 0
    · exact holds_A m c ⟨n + 1, hn⟩ h0
    · exact holds_B m c ⟨n + 1, hn⟩ ⟨n, by omega⟩ h0 rfl (holds c n (by omega))

/-- The kernel's first result at an index. -/
theorem G8_apply (c : Dev nD) (r : Fin 8192) (d : Fin 2048) : (Value.G8 m c : Vec Ideal S8192x2048 .f32) (ix2 r d)
    = X m c r d + ∑ q ∈ Finset.range 11, part m c ⟨r.val / 1024, by omega⟩ q ⟨r.val % 1024, by omega⟩ d := by
  have hn : 11 * (r.val / 1024) + 10 < cfg0.N := lt_of_lt_of_eq (by omega) N_0.symm
  have hp : Value.pt8Of (ix2 r d) = 11 * (r.val / 1024) + 10 := by
    show 11 * (1 * (r.val / 1024 - 0) + 1 * (d.val / 2048 - 0)) + 10 = _
    omega
  unfold Value.G8
  rw [dif_pos (hp.trans_lt hn), Value.fold0_congr m c _ _ (11 * (r.val / 1024) + 10) (by omega) hp]
  rw [← Value.outsAt0_sweep m c _ hn]
  have hl : Value.loc8Of (ix2 r d) = ix2 ⟨r.val % 1024, by omega⟩ d := by
    funext a
    match a with
    | ⟨0, _⟩ => rfl
    | ⟨1, _⟩ => exact Fin.ext (Nat.mod_eq_of_lt d.isLt)
  rw [hl]
  refine ((holds m c _ hn).1 ⟨r.val % 1024, by omega⟩ d).trans ?_
  have eb : rb ⟨11 * (r.val / 1024) + 10, hn⟩ = ⟨r.val / 1024, by omega⟩ := Fin.ext (by unfold rb; simp only; omega)
  have ek : (11 * (r.val / 1024) + 10) % 11 + 1 = 11 := by omega
  simp only [eb, ek]
  refine congrArg (fun u => u + _) ?_
  unfold XB
  exact congrArg (fun u => X m c u d) (Fin.ext (by simp only; omega))

/-- The kernel's second result at an index. -/
theorem G9_apply (c : Dev nD) (b : Fin 8) (e : Fin 8) (f : Fin 5632) : (Value.G9 m c : Vec Ideal S8x8x5632 .f32) (ix3 b e f)
    = gate (hs m c b) (wg m c ⟨f.val / 512, by omega⟩) ⟨1032 + e.val, by omega⟩ ⟨f.val % 512, by omega⟩ := by
  have hn : 11 * b.val + f.val / 512 < cfg0.N := lt_of_lt_of_eq (by omega) N_0.symm
  have hp : Value.pt9Of (ix3 b e f) = 11 * b.val + f.val / 512 := by
    show 11 * (b.val / 1 - 0) + 11 * (e.val / 8 - 0) + 1 * (f.val / 512 - 0) = _
    omega
  unfold Value.G9
  rw [dif_pos (hp.trans_lt hn), Value.fold0_congr m c _ _ (11 * b.val + f.val / 512) (by omega) hp]
  rw [← Value.outsAt0_sweep m c _ hn]
  have hl : Value.loc9Of (ix3 b e f) = ix3 0 e ⟨f.val % 512, by omega⟩ := by
    funext a
    match a with
    | ⟨0, _⟩ => exact Subsingleton.elim (α := Fin 1) _ _
    | ⟨1, _⟩ => exact Fin.ext (Nat.mod_eq_of_lt e.isLt)
    | ⟨2, _⟩ => rfl
  rw [hl]
  refine ((holds m c _ hn).2.1 e ⟨f.val % 512, by omega⟩).trans ?_
  have eb : rb ⟨11 * b.val + f.val / 512, hn⟩ = b := Fin.ext (by unfold rb; simp only; omega)
  have eq : cq ⟨11 * b.val + f.val / 512, hn⟩ = ⟨f.val / 512, by omega⟩ := Fin.ext (by unfold cq; simp only; omega)
  rw [eb, eq]

end Cert.FfnKernelIdeal.Step
end
-- ==== Proof.FfnRef.lean ====
/-
  The feed-forward reference's results at an index: the up projection of a normalised row, the convolution with two rows
  of zeros before a sequence, the gated activations and the down projection.
-/
module

public import proofs.«01_k».proof.Proof.Gen.FfnReferenceIdeal.Read
public import proofs.«01_k».proof.Proof.FfnStep

@[expose] public section

set_option maxRecDepth 16384

noncomputable section

namespace Cert.FfnReferenceIdeal.At

open Cert.FfnReferenceIdeal Cert.FfnReferenceIdeal.Read Idealize.ShloMosaic Idealize.ShloMosaic.TcCoe
open Cert.FfnKernelIdeal.Step (rmsRow)

variable (x0 : Vec Ideal S2x4096x2048 .f32) (x1 : Vec Ideal S2048 .f32) (x2 : Vec Ideal S2048x11264 .f32)
  (x3 : Vec Ideal S3x5632 .f32) (x4 : Vec Ideal S5632 .f32) (x5 : Vec Ideal S5632x2048 .f32)

/-- The normalised row at a position. -/
theorem norm_apply (b : Fin 2) (s : Fin 4096) (k : Fin 2048) : val_main_v13 (F := Ideal) x0 x1 (ix3 b s k)
    = rmsRow (fun k => x0 (ix3 b s k)) (fun k => x1 (ix1 k)) k := by
  pointwise [val_main_v13, val_main_v12, val_main_v11, val_main_v10, val_main_v9, val_main_v8, val_main_v7, val_main_v6,
    val_main_v5, val_main_v4, val_main_v3, val_main_v2, val_main_v1, val_main_cst_2, val_main_cst_1, val_main_cst_0, rmsRow]

/-- The up projection. -/
theorem up_apply (b : Fin 2) (s : Fin 4096) (f : Fin 11264) : val_main_v14 (F := Ideal) x0 x1 x2 (ix3 b s f)
    = ∑ k : Fin 2048, rmsRow (fun k => x0 (ix3 b s k)) (fun k => x1 (ix1 k)) k * x2 (ix2 k f) := by
  simp only [← norm_apply]
  pointwise [val_main_v14]

/-- The gate's rows, two rows of zeros before each sequence. -/
theorem padded_apply (b : Fin 2) (u : Fin 4098) (f : Fin 5632) : val_main_v17 (F := Ideal) x0 x1 x2 (ix3 b u f)
    = if h : u.val < 2 then 0 else val_main_v14 (F := Ideal) x0 x1 x2 (ix3 b ⟨u.val - 2, by omega⟩ ⟨f.val, by omega⟩) := by
  pointwise [val_main_v17, val_main_v0, val_main_cst, val_main_v15]

/-- The convolution's row. -/
def tap (b : Fin 2) (s : Fin 4096) (f : Fin 5632) : EReal :=
  x4 (ix1 f) + val_main_v17 (F := Ideal) x0 x1 x2 (ix3 b ⟨s.val, by omega⟩ f) * x3 (ix2 0 f)
    + val_main_v17 (F := Ideal) x0 x1 x2 (ix3 b ⟨1 + s.val, by omega⟩ f) * x3 (ix2 1 f)
    + val_main_v17 (F := Ideal) x0 x1 x2 (ix3 b ⟨2 + s.val, by omega⟩ f) * x3 (ix2 2 f)

theorem tap_apply (b : Fin 2) (s : Fin 4096) (f : Fin 5632) : val_main_v40 (F := Ideal) x0 x1 x2 x3 x4 (ix3 b s f)
    = tap x0 x1 x2 x3 x4 b s f := by
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v21, val_main_v20, val_main_v19, val_main_v18, tap]

/-- The gated activations. -/
theorem act_apply (b : Fin 2) (s : Fin 4096) (f : Fin 5632) : val_main_v42 (F := Ideal) x0 x1 x2 x3 x4 (ix3 b s f)
    = tap x0 x1 x2 x3 x4 b s f * Ideal.logistic (tap x0 x1 x2 x3 x4 b s f)
      * val_main_v14 (F := Ideal) x0 x1 x2 (ix3 b s ⟨5632 + f.val, by omega⟩) := by
  simp only [← tap_apply]
  pointwise [val_main_v42, val_main_v41, val_main_call0_v5, val_main_call0_v4, val_main_call0_v3, val_main_call0_v2,
    val_main_call0_v1, val_main_call0_v0, val_main_call0_cst, val_main_call0_cst_0, val_main_v16, Ideal.logistic]

/-- The first result. -/
theorem out_apply (r : Fin 8192) (d : Fin 2048) : val_main_v45 (F := Ideal) x0 x1 x2 x3 x4 x5 (ix2 r d)
    = x0 (ix3 ⟨r.val / 4096, by omega⟩ ⟨r.val % 4096, by omega⟩ d)
      + ∑ f : Fin 5632, val_main_v42 (F := Ideal) x0 x1 x2 x3 x4 (ix3 ⟨r.val / 4096, by omega⟩ ⟨r.val % 4096, by omega⟩ f) * x5 (ix2 f d) := by
  pointwise [val_main_v45, val_main_v44, val_main_v43]

/-- The second result. -/
theorem rows_apply (b : Fin 8) (e : Fin 8) (f : Fin 5632) : val_main_v47 (F := Ideal) x0 x1 x2 (ix3 b e f)
    = val_main_v14 (F := Ideal) x0 x1 x2 (ix3 ⟨b.val / 4, by omega⟩
        ⟨b.val % 4 * 1024 + (1016 + e.val), by omega⟩ ⟨f.val, by omega⟩) := by
  pointwise [val_main_v47, val_main_v46, val_main_v15]

end Cert.FfnReferenceIdeal.At
end
-- ==== Proof.FfnEq.lean ====
/-
  The feed-forward kernel's results are the reference's: the blocked convolution and the blocked sum of the down
  projection against the whole ones.
-/
module

public import proofs.«01_k».proof.Proof.FfnFold
public import proofs.«01_k».proof.Proof.FfnRef
public import proofs.«01_k».proof.Defs
public import proofs.«01_k».proof.Proof.Gen.FfnReferenceIdeal.Run

@[expose] public section

set_option maxRecDepth 16384

noncomputable section

namespace Cert.FfnKernelIdeal.Step

open Cert.FfnKernelIdeal Cert.FfnKernelIdeal.Gen Idealize.ShloMosaic Idealize.ShloMosaic.TcCoe

variable (m : (ℓ : Loc nD τ sig) → Buf (Elt Ideal) ℓ) (c : Dev nD)

/-- The arguments as arrays. -/
abbrev a0 : Vec Ideal S2x4096x2048 .f32 := m ((c : Thread nD τ).loc main_arg0)
abbrev a1 : Vec Ideal S2048 .f32 := m ((c : Thread nD τ).loc main_arg1)
abbrev a2 : Vec Ideal S2048x11264 .f32 := m ((c : Thread nD τ).loc main_arg2)
abbrev a3 : Vec Ideal S3x5632 .f32 := m ((c : Thread nD τ).loc main_arg3)
abbrev a4 : Vec Ideal S5632 .f32 := m ((c : Thread nD τ).loc main_arg4)
abbrev a5 : Vec Ideal S5632x2048 .f32 := m ((c : Thread nD τ).loc main_arg5)

/-- The reference's up projection, of the row with this number. -/
theorem up_row (r : Fin 8192) (b : Fin 2) (s : Fin 4096) (hr : r.val = 4096 * b.val + s.val) (f : Fin 11264) :
    Cert.FfnReferenceIdeal.Read.val_main_v14 (F := Ideal) (a0 m c) (a1 m c) (a2 m c) (ix3 b s f) = ∑ k : Fin 2048, H m c r k * WU m c k f := by
  rw [Cert.FfnReferenceIdeal.At.up_apply]
  have eb : (⟨r.val / 4096, by omega⟩ : Fin 2) = b := Fin.ext (by simp only; omega)
  have es : (⟨r.val % 4096, by omega⟩ : Fin 4096) = s := Fin.ext (by simp only; omega)
  have ex : (fun k => a0 m c (ix3 b s k)) = X m c r :=
    funext fun k => congrArg₂ (fun b s => a0 m c (ix3 b s k)) eb.symm es.symm
  rw [ex]
  rfl

theorem hs_zero (b : Fin 8) (u : Fin 1040) (hu : u.val < 16) (hb : b.val % 4 = 0) (k : Fin 2048) : hs m c b (ix2 u k) = 0 :=
  (dif_pos hu).trans (if_pos hb)

theorem hs_row (b : Fin 8) (u : Fin 1040) (hu : ¬(u.val < 16 ∧ b.val % 4 = 0)) (r : Fin 8192) (hr : r.val = 1024 * b.val + u.val - 16)
    (k : Fin 2048) : hs m c b (ix2 u k) = H m c r k := by
  by_cases h : u.val < 16
  · refine (dif_pos h).trans ((if_neg fun e => hu ⟨h, e⟩).trans ?_)
    exact congrArg (fun r => H m c r k) (Fin.ext hr.symm)
  · refine (dif_neg h).trans ?_
    exact congrArg (fun r => H m c r k) (Fin.ext hr.symm)

theorem gate_row (b : Fin 8) (q : Fin 11) (u : Fin 1040) (f : Fin 512) (hu : ¬(u.val < 16 ∧ b.val % 4 = 0)) (r : Fin 8192)
    (hr : r.val = 1024 * b.val + u.val - 16) :
    gate (hs m c b) (wg m c q) u f = ∑ k : Fin 2048, H m c r k * WU m c k ⟨512 * q.val + f.val, by omega⟩ :=
  Finset.sum_congr rfl fun k _ => congrArg (fun y => y * _) (hs_row m c b u hu r hr k)

/-- A gate row of a block, from two before its first, is the reference's padded row. -/
theorem gate_pad (b : Fin 8) (p : Fin 1024) (e : ℕ) (he : e ≤ 2) (q : Fin 11) (f : Fin 512) (u : Fin 1040) (hu : u.val = 14 + e + p.val)
    (s : Fin 4098) (hs' : s.val = e + (1024 * b.val + p.val) % 4096) (g : Fin 5632) (hg : g.val = 512 * q.val + f.val) :
    gate (hs m c b) (wg m c q) u f = Cert.FfnReferenceIdeal.Read.val_main_v17 (F := Ideal) (a0 m c) (a1 m c) (a2 m c)
      (ix3 ⟨b.val / 4, by omega⟩ s g) := by
  rw [Cert.FfnReferenceIdeal.At.padded_apply]
  by_cases hz : s.val < 2
  · rw [dif_pos hz]
    exact Finset.sum_eq_zero fun k _ => by
      show hs m c b (ix2 u k) * _ = 0
      rw [hs_zero m c b u (by omega) (by omega) k, zero_mul]
  · rw [dif_neg hz]
    have hr : 1024 * b.val + u.val - 16 < 8192 := by omega
    rw [up_row m c ⟨1024 * b.val + u.val - 16, hr⟩ _ _ (by simp only; omega) _,
      gate_row m c b q u f (by omega) ⟨1024 * b.val + u.val - 16, hr⟩ rfl]
    refine Finset.sum_congr rfl fun k _ => congrArg (fun y => _ * WU m c k y) (Fin.ext hg.symm)

/-- The activations of a block are the reference's. -/
theorem act_eq (r : Fin 8192) (q : Fin 11) (f : Fin 512) (g : Fin 5632) (hg : g.val = 512 * q.val + f.val) :
    act (hs m c ⟨r.val / 1024, by omega⟩) (wg m c q) (wl m c q) (cw m c q) (cb m c q) ⟨r.val % 1024, by omega⟩ f
      = Cert.FfnReferenceIdeal.Read.val_main_v42 (F := Ideal) (a0 m c) (a1 m c) (a2 m c) (a3 m c) (a4 m c)
        (ix3 ⟨r.val / 4096, by omega⟩ ⟨r.val % 4096, by omega⟩ g) := by
  have eb : (⟨r.val / 4096, by omega⟩ : Fin 2) = ⟨(⟨r.val / 1024, by omega⟩ : Fin 8).val / 4, by simp only; omega⟩ := Fin.ext (by simp only; omega)
  have eg : (⟨512 * q.val + f.val, by omega⟩ : Fin 5632) = g := Fin.ext hg.symm
  have ec : conv (hs m c ⟨r.val / 1024, by omega⟩) (wg m c q) (cw m c q) (cb m c q) ⟨r.val % 1024, by omega⟩ f
      = Cert.FfnReferenceIdeal.At.tap (a0 m c) (a1 m c) (a2 m c) (a3 m c) (a4 m c) ⟨r.val / 4096, by omega⟩ ⟨r.val % 4096, by omega⟩ g := by
    unfold conv Cert.FfnReferenceIdeal.At.tap
    rw [eb]
    rw [gate_pad m c ⟨r.val / 1024, by omega⟩ ⟨r.val % 1024, by omega⟩ 0 (by omega) q f _ (by simp only <;> omega) ⟨r.val % 4096, by omega⟩ (by simp only; omega) g hg,
      gate_pad m c ⟨r.val / 1024, by omega⟩ ⟨r.val % 1024, by omega⟩ 1 (by omega) q f _ (by simp only <;> omega) ⟨1 + r.val % 4096, by omega⟩ (by simp only; omega) g hg,
      gate_pad m c ⟨r.val / 1024, by omega⟩ ⟨r.val % 1024, by omega⟩ 2 (by omega) q f _ (by simp only <;> omega) ⟨2 + r.val % 4096, by omega⟩ (by simp only; omega) g hg]
    have e3 : ∀ k : Fin 3, cw m c q (ix2 k f) = a3 m c (ix2 k g) := fun k => congrArg (fun y => a3 m c (ix2 k y)) eg
    have e4 : cb m c q (ix2 0 f) = a4 m c (ix1 g) := congrArg (fun y => a4 m c (ix1 y)) eg
    rw [e3, e3, e3, e4]
  rw [Cert.FfnReferenceIdeal.At.act_apply]
  unfold act
  rw [ec, up_row m c r _ _ (by simp only; omega) _]
  refine congrArg (fun y => _ * y) (Finset.sum_congr rfl fun k _ => ?_)
  rw [hs_row m c _ _ (by simp only; omega) r (by simp only; omega) k]
  exact congrArg (fun y => _ * WU m c k y) (Fin.ext (by simp only [ix2]; omega))

/-- The first result. -/
theorem out_eq (r : Fin 8192) (d : Fin 2048) : (Value.G8 m c : Vec Ideal S8192x2048 .f32) (ix2 r d)
    = Cert.FfnReferenceIdeal.Read.val_main_v45 (F := Ideal) (a0 m c) (a1 m c) (a2 m c) (a3 m c) (a4 m c) (a5 m c) (ix2 r d) := by
  rw [G8_apply, Cert.FfnReferenceIdeal.At.out_apply]
  refine congrArg (fun y => X m c r d + y) ?_
  rw [← Fin.sum_univ_eq_sum_range (fun q => part m c ⟨r.val / 1024, by omega⟩ q ⟨r.val % 1024, by omega⟩ d) 11]
  refine Eq.trans (Finset.sum_congr rfl fun q _ => ?_) (Fin.sum_mul_add_fin (S := 11) (L := 5632) 512
    (fun g : Fin 5632 => Cert.FfnReferenceIdeal.Read.val_main_v42 (F := Ideal) (a0 m c) (a1 m c) (a2 m c) (a3 m c) (a4 m c)
      (ix3 ⟨r.val / 4096, by omega⟩ ⟨r.val % 4096, by omega⟩ g) * a5 m c (ix2 g d)))
  refine (dif_pos q.isLt).trans ?_
  unfold contrib
  refine Finset.sum_congr rfl fun f _ => ?_
  rw [act_eq m c r q f ⟨q.val * 512 + f.val, by omega⟩ (by simp only; omega)]
  exact congrArg (fun y : Fin 5632 => _ * a5 m c (ix2 y d)) (Fin.ext (show 512 * q.val + f.val = q.val * 512 + f.val by omega))

/-- The second result. -/
theorem rows_eq (b : Fin 8) (e : Fin 8) (f : Fin 5632) : (Value.G9 m c : Vec Ideal S8x8x5632 .f32) (ix3 b e f)
    = Cert.FfnReferenceIdeal.Read.val_main_v47 (F := Ideal) (a0 m c) (a1 m c) (a2 m c) (ix3 b e f) := by
  rw [G9_apply, Cert.FfnReferenceIdeal.At.rows_apply, up_row m c ⟨1024 * b.val + 1016 + e.val, by omega⟩ _ _ (by simp only; omega) _,
    gate_row m c b _ _ _ (by simp only; omega) ⟨1024 * b.val + 1016 + e.val, by omega⟩ (by simp only; omega)]
  refine Finset.sum_congr (M := EReal) rfl fun k _ => congrArg (fun y => H m c ⟨1024 * b.val + 1016 + e.val, by omega⟩ k * WU m c k y)
    (Fin.ext (by simp only; omega))

end Cert.FfnKernelIdeal.Step

namespace Cert.Proof.Ffn

open Idealize.ShloMosaic Idealize.ShloMosaic.TcCoe

/-- The feed-forward kernel's two results are the reference's. -/
theorem algebraic : Cert.algebraic_FfnKernelIdeal_FfnReferenceIdeal := by
  pair_intro
  · run_from Cert.FfnKernelIdeal.Value.run m g
  · run_from Cert.FfnReferenceIdeal.Value.run m' g'
    · obtain ⟨h0, h1, h2, h3, h4, h5⟩ := hagree c
      refine (Cert.FfnReferenceIdeal.Read.val_main_v45_eq m' c).trans ?_
      rw [h0, h1, h2, h3, h4, h5]
      funext j
      idx_vars j
      exact (Cert.FfnKernelIdeal.Step.out_eq m c j0 j1).symm
    · refine (Cert.FfnReferenceIdeal.Read.val_main_v47_eq _ _ _).trans ?_
      funext j
      idx_vars j
      exact (Cert.FfnKernelIdeal.Step.rows_eq m c j0 j1 j2).symm

end Cert.Proof.Ffn
end
-- ==== Proof.MixerBase.lean ====
/-
  A block of the chunked mixer: what a grid point computes from its row block.
-/
module

public import proofs.«01_k».proof.Proof.Gen.MixerKernelIdeal.Value
public import proofs.«01_k».proof.Proof.Gen.MixerReferenceIdeal.Read
public import proofs.«01_k».proof.Proof.Gen.MixerReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MixerKernelIdeal.At

open Cert.MixerKernelIdeal Cert.MixerKernelIdeal.Gen Idealize.ShloMosaic Idealize.ShloMosaic.TcCoe

/-- A row's root mean square norm. -/
def rmsRow (x g : Fin 1536 → EReal) (d : Fin 1536) : EReal :=
  x d * Ideal.rsqrt (Ideal.div (∑ k, x k * x k) (Ideal.ofBits .f32 0x44C00000#32) + Ideal.ofBits .f32 0x358637BD#32) * g d

/-- A block's entry: the gate times the mix of its chunk's normalised rows by its column's group, the offset added. -/
def tileAt (x0 x1 : Vec Ideal S512x1536 .f32) (x2 : Vec Ideal S1x1536 .f32) (x3 : Vec Ideal S12x128x128 .bf16) (x4 : Vec Ideal S12x128x128 .f32)
    (p : Fin 512) (d : Fin 1536) : EReal :=
  x0 (ix2 p d) * ((∑ k : Fin 128, x3 (ix3 ⟨d.val / 128, by omega⟩ ⟨p.val % 128, by omega⟩ k)
      * rmsRow (fun q => x1 (ix2 ⟨128 * (p.val / 128) + k.val, by omega⟩ q)) (fun q => x2 (ix2 0 q)) d)
    + x4 (ix3 ⟨d.val / 128, by omega⟩ ⟨p.val % 128, by omega⟩ ⟨d.val % 128, by omega⟩))

/-- The whole block. -/
def tile (x0 x1 : Vec Ideal S512x1536 .f32) (x2 : Vec Ideal S1x1536 .f32) (x3 : Vec Ideal S12x128x128 .bf16) (x4 : Vec Ideal S12x128x128 .f32) :
    Vec Ideal S512x1536 .bf16 := fun y => tileAt x0 x1 x2 x3 x4 (y 0) (y 1)

variable (x0 x1 : Vec Ideal S512x1536 .f32) (x2 : Vec Ideal S1x1536 .f32) (x3 : Vec Ideal S12x128x128 .bf16) (x4 : Vec Ideal S12x128x128 .f32)

/-- The entry at row `i` of a chunk and column `e` of a group. -/
theorem tile_at (r s c g : ℕ) (hc : c < 4) (hg : g < 12) (hr : r = 128 * c) (hs : s = 128 * g) (i e : Fin 128) (y : S512x1536.Idx)
    (h0 : (y 0).val = r + i.val) (h1 : (y 1).val = s + e.val) :
    tile x0 x1 x2 x3 x4 y = x0 (ix2 ⟨r + i.val, by omega⟩ ⟨s + e.val, by omega⟩)
      * ((∑ k : Fin 128, x3 (ix3 ⟨g, hg⟩ i k) * rmsRow (fun q => x1 (ix2 ⟨r + k.val, by omega⟩ q)) (fun q => x2 (ix2 0 q)) ⟨s + e.val, by omega⟩)
        + x4 (ix3 ⟨g, hg⟩ i e)) := by
  subst hr hs
  refine (congrArg₂ (tileAt x0 x1 x2 x3 x4) (Fin.ext h0 : y 0 = (⟨128 * c + i.val, by omega⟩ : Fin 512)) (Fin.ext h1 : y 1 = (⟨128 * g + e.val, by omega⟩ : Fin 1536))).trans ?_
  have g1 : (⟨(128 * g + e.val) / 128, by omega⟩ : Fin 12) = ⟨g, hg⟩ := Fin.ext (show (128 * g + e.val) / 128 = g by omega)
  have g2 : (⟨(128 * c + i.val) % 128, by omega⟩ : Fin 128) = i := Fin.ext (show (128 * c + i.val) % 128 = i.val by omega)
  have g3 : (⟨(128 * g + e.val) % 128, by omega⟩ : Fin 128) = e := Fin.ext (show (128 * g + e.val) % 128 = e.val by omega)
  have g4 : ∀ k : Fin 128, (⟨128 * ((128 * c + i.val) / 128) + k.val, by omega⟩ : Fin 512) = ⟨128 * c + k.val, by omega⟩ :=
    fun k => Fin.ext (show 128 * ((128 * c + i.val) / 128) + k.val = 128 * c + k.val by omega)
  refine congrArg (fun z : EReal => _ * z) (congrArg₂ (fun z w : EReal => z + w) (Finset.sum_congr (M := EReal) rfl fun k _ => ?_) ?_)
  · show x3 (ix3 (⟨(128 * g + e.val) / 128, _⟩ : Fin 12) ⟨(128 * c + i.val) % 128, _⟩ k)
      * rmsRow (fun q => x1 (ix2 (⟨128 * ((128 * c + i.val) / 128) + k.val, _⟩ : Fin 512) q)) _ _ = _
    rw [g1, g2, g4 k]
  · show x4 (ix3 (⟨(128 * g + e.val) / 128, _⟩ : Fin 12) ⟨(128 * c + i.val) % 128, _⟩ ⟨(128 * g + e.val) % 128, _⟩) = _
    rw [g1, g2, g3]

/-- The normalised rows. -/
theorem norm_at (p : Fin 512) (d : Fin 1536) :
    (k0_pay3 (View.ld x1 r0_0) (View.ld x2 r0_1) : Vec Ideal S512x1536 .bf16) (ix2 p d) = rmsRow (fun q => x1 (ix2 p q)) (fun q => x2 (ix2 0 q)) d := by
  pointwise [k0_pay3, rmsRow]

end Cert.MixerKernelIdeal.At
end
-- ==== Proof.MixerTiles.lean ====
/-
  The forty-eight tiles a grid point stores, each the block's entries at its chunk and group.
-/
module

public import proofs.«01_k».proof.Proof.Gen.MixerKernelIdeal.Value
public import proofs.«01_k».proof.Proof.Gen.MixerReferenceIdeal.Read
public import proofs.«01_k».proof.Proof.Gen.MixerReferenceIdeal.Run
public import proofs.«01_k».proof.Defs
public import proofs.«01_k».proof.Proof.MixerBase
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MixerKernelIdeal.At

open Cert.MixerKernelIdeal Cert.MixerKernelIdeal.Gen Idealize.ShloMosaic Idealize.ShloMosaic.TcCoe

variable (x0 x1 : Vec Ideal S512x1536 .f32) (x2 : Vec Ideal S1x1536 .f32) (x3 : Vec Ideal S12x128x128 .bf16) (x4 : Vec Ideal S12x128x128 .f32)

theorem piece61 (z : r0_61.shape.Idx) : (k0_pay2 (k0_pay78 (k0_pay82 x0 x1 x2 x3 x4) (View.ld x3 r0_57)) (View.ld x4 r0_57) (View.ld x0 r0_61) : Vec Ideal S128x128 .bf16) z
    = tile x0 x1 x2 x3 x4 (r0_61.emb z) := by
  idx_vars z
  refine Eq.trans ?_ (tile_at x0 x1 x2 x3 x4 384 1408 3 11 (by omega) (by omega) rfl rfl z0 z1 _ ((ValueKit.rect_emb_unit_val _ _ _ _ _).trans rfl) ((ValueKit.rect_emb_unit_val _ _ _ _ _).trans rfl)).symm
  pointwise [k0_pay2, k0_pay78, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece60 (z : r0_60.shape.Idx) : (k0_pay1 (k0_pay81 (k0_pay82 x0 x1 x2 x3 x4) (View.ld x3 r0_57) (View.ld x4 r0_57)) (View.ld x0 r0_60) : Vec Ideal S128x128 .bf16) z
    = tile x0 x1 x2 x3 x4 (r0_60.emb z) := by
  idx_vars z
  refine Eq.trans ?_ (tile_at x0 x1 x2 x3 x4 256 1408 2 11 (by omega) (by omega) rfl rfl z0 z1 _ ((ValueKit.rect_emb_unit_val _ _ _ _ _).trans rfl) ((ValueKit.rect_emb_unit_val _ _ _ _ _).trans rfl)).symm
  pointwise [k0_pay1, k0_pay81, k0_pay82, k0_pay78, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece59 (z : r0_59.shape.Idx) : (k0_pay80 (k0_pay82 x0 x1 x2 x3 x4) (View.ld x3 r0_57) (View.ld x4 r0_57) (View.ld x0 r0_59) : Vec Ideal S128x128 .bf16) z
    = tile x0 x1 x2 x3 x4 (r0_59.emb z) := by
  idx_vars z
  refine Eq.trans ?_ (tile_at x0 x1 x2 x3 x4 128 1408 1 11 (by omega) (by omega) rfl rfl z0 z1 _ ((ValueKit.rect_emb_unit_val _ _ _ _ _).trans rfl) ((ValueKit.rect_emb_unit_val _ _ _ _ _).trans rfl)).symm
  pointwise [k0_pay80, k0_pay82, k0_pay78, norm_at]

theorem piece58 (z : r0_58.shape.Idx) : (k0_pay79 (k0_pay82 x0 x1 x2 x3 x4) (View.ld x3 r0_57) (View.ld x4 r0_57) (View.ld x0 r0_58) : Vec Ideal S128x128 .bf16) z
    = tile x0 x1 x2 x3 x4 (r0_58.emb z) := by
  idx_vars z
  refine Eq.trans ?_ (tile_at x0 x1 x2 x3 x4 0 1408 0 11 (by omega) (by omega) rfl rfl z0 z1 _ ((ValueKit.rect_emb_unit_val _ _ _ _ _).trans rfl) ((ValueKit.rect_emb_unit_val _ _ _ _ _).trans rfl)).symm
  pointwise [k0_pay79, k0_pay82, k0_pay78, norm_at]

theorem piece56 (z : r0_56.shape.Idx) : (k0_pay77 (k0_pay76 (k0_pay90 x0 x1 x2 x3 x4) (View.ld x4 r0_52) (View.ld x0 r0_56)) : Vec Ideal S128x128 .bf16) z
    = tile x0 x1 x2 x3 x4 (r0_56.emb z) := by
  idx_vars z
  refine Eq.trans ?_ (tile_at x0 x1 x2 x3 x4 384 1280 3 10 (by omega) (by omega) rfl rfl z0 z1 _ ((ValueKit.rect_emb_unit_val _ _ _ _ _).trans rfl) ((ValueKit.rect_emb_unit_val _ _ _ _ _).trans rfl)).symm
  pointwise [k0_pay77, k0_pay76, k0_pay90, k0_pay71, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece55 (z : r0_55.shape.Idx) : (k0_pay75 (k0_pay90 x0 x1 x2 x3 x4) (View.ld x4 r0_52) (View.ld x0 r0_55) : Vec Ideal S128x128 .bf16) z
    = tile x0 x1 x2 x3 x4 (r0_55.emb z) := by
  idx_vars z
  refine Eq.trans ?_ (tile_at x0 x1 x2 x3 x4 256 1280 2 10 (by omega) (by omega) rfl rfl z0 z1 _ ((ValueKit.rect_emb_unit_val _ _ _ _ _).trans rfl) ((ValueKit.rect_emb_unit_val _ _ _ _ _).trans rfl)).symm
  pointwise [k0_pay75, k0_pay90, k0_pay71, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece54 (z : r0_54.shape.Idx) : (k0_pay74 (k0_pay90 x0 x1 x2 x3 x4) (View.ld x4 r0_52) (View.ld x0 r0_54) : Vec Ideal S128x128 .bf16) z
    = tile x0 x1 x2 x3 x4 (r0_54.emb z) := by
  idx_vars z
  refine Eq.trans ?_ (tile_at x0 x1 x2 x3 x4 128 1280 1 10 (by omega) (by omega) rfl rfl z0 z1 _ ((ValueKit.rect_emb_unit_val _ _ _ _ _).trans rfl) ((ValueKit.rect_emb_unit_val _ _ _ _ _).trans rfl)).symm
  pointwise [k0_pay74, k0_pay90, k0_pay71, k0_pay82, norm_at]

theorem piece53 (z : r0_53.shape.Idx) : (k0_pay73 (k0_pay72 (k0_pay82 x0 x1 x2 x3 x4) (View.ld x3 r0_52)) (View.ld x4 r0_52) (View.ld x0 r0_53) : Vec Ideal S128x128 .bf16) z
    = tile x0 x1 x2 x3 x4 (r0_53.emb z) := by
  idx_vars z
  refine Eq.trans ?_ (tile_at x0 x1 x2 x3 x4 0 1280 0 10 (by omega) (by omega) rfl rfl z0 z1 _ ((ValueKit.rect_emb_unit_val _ _ _ _ _).trans rfl) ((ValueKit.rect_emb_unit_val _ _ _ _ _).trans rfl)).symm
  pointwise [k0_pay73, k0_pay72, k0_pay82, k0_pay71, norm_at]

theorem piece51 (z : r0_51.shape.Idx) : (k0_pay70 (k0_pay89 x0 x1 x2 x3 x4) (View.ld x4 r0_47) (View.ld x0 r0_51) : Vec Ideal S128x128 .bf16) z
    = tile x0 x1 x2 x3 x4 (r0_51.emb z) := by
  idx_vars z
  refine Eq.trans ?_ (tile_at x0 x1 x2 x3 x4 384 1152 3 9 (by omega) (by omega) rfl rfl z0 z1 _ ((ValueKit.rect_emb_unit_val _ _ _ _ _).trans rfl) ((ValueKit.rect_emb_unit_val _ _ _ _ _).trans rfl)).symm
  pointwise [k0_pay70, k0_pay89, k0_pay64, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece50 (z : r0_50.shape.Idx) : (k0_pay69 (k0_pay89 x0 x1 x2 x3 x4) (View.ld x4 r0_47) (View.ld x0 r0_50) : Vec Ideal S128x128 .bf16) z
    = tile x0 x1 x2 x3 x4 (r0_50.emb z) := by
  idx_vars z
  refine Eq.trans ?_ (tile_at x0 x1 x2 x3 x4 256 1152 2 9 (by omega) (by omega) rfl rfl z0 z1 _ ((ValueKit.rect_emb_unit_val _ _ _ _ _).trans rfl) ((ValueKit.rect_emb_unit_val _ _ _ _ _).trans rfl)).symm
  pointwise [k0_pay69, k0_pay89, k0_pay64, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece49 (z : r0_49.shape.Idx) : (k0_pay68 (k0_pay66 (k0_pay82 x0 x1 x2 x3 x4) (View.ld x3 r0_47)) (k0_pay67 (View.ld x4 r0_47)) (View.ld x0 r0_49) : Vec Ideal S128x128 .bf16) z
    = tile x0 x1 x2 x3 x4 (r0_49.emb z) := by
  idx_vars z
  refine Eq.trans ?_ (tile_at x0 x1 x2 x3 x4 128 1152 1 9 (by omega) (by omega) rfl rfl z0 z1 _ ((ValueKit.rect_emb_unit_val _ _ _ _ _).trans rfl) ((ValueKit.rect_emb_unit_val _ _ _ _ _).trans rfl)).symm
  pointwise [k0_pay68, k0_pay66, k0_pay82, k0_pay67, k0_pay64, norm_at]

theorem piece48 (z : r0_48.shape.Idx) : (k0_pay65 (k0_pay82 x0 x1 x2 x3 x4) (View.ld x3 r0_47) (View.ld x4 r0_47) (View.ld x0 r0_48) : Vec Ideal S128x128 .bf16) z
    = tile x0 x1 x2 x3 x4 (r0_48.emb z) := by
  idx_vars z
  refine Eq.trans ?_ (tile_at x0 x1 x2 x3 x4 0 1152 0 9 (by omega) (by omega) rfl rfl z0 z1 _ ((ValueKit.rect_emb_unit_val _ _ _ _ _).trans rfl) ((ValueKit.rect_emb_unit_val _ _ _ _ _).trans rfl)).symm
  pointwise [k0_pay65, k0_pay82, k0_pay64, norm_at]

theorem piece46 (z : r0_46.shape.Idx) : (k0_pay63 (k0_pay58 (k0_pay82 x0 x1 x2 x3 x4) (View.ld x3 r0_42)) (View.ld x4 r0_42) (View.ld x0 r0_46) : Vec Ideal S128x128 .bf16) z
    = tile x0 x1 x2 x3 x4 (r0_46.emb z) := by
  idx_vars z
  refine Eq.trans ?_ (tile_at x0 x1 x2 x3 x4 384 1024 3 8 (by omega) (by omega) rfl rfl z0 z1 _ ((ValueKit.rect_emb_unit_val _ _ _ _ _).trans rfl) ((ValueKit.rect_emb_unit_val _ _ _ _ _).trans rfl)).symm
  pointwise [k0_pay63, k0_pay58, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece45 (z : r0_45.shape.Idx) : (k0_pay62 (k0_pay61 (k0_pay82 x0 x1 x2 x3 x4) (View.ld x3 r0_42) (View.ld x4 r0_42)) (View.ld x0 r0_45) : Vec Ideal S128x128 .bf16) z
    = tile x0 x1 x2 x3 x4 (r0_45.emb z) := by
  idx_vars z
  refine Eq.trans ?_ (tile_at x0 x1 x2 x3 x4 256 1024 2 8 (by omega) (by omega) rfl rfl z0 z1 _ ((ValueKit.rect_emb_unit_val _ _ _ _ _).trans rfl) ((ValueKit.rect_emb_unit_val _ _ _ _ _).trans rfl)).symm
  pointwise [k0_pay62, k0_pay61, k0_pay82, k0_pay58, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece44 (z : r0_44.shape.Idx) : (k0_pay60 (k0_pay82 x0 x1 x2 x3 x4) (View.ld x3 r0_42) (View.ld x4 r0_42) (View.ld x0 r0_44) : Vec Ideal S128x128 .bf16) z
    = tile x0 x1 x2 x3 x4 (r0_44.emb z) := by
  idx_vars z
  refine Eq.trans ?_ (tile_at x0 x1 x2 x3 x4 128 1024 1 8 (by omega) (by omega) rfl rfl z0 z1 _ ((ValueKit.rect_emb_unit_val _ _ _ _ _).trans rfl) ((ValueKit.rect_emb_unit_val _ _ _ _ _).trans rfl)).symm
  pointwise [k0_pay60, k0_pay82, k0_pay58, norm_at]

theorem piece43 (z : r0_43.shape.Idx) : (k0_pay59 (k0_pay82 x0 x1 x2 x3 x4) (View.ld x3 r0_42) (View.ld x4 r0_42) (View.ld x0 r0_43) : Vec Ideal S128x128 .bf16) z
    = tile x0 x1 x2 x3 x4 (r0_43.emb z) := by
  idx_vars z
  refine Eq.trans ?_ (tile_at x0 x1 x2 x3 x4 0 1024 0 8 (by omega) (by omega) rfl rfl z0 z1 _ ((ValueKit.rect_emb_unit_val _ _ _ _ _).trans rfl) ((ValueKit.rect_emb_unit_val _ _ _ _ _).trans rfl)).symm
  pointwise [k0_pay59, k0_pay82, k0_pay58, norm_at]

theorem piece41 (z : r0_41.shape.Idx) : (k0_pay57 (k0_pay56 (k0_pay88 x0 x1 x2 x3 x4) (View.ld x4 r0_37) (View.ld x0 r0_41)) : Vec Ideal S128x128 .bf16) z
    = tile x0 x1 x2 x3 x4 (r0_41.emb z) := by
  idx_vars z
  refine Eq.trans ?_ (tile_at x0 x1 x2 x3 x4 384 896 3 7 (by omega) (by omega) rfl rfl z0 z1 _ ((ValueKit.rect_emb_unit_val _ _ _ _ _).trans rfl) ((ValueKit.rect_emb_unit_val _ _ _ _ _).trans rfl)).symm
  pointwise [k0_pay57, k0_pay56, k0_pay88, k0_pay51, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece40 (z : r0_40.shape.Idx) : (k0_pay55 (k0_pay88 x0 x1 x2 x3 x4) (View.ld x4 r0_37) (View.ld x0 r0_40) : Vec Ideal S128x128 .bf16) z
    = tile x0 x1 x2 x3 x4 (r0_40.emb z) := by
  idx_vars z
  refine Eq.trans ?_ (tile_at x0 x1 x2 x3 x4 256 896 2 7 (by omega) (by omega) rfl rfl z0 z1 _ ((ValueKit.rect_emb_unit_val _ _ _ _ _).trans rfl) ((ValueKit.rect_emb_unit_val _ _ _ _ _).trans rfl)).symm
  pointwise [k0_pay55, k0_pay88, k0_pay51, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece39 (z : r0_39.shape.Idx) : (k0_pay54 (k0_pay88 x0 x1 x2 x3 x4) (View.ld x4 r0_37) (View.ld x0 r0_39) : Vec Ideal S128x128 .bf16) z
    = tile x0 x1 x2 x3 x4 (r0_39.emb z) := by
  idx_vars z
  refine Eq.trans ?_ (tile_at x0 x1 x2 x3 x4 128 896 1 7 (by omega) (by omega) rfl rfl z0 z1 _ ((ValueKit.rect_emb_unit_val _ _ _ _ _).trans rfl) ((ValueKit.rect_emb_unit_val _ _ _ _ _).trans rfl)).symm
  pointwise [k0_pay54, k0_pay88, k0_pay51, k0_pay82, norm_at]

theorem piece38 (z : r0_38.shape.Idx) : (k0_pay53 (k0_pay52 (k0_pay82 x0 x1 x2 x3 x4) (View.ld x3 r0_37)) (View.ld x4 r0_37) (View.ld x0 r0_38) : Vec Ideal S128x128 .bf16) z
    = tile x0 x1 x2 x3 x4 (r0_38.emb z) := by
  idx_vars z
  refine Eq.trans ?_ (tile_at x0 x1 x2 x3 x4 0 896 0 7 (by omega) (by omega) rfl rfl z0 z1 _ ((ValueKit.rect_emb_unit_val _ _ _ _ _).trans rfl) ((ValueKit.rect_emb_unit_val _ _ _ _ _).trans rfl)).symm
  pointwise [k0_pay53, k0_pay52, k0_pay82, k0_pay51, norm_at]

theorem piece36 (z : r0_36.shape.Idx) : (k0_pay50 (k0_pay87 x0 x1 x2 x3 x4) (View.ld x4 r0_32) (View.ld x0 r0_36) : Vec Ideal S128x128 .bf16) z
    = tile x0 x1 x2 x3 x4 (r0_36.emb z) := by
  idx_vars z
  refine Eq.trans ?_ (tile_at x0 x1 x2 x3 x4 384 768 3 6 (by omega) (by omega) rfl rfl z0 z1 _ ((ValueKit.rect_emb_unit_val _ _ _ _ _).trans rfl) ((ValueKit.rect_emb_unit_val _ _ _ _ _).trans rfl)).symm
  pointwise [k0_pay50, k0_pay87, k0_pay44, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece35 (z : r0_35.shape.Idx) : (k0_pay49 (k0_pay87 x0 x1 x2 x3 x4) (View.ld x4 r0_32) (View.ld x0 r0_35) : Vec Ideal S128x128 .bf16) z
    = tile x0 x1 x2 x3 x4 (r0_35.emb z) := by
  idx_vars z
  refine Eq.trans ?_ (tile_at x0 x1 x2 x3 x4 256 768 2 6 (by omega) (by omega) rfl rfl z0 z1 _ ((ValueKit.rect_emb_unit_val _ _ _ _ _).trans rfl) ((ValueKit.rect_emb_unit_val _ _ _ _ _).trans rfl)).symm
  pointwise [k0_pay49, k0_pay87, k0_pay44, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece34 (z : r0_34.shape.Idx) : (k0_pay48 (k0_pay46 (k0_pay82 x0 x1 x2 x3 x4) (View.ld x3 r0_32)) (k0_pay47 (View.ld x4 r0_32)) (View.ld x0 r0_34) : Vec Ideal S128x128 .bf16) z
    = tile x0 x1 x2 x3 x4 (r0_34.emb z) := by
  idx_vars z
  refine Eq.trans ?_ (tile_at x0 x1 x2 x3 x4 128 768 1 6 (by omega) (by omega) rfl rfl z0 z1 _ ((ValueKit.rect_emb_unit_val _ _ _ _ _).trans rfl) ((ValueKit.rect_emb_unit_val _ _ _ _ _).trans rfl)).symm
  pointwise [k0_pay48, k0_pay46, k0_pay82, k0_pay47, k0_pay44, norm_at]

theorem piece33 (z : r0_33.shape.Idx) : (k0_pay45 (k0_pay82 x0 x1 x2 x3 x4) (View.ld x3 r0_32) (View.ld x4 r0_32) (View.ld x0 r0_33) : Vec Ideal S128x128 .bf16) z
    = tile x0 x1 x2 x3 x4 (r0_33.emb z) := by
  idx_vars z
  refine Eq.trans ?_ (tile_at x0 x1 x2 x3 x4 0 768 0 6 (by omega) (by omega) rfl rfl z0 z1 _ ((ValueKit.rect_emb_unit_val _ _ _ _ _).trans rfl) ((ValueKit.rect_emb_unit_val _ _ _ _ _).trans rfl)).symm
  pointwise [k0_pay45, k0_pay82, k0_pay44, norm_at]

theorem piece31 (z : r0_31.shape.Idx) : (k0_pay43 (k0_pay38 (k0_pay82 x0 x1 x2 x3 x4) (View.ld x3 r0_27)) (View.ld x4 r0_27) (View.ld x0 r0_31) : Vec Ideal S128x128 .bf16) z
    = tile x0 x1 x2 x3 x4 (r0_31.emb z) := by
  idx_vars z
  refine Eq.trans ?_ (tile_at x0 x1 x2 x3 x4 384 640 3 5 (by omega) (by omega) rfl rfl z0 z1 _ ((ValueKit.rect_emb_unit_val _ _ _ _ _).trans rfl) ((ValueKit.rect_emb_unit_val _ _ _ _ _).trans rfl)).symm
  pointwise [k0_pay43, k0_pay38, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece30 (z : r0_30.shape.Idx) : (k0_pay42 (k0_pay41 (k0_pay82 x0 x1 x2 x3 x4) (View.ld x3 r0_27) (View.ld x4 r0_27)) (View.ld x0 r0_30) : Vec Ideal S128x128 .bf16) z
    = tile x0 x1 x2 x3 x4 (r0_30.emb z) := by
  idx_vars z
  refine Eq.trans ?_ (tile_at x0 x1 x2 x3 x4 256 640 2 5 (by omega) (by omega) rfl rfl z0 z1 _ ((ValueKit.rect_emb_unit_val _ _ _ _ _).trans rfl) ((ValueKit.rect_emb_unit_val _ _ _ _ _).trans rfl)).symm
  pointwise [k0_pay42, k0_pay41, k0_pay82, k0_pay38, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece29 (z : r0_29.shape.Idx) : (k0_pay40 (k0_pay82 x0 x1 x2 x3 x4) (View.ld x3 r0_27) (View.ld x4 r0_27) (View.ld x0 r0_29) : Vec Ideal S128x128 .bf16) z
    = tile x0 x1 x2 x3 x4 (r0_29.emb z) := by
  idx_vars z
  refine Eq.trans ?_ (tile_at x0 x1 x2 x3 x4 128 640 1 5 (by omega) (by omega) rfl rfl z0 z1 _ ((ValueKit.rect_emb_unit_val _ _ _ _ _).trans rfl) ((ValueKit.rect_emb_unit_val _ _ _ _ _).trans rfl)).symm
  pointwise [k0_pay40, k0_pay82, k0_pay38, norm_at]

theorem piece28 (z : r0_28.shape.Idx) : (k0_pay39 (k0_pay82 x0 x1 x2 x3 x4) (View.ld x3 r0_27) (View.ld x4 r0_27) (View.ld x0 r0_28) : Vec Ideal S128x128 .bf16) z
    = tile x0 x1 x2 x3 x4 (r0_28.emb z) := by
  idx_vars z
  refine Eq.trans ?_ (tile_at x0 x1 x2 x3 x4 0 640 0 5 (by omega) (by omega) rfl rfl z0 z1 _ ((ValueKit.rect_emb_unit_val _ _ _ _ _).trans rfl) ((ValueKit.rect_emb_unit_val _ _ _ _ _).trans rfl)).symm
  pointwise [k0_pay39, k0_pay82, k0_pay38, norm_at]

theorem piece26 (z : r0_26.shape.Idx) : (k0_pay37 (k0_pay36 (k0_pay86 x0 x1 x2 x3 x4) (View.ld x4 r0_22) (View.ld x0 r0_26)) : Vec Ideal S128x128 .bf16) z
    = tile x0 x1 x2 x3 x4 (r0_26.emb z) := by
  idx_vars z
  refine Eq.trans ?_ (tile_at x0 x1 x2 x3 x4 384 512 3 4 (by omega) (by omega) rfl rfl z0 z1 _ ((ValueKit.rect_emb_unit_val _ _ _ _ _).trans rfl) ((ValueKit.rect_emb_unit_val _ _ _ _ _).trans rfl)).symm
  pointwise [k0_pay37, k0_pay36, k0_pay86, k0_pay31, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece25 (z : r0_25.shape.Idx) : (k0_pay35 (k0_pay86 x0 x1 x2 x3 x4) (View.ld x4 r0_22) (View.ld x0 r0_25) : Vec Ideal S128x128 .bf16) z
    = tile x0 x1 x2 x3 x4 (r0_25.emb z) := by
  idx_vars z
  refine Eq.trans ?_ (tile_at x0 x1 x2 x3 x4 256 512 2 4 (by omega) (by omega) rfl rfl z0 z1 _ ((ValueKit.rect_emb_unit_val _ _ _ _ _).trans rfl) ((ValueKit.rect_emb_unit_val _ _ _ _ _).trans rfl)).symm
  pointwise [k0_pay35, k0_pay86, k0_pay31, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece24 (z : r0_24.shape.Idx) : (k0_pay34 (k0_pay86 x0 x1 x2 x3 x4) (View.ld x4 r0_22) (View.ld x0 r0_24) : Vec Ideal S128x128 .bf16) z
    = tile x0 x1 x2 x3 x4 (r0_24.emb z) := by
  idx_vars z
  refine Eq.trans ?_ (tile_at x0 x1 x2 x3 x4 128 512 1 4 (by omega) (by omega) rfl rfl z0 z1 _ ((ValueKit.rect_emb_unit_val _ _ _ _ _).trans rfl) ((ValueKit.rect_emb_unit_val _ _ _ _ _).trans rfl)).symm
  pointwise [k0_pay34, k0_pay86, k0_pay31, k0_pay82, norm_at]

theorem piece23 (z : r0_23.shape.Idx) : (k0_pay33 (k0_pay32 (k0_pay82 x0 x1 x2 x3 x4) (View.ld x3 r0_22)) (View.ld x4 r0_22) (View.ld x0 r0_23) : Vec Ideal S128x128 .bf16) z
    = tile x0 x1 x2 x3 x4 (r0_23.emb z) := by
  idx_vars z
  refine Eq.trans ?_ (tile_at x0 x1 x2 x3 x4 0 512 0 4 (by omega) (by omega) rfl rfl z0 z1 _ ((ValueKit.rect_emb_unit_val _ _ _ _ _).trans rfl) ((ValueKit.rect_emb_unit_val _ _ _ _ _).trans rfl)).symm
  pointwise [k0_pay33, k0_pay32, k0_pay82, k0_pay31, norm_at]

theorem piece21 (z : r0_21.shape.Idx) : (k0_pay30 (k0_pay85 x0 x1 x2 x3 x4) (View.ld x4 r0_17) (View.ld x0 r0_21) : Vec Ideal S128x128 .bf16) z
    = tile x0 x1 x2 x3 x4 (r0_21.emb z) := by
  idx_vars z
  refine Eq.trans ?_ (tile_at x0 x1 x2 x3 x4 384 384 3 3 (by omega) (by omega) rfl rfl z0 z1 _ ((ValueKit.rect_emb_unit_val _ _ _ _ _).trans rfl) ((ValueKit.rect_emb_unit_val _ _ _ _ _).trans rfl)).symm
  pointwise [k0_pay30, k0_pay85, k0_pay24, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece20 (z : r0_20.shape.Idx) : (k0_pay29 (k0_pay85 x0 x1 x2 x3 x4) (View.ld x4 r0_17) (View.ld x0 r0_20) : Vec Ideal S128x128 .bf16) z
    = tile x0 x1 x2 x3 x4 (r0_20.emb z) := by
  idx_vars z
  refine Eq.trans ?_ (tile_at x0 x1 x2 x3 x4 256 384 2 3 (by omega) (by omega) rfl rfl z0 z1 _ ((ValueKit.rect_emb_unit_val _ _ _ _ _).trans rfl) ((ValueKit.rect_emb_unit_val _ _ _ _ _).trans rfl)).symm
  pointwise [k0_pay29, k0_pay85, k0_pay24, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece19 (z : r0_19.shape.Idx) : (k0_pay28 (k0_pay26 (k0_pay82 x0 x1 x2 x3 x4) (View.ld x3 r0_17)) (k0_pay27 (View.ld x4 r0_17)) (View.ld x0 r0_19) : Vec Ideal S128x128 .bf16) z
    = tile x0 x1 x2 x3 x4 (r0_19.emb z) := by
  idx_vars z
  refine Eq.trans ?_ (tile_at x0 x1 x2 x3 x4 128 384 1 3 (by omega) (by omega) rfl rfl z0 z1 _ ((ValueKit.rect_emb_unit_val _ _ _ _ _).trans rfl) ((ValueKit.rect_emb_unit_val _ _ _ _ _).trans rfl)).symm
  pointwise [k0_pay28, k0_pay26, k0_pay82, k0_pay27, k0_pay24, norm_at]

theorem piece18 (z : r0_18.shape.Idx) : (k0_pay25 (k0_pay82 x0 x1 x2 x3 x4) (View.ld x3 r0_17) (View.ld x4 r0_17) (View.ld x0 r0_18) : Vec Ideal S128x128 .bf16) z
    = tile x0 x1 x2 x3 x4 (r0_18.emb z) := by
  idx_vars z
  refine Eq.trans ?_ (tile_at x0 x1 x2 x3 x4 0 384 0 3 (by omega) (by omega) rfl rfl z0 z1 _ ((ValueKit.rect_emb_unit_val _ _ _ _ _).trans rfl) ((ValueKit.rect_emb_unit_val _ _ _ _ _).trans rfl)).symm
  pointwise [k0_pay25, k0_pay82, k0_pay24, norm_at]

theorem piece16 (z : r0_16.shape.Idx) : (k0_pay23 (k0_pay18 (k0_pay82 x0 x1 x2 x3 x4) (View.ld x3 r0_12)) (View.ld x4 r0_12) (View.ld x0 r0_16) : Vec Ideal S128x128 .bf16) z
    = tile x0 x1 x2 x3 x4 (r0_16.emb z) := by
  idx_vars z
  refine Eq.trans ?_ (tile_at x0 x1 x2 x3 x4 384 256 3 2 (by omega) (by omega) rfl rfl z0 z1 _ ((ValueKit.rect_emb_unit_val _ _ _ _ _).trans rfl) ((ValueKit.rect_emb_unit_val _ _ _ _ _).trans rfl)).symm
  pointwise [k0_pay23, k0_pay18, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece15 (z : r0_15.shape.Idx) : (k0_pay22 (k0_pay21 (k0_pay82 x0 x1 x2 x3 x4) (View.ld x3 r0_12) (View.ld x4 r0_12)) (View.ld x0 r0_15) : Vec Ideal S128x128 .bf16) z
    = tile x0 x1 x2 x3 x4 (r0_15.emb z) := by
  idx_vars z
  refine Eq.trans ?_ (tile_at x0 x1 x2 x3 x4 256 256 2 2 (by omega) (by omega) rfl rfl z0 z1 _ ((ValueKit.rect_emb_unit_val _ _ _ _ _).trans rfl) ((ValueKit.rect_emb_unit_val _ _ _ _ _).trans rfl)).symm
  pointwise [k0_pay22, k0_pay21, k0_pay82, k0_pay18, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece14 (z : r0_14.shape.Idx) : (k0_pay20 (k0_pay82 x0 x1 x2 x3 x4) (View.ld x3 r0_12) (View.ld x4 r0_12) (View.ld x0 r0_14) : Vec Ideal S128x128 .bf16) z
    = tile x0 x1 x2 x3 x4 (r0_14.emb z) := by
  idx_vars z
  refine Eq.trans ?_ (tile_at x0 x1 x2 x3 x4 128 256 1 2 (by omega) (by omega) rfl rfl z0 z1 _ ((ValueKit.rect_emb_unit_val _ _ _ _ _).trans rfl) ((ValueKit.rect_emb_unit_val _ _ _ _ _).trans rfl)).symm
  pointwise [k0_pay20, k0_pay82, k0_pay18, norm_at]

theorem piece13 (z : r0_13.shape.Idx) : (k0_pay19 (k0_pay82 x0 x1 x2 x3 x4) (View.ld x3 r0_12) (View.ld x4 r0_12) (View.ld x0 r0_13) : Vec Ideal S128x128 .bf16) z
    = tile x0 x1 x2 x3 x4 (r0_13.emb z) := by
  idx_vars z
  refine Eq.trans ?_ (tile_at x0 x1 x2 x3 x4 0 256 0 2 (by omega) (by omega) rfl rfl z0 z1 _ ((ValueKit.rect_emb_unit_val _ _ _ _ _).trans rfl) ((ValueKit.rect_emb_unit_val _ _ _ _ _).trans rfl)).symm
  pointwise [k0_pay19, k0_pay82, k0_pay18, norm_at]

theorem piece11 (z : r0_11.shape.Idx) : (k0_pay17 (k0_pay16 (k0_pay84 x0 x1 x2 x3 x4) (View.ld x4 r0_7) (View.ld x0 r0_11)) : Vec Ideal S128x128 .bf16) z
    = tile x0 x1 x2 x3 x4 (r0_11.emb z) := by
  idx_vars z
  refine Eq.trans ?_ (tile_at x0 x1 x2 x3 x4 384 128 3 1 (by omega) (by omega) rfl rfl z0 z1 _ ((ValueKit.rect_emb_unit_val _ _ _ _ _).trans rfl) ((ValueKit.rect_emb_unit_val _ _ _ _ _).trans rfl)).symm
  pointwise [k0_pay17, k0_pay16, k0_pay84, k0_pay11, k0_pay82, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece10 (z : r0_10.shape.Idx) : (k0_pay15 (k0_pay84 x0 x1 x2 x3 x4) (View.ld x4 r0_7) (View.ld x0 r0_10) : Vec Ideal S128x128 .bf16) z
    = tile x0 x1 x2 x3 x4 (r0_10.emb z) := by
  idx_vars z
  refine Eq.trans ?_ (tile_at x0 x1 x2 x3 x4 256 128 2 1 (by omega) (by omega) rfl rfl z0 z1 _ ((ValueKit.rect_emb_unit_val _ _ _ _ _).trans rfl) ((ValueKit.rect_emb_unit_val _ _ _ _ _).trans rfl)).symm
  pointwise [k0_pay15, k0_pay84, k0_pay11, k0_pay82, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece9 (z : r0_9.shape.Idx) : (k0_pay14 (k0_pay84 x0 x1 x2 x3 x4) (View.ld x4 r0_7) (View.ld x0 r0_9) : Vec Ideal S128x128 .bf16) z
    = tile x0 x1 x2 x3 x4 (r0_9.emb z) := by
  idx_vars z
  refine Eq.trans ?_ (tile_at x0 x1 x2 x3 x4 128 128 1 1 (by omega) (by omega) rfl rfl z0 z1 _ ((ValueKit.rect_emb_unit_val _ _ _ _ _).trans rfl) ((ValueKit.rect_emb_unit_val _ _ _ _ _).trans rfl)).symm
  pointwise [k0_pay14, k0_pay84, k0_pay11, k0_pay82, norm_at]

theorem piece8 (z : r0_8.shape.Idx) : (k0_pay13 (k0_pay12 (k0_pay82 x0 x1 x2 x3 x4) (View.ld x3 r0_7)) (View.ld x4 r0_7) (View.ld x0 r0_8) : Vec Ideal S128x128 .bf16) z
    = tile x0 x1 x2 x3 x4 (r0_8.emb z) := by
  idx_vars z
  refine Eq.trans ?_ (tile_at x0 x1 x2 x3 x4 0 128 0 1 (by omega) (by omega) rfl rfl z0 z1 _ ((ValueKit.rect_emb_unit_val _ _ _ _ _).trans rfl) ((ValueKit.rect_emb_unit_val _ _ _ _ _).trans rfl)).symm
  pointwise [k0_pay13, k0_pay12, k0_pay82, k0_pay11, norm_at]

theorem piece6 (z : r0_6.shape.Idx) : (k0_pay10 (k0_pay83 x0 x1 x2 x3 x4) (View.ld x4 r0_2) (View.ld x0 r0_6) : Vec Ideal S128x128 .bf16) z
    = tile x0 x1 x2 x3 x4 (r0_6.emb z) := by
  idx_vars z
  refine Eq.trans ?_ (tile_at x0 x1 x2 x3 x4 384 0 3 0 (by omega) (by omega) rfl rfl z0 z1 _ ((ValueKit.rect_emb_unit_val _ _ _ _ _).trans rfl) ((ValueKit.rect_emb_unit_val _ _ _ _ _).trans rfl)).symm
  pointwise [k0_pay10, k0_pay83, k0_pay4, norm_at]
  refine congrArg (fun w : EReal => _ * (w + _)) (Finset.sum_congr (M := EReal) rfl fun k _ => ?_)
  rw [dif_neg (by omega), dif_neg (by omega), dif_neg (by omega)]
  exact congrArg (fun w => _ * rmsRow _ _ w) (Fin.ext (by dsimp only; omega))

theorem piece5 (z : r0_5.shape.Idx) : (k0_pay9 (k0_pay83 x0 x1 x2 x3 x4) (View.ld x4 r0_2) (View.ld x0 r0_5) : Vec Ideal S128x128 .bf16) z
    = tile x0 x1 x2 x3 x4 (r0_5.emb z) := by
  idx_vars z
  refine Eq.trans ?_ (tile_at x0 x1 x2 x3 x4 256 0 2 0 (by omega) (by omega) rfl rfl z0 z1 _ ((ValueKit.rect_emb_unit_val _ _ _ _ _).trans rfl) ((ValueKit.rect_emb_unit_val _ _ _ _ _).trans rfl)).symm
  pointwise [k0_pay9, k0_pay83, k0_pay4, norm_at]
  refine congrArg (fun w : EReal => _ * (w + _)) (Finset.sum_congr (M := EReal) rfl fun k _ => ?_)
  rw [dif_neg (by omega), dif_neg (by omega), dif_pos (by omega)]
  exact congrArg (fun w => _ * rmsRow _ _ w) (Fin.ext (by dsimp only; omega))

theorem piece4 (z : r0_4.shape.Idx) : (k0_pay8 (k0_pay6 (View.ld x1 r0_0) (View.ld x2 r0_1) (View.ld x3 r0_2)) (k0_pay7 (View.ld x4 r0_2)) (View.ld x0 r0_4) : Vec Ideal S128x128 .bf16) z
    = tile x0 x1 x2 x3 x4 (r0_4.emb z) := by
  idx_vars z
  refine Eq.trans ?_ (tile_at x0 x1 x2 x3 x4 128 0 1 0 (by omega) (by omega) rfl rfl z0 z1 _ ((ValueKit.rect_emb_unit_val _ _ _ _ _).trans rfl) ((ValueKit.rect_emb_unit_val _ _ _ _ _).trans rfl)).symm
  pointwise [k0_pay8, k0_pay6, k0_pay7, k0_pay4, norm_at]

theorem piece3 (z : r0_3.shape.Idx) : (k0_pay5 (View.ld x1 r0_0) (View.ld x2 r0_1) (View.ld x3 r0_2) (View.ld x4 r0_2) (View.ld x0 r0_3) : Vec Ideal S128x128 .bf16) z
    = tile x0 x1 x2 x3 x4 (r0_3.emb z) := by
  idx_vars z
  refine Eq.trans ?_ (tile_at x0 x1 x2 x3 x4 0 0 0 0 (by omega) (by omega) rfl rfl z0 z1 _ ((ValueKit.rect_emb_unit_val _ _ _ _ _).trans rfl) ((ValueKit.rect_emb_unit_val _ _ _ _ _).trans rfl)).symm
  pointwise [k0_pay5, k0_pay4, norm_at]

/-- What a grid point leaves in its block. -/
theorem body_eq (y : S512x1536.Idx) : out0_5 x0 x1 x2 x3 x4 y = tile x0 x1 x2 x3 x4 y := by
  unfold out0_5
  refine View.canon_apply_of_pieces (tile x0 x1 x2 x3 x4) _ ?_ y (cover0_5 _ _ _ _ _ _ _ _ _ _ _ _ _ _ _ _ _ _ _ _ _ _ _ _ _ _ _ _ _ _ _ _ _ _ _ _ _ _ _ _ _ _ _ _ _ _ _ _ y)
  intro pc hpc
  rcases List.mem_cons.mp hpc with rfl | hpc
  · exact piece61 x0 x1 x2 x3 x4
  rcases List.mem_cons.mp hpc with rfl | hpc
  · exact piece60 x0 x1 x2 x3 x4
  rcases List.mem_cons.mp hpc with rfl | hpc
  · exact piece59 x0 x1 x2 x3 x4
  rcases List.mem_cons.mp hpc with rfl | hpc
  · exact piece58 x0 x1 x2 x3 x4
  rcases List.mem_cons.mp hpc with rfl | hpc
  · exact piece56 x0 x1 x2 x3 x4
  rcases List.mem_cons.mp hpc with rfl | hpc
  · exact piece55 x0 x1 x2 x3 x4
  rcases List.mem_cons.mp hpc with rfl | hpc
  · exact piece54 x0 x1 x2 x3 x4
  rcases List.mem_cons.mp hpc with rfl | hpc
  · exact piece53 x0 x1 x2 x3 x4
  rcases List.mem_cons.mp hpc with rfl | hpc
  · exact piece51 x0 x1 x2 x3 x4
  rcases List.mem_cons.mp hpc with rfl | hpc
  · exact piece50 x0 x1 x2 x3 x4
  rcases List.mem_cons.mp hpc with rfl | hpc
  · exact piece49 x0 x1 x2 x3 x4
  rcases List.mem_cons.mp hpc with rfl | hpc
  · exact piece48 x0 x1 x2 x3 x4
  rcases List.mem_cons.mp hpc with rfl | hpc
  · exact piece46 x0 x1 x2 x3 x4
  rcases List.mem_cons.mp hpc with rfl | hpc
  · exact piece45 x0 x1 x2 x3 x4
  rcases List.mem_cons.mp hpc with rfl | hpc
  · exact piece44 x0 x1 x2 x3 x4
  rcases List.mem_cons.mp hpc with rfl | hpc
  · exact piece43 x0 x1 x2 x3 x4
  rcases List.mem_cons.mp hpc with rfl | hpc
  · exact piece41 x0 x1 x2 x3 x4
  rcases List.mem_cons.mp hpc with rfl | hpc
  · exact piece40 x0 x1 x2 x3 x4
  rcases List.mem_cons.mp hpc with rfl | hpc
  · exact piece39 x0 x1 x2 x3 x4
  rcases List.mem_cons.mp hpc with rfl | hpc
  · exact piece38 x0 x1 x2 x3 x4
  rcases List.mem_cons.mp hpc with rfl | hpc
  · exact piece36 x0 x1 x2 x3 x4
  rcases List.mem_cons.mp hpc with rfl | hpc
  · exact piece35 x0 x1 x2 x3 x4
  rcases List.mem_cons.mp hpc with rfl | hpc
  · exact piece34 x0 x1 x2 x3 x4
  rcases List.mem_cons.mp hpc with rfl | hpc
  · exact piece33 x0 x1 x2 x3 x4
  rcases List.mem_cons.mp hpc with rfl | hpc
  · exact piece31 x0 x1 x2 x3 x4
  rcases List.mem_cons.mp hpc with rfl | hpc
  · exact piece30 x0 x1 x2 x3 x4
  rcases List.mem_cons.mp hpc with rfl | hpc
  · exact piece29 x0 x1 x2 x3 x4
  rcases List.mem_cons.mp hpc with rfl | hpc
  · exact piece28 x0 x1 x2 x3 x4
  rcases List.mem_cons.mp hpc with rfl | hpc
  · exact piece26 x0 x1 x2 x3 x4
  rcases List.mem_cons.mp hpc with rfl | hpc
  · exact piece25 x0 x1 x2 x3 x4
  rcases List.mem_cons.mp hpc with rfl | hpc
  · exact piece24 x0 x1 x2 x3 x4
  rcases List.mem_cons.mp hpc with rfl | hpc
  · exact piece23 x0 x1 x2 x3 x4
  rcases List.mem_cons.mp hpc with rfl | hpc
  · exact piece21 x0 x1 x2 x3 x4
  rcases List.mem_cons.mp hpc with rfl | hpc
  · exact piece20 x0 x1 x2 x3 x4
  rcases List.mem_cons.mp hpc with rfl | hpc
  · exact piece19 x0 x1 x2 x3 x4
  rcases List.mem_cons.mp hpc with rfl | hpc
  · exact piece18 x0 x1 x2 x3 x4
  rcases List.mem_cons.mp hpc with rfl | hpc
  · exact piece16 x0 x1 x2 x3 x4
  rcases List.mem_cons.mp hpc with rfl | hpc
  · exact piece15 x0 x1 x2 x3 x4
  rcases List.mem_cons.mp hpc with rfl | hpc
  · exact piece14 x0 x1 x2 x3 x4
  rcases List.mem_cons.mp hpc with rfl | hpc
  · exact piece13 x0 x1 x2 x3 x4
  rcases List.mem_cons.mp hpc with rfl | hpc
  · exact piece11 x0 x1 x2 x3 x4
  rcases List.mem_cons.mp hpc with rfl | hpc
  · exact piece10 x0 x1 x2 x3 x4
  rcases List.mem_cons.mp hpc with rfl | hpc
  · exact piece9 x0 x1 x2 x3 x4
  rcases List.mem_cons.mp hpc with rfl | hpc
  · exact piece8 x0 x1 x2 x3 x4
  rcases List.mem_cons.mp hpc with rfl | hpc
  · exact piece6 x0 x1 x2 x3 x4
  rcases List.mem_cons.mp hpc with rfl | hpc
  · exact piece5 x0 x1 x2 x3 x4
  rcases List.mem_cons.mp hpc with rfl | hpc
  · exact piece4 x0 x1 x2 x3 x4
  rcases List.mem_cons.mp hpc with rfl | hpc
  · exact piece3 x0 x1 x2 x3 x4
  nomatch hpc

end Cert.MixerKernelIdeal.At
end
-- ==== Proof.MixerEq.lean ====
/-
  The chunked mixer over the prompt: the array the kernel leaves is the reference's.
-/
module

public import proofs.«01_k».proof.Proof.Gen.MixerKernelIdeal.Value
public import proofs.«01_k».proof.Proof.Gen.MixerReferenceIdeal.Read
public import proofs.«01_k».proof.Proof.Gen.MixerReferenceIdeal.Run
public import proofs.«01_k».proof.Defs
public import proofs.«01_k».proof.Proof.MixerTiles
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MixerKernelIdeal.At

open Cert.MixerKernelIdeal Cert.MixerKernelIdeal.Gen Idealize.ShloMosaic Idealize.ShloMosaic.TcCoe

variable (m : (ℓ : Loc nD τ sig) → Buf (Elt Ideal) ℓ)

/-- The gate's rows, both sequences one after the other. -/
def U (c : Dev nD) (r : Fin 8192) (d : Fin 1536) : EReal :=
  (m ((c : Thread nD τ).loc main_arg0) : Vec Ideal S2x4096x1536 .f32) (ix3 ⟨r.val / 4096, by omega⟩ ⟨r.val % 4096, by omega⟩ d)

/-- The values' rows. -/
def VV (c : Dev nD) (r : Fin 8192) (d : Fin 1536) : EReal :=
  (m ((c : Thread nD τ).loc main_arg1) : Vec Ideal S2x4096x1536 .f32) (ix3 ⟨r.val / 4096, by omega⟩ ⟨r.val % 4096, by omega⟩ d)

/-- The norm's weights. -/
def NG (c : Dev nD) (d : Fin 1536) : EReal := (m ((c : Thread nD τ).loc main_arg2) : Vec Ideal S1536 .f32) (ix1 d)

/-- The causal weights of a group: what the reference takes from the full weights. -/
def WM (c : Dev nD) (g : Fin 12) (t s : Fin 128) : EReal :=
  (Cert.MixerReferenceIdeal.Read.val_main_v15 (F := Ideal) (m ((c : Thread nD τ).loc main_arg3)) : Vec Ideal S12x128x128 .f32) (ix3 g t s)

/-- A group's offset at a position of the chunk. -/
def BB (c : Dev nD) (g : Fin 12) (t : Fin 128) : EReal := (m ((c : Thread nD τ).loc main_arg4) : Vec Ideal S12x128 .f32) (ix2 g t)

theorem V_u (c : Dev nD) (r : Fin 8192) (d : Fin 1536) : (V m c main_v6 : Vec Ideal S8192x1536 .f32) (ix2 r d) = U m c r d := by
  unfold U
  unfold_abbrev_sides
  simp only [hostOps0, hostOps0_1, hostOps0_2, hostOps0_3, hostOps0_4, List.flatten_cons, List.flatten_nil, List.cons_append, List.nil_append, List.append_nil]
  after_reads_at

theorem V_v (c : Dev nD) (r : Fin 8192) (d : Fin 1536) : (V m c main_v7 : Vec Ideal S8192x1536 .f32) (ix2 r d) = VV m c r d := by
  unfold VV
  unfold_abbrev_sides
  simp only [hostOps0, hostOps0_1, hostOps0_2, hostOps0_3, hostOps0_4, List.flatten_cons, List.flatten_nil, List.cons_append, List.nil_append, List.append_nil]
  after_reads_at

theorem V_norm (c : Dev nD) (d : Fin 1536) : (V m c main_v8 : Vec Ideal S1x1536 .f32) (ix2 0 d) = NG m c d := by
  unfold NG
  unfold_abbrev_sides
  simp only [hostOps0, hostOps0_1, hostOps0_2, hostOps0_3, hostOps0_4, List.flatten_cons, List.flatten_nil, List.cons_append, List.nil_append, List.append_nil]
  after_reads_at

theorem V_w (c : Dev nD) (g : Fin 12) (t s : Fin 128) : (V m c main_v3 : Vec Ideal S12x128x128 .bf16) (ix3 g t s) = WM m c g t s := by
  unfold WM
  refine Eq.trans ?_ (show Scalar.select (Scalar.select (IntOp.cmpi .sge (IntOp.addi (BitVec.ofNat 32 t.val) 0#32) (BitVec.ofNat 32 s.val)) 1#1 0#1)
    ((m ((c : Thread nD τ).loc main_arg3) : Vec Ideal S12x128x128 .f32) (ix3 g t s)) (id (constant (F := Ideal) S_ .f32 0#32) ix0) = _ from ?_)
  · skip
    unfold_abbrev_sides
    simp only [hostOps0, hostOps0_1, hostOps0_2, hostOps0_3, hostOps0_4, List.flatten_cons, List.flatten_nil, List.cons_append, List.nil_append, List.append_nil]
    after_reads_at
  · symm
    pointwise [Cert.MixerReferenceIdeal.Read.val_main_v15, Cert.MixerReferenceIdeal.Read.val_main_call1_v0, Cert.MixerReferenceIdeal.Read.val_main_call1_v1,
      Cert.MixerReferenceIdeal.Read.val_main_call1_v2, Cert.MixerReferenceIdeal.Read.val_main_cst_2, Cert.MixerReferenceIdeal.Read.val_main_v14,
      Cert.MixerReferenceIdeal.Read.val_main_v13, Cert.MixerReferenceIdeal.Read.val_main_c, Cert.MixerReferenceIdeal.Read.val_main_call0_v0,
      Cert.MixerReferenceIdeal.Read.val_main_call0_v1, Cert.MixerReferenceIdeal.Read.val_main_call0_v2, Cert.MixerReferenceIdeal.Read.val_main_call0_v3,
      Cert.MixerReferenceIdeal.Read.val_main_call0_v4, Cert.MixerReferenceIdeal.Read.val_main_call0_v5, Cert.MixerReferenceIdeal.Read.val_main_call0_c,
      Cert.MixerReferenceIdeal.Read.val_main_call0_c_0]

theorem V_b (c : Dev nD) (g : Fin 12) (t e : Fin 128) : (V m c main_v5 : Vec Ideal S12x128x128 .f32) (ix3 g t e) = BB m c g t := by
  unfold BB
  unfold_abbrev_sides
  simp only [hostOps0, hostOps0_1, hostOps0_2, hostOps0_3, hostOps0_4, List.flatten_cons, List.flatten_nil, List.cons_append, List.nil_append, List.append_nil]
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)

/-- A point's row block. -/
def rb (t : Fin cfg0.N) : Fin 16 := ⟨t.val, t.isLt.trans_eq N_0⟩

theorem blk0 (c : Dev nD) (t : Fin cfg0.N) (p : Fin 512) (d : Fin 1536) :
    (iblk m c 0 t : Vec Ideal S512x1536 .f32) (ix2 p d) = U m c ⟨512 * (rb t).val + p.val, by omega⟩ d := by
  refine Eq.trans ?_ (V_u m c _ d)
  blk_ext [iblk, idx0, rb]

theorem blk1 (c : Dev nD) (t : Fin cfg0.N) (p : Fin 512) (d : Fin 1536) :
    (iblk m c 1 t : Vec Ideal S512x1536 .f32) (ix2 p d) = VV m c ⟨512 * (rb t).val + p.val, by omega⟩ d := by
  refine Eq.trans ?_ (V_v m c _ d)
  blk_ext [iblk, idx1, rb]

theorem blk2 (c : Dev nD) (t : Fin cfg0.N) (d : Fin 1536) :
    (iblk m c 2 t : Vec Ideal S1x1536 .f32) (ix2 0 d) = NG m c d := by
  refine Eq.trans ?_ (V_norm m c d)
  blk_ext [iblk, idx2]

theorem blk3 (c : Dev nD) (t : Fin cfg0.N) (g : Fin 12) (i k : Fin 128) :
    (iblk m c 3 t : Vec Ideal S12x128x128 .bf16) (ix3 g i k) = WM m c g i k := by
  refine Eq.trans ?_ (V_w m c g i k)
  blk_ext [iblk, idx3]

theorem blk4 (c : Dev nD) (t : Fin cfg0.N) (g : Fin 12) (i e : Fin 128) :
    (iblk m c 4 t : Vec Ideal S12x128x128 .f32) (ix3 g i e) = BB m c g i := by
  refine Eq.trans ?_ (V_b m c g i e)
  blk_ext [iblk, idx4]

/-- A result's entry: the gate times the mix of its chunk's normalised rows by its column's group, the offset added. -/
def R (c : Dev nD) (r : Fin 8192) (d : Fin 1536) : EReal :=
  U m c r d * ((∑ k : Fin 128, WM m c ⟨d.val / 128, by omega⟩ ⟨r.val % 128, by omega⟩ k
      * rmsRow (VV m c ⟨128 * (r.val / 128) + k.val, by omega⟩) (NG m c) d)
    + BB m c ⟨d.val / 128, by omega⟩ ⟨r.val % 128, by omega⟩)

/-- The result. -/
def G (c : Dev nD) : Vec Ideal S8192x1536 .bf16 := fun j => R m c (j 0) (j 1)

/-- A point's block of the result. -/
theorem block_at (c : Dev nD) (t : Fin cfg0.N) (p : Fin 512) (d : Fin 1536) :
    tileAt (iblk m c 0 t) (iblk m c 1 t) (iblk m c 2 t) (iblk m c 3 t) (iblk m c 4 t) p d = R m c ⟨512 * (rb t).val + p.val, by omega⟩ d := by
  unfold tileAt R
  simp only [blk0, blk1, blk2, blk3, blk4]
  have g1 : (⟨(512 * (rb t).val + p.val) % 128, by omega⟩ : Fin 128) = ⟨p.val % 128, by omega⟩ :=
    Fin.ext (show (512 * (rb t).val + p.val) % 128 = p.val % 128 by omega)
  have g2 : ∀ k : Fin 128, (⟨128 * ((512 * (rb t).val + p.val) / 128) + k.val, by omega⟩ : Fin 8192)
      = ⟨512 * (rb t).val + (128 * (p.val / 128) + k.val), by omega⟩ :=
    fun k => Fin.ext (show 128 * ((512 * (rb t).val + p.val) / 128) + k.val = 512 * (rb t).val + (128 * (p.val / 128) + k.val) by omega)
  rw [g1]
  refine congrArg (fun w : EReal => _ * (w + _)) (Finset.sum_congr (M := EReal) rfl fun k _ => ?_)
  rw [g2 k]

theorem final (c : Dev nD) : (dats m 0 c).arrAt 5 cfg0.N = G m c := by
  refine (dats m 0 c).arrAt_eq_of_covers 5 _ (by decide +kernel) fun t hf y => ?_
  blk_simp
  rw [after0_5]
  idx_vars y
  refine (body_eq ..).trans ((block_at m c t y0 y1).trans ?_)
  show G m c (ix2 ⟨512 * (rb t).val + y0.val, _⟩ y1) = _
  blk_ext [idx5, rb]

end Cert.MixerKernelIdeal.At

namespace Cert.MixerReferenceIdeal.At

open Cert.MixerReferenceIdeal Cert.MixerReferenceIdeal.Gen Cert.MixerReferenceIdeal.Read Idealize.ShloMosaic Idealize.ShloMosaic.TcCoe

variable (x0 x1 : Vec Ideal S2x4096x1536 .f32) (x2 : Vec Ideal S1536 .f32) (x3 : Vec Ideal S12x128x128 .f32) (x4 : Vec Ideal S12x128 .f32)

open Cert.MixerKernelIdeal.At (rmsRow)

theorem norm_apply (b : Fin 2) (r : Fin 4096) (d : Fin 1536) : (val_main_v12 (F := Ideal) x1 x2 : Vec Ideal S2x4096x1536 .f32) (ix3 b r d)
    = rmsRow (fun k => x1 (ix3 b r k)) (fun k => x2 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rmsRow]

theorem mix_apply (r : Fin 8192) (d : Fin 1536) : (val_main_v26 (F := Ideal) x0 x1 x2 x3 x4 : Vec Ideal S8192x1536 .bf16) (ix2 r d)
    = x0 (ix3 ⟨r.val / 4096, by omega⟩ ⟨r.val % 4096, by omega⟩ d) * ((∑ k : Fin 128,
        (val_main_v15 (F := Ideal) x3 : Vec Ideal S12x128x128 .f32) (ix3 ⟨d.val / 128, by omega⟩ ⟨r.val % 128, by omega⟩ k)
        * (val_main_v12 (F := Ideal) x1 x2 : Vec Ideal S2x4096x1536 .f32) (ix3 ⟨r.val / 4096, by omega⟩ ⟨128 * (r.val % 4096 / 128) + k.val, by omega⟩ d))
      + x4 (ix2 ⟨d.val / 128, by omega⟩ ⟨r.val % 128, by omega⟩)) := by
  pointwise [val_main_v26, val_main_v25, val_main_v24, val_main_v23, val_main_v22, val_main_v21, val_main_v20, val_main_v19, val_main_v18, val_main_v17, val_main_v16]
  have g1 : (⟨r.val % 4096 % 128, by omega⟩ : Fin 128) = ⟨r.val % 128, by omega⟩ := Fin.ext (show r.val % 4096 % 128 = r.val % 128 by omega)
  have g2 : ∀ k : Fin 128, (⟨r.val % 4096 / 128 * 128 + k.val, by omega⟩ : Fin 4096) = ⟨128 * (r.val % 4096 / 128) + k.val, by omega⟩ :=
    fun k => Fin.ext (show r.val % 4096 / 128 * 128 + k.val = 128 * (r.val % 4096 / 128) + k.val by omega)
  rw [g1]
  refine congrArg (fun w : EReal => _ * (w + _)) (Finset.sum_congr (M := EReal) rfl fun k _ => ?_)
  rw [g2 k]
  exact mul_comm _ _

end Cert.MixerReferenceIdeal.At

namespace Cert.Proof.Mixer

open Idealize.ShloMosaic Idealize.ShloMosaic.TcCoe

/-- The mixer's result is the reference's. -/
theorem algebraic : Cert.algebraic_MixerKernelIdeal_MixerReferenceIdeal := by
  pair_intro
  · run_from Cert.MixerKernelIdeal.Value.run_blocks m g
  · run_from Cert.MixerReferenceIdeal.Value.run m' g'
    refine (Cert.MixerReferenceIdeal.Read.val_main_v26_eq _ _ _ _ _).trans ?_
    rw [Cert.MixerKernelIdeal.At.final m c]
    funext j
    idx_vars j
    refine (Cert.MixerReferenceIdeal.At.mix_apply ..).trans ?_
    simp only [Cert.MixerReferenceIdeal.At.norm_apply]
    show _ = Cert.MixerKernelIdeal.At.R m c j0 j1
    unfold Cert.MixerKernelIdeal.At.R
    refine congrArg (fun w : EReal => _ * (w + _)) (Finset.sum_congr (M := EReal) rfl fun k _ => ?_)
    refine congrArg (fun v => _ * Cert.MixerKernelIdeal.At.rmsRow v _ j1) (funext fun q => ?_)
    unfold Cert.MixerKernelIdeal.At.VV
    have g1 : (⟨(128 * (j0.val / 128) + k.val) / 4096, by omega⟩ : Fin 2) = ⟨j0.val / 4096, by omega⟩ :=
      Fin.ext (show (128 * (j0.val / 128) + k.val) / 4096 = j0.val / 4096 by omega)
    have g2 : (⟨(128 * (j0.val / 128) + k.val) % 4096, by omega⟩ : Fin 4096) = ⟨128 * (j0.val % 4096 / 128) + k.val, by omega⟩ :=
      Fin.ext (show (128 * (j0.val / 128) + k.val) % 4096 = 128 * (j0.val % 4096 / 128) + k.val by omega)
    exact congrArg₂ (fun a b => (m (c.tc.loc Cert.MixerKernelIdeal.main_arg1) : Vec Ideal Cert.MixerKernelIdeal.S2x4096x1536 .f32) (ix3 a b q)) g1.symm g2.symm

end Cert.Proof.Mixer
end
-- ==== Proof.MemoryBase.lean ====
/-
  The memory attention: a grid point's block, as one function of its queries, the norm's gains, and the memory's keys and
  values.
-/
module

public import proofs.«01_k».proof.Proof.Gen.MemoryKernelIdeal.Value
public import proofs.«01_k».proof.Proof.Gen.MemoryReferenceIdeal.Read
public import proofs.«01_k».proof.Proof.Gen.MemoryReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MemoryKernelIdeal.At

open Cert.MemoryKernelIdeal Cert.MemoryKernelIdeal.Gen Idealize.ShloMosaic Idealize.ShloMosaic.TcCoe

/-- A query, normalised. -/
def qn (x g : Fin 128 → EReal) (e : Fin 128) : EReal :=
  x e * Ideal.rsqrt (Ideal.div (∑ k : Fin 128, x k * x k) (Ideal.ofBits .f32 0x43000000#32) + Ideal.ofBits .f32 0x358637BD#32) * g e

/-- A query's scores against a head's keys. -/
def score (x g : Fin 128 → EReal) (K : Fin 256 → Fin 128 → EReal) (k : Fin 256) : EReal :=
  (∑ e : Fin 128, qn x g e * K k e) * Ideal.ofBits .f32 0x3DB504F3#32

/-- The greatest score. -/
def top (s : Fin 256 → EReal) : EReal := Finset.fold max (Ideal.ofBits .f32 0xFF800000#32) s Finset.univ

/-- The softmax of the scores. -/
def prob (s : Fin 256 → EReal) (k : Fin 256) : EReal :=
  Ideal.div (Ideal.exp (s k - top s)) (∑ j : Fin 256, Ideal.exp (s j - top s))

/-- One head's attention: the values averaged by the softmax of the scores. -/
def attend (x g : Fin 128 → EReal) (K W : Fin 256 → Fin 128 → EReal) (e : Fin 128) : EReal :=
  ∑ k : Fin 256, prob (score x g K) k * W k e

variable (x0 : Vec Ideal S512x512 .f32) (x1 : Vec Ideal S1x128 .f32) (x2 x3 : Vec Ideal S256x512 .f32)

/-- A row's queries of one head. -/
def qcol (h : Fin 4) (p : Fin 512) (e : Fin 128) : EReal := x0 (ix2 p ⟨128 * h.val + e.val, by omega⟩)

/-- A head's keys, or values. -/
def kcol (h : Fin 4) (k : Fin 256) (e : Fin 128) : EReal := x2 (ix2 k ⟨128 * h.val + e.val, by omega⟩)

/-- The norm's gains. -/
def gain (e : Fin 128) : EReal := x1 (ix2 0 e)

/-- What the body leaves at a row of a head. -/
def tileAt (h : Fin 4) (p : Fin 512) (e : Fin 128) : EReal := attend (qcol x0 h p) (gain x1) (kcol x2 h) (kcol x3 h) e

theorem qcol0 (p : Fin 512) (e : Fin 128) : qcol x0 0 p e = x0 (ix2 p ⟨e.val, by omega⟩) :=
  congrArg (fun d => x0 (ix2 p d)) (Fin.ext (show 128 * 0 + e.val = e.val by omega))

theorem kcol0 (k : Fin 256) (e : Fin 128) : kcol x2 0 k e = x2 (ix2 k ⟨e.val, by omega⟩) :=
  congrArg (fun d => x2 (ix2 k d)) (Fin.ext (show 128 * 0 + e.val = e.val by omega))

theorem qcol1 (p : Fin 512) (e : Fin 128) : qcol x0 1 p e = x0 (ix2 p ⟨128 + e.val, by omega⟩) :=
  congrArg (fun d => x0 (ix2 p d)) (Fin.ext (show 128 * 1 + e.val = 128 + e.val by omega))

theorem kcol1 (k : Fin 256) (e : Fin 128) : kcol x2 1 k e = x2 (ix2 k ⟨128 + e.val, by omega⟩) :=
  congrArg (fun d => x2 (ix2 k d)) (Fin.ext (show 128 * 1 + e.val = 128 + e.val by omega))

theorem qcol2 (p : Fin 512) (e : Fin 128) : qcol x0 2 p e = x0 (ix2 p ⟨256 + e.val, by omega⟩) :=
  congrArg (fun d => x0 (ix2 p d)) (Fin.ext (show 128 * 2 + e.val = 256 + e.val by omega))

theorem kcol2 (k : Fin 256) (e : Fin 128) : kcol x2 2 k e = x2 (ix2 k ⟨256 + e.val, by omega⟩) :=
  congrArg (fun d => x2 (ix2 k d)) (Fin.ext (show 128 * 2 + e.val = 256 + e.val by omega))

theorem qcol3 (p : Fin 512) (e : Fin 128) : qcol x0 3 p e = x0 (ix2 p ⟨384 + e.val, by omega⟩) :=
  congrArg (fun d => x0 (ix2 p d)) (Fin.ext (show 128 * 3 + e.val = 384 + e.val by omega))

theorem kcol3 (k : Fin 256) (e : Fin 128) : kcol x2 3 k e = x2 (ix2 k ⟨384 + e.val, by omega⟩) :=
  congrArg (fun d => x2 (ix2 k d)) (Fin.ext (show 128 * 3 + e.val = 384 + e.val by omega))

theorem tile0 (p : Fin 512) (e : Fin 128) : attend (fun e => x0 (ix2 p ⟨e.val, by omega⟩)) (fun e => x1 (ix2 0 e))
    (fun k e => x2 (ix2 k ⟨e.val, by omega⟩)) (fun k e => x3 (ix2 k ⟨e.val, by omega⟩)) e = tileAt x0 x1 x2 x3 0 p e := by
  unfold tileAt
  rw [show qcol x0 0 p = _ from funext (qcol0 x0 p), show kcol x2 0 = _ from funext fun k => funext (kcol0 x2 k),
    show kcol x3 0 = _ from funext fun k => funext (kcol0 x3 k)]
  rfl

theorem tile1 (p : Fin 512) (e : Fin 128) : attend (fun e => x0 (ix2 p ⟨128 + e.val, by omega⟩)) (fun e => x1 (ix2 0 e))
    (fun k e => x2 (ix2 k ⟨128 + e.val, by omega⟩)) (fun k e => x3 (ix2 k ⟨128 + e.val, by omega⟩)) e = tileAt x0 x1 x2 x3 1 p e := by
  unfold tileAt
  rw [show qcol x0 1 p = _ from funext (qcol1 x0 p), show kcol x2 1 = _ from funext fun k => funext (kcol1 x2 k),
    show kcol x3 1 = _ from funext fun k => funext (kcol1 x3 k)]
  rfl

theorem tile2 (p : Fin 512) (e : Fin 128) : attend (fun e => x0 (ix2 p ⟨256 + e.val, by omega⟩)) (fun e => x1 (ix2 0 e))
    (fun k e => x2 (ix2 k ⟨256 + e.val, by omega⟩)) (fun k e => x3 (ix2 k ⟨256 + e.val, by omega⟩)) e = tileAt x0 x1 x2 x3 2 p e := by
  unfold tileAt
  rw [show qcol x0 2 p = _ from funext (qcol2 x0 p), show kcol x2 2 = _ from funext fun k => funext (kcol2 x2 k),
    show kcol x3 2 = _ from funext fun k => funext (kcol2 x3 k)]
  rfl

theorem tile3 (p : Fin 512) (e : Fin 128) : attend (fun e => x0 (ix2 p ⟨384 + e.val, by omega⟩)) (fun e => x1 (ix2 0 e))
    (fun k e => x2 (ix2 k ⟨384 + e.val, by omega⟩)) (fun k e => x3 (ix2 k ⟨384 + e.val, by omega⟩)) e = tileAt x0 x1 x2 x3 3 p e := by
  unfold tileAt
  rw [show qcol x0 3 p = _ from funext (qcol3 x0 p), show kcol x2 3 = _ from funext fun k => funext (kcol3 x2 k),
    show kcol x3 3 = _ from funext fun k => funext (kcol3 x3 k)]
  rfl

theorem pay5 (p : Fin 512) (e : Fin 128) :
    (k0_pay5 x0 x1 x2 x3 : Vec Ideal S512x128 .f32) (ix2 p e) = tileAt x0 x1 x2 x3 0 p e := by
  refine Eq.trans ?_ (tile0 x0 x1 x2 x3 p e)
  pointwise [k0_pay5, k0_pay1, k0_pay2, k0_pay3, k0_pay4]
  rfl

theorem pay8 (p : Fin 512) (e : Fin 128) :
    (k0_pay8 (k0_pay13 x0 x1 x2 x3) (k0_pay14 x0 x1 x2 x3) (k0_pay15 x0 x1 x2 x3) (k0_pay6 x0) (k0_pay7 x0) : Vec Ideal S512x128 .f32) (ix2 p e) = tileAt x0 x1 x2 x3 1 p e := by
  refine Eq.trans ?_ (tile1 x0 x1 x2 x3 p e)
  pointwise [k0_pay8, k0_pay6, k0_pay7, k0_pay13, k0_pay14, k0_pay15, k0_pay1, k0_pay2, k0_pay3, k0_pay4]
  rfl

theorem pay9 (p : Fin 512) (k : Fin 256) :
    (k0_pay9 (k0_pay12 x0 x1 x2 x3) (k0_pay13 x0 x1 x2 x3) (k0_pay14 x0 x1 x2 x3) : Vec Ideal S512x256 .f32) (ix2 p k)
      = ∑ e : Fin 128, qn (fun e => x0 (ix2 p ⟨256 + e.val, by omega⟩)) (fun e => x1 (ix2 0 e)) e * x2 (ix2 k ⟨256 + e.val, by omega⟩) := by
  pointwise [k0_pay9, k0_pay12, k0_pay13, k0_pay14, k0_pay1, k0_pay2, k0_pay3]
  rfl

variable (y1 : Vec Ideal S512x512 .f32) (y3 : Vec Ideal S1x128 .f32) (y5 y7 : Vec Ideal S256x512 .f32) (y39 y71 : Vec Ideal S512x128 .f32) (y88 y89 : Vec Ideal S512x256 .f32)

theorem pay11_0 (p : Fin 512) (e : Fin 128) :
    (k0_pay11 (F := Ideal) y1 y3 y5 y7 y39 y71 y88 y89 : Vec Ideal S512x512 .bf16) (ix2 p ⟨e.val, by omega⟩) = y39 (ix2 p e) := by
  pointwise [k0_pay11]

theorem pay11_1 (p : Fin 512) (e : Fin 128) :
    (k0_pay11 (F := Ideal) y1 y3 y5 y7 y39 y71 y88 y89 : Vec Ideal S512x512 .bf16) (ix2 p ⟨128 + e.val, by omega⟩) = y71 (ix2 p e) := by
  pointwise [k0_pay11]

theorem pay11_2 (p : Fin 512) (e : Fin 128) :
    (k0_pay11 (F := Ideal) y1 y3 y5 y7 y39 y71 y88 y89 : Vec Ideal S512x512 .bf16) (ix2 p ⟨256 + e.val, by omega⟩)
      = ∑ k : Fin 256, prob (fun k => y88 (ix2 p k) * y89 (ix2 p k)) k * y7 (ix2 k ⟨256 + e.val, by omega⟩) := by
  pointwise [k0_pay11]
  rw [dif_neg (by omega), dif_neg (by omega), dif_pos (by omega)]
  refine Finset.sum_congr (M := EReal) rfl fun k _ => ?_
  exact congrArg (fun d => _ * y7 (ix2 k d)) (Fin.ext (show 256 + (256 + e.val - 128 - 128) = 256 + e.val by omega))

theorem pay11_3 (p : Fin 512) (e : Fin 128) :
    (k0_pay11 (F := Ideal) y1 y3 y5 y7 y39 y71 y88 y89 : Vec Ideal S512x512 .bf16) (ix2 p ⟨384 + e.val, by omega⟩)
      = attend (fun e => y1 (ix2 p ⟨384 + e.val, by omega⟩)) (fun e => y3 (ix2 0 e)) (fun k e => y5 (ix2 k ⟨384 + e.val, by omega⟩)) (fun k e => y7 (ix2 k ⟨384 + e.val, by omega⟩)) e := by
  pointwise [k0_pay11]
  rw [dif_neg (by omega), dif_neg (by omega), dif_neg (by omega)]
  refine Finset.sum_congr (M := EReal) rfl fun k _ => ?_
  exact congrArg (fun d => _ * y7 (ix2 k d)) (Fin.ext (show 384 + (384 + e.val - 128 - 128 - 128) = 384 + e.val by omega))

/-- The block at a row and a head's column. -/
theorem body0 (p : Fin 512) (e : Fin 128) : out0_4 x0 x1 x2 x3 (ix2 p ⟨e.val, by omega⟩) = tileAt x0 x1 x2 x3 0 p e := by
  unfold out0_4
  frame_out
  refine (pay11_0 ..).trans ?_
  exact pay5 x0 x1 x2 x3 p e

theorem body1 (p : Fin 512) (e : Fin 128) : out0_4 x0 x1 x2 x3 (ix2 p ⟨128 + e.val, by omega⟩) = tileAt x0 x1 x2 x3 1 p e := by
  unfold out0_4
  frame_out
  refine (pay11_1 ..).trans ?_
  exact pay8 x0 x1 x2 x3 p e

theorem body2 (p : Fin 512) (e : Fin 128) : out0_4 x0 x1 x2 x3 (ix2 p ⟨256 + e.val, by omega⟩) = tileAt x0 x1 x2 x3 2 p e := by
  refine Eq.trans ?_ (tile2 x0 x1 x2 x3 p e)
  unfold out0_4
  frame_out
  refine (pay11_2 ..).trans ?_
  simp only [pay9]
  pointwise [k0_pay10, k0_pay15, k0_pay4]
  rfl

theorem body3 (p : Fin 512) (e : Fin 128) : out0_4 x0 x1 x2 x3 (ix2 p ⟨384 + e.val, by omega⟩) = tileAt x0 x1 x2 x3 3 p e := by
  refine Eq.trans ?_ (tile3 x0 x1 x2 x3 p e)
  unfold out0_4
  frame_out
  refine (pay11_3 ..).trans ?_
  pointwise [k0_pay12, k0_pay13, k0_pay14, k0_pay15, k0_pay1, k0_pay2, k0_pay3, k0_pay4]

/-- The block at any column. -/
theorem body_eq (p : Fin 512) (d : Fin 512) :
    out0_4 x0 x1 x2 x3 (ix2 p d) = tileAt x0 x1 x2 x3 ⟨d.val / 128, by omega⟩ p ⟨d.val % 128, by omega⟩ := by
  have hd := d.isLt
  obtain h | h | h | h : d.val / 128 = 0 ∨ d.val / 128 = 1 ∨ d.val / 128 = 2 ∨ d.val / 128 = 3 := by omega
  · rw [show (⟨d.val / 128, by omega⟩ : Fin 4) = 0 from Fin.ext h]
    refine Eq.trans (congrArg (fun d => out0_4 x0 x1 x2 x3 (ix2 p d)) (Fin.ext (show d.val = d.val % 128 by omega))) (body0 x0 x1 x2 x3 p ⟨d.val % 128, by omega⟩)
  · rw [show (⟨d.val / 128, by omega⟩ : Fin 4) = 1 from Fin.ext h]
    refine Eq.trans (congrArg (fun d => out0_4 x0 x1 x2 x3 (ix2 p d)) (Fin.ext (show d.val = 128 + d.val % 128 by omega))) (body1 x0 x1 x2 x3 p ⟨d.val % 128, by omega⟩)
  · rw [show (⟨d.val / 128, by omega⟩ : Fin 4) = 2 from Fin.ext h]
    refine Eq.trans (congrArg (fun d => out0_4 x0 x1 x2 x3 (ix2 p d)) (Fin.ext (show d.val = 256 + d.val % 128 by omega))) (body2 x0 x1 x2 x3 p ⟨d.val % 128, by omega⟩)
  · rw [show (⟨d.val / 128, by omega⟩ : Fin 4) = 3 from Fin.ext h]
    refine Eq.trans (congrArg (fun d => out0_4 x0 x1 x2 x3 (ix2 p d)) (Fin.ext (show d.val = 384 + d.val % 128 by omega))) (body3 x0 x1 x2 x3 p ⟨d.val % 128, by omega⟩)

end Cert.MemoryKernelIdeal.At
end
-- ==== Proof.MemoryEq.lean ====
/-
  The memory attention's array is the reference's: a row's head attends over its sequence's keys and values.
-/
module

public import proofs.«01_k».proof.Proof.Gen.MemoryKernelIdeal.Value
public import proofs.«01_k».proof.Proof.Gen.MemoryReferenceIdeal.Read
public import proofs.«01_k».proof.Proof.Gen.MemoryReferenceIdeal.Run
public import proofs.«01_k».proof.Proof.MemoryBase
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MemoryKernelIdeal.At

open Cert.MemoryKernelIdeal Cert.MemoryKernelIdeal.Gen Idealize.ShloMosaic Idealize.ShloMosaic.TcCoe

variable (m : (ℓ : Loc nD τ sig) → Buf (Elt Ideal) ℓ)

/-- The queries, as 8192 rows. -/
def Q (c : Dev nD) (r : Fin 8192) (d : Fin 512) : EReal :=
  (m ((c : Thread nD τ).loc main_arg0) : Vec Ideal S2x4096x512 .f32) (ix3 ⟨r.val / 4096, by omega⟩ ⟨r.val % 4096, by omega⟩ d)

/-- The norm's gains. -/
def NG (c : Dev nD) (e : Fin 128) : EReal := (m ((c : Thread nD τ).loc main_arg1) : Vec Ideal S128 .f32) (ix1 e)

/-- The keys, as 512 rows. -/
def KR (c : Dev nD) (j : Fin 512) (d : Fin 512) : EReal :=
  (m ((c : Thread nD τ).loc main_arg2) : Vec Ideal S2x256x4x128 .f32) (ix4 ⟨j.val / 256, by omega⟩ ⟨j.val % 256, by omega⟩ ⟨d.val / 128, by omega⟩ ⟨d.val % 128, by omega⟩)

/-- The values, as 512 rows. -/
def VR (c : Dev nD) (j : Fin 512) (d : Fin 512) : EReal :=
  (m ((c : Thread nD τ).loc main_arg3) : Vec Ideal S2x256x4x128 .f32) (ix4 ⟨j.val / 256, by omega⟩ ⟨j.val % 256, by omega⟩ ⟨d.val / 128, by omega⟩ ⟨d.val % 128, by omega⟩)

theorem V_q (c : Dev nD) (r : Fin 8192) (d : Fin 512) : (V m c main_v0 : Vec Ideal S8192x512 .f32) (ix2 r d) = Q m c r d := by
  unfold Q
  unfold_abbrev_sides
  after_results
  pointwise

theorem V_g (c : Dev nD) (e : Fin 128) : (V m c main_v1 : Vec Ideal S1x128 .f32) (ix2 0 e) = NG m c e := by
  unfold NG
  unfold_abbrev_sides
  after_results
  pointwise

theorem V_k (c : Dev nD) (j : Fin 512) (d : Fin 512) : (V m c main_v2 : Vec Ideal S512x512 .f32) (ix2 j d) = KR m c j d := by
  unfold KR
  unfold_abbrev_sides
  after_results
  pointwise

theorem V_w (c : Dev nD) (j : Fin 512) (d : Fin 512) : (V m c main_v3 : Vec Ideal S512x512 .f32) (ix2 j d) = VR m c j d := by
  unfold VR
  unfold_abbrev_sides
  after_results
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![t.val / 8, 0] := (by decide +kernel : ∀ t : Fin grid0.N, _)
theorem idx4 : ∀ t : Fin cfg0.N, win0_4.index t = ![t.val, 0] := (by decide +kernel : ∀ t : Fin grid0.N, _)

/-- A point's row block. -/
def rb (t : Fin cfg0.N) : Fin 16 := ⟨t.val, by have := t.isLt.trans_eq N_0; omega⟩

theorem blk0 (c : Dev nD) (t : Fin cfg0.N) (p : Fin 512) (d : Fin 512) :
    (iblk m c 0 t : Vec Ideal S512x512 .f32) (ix2 p d) = Q m c ⟨512 * (rb t).val + p.val, by omega⟩ d := by
  refine Eq.trans ?_ (V_q m c _ d)
  blk_ext [iblk, idx0, rb]

theorem blk1 (c : Dev nD) (t : Fin cfg0.N) (e : Fin 128) :
    (iblk m c 1 t : Vec Ideal S1x128 .f32) (ix2 0 e) = NG m c e := by
  refine Eq.trans ?_ (V_g m c e)
  blk_ext [iblk, idx1]

theorem blk2 (c : Dev nD) (t : Fin cfg0.N) (k : Fin 256) (d : Fin 512) :
    (iblk m c 2 t : Vec Ideal S256x512 .f32) (ix2 k d) = KR m c ⟨256 * ((rb t).val / 8) + k.val, by omega⟩ d := by
  refine Eq.trans ?_ (V_k m c _ d)
  blk_ext [iblk, idx2, rb]

theorem blk3 (c : Dev nD) (t : Fin cfg0.N) (k : Fin 256) (d : Fin 512) :
    (iblk m c 3 t : Vec Ideal S256x512 .f32) (ix2 k d) = VR m c ⟨256 * ((rb t).val / 8) + k.val, by omega⟩ d := by
  refine Eq.trans ?_ (V_w m c _ d)
  blk_ext [iblk, idx3, rb]

/-- The result at a row and a column. -/
def R (c : Dev nD) (r : Fin 8192) (d : Fin 512) : EReal :=
  attend (fun e => Q m c r ⟨d.val / 128 * 128 + e.val, by omega⟩) (NG m c)
    (fun k e => KR m c ⟨256 * (r.val / 4096) + k.val, by omega⟩ ⟨128 * (d.val / 128) + e.val, by omega⟩)
    (fun k e => VR m c ⟨256 * (r.val / 4096) + k.val, by omega⟩ ⟨128 * (d.val / 128) + e.val, by omega⟩) ⟨d.val % 128, by omega⟩

/-- The array the kernel leaves. -/
def G (c : Dev nD) : Vec Ideal S8192x512 .bf16 := fun j => R m c (j 0) (j 1)

theorem block_at (c : Dev nD) (t : Fin cfg0.N) (p : Fin 512) (d : Fin 512) :
    tileAt (iblk m c 0 t) (iblk m c 1 t) (iblk m c 2 t) (iblk m c 3 t) ⟨d.val / 128, by omega⟩ p ⟨d.val % 128, by omega⟩
      = R m c ⟨512 * (rb t).val + p.val, by omega⟩ d := by
  unfold tileAt R
  have eg : gain (iblk m c 1 t) = NG m c := funext fun e => blk1 m c t e
  have eq : qcol (iblk m c 0 t) ⟨d.val / 128, by omega⟩ p = fun e => Q m c ⟨512 * (rb t).val + p.val, by omega⟩ ⟨d.val / 128 * 128 + e.val, by omega⟩ :=
    funext fun e => (blk0 m c t p _).trans (congrArg (fun d => Q m c _ d) (Fin.ext (show 128 * (d.val / 128) + e.val = d.val / 128 * 128 + e.val by omega)))
  have g (k : Fin 256) : (⟨256 * ((rb t).val / 8) + k.val, by omega⟩ : Fin 512) = ⟨256 * ((512 * (rb t).val + p.val) / 4096) + k.val, by omega⟩ :=
    Fin.ext (show 256 * ((rb t).val / 8) + k.val = 256 * ((512 * (rb t).val + p.val) / 4096) + k.val by omega)
  have ek : kcol (iblk m c 2 t) ⟨d.val / 128, by omega⟩ = fun k e => KR m c ⟨256 * ((512 * (rb t).val + p.val) / 4096) + k.val, by omega⟩ ⟨128 * (d.val / 128) + e.val, by omega⟩ :=
    funext fun k => funext fun e => (blk2 m c t k _).trans (congrArg (fun j => KR m c j _) (g k))
  have ew : kcol (iblk m c 3 t) ⟨d.val / 128, by omega⟩ = fun k e => VR m c ⟨256 * ((512 * (rb t).val + p.val) / 4096) + k.val, by omega⟩ ⟨128 * (d.val / 128) + e.val, by omega⟩ :=
    funext fun k => funext fun e => (blk3 m c t k _).trans (congrArg (fun j => VR m c j _) (g k))
  rw [eg, eq, ek, ew]

theorem final (c : Dev nD) : (dats m 0 c).arrAt 4 cfg0.N = G m c := by
  refine (dats m 0 c).arrAt_eq_of_covers 4 _ (by decide +kernel) fun t hf y => ?_
  blk_simp
  rw [after0_4]
  idx_vars y
  refine (body_eq ..).trans ((block_at m c t y0 y1).trans ?_)
  show G m c (ix2 ⟨512 * (rb t).val + y0.val, _⟩ y1) = _
  blk_ext [idx4, rb]

end Cert.MemoryKernelIdeal.At

namespace Cert.MemoryReferenceIdeal.At

open Cert.MemoryReferenceIdeal Cert.MemoryReferenceIdeal.Gen Cert.MemoryReferenceIdeal.Read Idealize.ShloMosaic Idealize.ShloMosaic.TcCoe
open Cert.MemoryKernelIdeal.At (qn score top prob attend)

variable (x0 : Vec Ideal S2x4096x512 .f32) (x1 : Vec Ideal S128 .f32) (x2 x3 : Vec Ideal S2x256x4x128 .f32)

/-- A head's query, normalised. -/
theorem norm_apply (b : Fin 2) (t : Fin 4096) (h : Fin 4) (e : Fin 128) : val_main_v13 (F := Ideal) x0 x1 (ix4 b t h e)
    = qn (fun e => x0 (ix3 b t ⟨h.val * 128 + e.val, by omega⟩)) (fun e => x1 (ix1 e)) e := by
  unfold qn
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The scores. -/
theorem score_apply (b : Fin 2) (h : Fin 4) (t : Fin 4096) (k : Fin 256) : val_main_v16 (F := Ideal) x0 x1 x2 (ix4 b h t k)
    = score (fun e => x0 (ix3 b t ⟨h.val * 128 + e.val, by omega⟩)) (fun e => x1 (ix1 e)) (fun k e => x2 (ix4 b k h e)) k := by
  unfold score
  simp only [← norm_apply]
  pointwise [val_main_v16, val_main_v15, val_main_v14, val_main_cst_2]

theorem max_fold (c : EReal) (s : Fin 256 → EReal) : max c (Finset.fold max c s Finset.univ) = Finset.fold max c s Finset.univ :=
  max_eq_right ((Finset.le_fold_max c).mpr (Or.inl le_rfl))

/-- The greatest of an array's rows. -/
theorem max_apply (y : Vec Ideal S2x4x4096x256 .f32) (b : Fin 2) (h : Fin 4) (t : Fin 4096) :
    (Host.reduce (FloatOps.maximumf (F := Ideal) (φ := .f32)) y (val_main_cst_3 (F := Ideal)) reducesTo_S2x4x4096x256_S2x4x4096_d3 h_S_ :
      Vec Ideal S2x4x4096 .f32) (ix3 b h t) = Finset.fold max (Ideal.ofBits .f32 0xFF800000#32) (fun k => y (ix4 b h t k)) Finset.univ := by
  pointwise [val_main_cst_3]

theorem least_apply (b : Fin 2) (h : Fin 4) (t : Fin 4096) :
    (val_main_v18 (F := Ideal) : Vec Ideal S2x4x4096 .f32) (ix3 b h t) = Ideal.ofBits .f32 0xFF800000#32 := by
  pointwise [val_main_v18, val_main_cst_4]

/-- The greatest score: the reference takes the greatest of −∞ and of it once more. -/
theorem top_apply (b : Fin 2) (h : Fin 4) (t : Fin 4096) : val_main_v19 (F := Ideal) x0 x1 x2 (ix3 b h t)
    = top (fun k => val_main_v16 (F := Ideal) x0 x1 x2 (ix4 b h t k)) := by
  rw [val_main_v19_apply, least_apply]
  unfold val_main_v17
  rw [max_apply]
  exact max_fold _ _

/-- The softmax. -/
theorem prob_apply (b : Fin 2) (h : Fin 4) (t : Fin 4096) (k : Fin 256) : val_main_v27 (F := Ideal) x0 x1 x2 (ix4 b h t k)
    = prob (fun k => val_main_v16 (F := Ideal) x0 x1 x2 (ix4 b h t k)) k := by
  unfold prob
  rw [← top_apply]
  pointwise [val_main_v27, val_main_v26, val_main_v25, val_main_v24, val_main_v23, val_main_v22, val_main_v21, val_main_v20, val_main_cst_5]

/-- The result. -/
theorem out_apply (r : Fin 8192) (d : Fin 512) : (val_main_v31 (F := Ideal) x0 x1 x2 x3 : Vec Ideal S8192x512 .bf16) (ix2 r d)
    = ∑ k : Fin 256, x3 (ix4 ⟨r.val / 4096, by omega⟩ k ⟨d.val / 128, by omega⟩ ⟨d.val % 128, by omega⟩)
      * val_main_v27 (F := Ideal) x0 x1 x2 (ix4 ⟨r.val / 4096, by omega⟩ ⟨d.val / 128, by omega⟩ ⟨r.val % 4096, by omega⟩ k) := by
  pointwise [val_main_v31, val_main_v30, val_main_v29, val_main_v28]

end Cert.MemoryReferenceIdeal.At

namespace Cert.Proof.Memory

open Idealize.ShloMosaic Idealize.ShloMosaic.TcCoe
open Cert.MemoryKernelIdeal Cert.MemoryKernelIdeal.At in
/-- The flattened keys at a sequence's row and a head's column. -/
theorem rows_eq (x : Vec Ideal S2x256x4x128 .f32) (r : Fin 8192) (d : Fin 512) (k : Fin 256) (e : Fin 128) :
    x (ix4 ⟨(256 * (r.val / 4096) + k.val) / 256, by omega⟩ ⟨(256 * (r.val / 4096) + k.val) % 256, by omega⟩
        ⟨(128 * (d.val / 128) + e.val) / 128, by omega⟩ ⟨(128 * (d.val / 128) + e.val) % 128, by omega⟩)
      = x (ix4 ⟨r.val / 4096, by omega⟩ k ⟨d.val / 128, by omega⟩ e) := by
  have g1 : (⟨(256 * (r.val / 4096) + k.val) / 256, by omega⟩ : Fin 2) = ⟨r.val / 4096, by omega⟩ :=
    Fin.ext (show (256 * (r.val / 4096) + k.val) / 256 = r.val / 4096 by omega)
  have g2 : (⟨(256 * (r.val / 4096) + k.val) % 256, by omega⟩ : Fin 256) = k :=
    Fin.ext (show (256 * (r.val / 4096) + k.val) % 256 = k.val by omega)
  have g3 : (⟨(128 * (d.val / 128) + e.val) / 128, by omega⟩ : Fin 4) = ⟨d.val / 128, by omega⟩ :=
    Fin.ext (show (128 * (d.val / 128) + e.val) / 128 = d.val / 128 by omega)
  have g4 : (⟨(128 * (d.val / 128) + e.val) % 128, by omega⟩ : Fin 128) = e :=
    Fin.ext (show (128 * (d.val / 128) + e.val) % 128 = e.val by omega)
  rw [g1, g2, g3, g4]

/-- The memory attention's result is the reference's. -/
theorem algebraic : Cert.algebraic_MemoryKernelIdeal_MemoryReferenceIdeal := by
  pair_intro
  · run_from Cert.MemoryKernelIdeal.Value.run_blocks m g
  · run_from Cert.MemoryReferenceIdeal.Value.run m' g'
    refine (Cert.MemoryReferenceIdeal.Read.val_main_v31_eq _ _).trans ?_
    rw [Cert.MemoryKernelIdeal.At.final m c]
    funext j
    idx_vars j
    refine (Cert.MemoryReferenceIdeal.At.out_apply ..).trans ?_
    simp only [Cert.MemoryReferenceIdeal.At.prob_apply, Cert.MemoryReferenceIdeal.At.score_apply]
    show _ = Cert.MemoryKernelIdeal.At.R m c j0 j1
    unfold Cert.MemoryKernelIdeal.At.R Cert.MemoryKernelIdeal.At.attend
    obtain ⟨h0, h1, h2, h3⟩ := hagree c
    rw [h0, h1, h2, h3]
    refine Finset.sum_congr (M := EReal) rfl fun k _ => (mul_comm (G := EReal) _ _).trans ?_
    refine congrArg₂ (fun y z : EReal => y * z) ?_ (rows_eq _ j0 j1 k ⟨j1.val % 128, by omega⟩).symm
    refine congrArg (fun K => Cert.MemoryKernelIdeal.At.prob (Cert.MemoryKernelIdeal.At.score _ _ K) k) ?_
    exact funext fun k => funext fun e => (rows_eq _ j0 j1 k e).symm

end Cert.Proof.Memory
end
-- ==== Proof.MixerSEq.lean ====
/-
  The chunked mixer's single step: the two arrays the kernel leaves are the gated rows and the normalised values, each
  with rows of zeros after the sequences.
-/
module

public import proofs.«01_k».proof.Proof.Gen.MixerSKernelIdeal.Value
public import proofs.«01_k».proof.Proof.Gen.MixerSReferenceIdeal.Read
public import proofs.«01_k».proof.Proof.Gen.MixerSReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MixerSKernelIdeal.At

open Cert.MixerSKernelIdeal Cert.MixerSKernelIdeal.Gen Idealize.ShloMosaic Idealize.ShloMosaic.TcCoe

variable (m : (ℓ : Loc nD τ sig) → Buf (Elt Ideal) ℓ)

/-- The padding's value. -/
theorem pad_zero : (FloatOps.sitofp (F := Ideal) .f32 (0#32 : BitVec 32) : EReal) = 0 := by
  show (((0#32 : BitVec 32).toInt : ℝ) : EReal) = 0
  simp

/-- The gate's rows, zero after the sequences. -/
def U (c : Dev nD) (r : Fin 16) (d : Fin 1536) : EReal :=
  if h : r.val < 8 then (m ((c : Thread nD τ).loc main_arg0) : Vec Ideal S8x1x1536 .f32) (ix3 ⟨r.val, h⟩ 0 d) else 0

/-- The values' rows, zero after the sequences. -/
def VV (c : Dev nD) (r : Fin 16) (d : Fin 1536) : EReal :=
  if h : r.val < 8 then (m ((c : Thread nD τ).loc main_arg1) : Vec Ideal S8x1x1536 .f32) (ix3 ⟨r.val, h⟩ 0 d) else 0

/-- The norm's weights. -/
def NG (c : Dev nD) (d : Fin 1536) : EReal := (m ((c : Thread nD τ).loc main_arg2) : Vec Ideal S1536 .f32) (ix1 d)

/-- The weight of a column's group at the chunk's first position. -/
def W0 (c : Dev nD) (d : Fin 1536) : EReal :=
  (m ((c : Thread nD τ).loc main_arg3) : Vec Ideal S12x128x128 .f32) (ix3 ⟨d.val / 128, by omega⟩ 0 0)

/-- The offset of a column's group at the chunk's first position. -/
def B0 (c : Dev nD) (d : Fin 1536) : EReal :=
  (m ((c : Thread nD τ).loc main_arg4) : Vec Ideal S12x128 .f32) (ix2 ⟨d.val / 128, by omega⟩ 0)

theorem V_u (c : Dev nD) (r : Fin 16) (d : Fin 1536) : (V m c main_v16 : Vec Ideal S16x1536 .f32) (ix2 r d) = U m c r d := by
  unfold U
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_reads_at
  rw [pad_zero]

theorem V_v (c : Dev nD) (r : Fin 16) (d : Fin 1536) : (V m c main_v18 : Vec Ideal S16x1536 .f32) (ix2 r d) = VV m c r d := by
  unfold VV
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_reads_at
  rw [pad_zero]

theorem V_norm (c : Dev nD) (d : Fin 1536) : (V m c main_v19 : Vec Ideal S1x1536 .f32) (ix2 0 d) = NG m c d := by
  unfold NG
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_reads_at

theorem V_w (c : Dev nD) (d : Fin 1536) : (V m c main_v9 : Vec Ideal S1x1536 .f32) (ix2 0 d) = W0 m c d := by
  unfold W0
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_reads_at
  rfl

theorem V_b (c : Dev nD) (d : Fin 1536) : (V m c main_v14 : Vec Ideal S1x1536 .f32) (ix2 0 d) = B0 m c d := by
  unfold B0
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_reads_at

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem blk0 (c : Dev nD) (t : Fin cfg0.N) (r : Fin 16) (d : Fin 1536) :
    (iblk m c 0 t : Vec Ideal S16x1536 .f32) (ix2 r d) = U m c r d := by
  refine Eq.trans ?_ (V_u m c r d)
  blk_ext [iblk, idx0]

theorem blk1 (c : Dev nD) (t : Fin cfg0.N) (r : Fin 16) (d : Fin 1536) :
    (iblk m c 1 t : Vec Ideal S16x1536 .f32) (ix2 r d) = VV m c r d := by
  refine Eq.trans ?_ (V_v m c r d)
  blk_ext [iblk, idx1]

theorem blk2 (c : Dev nD) (t : Fin cfg0.N) (d : Fin 1536) :
    (iblk m c 2 t : Vec Ideal S1x1536 .f32) (ix2 0 d) = NG m c d := by
  refine Eq.trans ?_ (V_norm m c d)
  blk_ext [iblk, idx2]

theorem blk3 (c : Dev nD) (t : Fin cfg0.N) (d : Fin 1536) :
    (iblk m c 3 t : Vec Ideal S1x1536 .f32) (ix2 0 d) = W0 m c d := by
  refine Eq.trans ?_ (V_w m c d)
  blk_ext [iblk, idx3]

theorem blk4 (c : Dev nD) (t : Fin cfg0.N) (d : Fin 1536) :
    (iblk m c 4 t : Vec Ideal S1x1536 .f32) (ix2 0 d) = B0 m c d := by
  refine Eq.trans ?_ (V_b m c d)
  blk_ext [iblk, idx4]

/-- A row's root mean square norm. -/
def rmsRow (x g : Fin 1536 → EReal) (d : Fin 1536) : EReal :=
  x d * Ideal.rsqrt (Ideal.div (∑ k, x k * x k) (Ideal.ofBits .f32 0x44C00000#32) + Ideal.ofBits .f32 0x358637BD#32) * g d

theorem norm_body (x0 x1 : Vec Ideal S16x1536 .f32) (x2 x3 x4 : Vec Ideal S1x1536 .f32) (r : Fin 16) (d : Fin 1536) :
    out0_6 x0 x1 x2 x3 x4 (ix2 r d) = rmsRow (fun k => x1 (ix2 r k)) (fun k => x2 (ix2 0 k)) d := by
  unfold out0_6
  frame_out
  pointwise [k0_pay1, rmsRow]

theorem mix_body (x0 x1 : Vec Ideal S16x1536 .f32) (x2 x3 x4 : Vec Ideal S1x1536 .f32) (r : Fin 16) (d : Fin 1536) :
    out0_5 x0 x1 x2 x3 x4 (ix2 r d)
      = x0 (ix2 r d) * (rmsRow (fun k => x1 (ix2 r k)) (fun k => x2 (ix2 0 k)) d * x3 (ix2 0 d) + x4 (ix2 0 d)) := by
  unfold out0_5
  frame_out
  pointwise [k0_pay1, k0_pay2, rmsRow]

/-- The normalised values. -/
def GN (c : Dev nD) : Vec Ideal S16x1536 .f32 := fun j => rmsRow (VV m c (j 0)) (NG m c) (j 1)

/-- The gated rows. -/
def GM (c : Dev nD) : Vec Ideal S16x1536 .bf16 := fun j =>
  U m c (j 0) (j 1) * (rmsRow (VV m c (j 0)) (NG m c) (j 1) * W0 m c (j 1) + B0 m c (j 1))

theorem final_norm (c : Dev nD) : (dats m 0 c).arrAt 6 cfg0.N = GN m c := by
  refine (dats m 0 c).arrAt_eq_of_covers 6 _ (by decide +kernel) fun t hf y => ?_
  blk_simp
  rw [after0_6]
  idx_vars y
  refine (norm_body ..).trans ?_
  simp only [blk1, blk2]
  show GN m c (ix2 y0 y1) = _
  blk_ext [idx6]

theorem final_mix (c : Dev nD) : (dats m 0 c).arrAt 5 cfg0.N = GM m c := by
  refine (dats m 0 c).arrAt_eq_of_covers 5 _ (by decide +kernel) fun t hf y => ?_
  blk_simp
  rw [after0_5]
  idx_vars y
  refine (mix_body ..).trans ?_
  simp only [blk0, blk1, blk2, blk3, blk4]
  show GM m c (ix2 y0 y1) = _
  blk_ext [idx5]

end Cert.MixerSKernelIdeal.At

namespace Cert.MixerSReferenceIdeal.At

open Cert.MixerSReferenceIdeal Cert.MixerSReferenceIdeal.Gen Cert.MixerSReferenceIdeal.Read Idealize.ShloMosaic Idealize.ShloMosaic.TcCoe

variable (x0 x1 : Vec Ideal S8x1x1536 .f32) (x2 : Vec Ideal S1536 .f32) (x3 : Vec Ideal S12x128x128 .f32) (x4 : Vec Ideal S12x128 .f32)

open Cert.MixerSKernelIdeal.At (rmsRow)

theorem norm_apply (b : Fin 8) (d : Fin 1536) : (val_main_v12 (F := Ideal) x1 x2 : Vec Ideal S8x1x1536 .f32) (ix3 b 0 d)
    = rmsRow (fun k => x1 (ix3 b 0 k)) (fun k => x2 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rmsRow]

theorem mixed_apply (b : Fin 8) (d : Fin 1536) : (val_main_v25 (F := Ideal) x1 x2 x3 x4 : Vec Ideal S8x1x1536 .f32) (ix3 b 0 d)
    = rmsRow (fun k => x1 (ix3 b 0 k)) (fun k => x2 (ix1 k)) d * x3 (ix3 ⟨d.val / 128, by omega⟩ 0 0) + x4 (ix2 ⟨d.val / 128, by omega⟩ 0) := by
  pointwise [val_main_v25, val_main_v24, val_main_v23, val_main_v22, val_main_v21, val_main_v20, val_main_v19, val_main_v18, val_main_v17,
    val_main_v16, val_main_v15, val_main_v14, val_main_v13, val_main_call1_v0, val_main_call1_v1, val_main_call1_v2, val_main_cst_2,
    val_main_call0_v0, val_main_call0_v1, val_main_call0_v2, val_main_call0_v3, val_main_call0_v4, val_main_call0_v5, val_main_call0_c,
    val_main_call0_c_0, val_main_c]
  refine congrArg (fun y : EReal => y + _) ((Fin.sum_univ_one (M := EReal) _).trans ?_)
  rw [norm_apply]
  rfl

theorem rows_apply (r : Fin 16) (d : Fin 1536) : (val_main_v31 (F := Ideal) x1 x2 : Vec Ideal S16x1536 .f32) (ix2 r d)
    = if h : r.val < 8 then (val_main_v12 (F := Ideal) x1 x2 : Vec Ideal S8x1x1536 .f32) (ix3 ⟨r.val, h⟩ 0 d) else 0 := by
  pointwise [val_main_v31, val_main_v30, val_main_call3_v0, val_main_c_4]
  rw [Cert.MixerSKernelIdeal.At.pad_zero]

theorem mix_apply (r : Fin 16) (d : Fin 1536) : (val_main_v29 (F := Ideal) x0 x1 x2 x3 x4 : Vec Ideal S16x1536 .bf16) (ix2 r d)
    = if h : r.val < 8 then x0 (ix3 ⟨r.val, h⟩ 0 d) * (val_main_v25 (F := Ideal) x1 x2 x3 x4 : Vec Ideal S8x1x1536 .f32) (ix3 ⟨r.val, h⟩ 0 d) else 0 := by
  pointwise [val_main_v29, val_main_v28, val_main_v27, val_main_v26, val_main_call2_v0, val_main_c_3]
  rw [Cert.MixerSKernelIdeal.At.pad_zero]

/-- The reference's gated rows are the kernel's. -/
theorem mix_eq (m : (ℓ : Loc Cert.MixerSKernelIdeal.nD Cert.MixerSKernelIdeal.τ Cert.MixerSKernelIdeal.sig) → Buf (Elt Ideal) ℓ)
    (c : Dev Cert.MixerSKernelIdeal.nD) (r : Fin 16) (d : Fin 1536) :
    (val_main_v29 (F := Ideal) (m ((c : Thread Cert.MixerSKernelIdeal.nD Cert.MixerSKernelIdeal.τ).loc Cert.MixerSKernelIdeal.main_arg0))
      (m ((c : Thread Cert.MixerSKernelIdeal.nD Cert.MixerSKernelIdeal.τ).loc Cert.MixerSKernelIdeal.main_arg1))
      (m ((c : Thread Cert.MixerSKernelIdeal.nD Cert.MixerSKernelIdeal.τ).loc Cert.MixerSKernelIdeal.main_arg2))
      (m ((c : Thread Cert.MixerSKernelIdeal.nD Cert.MixerSKernelIdeal.τ).loc Cert.MixerSKernelIdeal.main_arg3))
      (m ((c : Thread Cert.MixerSKernelIdeal.nD Cert.MixerSKernelIdeal.τ).loc Cert.MixerSKernelIdeal.main_arg4)) : Vec Ideal S16x1536 .bf16) (ix2 r d)
      = Cert.MixerSKernelIdeal.At.GM m c (ix2 r d) := by
  refine (mix_apply ..).trans ?_
  show _ = Cert.MixerSKernelIdeal.At.U m c r d
    * (rmsRow (Cert.MixerSKernelIdeal.At.VV m c r) (Cert.MixerSKernelIdeal.At.NG m c) d * Cert.MixerSKernelIdeal.At.W0 m c d + Cert.MixerSKernelIdeal.At.B0 m c d)
  by_cases h : r.val < 8
  · rw [dif_pos h, mixed_apply]
    have e : Cert.MixerSKernelIdeal.At.VV m c r = fun k => (m ((c : Thread Cert.MixerSKernelIdeal.nD Cert.MixerSKernelIdeal.τ).loc Cert.MixerSKernelIdeal.main_arg1) : Vec Ideal S8x1x1536 .f32) (ix3 ⟨r.val, h⟩ 0 k) := by
      funext k
      exact dif_pos h
    rw [e]
    unfold Cert.MixerSKernelIdeal.At.U
    rw [dif_pos h]
    rfl
  · rw [dif_neg h]
    unfold Cert.MixerSKernelIdeal.At.U
    rw [dif_neg h, zero_mul]

/-- The reference's normalised values are the kernel's. -/
theorem norm_eq (m : (ℓ : Loc Cert.MixerSKernelIdeal.nD Cert.MixerSKernelIdeal.τ Cert.MixerSKernelIdeal.sig) → Buf (Elt Ideal) ℓ)
    (c : Dev Cert.MixerSKernelIdeal.nD) (r : Fin 16) (d : Fin 1536) :
    (val_main_v31 (F := Ideal)
      (m ((c : Thread Cert.MixerSKernelIdeal.nD Cert.MixerSKernelIdeal.τ).loc Cert.MixerSKernelIdeal.main_arg1))
      (m ((c : Thread Cert.MixerSKernelIdeal.nD Cert.MixerSKernelIdeal.τ).loc Cert.MixerSKernelIdeal.main_arg2)) : Vec Ideal S16x1536 .f32) (ix2 r d)
      = Cert.MixerSKernelIdeal.At.GN m c (ix2 r d) := by
  refine (rows_apply ..).trans ?_
  show _ = rmsRow (Cert.MixerSKernelIdeal.At.VV m c r) (Cert.MixerSKernelIdeal.At.NG m c) d
  by_cases h : r.val < 8
  · rw [dif_pos h, norm_apply]
    have e : Cert.MixerSKernelIdeal.At.VV m c r = fun k => (m ((c : Thread Cert.MixerSKernelIdeal.nD Cert.MixerSKernelIdeal.τ).loc Cert.MixerSKernelIdeal.main_arg1) : Vec Ideal S8x1x1536 .f32) (ix3 ⟨r.val, h⟩ 0 k) := by
      funext k
      exact dif_pos h
    rw [e]
    rfl
  · rw [dif_neg h]
    have e : Cert.MixerSKernelIdeal.At.VV m c r = fun _ => 0 := by
      funext k
      exact dif_neg h
    rw [e]
    show 0 = (0 : EReal) * _ * _
    rw [zero_mul, zero_mul]

end Cert.MixerSReferenceIdeal.At

namespace Cert.Proof.MixerS

open Idealize.ShloMosaic Idealize.ShloMosaic.TcCoe

/-- The single step's two results are the reference's. -/
theorem algebraic : Cert.algebraic_MixerSKernelIdeal_MixerSReferenceIdeal := by
  pair_intro
  · run_from Cert.MixerSKernelIdeal.Value.run_blocks m g
  · run_from Cert.MixerSReferenceIdeal.Value.run m' g'
    · refine (Cert.MixerSReferenceIdeal.Read.val_main_v29_eq _ _ _ _ _).trans ?_
      rw [Cert.MixerSKernelIdeal.At.final_mix m c]
      funext j
      idx_vars j
      exact Cert.MixerSReferenceIdeal.At.mix_eq m c j0 j1
    · refine (Cert.MixerSReferenceIdeal.Read.val_main_v31_eq _ _).trans ?_
      rw [Cert.MixerSKernelIdeal.At.final_norm m c]
      funext j
      idx_vars j
      exact Cert.MixerSReferenceIdeal.At.norm_eq m c j0 j1

end Cert.Proof.MixerS
end
-- ==== Proof.FfnSStep.lean ====
/-
  What one grid step of the sample group's feed-forward kernel leaves in its output, in its block of gate rows, in its
  blocks of weight copies and in the scratch of normalised rows, as formulas of the step's input blocks.
-/
module

public import proofs.«01_k».proof.Proof.Gen.FfnSKernelIdeal.Value
public import proofs.«01_k».proof.Proof.FfnStep
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.FfnSKernelIdeal.Step

open Cert.FfnSKernelIdeal Cert.FfnSKernelIdeal.Gen Idealize.ShloMosaic Idealize.ShloMosaic.TcCoe
open Cert.FfnKernelIdeal.Step (rmsRow)

/-- The scratch of normalised rows. -/
def hrows (x0 : Vec Ideal S16x2048 .f32) (x1 : Vec Ideal S1x2048 .f32) : Vec Ideal S16x2048 .bf16 := fun j =>
  rmsRow (fun k => x0 (ix2 (j 0) k)) (fun k => x1 (ix2 0 k)) (j 1)

/-- The product of the normalised rows with a column block of the up projection's weights. -/
def gate (h : Vec Ideal S16x2048 .bf16) (w : Vec Ideal S1x2048x512 .f32) (p : Fin 16) (f : Fin 512) : EReal :=
  ∑ k : Fin 2048, h (ix2 p k) * w (ix3 0 k f)

/-- The gate after the convolution: the bias, the two rows kept from the positions before, and the new row. -/
def conv (h : Vec Ideal S16x2048 .bf16) (wa : Vec Ideal S1x2048x512 .f32) (cw : Vec Ideal S3x512 .f32)
    (cb : Vec Ideal S1x512 .f32) (p0 p1 : Vec Ideal S16x512 .f32) (p : Fin 16) (f : Fin 512) : EReal :=
  cb (ix2 0 f) + p0 (ix2 p f) * cw (ix2 0 f) + p1 (ix2 p f) * cw (ix2 1 f) + gate h wa p f * cw (ix2 2 f)

/-- The gated activations: the convolved gate times its logistic, times the linear half. -/
def act (h : Vec Ideal S16x2048 .bf16) (wa wb : Vec Ideal S1x2048x512 .f32) (cw : Vec Ideal S3x512 .f32)
    (cb : Vec Ideal S1x512 .f32) (p0 p1 : Vec Ideal S16x512 .f32) (p : Fin 16) (f : Fin 512) : EReal :=
  conv h wa cw cb p0 p1 p f * Ideal.logistic (conv h wa cw cb p0 p1 p f) * gate h wb p f

/-- What a step adds to the output. -/
def contrib (h : Vec Ideal S16x2048 .bf16) (wa wb : Vec Ideal S1x2048x512 .f32) (cw : Vec Ideal S3x512 .f32)
    (cb : Vec Ideal S1x512 .f32) (p0 p1 : Vec Ideal S16x512 .f32) (wd : Vec Ideal S1x512x2048 .f32) (p : Fin 16) (d : Fin 2048) : EReal :=
  ∑ f : Fin 512, act h wa wb cw cb p0 p1 p f * wd (ix3 0 f d)

theorem pay4_eq (x0 : Vec Ideal S16x2048 .f32) (x1 : Vec Ideal S1x2048 .f32) : k0_pay4 x0 x1 = hrows x0 x1 := by
  funext j
  idx_vars j
  pointwise [k0_pay4, hrows, rmsRow]

theorem pay5_apply (w : Vec Ideal S1x2048x512 .f32) (k : Fin 2048) (f : Fin 512) : k0_pay5 w (ix2 k f) = w (ix3 0 k f) := by
  pointwise [k0_pay5]

theorem pay6_apply (w : Vec Ideal S1x2048x512 .f32) (k : Fin 2048) (f : Fin 512) : k0_pay6 w (ix2 k f) = w (ix3 0 k f) := by
  pointwise [k0_pay6]

theorem pay7_apply (w : Vec Ideal S1x512x2048 .f32) (f : Fin 512) (d : Fin 2048) : k0_pay7 w (ix2 f d) = w (ix3 0 f d) := by
  pointwise [k0_pay7]

theorem pay8_apply (w : Vec Ideal S1x2048x512 .f32) (h : Vec Ideal S16x2048 .bf16) (p : Fin 16) (f : Fin 512) :
    k0_pay8 w h (ix2 p f) = gate h w p f := by
  pointwise [k0_pay8, k0_pay5, gate]

theorem pay9_apply (w : Vec Ideal S1x2048x512 .f32) (h : Vec Ideal S16x2048 .bf16) (p : Fin 16) (f : Fin 512) :
    k0_pay9 w h (ix2 p f) = gate h w p f := by
  pointwise [k0_pay9, k0_pay6, gate]

theorem pay2_apply (h : Vec Ideal S16x2048 .bf16) (x2 x3 : Vec Ideal S1x2048x512 .f32) (x4 : Vec Ideal S3x512 .f32) (x5 : Vec Ideal S1x512 .f32)
    (x6 x7 : Vec Ideal S16x512 .f32) (x8 : Vec Ideal S1x512x2048 .f32) (o : Vec Ideal S16x2048 .f32) (p : Fin 16) (d : Fin 2048) :
    k0_pay2 (k0_pay7 x8) (k0_pay8 x2 h) (k0_pay9 x3 h) (k0_pay10 x5) (k0_pay11 x6)
      (by exact View.ld (Val := Elt Ideal) x4 (Rect.unit ![0, 0] ![1, 512] inb_S3x512_S1x512_0_0 : Rect S3x512)) x7
      (by exact View.ld (Val := Elt Ideal) x4 (Rect.unit ![1, 0] ![1, 512] inb_S3x512_S1x512_1_0 : Rect S3x512))
      (by exact View.ld (Val := Elt Ideal) x4 (Rect.unit ![2, 0] ![1, 512] inb_S3x512_S1x512_2_0 : Rect S3x512)) o (ix2 p d)
    = o (ix2 p d) + contrib h x2 x3 x4 x5 x6 x7 x8 p d := by
  pointwise [k0_pay2, k0_pay1, k0_pay7, k0_pay8, k0_pay9, k0_pay5, k0_pay6, k0_pay10, k0_pay11, contrib, act, conv, gate]

theorem pay3_apply (h : Vec Ideal S16x2048 .bf16) (x2 x3 : Vec Ideal S1x2048x512 .f32) (x4 : Vec Ideal S3x512 .f32) (x5 : Vec Ideal S1x512 .f32)
    (x6 x7 : Vec Ideal S16x512 .f32) (x8 : Vec Ideal S1x512x2048 .f32) (o : Vec Ideal S16x2048 .f32) (p : Fin 16) (d : Fin 2048) :
    k0_pay3 (k0_pay7 x8) (k0_pay8 x2 h) (k0_pay9 x3 h) (k0_pay10 x5) (k0_pay11 x6)
      (by exact View.ld (Val := Elt Ideal) x4 (Rect.unit ![0, 0] ![1, 512] inb_S3x512_S1x512_0_0 : Rect S3x512)) x7
      (by exact View.ld (Val := Elt Ideal) x4 (Rect.unit ![1, 0] ![1, 512] inb_S3x512_S1x512_1_0 : Rect S3x512))
      (by exact View.ld (Val := Elt Ideal) x4 (Rect.unit ![2, 0] ![1, 512] inb_S3x512_S1x512_2_0 : Rect S3x512)) o (ix2 p d)
    = o (ix2 p d) + contrib h x2 x3 x4 x5 x6 x7 x8 p d := by
  pointwise [k0_pay3, k0_pay1, k0_pay7, k0_pay8, k0_pay9, k0_pay5, k0_pay6, k0_pay10, k0_pay11, contrib, act, conv, gate]

variable (c : Dev nD) (i : grid0.Coords) (a1 : Memref sig .tc .vmem S16x2048 .f32) (h1 : a1.IsWhole) (a2 : Memref sig .tc .vmem S1x2048 .f32) (h2 : a2.IsWhole) (a3 : Memref sig .tc .vmem S1x2048x512 .f32) (h3 : a3.IsWhole) (a4 : Memref sig .tc .vmem S1x2048x512 .f32) (h4 : a4.IsWhole) (a5 : Memref sig .tc .vmem S3x512 .f32) (h5 : a5.IsWhole) (a6 : Memref sig .tc .vmem S1x512 .f32) (h6 : a6.IsWhole) (a7 : Memref sig .tc .vmem S16x512 .f32) (h7 : a7.IsWhole) (a8 : Memref sig .tc .vmem S16x512 .f32) (h8 : a8.IsWhole) (a9 : Memref sig .tc .vmem S1x512x2048 .f32) (h9 : a9.IsWhole) (a10 : Memref sig .tc .vmem S16x2048 .f32) (h10 : a10.IsWhole) (a11 : Memref sig .tc .vmem S16x512 .f32) (h11 : a11.IsWhole) (a12 : Memref sig .tc .vmem S2048x512 .bf16) (h12 : a12.IsWhole) (a13 : Memref sig .tc .vmem S2048x512 .bf16) (h13 : a13.IsWhole) (a14 : Memref sig .tc .vmem S512x2048 .bf16) (h14 : a14.IsWhole) (a15 : Memref sig .tc .vmem S16x2048 .bf16) (h15 : a15.IsWhole)
  (x0 : Vec Ideal S16x2048 .f32) (x1 : Vec Ideal S1x2048 .f32) (x2 : Vec Ideal S1x2048x512 .f32) (x3 : Vec Ideal S1x2048x512 .f32) (x4 : Vec Ideal S3x512 .f32) (x5 : Vec Ideal S1x512 .f32) (x6 : Vec Ideal S16x512 .f32) (x7 : Vec Ideal S16x512 .f32) (x8 : Vec Ideal S1x512x2048 .f32) (xo9 : Vec Ideal S16x2048 .f32) (xs0 : Vec Ideal S16x2048 .bf16)

set_option maxHeartbeats 1000000 in
theorem sout_A (hc0 : cond0_0 i) (hc1 : cond0_1 i) (hc2 : ¬cond0_2 i) :
    sout0_A_0 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8  = hrows x0 x1 := by
  funext j
  frame_open
  simp (disch := decide) only [↓ View.readCov_skip, ↓ View.readCov_cons_toLoadRect, ↓ View.readCov_fill]
  frame_out
  exact congrFun (pay4_eq x0 x1) j

set_option maxHeartbeats 1000000 in
theorem out9_A (hc0 : cond0_0 i) (hc1 : cond0_1 i) (hc2 : ¬cond0_2 i) (p : Fin 16) (d : Fin 2048) :
    out0_A_9 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 (ix2 p d) = x0 (ix2 p d) + contrib (hrows x0 x1) x2 x3 x4 x5 x6 x7 x8 p d := by
  frame_open
  simp (disch := decide) only [↓ View.readCov_skip, ↓ View.readCov_cons_toLoadRect, ↓ View.readCov_fill]
  frame_out
  rw [pay4_eq x0 x1]
  exact pay2_apply (hrows x0 x1) x2 x3 x4 x5 x6 x7 x8 x0 p d

set_option maxHeartbeats 1000000 in
theorem out10_A (hc0 : cond0_0 i) (hc1 : cond0_1 i) (hc2 : ¬cond0_2 i) (p : Fin 16) (f : Fin 512) :
    out0_A_10 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 (ix2 p f) = gate (hrows x0 x1) x2 p f := by
  frame_open
  simp (disch := decide) only [↓ View.readCov_skip, ↓ View.readCov_cons_toLoadRect, ↓ View.readCov_fill]
  frame_out
  rw [pay4_eq x0 x1]
  exact pay8_apply x2 (hrows x0 x1) p f

set_option maxHeartbeats 1000000 in
theorem out11_A (hc0 : cond0_0 i) (hc1 : cond0_1 i) (hc2 : ¬cond0_2 i) (k : Fin 2048) (f : Fin 512) :
    out0_A_11 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 (ix2 k f) = x2 (ix3 0 k f) := by
  frame_open
  simp (disch := decide) only [↓ View.readCov_skip, ↓ View.readCov_cons_toLoadRect, ↓ View.readCov_fill]
  frame_out
  exact pay5_apply x2 k f

set_option maxHeartbeats 1000000 in
theorem out12_A (hc0 : cond0_0 i) (hc1 : cond0_1 i) (hc2 : ¬cond0_2 i) (k : Fin 2048) (f : Fin 512) :
    out0_A_12 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 (ix2 k f) = x3 (ix3 0 k f) := by
  frame_open
  simp (disch := decide) only [↓ View.readCov_skip, ↓ View.readCov_cons_toLoadRect, ↓ View.readCov_fill]
  frame_out
  exact pay6_apply x3 k f

set_option maxHeartbeats 1000000 in
theorem out13_A (hc0 : cond0_0 i) (hc1 : cond0_1 i) (hc2 : ¬cond0_2 i) (p : Fin 512) (d : Fin 2048) :
    out0_A_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 (ix2 p d) = x8 (ix3 0 p d) := by
  frame_open
  simp (disch := decide) only [↓ View.readCov_skip, ↓ View.readCov_cons_toLoadRect, ↓ View.readCov_fill]
  frame_out
  exact pay7_apply x8 p d

set_option maxHeartbeats 1000000 in
theorem out9_B (hc0 : ¬cond0_0 i) (hc1 : ¬cond0_1 i) (hc2 : cond0_2 i) (p : Fin 16) (d : Fin 2048) :
    out0_B_9 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 xo9 xs0 (ix2 p d) = xo9 (ix2 p d) + contrib xs0 x2 x3 x4 x5 x6 x7 x8 p d := by
  frame_open
  simp (disch := decide) only [↓ View.readCov_skip, ↓ View.readCov_cons_toLoadRect, ↓ View.readCov_fill]
  frame_out
  exact pay3_apply xs0 x2 x3 x4 x5 x6 x7 x8 xo9 p d

set_option maxHeartbeats 1000000 in
theorem out10_B (hc0 : ¬cond0_0 i) (hc1 : ¬cond0_1 i) (hc2 : cond0_2 i) (p : Fin 16) (f : Fin 512) :
    out0_B_10 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 xo9 xs0 (ix2 p f) = gate xs0 x2 p f := by
  frame_open
  simp (disch := decide) only [↓ View.readCov_skip, ↓ View.readCov_cons_toLoadRect, ↓ View.readCov_fill]
  frame_out
  exact pay8_apply x2 xs0 p f

set_option maxHeartbeats 1000000 in
theorem out11_B (hc0 : ¬cond0_0 i) (hc1 : ¬cond0_1 i) (hc2 : cond0_2 i) (k : Fin 2048) (f : Fin 512) :
    out0_B_11 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 xo9 xs0 (ix2 k f) = x2 (ix3 0 k f) := by
  frame_open
  simp (disch := decide) only [↓ View.readCov_skip, ↓ View.readCov_cons_toLoadRect, ↓ View.readCov_fill]
  frame_out
  exact pay5_apply x2 k f

set_option maxHeartbeats 1000000 in
theorem out12_B (hc0 : ¬cond0_0 i) (hc1 : ¬cond0_1 i) (hc2 : cond0_2 i) (k : Fin 2048) (f : Fin 512) :
    out0_B_12 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 xo9 xs0 (ix2 k f) = x3 (ix3 0 k f) := by
  frame_open
  simp (disch := decide) only [↓ View.readCov_skip, ↓ View.readCov_cons_toLoadRect, ↓ View.readCov_fill]
  frame_out
  exact pay6_apply x3 k f

set_option maxHeartbeats 1000000 in
theorem out13_B (hc0 : ¬cond0_0 i) (hc1 : ¬cond0_1 i) (hc2 : cond0_2 i) (p : Fin 512) (d : Fin 2048) :
    out0_B_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 xo9 xs0 (ix2 p d) = x8 (ix3 0 p d) := by
  frame_open
  simp (disch := decide) only [↓ View.readCov_skip, ↓ View.readCov_cons_toLoadRect, ↓ View.readCov_fill]
  frame_out
  exact pay7_apply x8 p d

end Cert.FfnSKernelIdeal.Step
end
-- ==== Proof.FfnSBlocks.lean ====
/-
  The blocks one grid step of the sample group's feed-forward kernel reads, as formulas of the kernel's arguments.
-/
module

public import proofs.«01_k».proof.Proof.FfnSStep
public import Idealize.ShloMosaic.Lib.StableHlo.ReadAt

@[expose] public section

set_option maxRecDepth 16384

noncomputable section

namespace Cert.FfnSKernelIdeal.Step

open Cert.FfnSKernelIdeal Cert.FfnSKernelIdeal.Gen Idealize.ShloMosaic Idealize.ShloMosaic.TcCoe
open Cert.FfnKernelIdeal.Step (rmsRow)

variable (m : (ℓ : Loc nD τ sig) → Buf (Elt Ideal) ℓ)

/-- The padding's value. -/
theorem pad_zero : (FloatOps.sitofp (F := Ideal) .f32 (0#32 : BitVec 32) : EReal) = 0 := by
  show (((0#32 : BitVec 32).toInt : ℝ) : EReal) = 0
  simp

/-- The activations' rows, zero after the sequences. -/
def X (c : Dev nD) (r : Fin 16) (d : Fin 2048) : EReal :=
  if h : r.val < 8 then (m ((c : Thread nD τ).loc main_arg0) : Vec Ideal S8x1x2048 .f32) (ix3 ⟨r.val, h⟩ 0 d) else 0

/-- The norm's weights. -/
def NG (c : Dev nD) (d : Fin 2048) : EReal := (m ((c : Thread nD τ).loc main_arg1) : Vec Ideal S2048 .f32) (ix1 d)

/-- The up projection's weights of the layer. -/
def WU (c : Dev nD) (k : Fin 2048) (f : Fin 11264) : EReal :=
  (m ((c : Thread nD τ).loc main_arg2) : Vec Ideal S4x2048x11264 .f32) (ix3 0 k f)

/-- The convolution's taps. -/
def CW (c : Dev nD) (e : Fin 3) (f : Fin 5632) : EReal := (m ((c : Thread nD τ).loc main_arg3) : Vec Ideal S3x5632 .f32) (ix2 e f)

/-- The convolution's offsets. -/
def CB (c : Dev nD) (f : Fin 5632) : EReal := (m ((c : Thread nD τ).loc main_arg4) : Vec Ideal S5632 .f32) (ix1 f)

/-- The gate's rows kept from the two positions before, zero after the sequences. -/
def PR (c : Dev nD) (e : Fin 2) (r : Fin 16) (f : Fin 5632) : EReal :=
  if h : r.val < 8 then (m ((c : Thread nD τ).loc main_arg5) : Vec Ideal S8x2x5632 .f32) (ix3 ⟨r.val, h⟩ e f) else 0

/-- The down projection's weights of the layer. -/
def WD (c : Dev nD) (f : Fin 5632) (d : Fin 2048) : EReal :=
  (m ((c : Thread nD τ).loc main_arg6) : Vec Ideal S4x5632x2048 .f32) (ix3 0 f d)

theorem V_x (c : Dev nD) (r : Fin 16) (d : Fin 2048) : (V m c main_v1 : Vec Ideal S16x2048 .f32) (ix2 r d) = X m c r d := by
  unfold X
  unfold_abbrev_sides
  simp only [hostOps0, hostOps0_1, hostOps0_2, hostOps0_3, hostOps0_4, List.flatten_cons, List.flatten_nil, List.cons_append, List.nil_append, List.append_nil]
  after_reads_at
  rw [pad_zero]

theorem V_norm (c : Dev nD) (d : Fin 2048) : (V m c main_v3 : Vec Ideal S1x2048 .f32) (ix2 0 d) = NG m c d := by
  unfold NG
  unfold_abbrev_sides
  simp only [hostOps0, hostOps0_1, hostOps0_2, hostOps0_3, hostOps0_4, List.flatten_cons, List.flatten_nil, List.cons_append, List.nil_append, List.append_nil]
  after_reads_at

theorem V_cb (c : Dev nD) (d : Fin 5632) : (V m c main_v4 : Vec Ideal S1x5632 .f32) (ix2 0 d) = CB m c d := by
  unfold CB
  unfold_abbrev_sides
  simp only [hostOps0, hostOps0_1, hostOps0_2, hostOps0_3, hostOps0_4, List.flatten_cons, List.flatten_nil, List.cons_append, List.nil_append, List.append_nil]
  after_reads_at

theorem V_p0 (c : Dev nD) (r : Fin 16) (d : Fin 5632) : (V m c main_v6 : Vec Ideal S16x5632 .f32) (ix2 r d) = PR m c 0 r d := by
  unfold PR
  unfold_abbrev_sides
  simp only [hostOps0, hostOps0_1, hostOps0_2, hostOps0_3, hostOps0_4, List.flatten_cons, List.flatten_nil, List.cons_append, List.nil_append, List.append_nil]
  after_reads_at
  rw [pad_zero]

theorem V_p1 (c : Dev nD) (r : Fin 16) (d : Fin 5632) : (V m c main_v8 : Vec Ideal S16x5632 .f32) (ix2 r d) = PR m c 1 r d := by
  unfold PR
  unfold_abbrev_sides
  simp only [hostOps0, hostOps0_1, hostOps0_2, hostOps0_3, hostOps0_4, List.flatten_cons, List.flatten_nil, List.cons_append, List.nil_append, List.append_nil]
  after_reads_at
  rw [pad_zero]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val] := (by decide +kernel : ∀ t : Fin grid0.N, _)
theorem idx3 : ∀ t : Fin cfg0.N, win0_3.index t = ![0, 0, 11 + t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val, 0] := (by decide +kernel : ∀ t : Fin grid0.N, _)

/-- The column block a point computes. -/
def cq (t : Fin cfg0.N) : Fin 11 := ⟨t.val, t.isLt.trans_eq N_0⟩

/-- The normalised rows. -/
def hs (c : Dev nD) : Vec Ideal S16x2048 .bf16 := fun j => rmsRow (X m c (j 0)) (NG m c) (j 1)

/-- Column block `q` of the gate's weights. -/
def wg (c : Dev nD) (q : Fin 11) : Vec Ideal S1x2048x512 .f32 := fun j => WU m c (j 1) ⟨512 * q.val + (j 2).val, by have := (j 2).isLt; simp at this; omega⟩

/-- Column block `q` of the linear half's weights. -/
def wl (c : Dev nD) (q : Fin 11) : Vec Ideal S1x2048x512 .f32 := fun j => WU m c (j 1) ⟨5632 + (512 * q.val + (j 2).val), by have := (j 2).isLt; simp at this; omega⟩

/-- Column block `q` of the convolution's taps. -/
def cw (c : Dev nD) (q : Fin 11) : Vec Ideal S3x512 .f32 := fun j => CW m c (j 0) ⟨512 * q.val + (j 1).val, by have := (j 1).isLt; simp at this; omega⟩

/-- Column block `q` of the convolution's offsets. -/
def cb (c : Dev nD) (q : Fin 11) : Vec Ideal S1x512 .f32 := fun j => CB m c ⟨512 * q.val + (j 1).val, by have := (j 1).isLt; simp at this; omega⟩

/-- Column block `q` of the rows two positions before. -/
def p0 (c : Dev nD) (q : Fin 11) : Vec Ideal S16x512 .f32 := fun j => PR m c 0 (j 0) ⟨512 * q.val + (j 1).val, by have := (j 1).isLt; simp at this; omega⟩

/-- Column block `q` of the rows one position before. -/
def p1 (c : Dev nD) (q : Fin 11) : Vec Ideal S16x512 .f32 := fun j => PR m c 1 (j 0) ⟨512 * q.val + (j 1).val, by have := (j 1).isLt; simp at this; omega⟩

/-- Row block `q` of the down projection's weights. -/
def wd (c : Dev nD) (q : Fin 11) : Vec Ideal S1x512x2048 .f32 := fun j => WD m c ⟨512 * q.val + (j 1).val, by have := (j 1).isLt; simp at this; omega⟩ (j 2)

theorem blk0 (c : Dev nD) (t : Fin cfg0.N) (p : Fin 16) (d : Fin 2048) : (iblk m c 0 t : Vec Ideal S16x2048 .f32) (ix2 p d) = X m c p d := by
  refine Eq.trans ?_ (V_x m c p d)
  blk_ext [iblk, idx0]

theorem blk1 (c : Dev nD) (t : Fin cfg0.N) (d : Fin 2048) : (iblk m c 1 t : Vec Ideal S1x2048 .f32) (ix2 0 d) = NG m c d := by
  refine Eq.trans ?_ (V_norm m c d)
  blk_ext [iblk, idx1]

theorem blk2 (c : Dev nD) (t : Fin cfg0.N) : (iblk m c 2 t : Vec Ideal S1x2048x512 .f32) = wg m c (cq t) := by
  funext j
  idx_vars j
  obtain rfl : j0 = 0 := Subsingleton.elim _ _
  unfold wg WU
  rw [← V_main_arg2 m c]
  blk_ext [iblk, idx2, cq]

theorem blk3 (c : Dev nD) (t : Fin cfg0.N) : (iblk m c 3 t : Vec Ideal S1x2048x512 .f32) = wl m c (cq t) := by
  funext j
  idx_vars j
  obtain rfl : j0 = 0 := Subsingleton.elim _ _
  unfold wl WU
  rw [← V_main_arg2 m c]
  blk_ext [iblk, idx3, cq]

theorem blk4 (c : Dev nD) (t : Fin cfg0.N) : (iblk m c 4 t : Vec Ideal S3x512 .f32) = cw m c (cq t) := by
  funext j
  idx_vars j
  unfold cw CW
  rw [← V_main_arg3 m c]
  blk_ext [iblk, idx4, cq]

theorem blk5 (c : Dev nD) (t : Fin cfg0.N) : (iblk m c 5 t : Vec Ideal S1x512 .f32) = cb m c (cq t) := by
  funext j
  idx_vars j
  obtain rfl : j0 = 0 := Subsingleton.elim _ _
  refine Eq.trans ?_ (V_cb m c ⟨512 * (cq t).val + j1.val, by omega⟩)
  blk_ext [iblk, idx5, cq]

theorem blk6 (c : Dev nD) (t : Fin cfg0.N) : (iblk m c 6 t : Vec Ideal S16x512 .f32) = p0 m c (cq t) := by
  funext j
  idx_vars j
  refine Eq.trans ?_ (V_p0 m c j0 ⟨512 * (cq t).val + j1.val, by omega⟩)
  blk_ext [iblk, idx6, cq]

theorem blk7 (c : Dev nD) (t : Fin cfg0.N) : (iblk m c 7 t : Vec Ideal S16x512 .f32) = p1 m c (cq t) := by
  funext j
  idx_vars j
  refine Eq.trans ?_ (V_p1 m c j0 ⟨512 * (cq t).val + j1.val, by omega⟩)
  blk_ext [iblk, idx7, cq]

theorem blk8 (c : Dev nD) (t : Fin cfg0.N) : (iblk m c 8 t : Vec Ideal S1x512x2048 .f32) = wd m c (cq t) := by
  funext j
  idx_vars j
  obtain rfl : j0 = 0 := Subsingleton.elim _ _
  unfold wd WD
  rw [← V_main_arg6 m c]
  blk_ext [iblk, idx8, cq]

/-- The normalised rows a point computes with. -/
theorem hrows_blk (c : Dev nD) (t : Fin cfg0.N) : hrows (iblk m c 0 t) (iblk m c 1 t) = hs m c := by
  funext j
  idx_vars j
  exact congrArg₂ (fun u v => rmsRow u v j1) (funext fun k => blk0 m c t j0 k) (funext fun k => blk1 m c t k)

end Cert.FfnSKernelIdeal.Step
end
-- ==== Proof.FfnSFold.lean ====
/-
  What the points of the sample group's feed-forward kernel leave, folded: after column block q the output holds the
  activations plus the contributions of column blocks 0 … q, the scratch the normalised rows.
-/
module

public import proofs.«01_k».proof.Proof.FfnSBlocks

@[expose] public section

set_option maxRecDepth 16384

noncomputable section

namespace Cert.FfnSKernelIdeal.Step

open Cert.FfnSKernelIdeal Cert.FfnSKernelIdeal.Gen Idealize.ShloMosaic Idealize.ShloMosaic.TcCoe
open Cert.FfnKernelIdeal.Step (rmsRow)

variable (m : (ℓ : Loc nD τ sig) → Buf (Elt Ideal) ℓ)

/-- Column block `q`'s contribution to row `p`. -/
def part (c : Dev nD) (q : ℕ) (p : Fin 16) (d : Fin 2048) : EReal :=
  if h : q < 11 then contrib (hs m c) (wg m c ⟨q, h⟩) (wl m c ⟨q, h⟩) (cw m c ⟨q, h⟩) (cb m c ⟨q, h⟩) (p0 m c ⟨q, h⟩) (p1 m c ⟨q, h⟩)
    (wd m c ⟨q, h⟩) p d else 0

theorem part_cq (c : Dev nD) (t : Fin cfg0.N) (p : Fin 16) (d : Fin 2048) :
    contrib (hs m c) (wg m c (cq t)) (wl m c (cq t)) (cw m c (cq t)) (cb m c (cq t)) (p0 m c (cq t)) (p1 m c (cq t)) (wd m c (cq t)) p d
      = part m c t.val p d := by
  unfold part
  rw [dif_pos (t.isLt.trans_eq N_0)]
  rfl

/-- The state after a point. -/
def Holds (c : Dev nD) (t : Fin cfg0.N) : Prop :=
  (∀ (p : Fin 16) (d : Fin 2048), (outsAt0 m c t.val t.isLt).1 (ix2 p d) = X m c p d + ∑ q ∈ Finset.range (t.val + 1), part m c q p d)
  ∧ (∀ (p : Fin 16) (f : Fin 512), (outsAt0 m c t.val t.isLt).2.1 (ix2 p f) = gate (hs m c) (wg m c (cq t)) p f)
  ∧ (∀ (k : Fin 2048) (f : Fin 512), (outsAt0 m c t.val t.isLt).2.2.1 (ix2 k f) = wg m c (cq t) (ix3 0 k f))
  ∧ (∀ (k : Fin 2048) (f : Fin 512), (outsAt0 m c t.val t.isLt).2.2.2.1 (ix2 k f) = wl m c (cq t) (ix3 0 k f))
  ∧ (∀ (p : Fin 512) (d : Fin 2048), (outsAt0 m c t.val t.isLt).2.2.2.2.1 (ix2 p d) = wd m c (cq t) (ix3 0 p d))
  ∧ (outsAt0 m c t.val t.isLt).2.2.2.2.2 = hs m c

theorem holds_A (c : Dev nD) (t : Fin cfg0.N) (h0 : t.val = 0) : Holds m c t := by
  unfold Holds
  rw [outsAt0_A m c t (by omega) (by omega) (by omega)]
  refine ⟨fun p d => ?_, fun p f => ?_, fun k f => ?_, fun k f => ?_, fun p d => ?_, ?_⟩
  · dsimp only
    rw [out9_A, hrows_blk m c t, blk2 m c t, blk3 m c t, blk4 m c t, blk5 m c t, blk6 m c t, blk7 m c t, blk8 m c t, part_cq m c t, h0,
      Nat.zero_add, Finset.sum_range_one]
    exact congrArg (fun u => u + _) (blk0 m c t p d)
  · dsimp only
    rw [out10_A, hrows_blk m c t, blk2 m c t]
  · dsimp only
    rw [out11_A, blk2 m c t]
  · dsimp only
    rw [out12_A, blk3 m c t]
  · dsimp only
    rw [out13_A, blk8 m c t]
  · dsimp only
    rw [sout_A, hrows_blk m c t]

theorem holds_B (c : Dev nD) (t s : Fin cfg0.N) (h0 : 1 ≤ t.val) (hs' : s.val = t.val - 1) (ih : Holds m c s) : Holds m c t := by
  have hN : t.val < 11 := t.isLt.trans_eq N_0
  obtain ⟨i9, -, -, -, -, ihs⟩ := ih
  have es : s.val + 1 = t.val := by omega
  obtain ⟨s, hs⟩ := s
  simp only at hs'
  subst hs'
  unfold Holds
  rw [outsAt0_B m c t (by omega) (by omega) h0]
  refine ⟨fun p d => ?_, fun p f => ?_, fun k f => ?_, fun k f => ?_, fun p d => ?_, ?_⟩
  · dsimp only
    rw [out9_B, ihs, i9, es, blk2 m c t, blk3 m c t, blk4 m c t, blk5 m c t, blk6 m c t, blk7 m c t, blk8 m c t, part_cq m c t,
      Finset.sum_range_succ, add_assoc]
  · dsimp only
    rw [out10_B, ihs, blk2 m c t]
  · dsimp only
    rw [out11_B, blk2 m c t]
  · dsimp only
    rw [out12_B, blk3 m c t]
  · dsimp only
    rw [out13_B, blk8 m c t]
  · exact ihs

theorem holds (c : Dev nD) : ∀ (n : ℕ) (hn : n < cfg0.N), Holds m c ⟨n, hn⟩
  | 0, hn => holds_A m c ⟨0, hn⟩ rfl
  | n + 1, hn => holds_B m c ⟨n + 1, hn⟩ ⟨n, by omega⟩ (Nat.succ_pos n) rfl (holds c n (by omega))

/-- The kernel's first result at an index. -/
theorem G9_apply (c : Dev nD) (p : Fin 16) (d : Fin 2048) : (Value.G9 m c : Vec Ideal S16x2048 .f32) (ix2 p d)
    = X m c p d + ∑ q ∈ Finset.range 11, part m c q p d := by
  have hn : 10 < cfg0.N := lt_of_lt_of_eq (by omega) N_0.symm
  rw [Value.G9_last, Value.fold0_congr m c _ _ 10 (by omega) rfl, ← Value.outsAt0_sweep m c 10 hn]
  exact (holds m c 10 hn).1 p d

/-- The kernel's second result at an index. -/
theorem G10_apply (c : Dev nD) (p : Fin 16) (f : Fin 5632) : (Value.G10 m c : Vec Ideal S16x5632 .f32) (ix2 p f)
    = gate (hs m c) (wg m c ⟨f.val / 512, by omega⟩) p ⟨f.val % 512, by omega⟩ := by
  have hn : f.val / 512 < cfg0.N := lt_of_lt_of_eq (by omega) N_0.symm
  have hp : Value.pt10Of (ix2 p f) = f.val / 512 := by
    show 11 * (p.val / 16 - 0) + 1 * (f.val / 512 - 0) = _
    omega
  unfold Value.G10
  rw [dif_pos (hp.trans_lt hn), Value.fold0_congr m c _ _ (f.val / 512) (by omega) hp]
  rw [← Value.outsAt0_sweep m c _ hn]
  have hl : Value.loc10Of (ix2 p f) = ix2 p ⟨f.val % 512, by omega⟩ := by
    funext a
    match a with
    | ⟨0, _⟩ => exact Fin.ext (Nat.mod_eq_of_lt p.isLt)
    | ⟨1, _⟩ => exact rfl
  rw [hl]
  exact (holds m c _ hn).2.1 p ⟨f.val % 512, by omega⟩

/-- The kernel's third result at an index. -/
theorem G11_apply (c : Dev nD) (p : Fin 2048) (f : Fin 5632) : (Value.G11 m c : Vec Ideal S2048x5632 .bf16) (ix2 p f)
    = wg m c ⟨f.val / 512, by omega⟩ (ix3 0 p ⟨f.val % 512, by omega⟩) := by
  have hn : f.val / 512 < cfg0.N := lt_of_lt_of_eq (by omega) N_0.symm
  have hp : Value.pt11Of (ix2 p f) = f.val / 512 := by
    show 11 * (p.val / 2048 - 0) + 1 * (f.val / 512 - 0) = _
    omega
  unfold Value.G11
  rw [dif_pos (hp.trans_lt hn), Value.fold0_congr m c _ _ (f.val / 512) (by omega) hp]
  rw [← Value.outsAt0_sweep m c _ hn]
  have hl : Value.loc11Of (ix2 p f) = ix2 p ⟨f.val % 512, by omega⟩ := by
    funext a
    match a with
    | ⟨0, _⟩ => exact Fin.ext (Nat.mod_eq_of_lt p.isLt)
    | ⟨1, _⟩ => exact rfl
  rw [hl]
  exact (holds m c _ hn).2.2.1 p ⟨f.val % 512, by omega⟩

/-- The kernel's fourth result at an index. -/
theorem G12_apply (c : Dev nD) (p : Fin 2048) (f : Fin 5632) : (Value.G12 m c : Vec Ideal S2048x5632 .bf16) (ix2 p f)
    = wl m c ⟨f.val / 512, by omega⟩ (ix3 0 p ⟨f.val % 512, by omega⟩) := by
  have hn : f.val / 512 < cfg0.N := lt_of_lt_of_eq (by omega) N_0.symm
  have hp : Value.pt12Of (ix2 p f) = f.val / 512 := by
    show 11 * (p.val / 2048 - 0) + 1 * (f.val / 512 - 0) = _
    omega
  unfold Value.G12
  rw [dif_pos (hp.trans_lt hn), Value.fold0_congr m c _ _ (f.val / 512) (by omega) hp]
  rw [← Value.outsAt0_sweep m c _ hn]
  have hl : Value.loc12Of (ix2 p f) = ix2 p ⟨f.val % 512, by omega⟩ := by
    funext a
    match a with
    | ⟨0, _⟩ => exact Fin.ext (Nat.mod_eq_of_lt p.isLt)
    | ⟨1, _⟩ => exact rfl
  rw [hl]
  exact (holds m c _ hn).2.2.2.1 p ⟨f.val % 512, by omega⟩

/-- The kernel's fifth result at an index. -/
theorem G13_apply (c : Dev nD) (p : Fin 5632) (f : Fin 2048) : (Value.G13 m c : Vec Ideal S5632x2048 .bf16) (ix2 p f)
    = wd m c ⟨p.val / 512, by omega⟩ (ix3 0 ⟨p.val % 512, by omega⟩ f) := by
  have hn : p.val / 512 < cfg0.N := lt_of_lt_of_eq (by omega) N_0.symm
  have hp : Value.pt13Of (ix2 p f) = p.val / 512 := by
    show 1 * (p.val / 512 - 0) + 1 * (f.val / 2048 - 0) = _
    omega
  unfold Value.G13
  rw [dif_pos (hp.trans_lt hn), Value.fold0_congr m c _ _ (p.val / 512) (by omega) hp]
  rw [← Value.outsAt0_sweep m c _ hn]
  have hl : Value.loc13Of (ix2 p f) = ix2 ⟨p.val % 512, by omega⟩ f := by
    funext a
    match a with
    | ⟨0, _⟩ => exact rfl
    | ⟨1, _⟩ => exact Fin.ext (Nat.mod_eq_of_lt f.isLt)
  rw [hl]
  exact (holds m c _ hn).2.2.2.2.1 ⟨p.val % 512, by omega⟩ f

end Cert.FfnSKernelIdeal.Step
end
-- ==== Proof.FfnSEq.lean ====
/-
  The sample group's feed-forward reference at an index, and its equality with the kernel: rows past the sequences are
  zero in both, the kernel's because a row of zeros has zero gates.
-/
module

public import proofs.«01_k».proof.Proof.FfnSFold
public import proofs.«01_k».proof.Proof.Gen.FfnSReferenceIdeal.Read
public import proofs.«01_k».proof.Proof.Gen.FfnSReferenceIdeal.Run
public import proofs.«01_k».proof.Defs

@[expose] public section

set_option maxRecDepth 16384

noncomputable section

namespace Cert.FfnSReferenceIdeal.At

open Cert.FfnSReferenceIdeal Cert.FfnSReferenceIdeal.Read Idealize.ShloMosaic Idealize.ShloMosaic.TcCoe
open Cert.FfnKernelIdeal.Step (rmsRow)

variable (x0 : Vec Ideal S8x1x2048 .f32) (x1 : Vec Ideal S2048 .f32) (x2 : Vec Ideal S4x2048x11264 .f32)
  (x3 : Vec Ideal S3x5632 .f32) (x4 : Vec Ideal S5632 .f32) (x5 : Vec Ideal S8x2x5632 .f32) (x6 : Vec Ideal S4x5632x2048 .f32)

/-- The normalised row of a sequence. -/
theorem norm_apply (b : Fin 8) (k : Fin 2048) : val_main_v16 (F := Ideal) x0 x1 (ix3 b 0 k)
    = rmsRow (fun k => x0 (ix3 b 0 k)) (fun k => x1 (ix1 k)) k := by
  pointwise [val_main_v16, val_main_v15, val_main_v14, val_main_v13, val_main_v12, val_main_v11, val_main_v10, val_main_v9,
    val_main_v8, val_main_v7, val_main_v6, val_main_v5, val_main_v4, val_main_cst, val_main_cst_1, val_main_cst_0, rmsRow]

/-- The up projection. -/
theorem up_apply (b : Fin 8) (f : Fin 11264) : val_main_v17 (F := Ideal) x0 x1 x2 (ix3 b 0 f)
    = ∑ k : Fin 2048, rmsRow (fun k => x0 (ix3 b 0 k)) (fun k => x1 (ix1 k)) k * x2 (ix3 0 k f) := by
  simp only [← norm_apply]
  pointwise [val_main_v17, val_main_v1, val_main_v0]

/-- The convolution's row. -/
def tap (b : Fin 8) (f : Fin 5632) : EReal :=
  x4 (ix1 f) + x5 (ix3 b 0 f) * x3 (ix2 0 f) + x5 (ix3 b 1 f) * x3 (ix2 1 f)
    + val_main_v17 (F := Ideal) x0 x1 x2 (ix3 b 0 ⟨f.val, by omega⟩) * x3 (ix2 2 f)

theorem tap_apply (b : Fin 8) (f : Fin 5632) : val_main_v43 (F := Ideal) x0 x1 x2 x3 x4 x5 (ix3 b 0 f)
    = tap x0 x1 x2 x3 x4 x5 b f := by
  pointwise [val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_v26, val_main_v25, val_main_v24, val_main_v23, val_main_v22, val_main_v21, val_main_v20, val_main_v18, tap]

/-- The gated activations. -/
theorem act_apply (b : Fin 8) (f : Fin 5632) : val_main_v45 (F := Ideal) x0 x1 x2 x3 x4 x5 (ix3 b 0 f)
    = tap x0 x1 x2 x3 x4 x5 b f * Ideal.logistic (tap x0 x1 x2 x3 x4 x5 b f)
      * val_main_v17 (F := Ideal) x0 x1 x2 (ix3 b 0 ⟨5632 + f.val, by omega⟩) := by
  simp only [← tap_apply]
  pointwise [val_main_v45, val_main_v44, val_main_call0_v5, val_main_call0_v4, val_main_call0_v3, val_main_call0_v2,
    val_main_call0_v1, val_main_call0_v0, val_main_call0_cst, val_main_call0_cst_0, val_main_v19, Ideal.logistic]

/-- A sequence's row of the block's output. -/
theorem out_apply (b : Fin 8) (d : Fin 2048) : val_main_v48 (F := Ideal) x0 x1 x2 x3 x4 x5 x6 (ix2 b d)
    = x0 (ix3 b 0 d) + ∑ f : Fin 5632, val_main_v45 (F := Ideal) x0 x1 x2 x3 x4 x5 (ix3 b 0 f) * x6 (ix3 0 f d) := by
  pointwise [val_main_v48, val_main_v47, val_main_v46, val_main_v3, val_main_v2]

/-- A sequence's row of the gate before the convolution. -/
theorem row_apply (b : Fin 8) (f : Fin 5632) : val_main_v50 (F := Ideal) x0 x1 x2 (ix2 b f)
    = val_main_v17 (F := Ideal) x0 x1 x2 (ix3 b 0 ⟨f.val, by omega⟩) := by
  pointwise [val_main_v50, val_main_v18]

/-- The first result: the rows, zero after the sequences. -/
theorem res0_apply (p : Fin 16) (d : Fin 2048) : val_main_v49 (F := Ideal) x0 x1 x2 x3 x4 x5 x6 (ix2 p d)
    = if h : p.val < 8 then val_main_v48 (F := Ideal) x0 x1 x2 x3 x4 x5 x6 (ix2 ⟨p.val, h⟩ d) else 0 := by
  pointwise [val_main_v49, val_main_call1_v0, val_main_c]
  rw [Cert.FfnSKernelIdeal.Step.pad_zero]

/-- The second result. -/
theorem res1_apply (p : Fin 16) (f : Fin 5632) : val_main_v51 (F := Ideal) x0 x1 x2 (ix2 p f)
    = if h : p.val < 8 then val_main_v50 (F := Ideal) x0 x1 x2 (ix2 ⟨p.val, h⟩ f) else 0 := by
  pointwise [val_main_v51, val_main_call2_v0, val_main_c_2]
  rw [Cert.FfnSKernelIdeal.Step.pad_zero]

/-- The third result. -/
theorem res2_apply (k : Fin 2048) (f : Fin 5632) : val_main_v53 (F := Ideal) x2 (ix2 k f) = x2 (ix3 0 k ⟨f.val, by omega⟩) := by
  pointwise [val_main_v53, val_main_v52, val_main_v1, val_main_v0]

/-- The fourth result. -/
theorem res3_apply (k : Fin 2048) (f : Fin 5632) : val_main_v55 (F := Ideal) x2 (ix2 k f) = x2 (ix3 0 k ⟨5632 + f.val, by omega⟩) := by
  pointwise [val_main_v55, val_main_v54, val_main_v1, val_main_v0]

/-- The fifth result. -/
theorem res4_apply (f : Fin 5632) (d : Fin 2048) : val_main_v56 (F := Ideal) x6 (ix2 f d) = x6 (ix3 0 f d) := by
  pointwise [val_main_v56, val_main_v3, val_main_v2]

end Cert.FfnSReferenceIdeal.At

namespace Cert.FfnSKernelIdeal.Step

open Cert.FfnSKernelIdeal Cert.FfnSKernelIdeal.Gen Idealize.ShloMosaic Idealize.ShloMosaic.TcCoe
open Cert.FfnKernelIdeal.Step (rmsRow)

variable (m : (ℓ : Loc nD τ sig) → Buf (Elt Ideal) ℓ) (c : Dev nD)

/-- The arguments as arrays. -/
abbrev a0 : Vec Ideal S8x1x2048 .f32 := m ((c : Thread nD τ).loc main_arg0)
abbrev a1 : Vec Ideal S2048 .f32 := m ((c : Thread nD τ).loc main_arg1)
abbrev a2 : Vec Ideal S4x2048x11264 .f32 := m ((c : Thread nD τ).loc main_arg2)
abbrev a3 : Vec Ideal S3x5632 .f32 := m ((c : Thread nD τ).loc main_arg3)
abbrev a4 : Vec Ideal S5632 .f32 := m ((c : Thread nD τ).loc main_arg4)
abbrev a5 : Vec Ideal S8x2x5632 .f32 := m ((c : Thread nD τ).loc main_arg5)
abbrev a6 : Vec Ideal S4x5632x2048 .f32 := m ((c : Thread nD τ).loc main_arg6)

/-- A row of a sequence is the argument's. -/
theorem X_own (p : Fin 16) (h : p.val < 8) : X m c p = fun k => a0 m c (ix3 ⟨p.val, h⟩ 0 k) :=
  funext fun k => dif_pos h

/-- The normalised row past the sequences is zero. -/
theorem hs_zero (p : Fin 16) (h : ¬p.val < 8) (k : Fin 2048) : hs m c (ix2 p k) = 0 := by
  have e : X m c p k = 0 := dif_neg h
  show X m c p k * _ * _ = 0
  rw [e, zero_mul, zero_mul]

/-- A gate past the sequences is zero. -/
theorem gate_zero (p : Fin 16) (h : ¬p.val < 8) (w : Vec Ideal S1x2048x512 .f32) (f : Fin 512) : gate (hs m c) w p f = 0 :=
  Finset.sum_eq_zero fun k _ => by rw [hs_zero m c p h k, zero_mul]

/-- A gate of a sequence's row is the reference's up projection. -/
theorem gate_up (p : Fin 16) (h : p.val < 8) (w : Vec Ideal S1x2048x512 .f32) (f : Fin 512) (g : Fin 11264)
    (hw : ∀ k, w (ix3 0 k f) = WU m c k g) : gate (hs m c) w p f
      = Cert.FfnSReferenceIdeal.Read.val_main_v17 (F := Ideal) (a0 m c) (a1 m c) (a2 m c) (ix3 ⟨p.val, h⟩ 0 g) := by
  rw [Cert.FfnSReferenceIdeal.At.up_apply, ← X_own m c p h]
  refine Finset.sum_congr rfl fun k _ => ?_
  rw [hw k]
  rfl

/-- A sequence's activations are the reference's. -/
theorem act_eq (p : Fin 16) (h : p.val < 8) (q : Fin 11) (f : Fin 512) (g : Fin 5632) (hg : g.val = 512 * q.val + f.val) :
    act (hs m c) (wg m c q) (wl m c q) (cw m c q) (cb m c q) (p0 m c q) (p1 m c q) p f
      = Cert.FfnSReferenceIdeal.Read.val_main_v45 (F := Ideal) (a0 m c) (a1 m c) (a2 m c) (a3 m c) (a4 m c) (a5 m c)
        (ix3 ⟨p.val, h⟩ 0 g) := by
  have eg : (⟨512 * q.val + f.val, by omega⟩ : Fin 5632) = g := Fin.ext hg.symm
  have ea := gate_up m c p h (wg m c q) f ⟨g.val, by omega⟩ fun k => congrArg (WU m c k) (Fin.ext hg.symm)
  have eb := gate_up m c p h (wl m c q) f ⟨5632 + g.val, by omega⟩ fun k => congrArg (WU m c k) (Fin.ext (by simp only [ix3]; omega))
  have e3 : ∀ k : Fin 3, cw m c q (ix2 k f) = a3 m c (ix2 k g) := fun k => congrArg (fun y => a3 m c (ix2 k y)) eg
  have e4 : cb m c q (ix2 0 f) = a4 m c (ix1 g) := congrArg (fun y => a4 m c (ix1 y)) eg
  have e0 : p0 m c q (ix2 p f) = a5 m c (ix3 ⟨p.val, h⟩ 0 g) :=
    (congrArg (PR m c 0 p) eg).trans (dif_pos h)
  have e1 : p1 m c q (ix2 p f) = a5 m c (ix3 ⟨p.val, h⟩ 1 g) :=
    (congrArg (PR m c 1 p) eg).trans (dif_pos h)
  rw [Cert.FfnSReferenceIdeal.At.act_apply]
  unfold act conv Cert.FfnSReferenceIdeal.At.tap
  rw [ea, eb, e3, e3, e3, e4, e0, e1]

/-- Past the sequences the activations are zero. -/
theorem act_zero (p : Fin 16) (h : ¬p.val < 8) (q : Fin 11) (f : Fin 512) :
    act (hs m c) (wg m c q) (wl m c q) (cw m c q) (cb m c q) (p0 m c q) (p1 m c q) p f = 0 := by
  unfold act
  rw [gate_zero m c p h (wl m c q) f, mul_zero]

/-- The first result. -/
theorem res0_eq (p : Fin 16) (d : Fin 2048) : (Value.G9 m c : Vec Ideal S16x2048 .f32) (ix2 p d)
    = Cert.FfnSReferenceIdeal.Read.val_main_v49 (F := Ideal) (a0 m c) (a1 m c) (a2 m c) (a3 m c) (a4 m c) (a5 m c) (a6 m c) (ix2 p d) := by
  rw [G9_apply, Cert.FfnSReferenceIdeal.At.res0_apply]
  by_cases h : p.val < 8
  · rw [dif_pos h, Cert.FfnSReferenceIdeal.At.out_apply, X_own m c p h]
    refine congrArg (fun y => a0 m c (ix3 ⟨p.val, h⟩ 0 d) + y) ?_
    rw [← Fin.sum_univ_eq_sum_range (fun q => part m c q p d) 11]
    refine Eq.trans (Finset.sum_congr rfl fun q _ => ?_) (Fin.sum_mul_add_fin (S := 11) (L := 5632) 512
      (fun g : Fin 5632 => Cert.FfnSReferenceIdeal.Read.val_main_v45 (F := Ideal) (a0 m c) (a1 m c) (a2 m c) (a3 m c) (a4 m c) (a5 m c)
        (ix3 ⟨p.val, h⟩ 0 g) * a6 m c (ix3 0 g d)))
    refine (dif_pos q.isLt).trans ?_
    unfold contrib
    refine Finset.sum_congr rfl fun f _ => ?_
    rw [act_eq m c p h q f ⟨q.val * 512 + f.val, by omega⟩ (by simp only; omega)]
    exact congrArg (fun y : Fin 5632 => _ * a6 m c (ix3 0 y d)) (Fin.ext (show 512 * q.val + f.val = q.val * 512 + f.val by omega))
  · rw [dif_neg h]
    have e : X m c p d = 0 := dif_neg h
    rw [e, zero_add]
    refine Finset.sum_eq_zero (M := EReal) fun q hq => (dif_pos (Finset.mem_range.1 hq)).trans ?_
    exact Finset.sum_eq_zero fun f _ => by rw [act_zero m c p h, zero_mul]

/-- The second result. -/
theorem res1_eq (p : Fin 16) (f : Fin 5632) : (Value.G10 m c : Vec Ideal S16x5632 .f32) (ix2 p f)
    = Cert.FfnSReferenceIdeal.Read.val_main_v51 (F := Ideal) (a0 m c) (a1 m c) (a2 m c) (ix2 p f) := by
  rw [G10_apply, Cert.FfnSReferenceIdeal.At.res1_apply]
  by_cases h : p.val < 8
  · rw [dif_pos h, Cert.FfnSReferenceIdeal.At.row_apply]
    exact gate_up m c p h _ _ _ fun k => congrArg (WU m c k) (Fin.ext (by simp only [ix3]; omega))
  · rw [dif_neg h]
    exact gate_zero m c p h _ _

/-- The third result. -/
theorem res2_eq (k : Fin 2048) (f : Fin 5632) : (Value.G11 m c : Vec Ideal S2048x5632 .bf16) (ix2 k f)
    = Cert.FfnSReferenceIdeal.Read.val_main_v53 (F := Ideal) (a2 m c) (ix2 k f) := by
  rw [G11_apply, Cert.FfnSReferenceIdeal.At.res2_apply]
  exact congrArg (WU m c k) (Fin.ext (by simp only [ix3]; omega))

/-- The fourth result. -/
theorem res3_eq (k : Fin 2048) (f : Fin 5632) : (Value.G12 m c : Vec Ideal S2048x5632 .bf16) (ix2 k f)
    = Cert.FfnSReferenceIdeal.Read.val_main_v55 (F := Ideal) (a2 m c) (ix2 k f) := by
  rw [G12_apply, Cert.FfnSReferenceIdeal.At.res3_apply]
  exact congrArg (WU m c k) (Fin.ext (by simp only [ix3]; omega))

/-- The fifth result. -/
theorem res4_eq (f : Fin 5632) (d : Fin 2048) : (Value.G13 m c : Vec Ideal S5632x2048 .bf16) (ix2 f d)
    = Cert.FfnSReferenceIdeal.Read.val_main_v56 (F := Ideal) (a6 m c) (ix2 f d) := by
  rw [G13_apply, Cert.FfnSReferenceIdeal.At.res4_apply]
  exact congrArg (fun y => WD m c y d) (Fin.ext (by simp only [ix3]; omega))

end Cert.FfnSKernelIdeal.Step

namespace Cert.Proof.FfnS

open Idealize.ShloMosaic Idealize.ShloMosaic.TcCoe

/-- The sample group's feed-forward kernel's five results are the reference's. -/
theorem algebraic : Cert.algebraic_FfnSKernelIdeal_FfnSReferenceIdeal := by
  pair_intro
  · run_from Cert.FfnSKernelIdeal.Value.run m g
  · run_from Cert.FfnSReferenceIdeal.Value.run m' g'
    · obtain ⟨h0, h1, h2, h3, h4, h5, h6⟩ := hagree c
      refine (Cert.FfnSReferenceIdeal.Read.val_main_v49_eq m' c).trans ?_
      rw [h0, h1, h2, h3, h4, h5, h6]
      funext j
      idx_vars j
      exact (Cert.FfnSKernelIdeal.Step.res0_eq m c j0 j1).symm
    · refine (Cert.FfnSReferenceIdeal.Read.val_main_v51_eq _ _ _).trans ?_
      funext j
      idx_vars j
      exact (Cert.FfnSKernelIdeal.Step.res1_eq m c j0 j1).symm
    · refine (Cert.FfnSReferenceIdeal.Read.val_main_v53_eq _).trans ?_
      funext j
      idx_vars j
      exact (Cert.FfnSKernelIdeal.Step.res2_eq m c j0 j1).symm
    · refine (Cert.FfnSReferenceIdeal.Read.val_main_v55_eq _).trans ?_
      funext j
      idx_vars j
      exact (Cert.FfnSKernelIdeal.Step.res3_eq m c j0 j1).symm
    · refine (Cert.FfnSReferenceIdeal.Read.val_main_v56_eq _).trans ?_
      funext j
      idx_vars j
      exact (Cert.FfnSKernelIdeal.Step.res4_eq m c j0 j1).symm

end Cert.Proof.FfnS
end
-- ==== Proof.OutEq.lean ====
/-
  The output projection: the array the kernel leaves is the residual plus the products of the mixer's and the memory's
  rows with the two halves of the weights, which is what the reference's one product with the joined rows is.
-/
module

public import proofs.«01_k».proof.Proof.Gen.OutKernelIdeal.Value
public import proofs.«01_k».proof.Proof.Gen.OutReferenceIdeal.Read
public import proofs.«01_k».proof.Proof.Gen.OutReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.OutKernelIdeal.At

open Cert.OutKernelIdeal Cert.OutKernelIdeal.Gen Idealize.ShloMosaic Idealize.ShloMosaic.TcCoe

variable (m : (ℓ : Loc nD τ sig) → Buf (Elt Ideal) ℓ)

/-- The residual, as 8192 rows. -/
def X (c : Dev nD) (r : Fin 8192) (d : Fin 2048) : EReal :=
  (m ((c : Thread nD τ).loc main_arg0) : Vec Ideal S2x4096x2048 .f32) (ix3 ⟨r.val / 4096, by omega⟩ ⟨r.val % 4096, by omega⟩ d)

/-- The mixer's rows. -/
def MX (c : Dev nD) (r : Fin 8192) (k : Fin 1536) : EReal :=
  (m ((c : Thread nD τ).loc main_arg1) : Vec Ideal S2x4096x1536 .f32) (ix3 ⟨r.val / 4096, by omega⟩ ⟨r.val % 4096, by omega⟩ k)

/-- The memory's rows. -/
def MO (c : Dev nD) (r : Fin 8192) (k : Fin 512) : EReal :=
  (m ((c : Thread nD τ).loc main_arg2) : Vec Ideal S2x4096x512 .f32) (ix3 ⟨r.val / 4096, by omega⟩ ⟨r.val % 4096, by omega⟩ k)

/-- The weights. -/
def W (c : Dev nD) (k : Fin 2048) (d : Fin 2048) : EReal := (m ((c : Thread nD τ).loc main_arg3) : Vec Ideal S2048x2048 .f32) (ix2 k d)

theorem V_x (c : Dev nD) (r : Fin 8192) (d : Fin 2048) : (V m c main_v5 : Vec Ideal S8192x2048 .f32) (ix2 r d) = X m c r d := by
  unfold X
  unfold_abbrev_sides
  after_results
  pointwise

theorem V_mix (c : Dev nD) (r : Fin 8192) (k : Fin 1536) : (V m c main_v1 : Vec Ideal S8192x1536 .bf16) (ix2 r k) = MX m c r k := by
  unfold MX
  unfold_abbrev_sides
  after_results
  pointwise

theorem V_mo (c : Dev nD) (r : Fin 8192) (k : Fin 512) : (V m c main_v3 : Vec Ideal S8192x512 .bf16) (ix2 r k) = MO m c r k := by
  unfold MO
  unfold_abbrev_sides
  after_results
  pointwise

theorem V_w (c : Dev nD) (k : Fin 2048) (d : Fin 2048) : (V m c main_v4 : Vec Ideal S2048x2048 .bf16) (ix2 k d) = W m c k d := by
  unfold W
  unfold_abbrev_sides
  after_results
  pointwise

theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![3, t.val % 4] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![t.val / 4, t.val % 4] := (by decide +kernel : ∀ t : Fin grid0.N, _)

/-- A point's row block. -/
def rb (t : Fin cfg0.N) : Fin 4 := ⟨t.val / 4, by have := t.isLt.trans_eq N_0; omega⟩

/-- A point's column block. -/
def cq (t : Fin cfg0.N) : Fin 4 := ⟨t.val % 4, by omega⟩

theorem blk0 (c : Dev nD) (t : Fin cfg0.N) (p : Fin 2048) (k : Fin 1536) :
    (iblk m c 0 t : Vec Ideal S2048x1536 .bf16) (ix2 p k) = MX m c ⟨2048 * (rb t).val + p.val, by omega⟩ k := by
  refine Eq.trans ?_ (V_mix m c _ k)
  blk_ext [iblk, idx0, rb]

theorem blk1 (c : Dev nD) (t : Fin cfg0.N) (p : Fin 2048) (k : Fin 512) :
    (iblk m c 1 t : Vec Ideal S2048x512 .bf16) (ix2 p k) = MO m c ⟨2048 * (rb t).val + p.val, by omega⟩ k := by
  refine Eq.trans ?_ (V_mo m c _ k)
  blk_ext [iblk, idx1, rb]

theorem blk2 (c : Dev nD) (t : Fin cfg0.N) (k : Fin 1536) (q : Fin 512) :
    (X0_2 m c t : Vec Ideal S1536x512 .bf16) (ix2 k q) = W m c ⟨k.val, by omega⟩ ⟨512 * (cq t).val + q.val, by omega⟩ := by
  refine Eq.trans ?_ (V_w m c _ _)
  unfold X0_2 Pipeline.Window.fill
  rw [dif_pos (moved0_2 t _)]
  blk_ext [iblk, idx2, cq]

theorem blk3 (c : Dev nD) (t : Fin cfg0.N) (k : Fin 512) (q : Fin 512) :
    (iblk m c 3 t : Vec Ideal S512x512 .bf16) (ix2 k q) = W m c ⟨1536 + k.val, by omega⟩ ⟨512 * (cq t).val + q.val, by omega⟩ := by
  refine Eq.trans ?_ (V_w m c _ _)
  blk_ext [iblk, idx3, cq]

theorem blk4 (c : Dev nD) (t : Fin cfg0.N) (p : Fin 2048) (q : Fin 512) :
    (iblk m c 4 t : Vec Ideal S2048x512 .f32) (ix2 p q) = X m c ⟨2048 * (rb t).val + p.val, by omega⟩ ⟨512 * (cq t).val + q.val, by omega⟩ := by
  refine Eq.trans ?_ (V_x m c _ _)
  blk_ext [iblk, idx4, rb, cq]

/-- What the body leaves in its block. -/
theorem body_apply (c : Dev nD) (i : grid0.Coords) (arg2 : Memref sig .tc .vmem S2048x1536 .bf16) (harg2 : arg2.IsWhole) (arg3 : Memref sig .tc .vmem S2048x512 .bf16) (harg3 : arg3.IsWhole) (arg4 : Memref sig .tc .vmem S1536x512 .bf16) (harg4 : arg4.IsWhole) (arg5 : Memref sig .tc .vmem S512x512 .bf16) (harg5 : arg5.IsWhole) (arg6 : Memref sig .tc .vmem S2048x512 .f32) (harg6 : arg6.IsWhole) (arg7 : Memref sig .tc .vmem S2048x512 .f32) (harg7 : arg7.IsWhole)
    (x0 : Vec Ideal S2048x1536 .bf16) (x1 : Vec Ideal S2048x512 .bf16) (x2 : Vec Ideal S1536x512 .bf16) (x3 : Vec Ideal S512x512 .bf16) (x4 : Vec Ideal S2048x512 .f32) (p : Fin 2048) (q : Fin 512) :
    out0_A_5 c i arg2 harg2 arg3 harg3 arg4 harg4 arg5 harg5 arg6 harg6 arg7 harg7 x0 x1 x2 x3 x4 (ix2 p q)
      = x4 (ix2 p q) + (∑ k : Fin 1536, x0 (ix2 p k) * x2 (ix2 k q)) + ∑ k : Fin 512, x1 (ix2 p k) * x3 (ix2 k q) := by
  unfold out0_A_5
  frame_open
  simp (disch := decide) only [↓ View.readCov_skip, ↓ View.readCov_cons_toLoadRect, ↓ View.readCov_fill]
  frame_out
  pointwise [k0_pay1]

/-- The result at a row and a column. -/
def R (c : Dev nD) (r : Fin 8192) (d : Fin 2048) : EReal :=
  X m c r d + (∑ k : Fin 1536, MX m c r k * W m c ⟨k.val, by omega⟩ d) + ∑ k : Fin 512, MO m c r k * W m c ⟨1536 + k.val, by omega⟩ d

/-- The array the kernel leaves. -/
def G (c : Dev nD) : Vec Ideal S8192x2048 .f32 := fun j => R m c (j 0) (j 1)

theorem final (c : Dev nD) : (dats m 0 c).arrAt 5 cfg0.N = G m c := by
  refine (dats m 0 c).arrAt_eq_of_covers 5 _ (by decide +kernel) fun t hf y => ?_
  blk_simp
  rw [after0_5]
  unfold outsAt0
  idx_vars y
  refine (body_apply ..).trans ?_
  rw [blk4]
  simp only [blk0, blk1, blk2, blk3]
  show G m c (ix2 ⟨2048 * (rb t).val + y0.val, by omega⟩ ⟨512 * (cq t).val + y1.val, by omega⟩) = _
  blk_ext [idx5, rb, cq]

end Cert.OutKernelIdeal.At

namespace Cert.OutReferenceIdeal.At

open Cert.OutReferenceIdeal Cert.OutReferenceIdeal.Gen Idealize.ShloMosaic Idealize.ShloMosaic.TcCoe

/-- The reference's result at a row and a column, the product's sum split where the joined rows change. -/
theorem out_apply (x0 : Vec Ideal S2x4096x2048 .f32) (x1 : Vec Ideal S2x4096x1536 .f32) (x2 : Vec Ideal S2x4096x512 .f32)
    (x3 : Vec Ideal S2048x2048 .f32) (r : Fin 8192) (d : Fin 2048) :
    (Read.val_main_v3 (F := Ideal) x0 x1 x2 x3 : Vec Ideal S8192x2048 .f32) (ix2 r d)
      = x0 (ix3 ⟨r.val / 4096, by omega⟩ ⟨r.val % 4096, by omega⟩ d)
        + ((∑ k : Fin 1536, x1 (ix3 ⟨r.val / 4096, by omega⟩ ⟨r.val % 4096, by omega⟩ k) * x3 (ix2 ⟨k.val, by omega⟩ d))
          + ∑ k : Fin 512, x2 (ix3 ⟨r.val / 4096, by omega⟩ ⟨r.val % 4096, by omega⟩ k) * x3 (ix2 ⟨1536 + k.val, by omega⟩ d)) := by
  pointwise [Read.val_main_v3, Read.val_main_v2, Read.val_main_v1]
  refine congrArg (fun y : EReal => x0 (ix3 ⟨r.val / 4096, by omega⟩ ⟨r.val % 4096, by omega⟩ d) + y) ?_
  refine (Fin.sum_univ_add (M := EReal) (a := 1536) (b := 512) (fun k : Fin 2048 => Read.val_main_v0 (F := Ideal) x1 x2 (ix3 ⟨r.val / 4096, by omega⟩ ⟨r.val % 4096, by omega⟩ k) * x3 (ix2 k d))).trans ?_
  refine congrArg₂ (fun y z : EReal => y + z) (Finset.sum_congr (M := EReal) rfl fun k _ => ?_) (Finset.sum_congr (M := EReal) rfl fun k _ => ?_)
  · refine congrArg (fun y : EReal => y * x3 (ix2 ⟨k.val, by omega⟩ d)) ?_
    show Read.val_main_v0 (F := Ideal) x1 x2 (ix3 _ _ ⟨k.val, by omega⟩) = _
    pointwise [Read.val_main_v0]
  · refine congrArg (fun y : EReal => y * x3 (ix2 ⟨1536 + k.val, by omega⟩ d)) ?_
    show Read.val_main_v0 (F := Ideal) x1 x2 (ix3 _ _ ⟨1536 + k.val, by omega⟩) = _
    pointwise [Read.val_main_v0]

end Cert.OutReferenceIdeal.At

namespace Cert.Proof.Out

open Idealize.ShloMosaic Idealize.ShloMosaic.TcCoe

/-- The output projection's result is the reference's. -/
theorem algebraic : Cert.algebraic_OutKernelIdeal_OutReferenceIdeal := by
  pair_intro
  · run_from Cert.OutKernelIdeal.Value.run_blocks m g
  · run_from Cert.OutReferenceIdeal.Value.run m' g'
    obtain ⟨h0, h1, h2, h3⟩ := hagree c
    refine (Cert.OutReferenceIdeal.Read.val_main_v3_eq _ _ _ _).trans ?_
    rw [Cert.OutKernelIdeal.At.final m c, h1, h2]
    funext j
    idx_vars j
    refine (Cert.OutReferenceIdeal.At.out_apply _ _ _ _ j0 j1).trans ?_
    exact (add_assoc (G := EReal) _ _ _).symm

end Cert.Proof.Out
end
-- ==== Proof.GateEq.lean ====
/-
  The in projection's three arrays are the reference's: the gated products of the normalised rows with the first two
  column ranges of the weights, and the plain product with the third.
-/
module

public import proofs.«01_k».proof.Proof.GateFrame
public import proofs.«01_k».proof.Proof.Gen.GateReferenceIdeal.Read
public import proofs.«01_k».proof.Proof.Gen.GateReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.GateKernelIdeal.At

open Cert.GateKernelIdeal Cert.GateKernelIdeal.Gen Cert.GateKernelIdeal.Step Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- A row's root mean square norm: the row over the root of its mean square plus the small constant, times the norm's
    weights. -/
def rmsRow (x g : Fin 2048 → EReal) (d : Fin 2048) : EReal :=
  x d * Ideal.rsqrt (Ideal.div (∑ k, x k * x k) (Ideal.ofBits .f32 0x45000000#32) + Ideal.ofBits .f32 0x358637BD#32) * g d

/-- The gate: the Gaussian error linear unit by the hyperbolic tangent. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

theorem pay1_apply (x : Vec Ideal S1024x2048 .f32) (g : Vec Ideal S1x2048 .f32) (p : Fin 1024) (k : Fin 2048) :
    k0_pay1 x g (ix2 p k) = rmsRow (fun k => x (ix2 p k)) (fun k => g (ix2 0 k)) k := by
  unfold rmsRow
  pointwise [k0_pay1]

theorem pay4_apply (h : Vec Ideal S1024x2048 .bf16) (w : Vec Ideal S2048x512 .bf16) (p : Fin 1024) (q : Fin 512) :
    k0_pay4 h w (ix2 p q) = ∑ k : Fin 2048, h (ix2 p k) * w (ix2 k q) := by
  pointwise [k0_pay4]

theorem pay2_apply (h : Vec Ideal S1024x2048 .bf16) (w : Vec Ideal S2048x512 .bf16) (p : Fin 1024) (q : Fin 512) :
    k0_pay2 h w (ix2 p q) = gelu (∑ k : Fin 2048, h (ix2 p k) * w (ix2 k q)) := by
  unfold gelu
  pointwise [k0_pay2]

theorem pay3_apply (h : Vec Ideal S1024x2048 .bf16) (w : Vec Ideal S2048x512 .bf16) (p : Fin 1024) (q : Fin 512) :
    k0_pay3 h w (ix2 p q) = gelu (∑ k : Fin 2048, h (ix2 p k) * w (ix2 k q)) :=
  pay2_apply h w p q

/-- The input, as 8192 rows. -/
def X (c : Dev nD) (r : Fin 8192) (k : Fin 2048) : EReal :=
  (m ((c : Thread nD τ).loc main_arg0) : Vec Ideal S2x4096x2048 .f32) (ix3 ⟨r.val / 4096, by omega⟩ ⟨r.val % 4096, by omega⟩ k)

/-- The norm's gains. -/
def NG (c : Dev nD) (k : Fin 2048) : EReal := (m ((c : Thread nD τ).loc main_arg1) : Vec Ideal S2048 .f32) (ix1 k)

/-- The weights. -/
def W (c : Dev nD) (k : Fin 2048) (d : Fin 3584) : EReal := (m ((c : Thread nD τ).loc main_arg2) : Vec Ideal S2048x3584 .f32) (ix2 k d)

theorem V_x (c : Dev nD) (r : Fin 8192) (k : Fin 2048) : (V m c main_v0 : Vec Ideal S8192x2048 .f32) (ix2 r k) = X m c r k := by
  unfold X
  unfold_abbrev_sides
  simp only [hostOps0, hostOps0_1, hostOps0_2, List.flatten_cons, List.flatten_nil, List.append_nil, List.cons_append, List.nil_append]
  after_results
  pointwise

theorem V_g (c : Dev nD) (k : Fin 2048) : (V m c main_v1 : Vec Ideal S1x2048 .f32) (ix2 0 k) = NG m c k := by
  unfold NG
  unfold_abbrev_sides
  simp only [hostOps0, hostOps0_1, hostOps0_2, List.flatten_cons, List.flatten_nil, List.append_nil, List.cons_append, List.nil_append]
  after_results
  pointwise

theorem V_w (c : Dev nD) (k : Fin 2048) (d : Fin 3584) : (V m c main_v2 : Vec Ideal S2048x3584 .bf16) (ix2 k d) = W m c k d := by
  unfold W
  unfold_abbrev_sides
  simp only [hostOps0, hostOps0_1, hostOps0_2, List.flatten_cons, List.flatten_nil, List.append_nil, List.cons_append, List.nil_append]
  after_results
  pointwise

theorem idx0 : ∀ t : Fin cfg0.N, win0_0.index t = ![t.val / 7, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 7] := (by decide +kernel : ∀ t : Fin grid0.N, _)
theorem idx4 : ∀ t : Fin cfg0.N, win0_4.index t = ![t.val / 7, min (t.val % 7) 2] := (by decide +kernel : ∀ t : Fin grid0.N, _)
theorem idx5 : ∀ t : Fin cfg0.N, win0_5.index t = ![t.val / 7, min (t.val % 7 - 3) 2] := (by decide +kernel : ∀ t : Fin grid0.N, _)
theorem idx6 : ∀ t : Fin cfg0.N, win0_6.index t = ![t.val / 7, 0] := (by decide +kernel : ∀ t : Fin grid0.N, _)

/-- A step's row block. -/
def rb (t : Fin cfg0.N) : Fin 8 := ⟨t.val / 7, by have := t.isLt.trans_eq N_0; omega⟩

/-- A step's column block of the weights. -/
def cb (t : Fin cfg0.N) : Fin 7 := ⟨t.val % 7, by omega⟩

theorem rb_stepOf (t : Fin cfg0.N) (j : ℕ) (h : j < 7) : rb (stepOf t.val j) = rb t := by
  have ht := t.isLt.trans_eq N_0
  refine Fin.ext ?_
  show (7 * (t.val / 7) + j) % 56 / 7 = t.val / 7
  omega

theorem cb_stepOf (t : Fin cfg0.N) (j : ℕ) (h : j < 7) : cb (stepOf t.val j) = ⟨j, h⟩ := by
  have ht := t.isLt.trans_eq N_0
  refine Fin.ext ?_
  show (7 * (t.val / 7) + j) % 56 % 7 = j
  omega

theorem blk0 (c : Dev nD) (t : Fin cfg0.N) (p : Fin 1024) (k : Fin 2048) :
    (iblk m c 0 t : Vec Ideal S1024x2048 .f32) (ix2 p k) = X m c ⟨1024 * (rb t).val + p.val, by omega⟩ k := by
  refine Eq.trans ?_ (V_x m c _ k)
  blk_ext [iblk, idx0, rb]

theorem blk1 (c : Dev nD) (t : Fin cfg0.N) (k : Fin 2048) : (iblk m c 1 t : Vec Ideal S1x2048 .f32) (ix2 0 k) = NG m c k := by
  refine Eq.trans ?_ (V_g m c k)
  blk_ext [iblk, idx1]

theorem blk2 (c : Dev nD) (t : Fin cfg0.N) (k : Fin 2048) (q : Fin 512) :
    (iblk m c 2 t : Vec Ideal S2048x512 .bf16) (ix2 k q) = W m c k ⟨512 * (cb t).val + q.val, by omega⟩ := by
  refine Eq.trans ?_ (V_w m c k _)
  blk_ext [iblk, idx2, cb]

/-- The normalised rows a row block's scratch holds. -/
theorem rows_apply (c : Dev nD) (t : Fin cfg0.N) (p : Fin 1024) (k : Fin 2048) :
    rows m c t.val (ix2 p k) = rmsRow (X m c ⟨1024 * (rb t).val + p.val, by omega⟩) (NG m c) k := by
  unfold rows
  rw [pay1_apply]
  simp only [blk0, blk1]
  have e : (⟨1024 * (rb (stepOf t.val 0)).val + p.val, by omega⟩ : Fin 8192) = ⟨1024 * (rb t).val + p.val, by omega⟩ :=
    Fin.ext (congrArg (fun a : Fin 8 => 1024 * a.val + p.val) (rb_stepOf t 0 (by decide)))
  exact congrArg (fun r => rmsRow (X m c r) (NG m c) k) e

/-- The projection at a row and a column of the weights. -/
def Z (c : Dev nD) (r : Fin 8192) (d : Fin 3584) : EReal := ∑ k : Fin 2048, rmsRow (X m c r) (NG m c) k * W m c k d

theorem prod_apply (c : Dev nD) (t s : Fin cfg0.N) (p : Fin 1024) (q : Fin 512) :
    (∑ k : Fin 2048, rows m c t.val (ix2 p k) * (iblk m c 2 s : Vec Ideal S2048x512 .bf16) (ix2 k q) : EReal)
      = Z m c ⟨1024 * (rb t).val + p.val, by omega⟩ ⟨512 * (cb s).val + q.val, by omega⟩ := by
  unfold Z
  exact Finset.sum_congr (M := EReal) rfl fun k _ => congrArg₂ (fun y z : EReal => y * z) (rows_apply m c t p k) (blk2 m c s k q)

/-- The three results. -/
def G4 (c : Dev nD) : Vec Ideal S8192x1536 .f32 := fun j => gelu (Z m c (j 0) ⟨(j 1).val, by have := (j 1).isLt; simp at this; omega⟩)
def G5 (c : Dev nD) : Vec Ideal S8192x1536 .f32 := fun j => gelu (Z m c (j 0) ⟨1536 + (j 1).val, by have := (j 1).isLt; simp at this; omega⟩)
def G6 (c : Dev nD) : Vec Ideal S8192x512 .f32 := fun j => Z m c (j 0) ⟨3072 + (j 1).val, by have := (j 1).isLt; simp at this; omega⟩

theorem u4_apply (c : Dev nD) (t : Fin cfg0.N) (p : Fin 1024) (q : Fin 512) :
    u4 m c t (ix2 p q) = G4 m c (ix2 ⟨1024 * (rb t).val + p.val, by omega⟩ ⟨512 * min (t.val % 7) 2 + q.val, by omega⟩) := by
  unfold u4
  refine (pay2_apply ..).trans ?_
  rw [prod_apply m c t]
  refine congrArg gelu (congrArg (Z m c _) (Fin.ext ?_))
  show 512 * (cb (stepOf t.val (min (t.val % 7) 2))).val + q.val = 512 * min (t.val % 7) 2 + q.val
  rw [cb_stepOf t _ (by omega)]

theorem v5_apply (c : Dev nD) (t : Fin cfg0.N) (h : 3 ≤ t.val % 7) (p : Fin 1024) (q : Fin 512) :
    v5 m c t (ix2 p q) = G5 m c (ix2 ⟨1024 * (rb t).val + p.val, by omega⟩ ⟨512 * min (t.val % 7 - 3) 2 + q.val, by omega⟩) := by
  unfold v5
  refine (pay3_apply ..).trans ?_
  rw [prod_apply m c t]
  refine congrArg gelu (congrArg (Z m c _) (Fin.ext ?_))
  show 512 * (cb (stepOf t.val (min (t.val % 7) 5))).val + q.val = 1536 + (512 * min (t.val % 7 - 3) 2 + q.val)
  rw [cb_stepOf t _ (by omega)]
  show 512 * min (t.val % 7) 5 + q.val = _
  omega

theorem q6_apply (c : Dev nD) (t : Fin cfg0.N) (h : t.val % 7 = 6) (p : Fin 1024) (q : Fin 512) :
    q6 m c t (ix2 p q) = G6 m c (ix2 ⟨1024 * (rb t).val + p.val, by omega⟩ q) := by
  unfold q6
  refine (pay4_apply ..).trans ?_
  rw [prod_apply m c t]
  refine congrArg (Z m c _) (Fin.ext ?_)
  show 512 * (t.val % 7) + q.val = 3072 + q.val
  omega

/-! ## The arrays the kernel leaves -/

theorem final4 (c : Dev nD) (after) (h : ∀ t, (cfg0.win 4).flush t = true → after 4 t = u4 m c t) :
    ((rdat m c).withAfter after).arrAt 4 cfg0.N = G4 m c := by
  refine Dat.arrAt_eq_of_covers _ 4 _ (by decide +kernel) fun t hf y => ?_
  blk_simp
  rw [RDat.withAfter_after, h t hf]
  idx_vars y
  refine (u4_apply m c t y0 y1).trans ?_
  blk_ext [idx4, rb]

theorem final5 (c : Dev nD) (after) (h : ∀ t, (cfg0.win 5).flush t = true → after 5 t = v5 m c t) :
    ((rdat m c).withAfter after).arrAt 5 cfg0.N = G5 m c := by
  refine Dat.arrAt_eq_of_covers _ 5 _ (by decide +kernel) fun t hf y => ?_
  blk_simp
  rw [RDat.withAfter_after, h t hf]
  idx_vars y
  refine (v5_apply m c t (by have := (flush5_iff t).mp hf; omega) y0 y1).trans ?_
  blk_ext [idx5, rb]

theorem final6 (c : Dev nD) (after) (h : ∀ t, (cfg0.win 6).flush t = true → after 6 t = q6 m c t) :
    ((rdat m c).withAfter after).arrAt 6 cfg0.N = G6 m c := by
  refine Dat.arrAt_eq_of_covers _ 6 _ (by decide +kernel) fun t hf y => ?_
  blk_simp
  rw [RDat.withAfter_after, h t hf]
  idx_vars y
  refine (q6_apply m c t ((flush0_6 t).mp hf) y0 y1).trans ?_
  blk_ext [idx6, rb]

/-- The three arrays after the run. -/
theorem post (r : PUnit × MemSt nD τ sig (Elt Ideal)) (h : RDat.FramePost cfg0 (rdat m) (V m) r) (c : Dev nD) :
    r.2.mem ((c : Thread nD τ).loc main_v11_0) = G4 m c
      ∧ r.2.mem ((c : Thread nD τ).loc main_v11_1) = G5 m c
      ∧ r.2.mem ((c : Thread nD τ).loc main_v11_2) = G6 m c := by
  obtain ⟨after, hL, hA⟩ := RDat.FramePost.exists_exact h c
  refine ⟨(hA 4).trans (final4 m c after fun t hf => ?_), (hA 5).trans (final5 m c after fun t hf => ?_), (hA 6).trans (final6 m c after fun t hf => ?_)⟩
  · exact (said_4 m c t _).mp ((dat m c).toRRel_leaves (w := 4) rfl (hL 4 t hf))
  · exact (said_5 m c t _).mp ((dat m c).toRRel_leaves (w := 5) rfl (hL 5 t hf)) (by have := (flush5_iff t).mp hf; omega)
  · exact (said_6 m c t _).mp ((dat m c).toRRel_leaves (w := 6) rfl (hL 6 t hf)) ((flush0_6 t).mp hf)

/-- The run, with the three arrays and the arguments named. -/
theorem run : θ_run defs (onTc (τ := τ) (main (F := Ideal))) ⟨m, fun _ => 0, ρ⟩ fun r => ∀ c : Dev nD,
      r.2.mem ((c : Thread nD τ).loc main_v11_0) = G4 m c
      ∧ r.2.mem ((c : Thread nD τ).loc main_v11_1) = G5 m c
      ∧ r.2.mem ((c : Thread nD τ).loc main_v11_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post m r h c).1, (post m r h c).2.1, (post m r h c).2.2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.GateKernelIdeal.At

namespace Cert.GateReferenceIdeal.At

open Cert.GateReferenceIdeal Cert.GateReferenceIdeal.Gen Cert.GateReferenceIdeal.Read Idealize.ShloMosaic Idealize.ShloMosaic.TcCoe
open Cert.GateKernelIdeal.At (rmsRow gelu)

variable (x0 : Vec Ideal S2x4096x2048 .f32) (x1 : Vec Ideal S2048 .f32) (x2 : Vec Ideal S2048x3584 .f32)

/-- The normalised row at a position. -/
theorem norm_apply (b : Fin 2) (s : Fin 4096) (k : Fin 2048) : val_main_v12 (F := Ideal) x0 x1 (ix3 b s k)
    = rmsRow (fun k => x0 (ix3 b s k)) (fun k => x1 (ix1 k)) k := by
  unfold rmsRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The projection. -/
theorem proj_apply (r : Fin 8192) (d : Fin 3584) : (val_main_v14 (F := Ideal) x0 x1 x2 : Vec Ideal S8192x3584 .f32) (ix2 r d)
    = ∑ k : Fin 2048, rmsRow (fun k => x0 (ix3 ⟨r.val / 4096, by omega⟩ ⟨r.val % 4096, by omega⟩ k)) (fun k => x1 (ix1 k)) k * x2 (ix2 k d) := by
  simp only [← norm_apply]
  pointwise [val_main_v14, val_main_v13]

/-- The first 3072 columns of the projection. -/
theorem cut_apply (r : Fin 8192) (d : Fin 3072) : (val_main_v15 (F := Ideal) x0 x1 x2 : Vec Ideal S8192x3072 .f32) (ix2 r d)
    = (val_main_v14 (F := Ideal) x0 x1 x2 : Vec Ideal S8192x3584 .f32) (ix2 r ⟨d.val, by omega⟩) := by
  pointwise [val_main_v15]

/-- The gated columns. -/
theorem gate_apply (r : Fin 8192) (d : Fin 3072) : (val_main_v28 (F := Ideal) x0 x1 x2 : Vec Ideal S8192x3072 .f32) (ix2 r d)
    = gelu ((val_main_v14 (F := Ideal) x0 x1 x2 : Vec Ideal S8192x3584 .f32) (ix2 r ⟨d.val, by omega⟩)) := by
  rw [← cut_apply]
  unfold gelu
  have e (z : EReal) : z * (z * z) = z * z * z := mul_comm (G := EReal) _ _
  simp only [e]
  pointwise [val_main_v28, val_main_v27, val_main_v26, val_main_v25, val_main_v24, val_main_v23, val_main_v22, val_main_v21,
    val_main_v20, val_main_v19, val_main_v18, val_main_v17, val_main_v16, val_main_cst_2, val_main_cst_3, val_main_cst_4, val_main_cst_5]

theorem out0_apply (r : Fin 8192) (d : Fin 1536) : (val_main_v29 (F := Ideal) x0 x1 x2 : Vec Ideal S8192x1536 .f32) (ix2 r d)
    = (val_main_v28 (F := Ideal) x0 x1 x2 : Vec Ideal S8192x3072 .f32) (ix2 r ⟨d.val, by omega⟩) := by
  pointwise [val_main_v29]

theorem out1_apply (r : Fin 8192) (d : Fin 1536) : (val_main_v30 (F := Ideal) x0 x1 x2 : Vec Ideal S8192x1536 .f32) (ix2 r d)
    = (val_main_v28 (F := Ideal) x0 x1 x2 : Vec Ideal S8192x3072 .f32) (ix2 r ⟨1536 + d.val, by omega⟩) := by
  pointwise [val_main_v30]

theorem out2_apply (r : Fin 8192) (d : Fin 512) : (val_main_v31 (F := Ideal) x0 x1 x2 : Vec Ideal S8192x512 .f32) (ix2 r d)
    = (val_main_v14 (F := Ideal) x0 x1 x2 : Vec Ideal S8192x3584 .f32) (ix2 r ⟨3072 + d.val, by omega⟩) := by
  pointwise [val_main_v31]

end Cert.GateReferenceIdeal.At

namespace Cert.Proof.Gate

open Idealize.ShloMosaic Idealize.ShloMosaic.TcCoe

/-- The in projection's three results are the reference's. -/
theorem algebraic : Cert.algebraic_GateKernelIdeal_GateReferenceIdeal := by
  pair_intro
  · run_from Cert.GateKernelIdeal.At.run m g
  · run_from Cert.GateReferenceIdeal.Value.run m' g'
    · obtain ⟨h0, h1, h2⟩ := hagree c
      refine (Cert.GateReferenceIdeal.Read.val_main_v29_eq m' c).trans ?_
      rw [h0, h1, h2]
      funext j
      idx_vars j
      refine (Cert.GateReferenceIdeal.At.out0_apply ..).trans ((Cert.GateReferenceIdeal.At.gate_apply ..).trans ?_)
      exact congrArg Cert.GateKernelIdeal.At.gelu (Cert.GateReferenceIdeal.At.proj_apply ..)
    · obtain ⟨h0, h1, h2⟩ := hagree c
      refine (Cert.GateReferenceIdeal.Read.val_main_v30_eq m' c).trans ?_
      rw [h0, h1, h2]
      funext j
      idx_vars j
      refine (Cert.GateReferenceIdeal.At.out1_apply ..).trans ((Cert.GateReferenceIdeal.At.gate_apply ..).trans ?_)
      exact congrArg Cert.GateKernelIdeal.At.gelu (Cert.GateReferenceIdeal.At.proj_apply ..)
    · obtain ⟨h0, h1, h2⟩ := hagree c
      refine (Cert.GateReferenceIdeal.Read.val_main_v31_eq _ _ _).trans ?_
      funext j
      idx_vars j
      refine (Cert.GateReferenceIdeal.At.out2_apply ..).trans ?_
      exact Cert.GateReferenceIdeal.At.proj_apply ..

end Cert.Proof.Gate
end
-- ==== Proof.MemKvEq.lean ====
/-
  The memory's keys and values are the reference's: the products of the memory's normalised rows with the two halves of
  the weights, the keys normalised head by head.
-/
module

public import proofs.«01_k».proof.Proof.MemKvFrame
public import proofs.«01_k».proof.Proof.Gen.MemKvReferenceIdeal.Read
public import proofs.«01_k».proof.Proof.Gen.MemKvReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.MemKvKernelIdeal.At

open Cert.MemKvKernelIdeal Cert.MemKvKernelIdeal.Gen Cert.MemKvKernelIdeal.Step Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- A row's root mean square norm: the row over the root of its mean square plus the small constant, times the norm's
    weights. -/
def rmsRow (x g : Fin 2048 → EReal) (d : Fin 2048) : EReal :=
  x d * Ideal.rsqrt (Ideal.div (∑ k, x k * x k) (Ideal.ofBits .f32 0x45000000#32) + Ideal.ofBits .f32 0x358637BD#32) * g d

theorem pay1_apply (x : Vec Ideal S512x2048 .f32) (g : Vec Ideal S1x2048 .f32) (p : Fin 512) (k : Fin 2048) :
    k0_pay1 x g (ix2 p k) = rmsRow (fun k => x (ix2 p k)) (fun k => g (ix2 0 k)) k := by
  unfold rmsRow
  pointwise [k0_pay1]

theorem pay3_apply (h : Vec Ideal S512x2048 .bf16) (w : Vec Ideal S1x2048x512 .f32) (p : Fin 512) (q : Fin 512) :
    k0_pay3 h w (ix2 p q) = ∑ k : Fin 2048, h (ix2 p k) * w (ix3 0 k q) := by
  pointwise [k0_pay3]

/-- The matrix that sums a head's columns: one where the two columns are of one head. -/
def Diag (b : Vec Ideal S256x256 .bf16) : Prop := ∀ x y : Fin 256, b (ix2 x y) = if x.val / 128 = y.val / 128 then (1 : EReal) else 0

theorem div_128 (x : EReal) : Ideal.div x (Ideal.ofBits .f32 0x43000000#32) = x * Ideal.ofBits .f32 0x3C000000#32 := by
  have a : Ideal.ofBits .f32 0x43000000#32 = ((128 : ℝ) : EReal) := by
    simp [Ideal.ofBits, Ideal.ieee, -EReal.coe_mul]; norm_num
  have b : Ideal.ofBits .f32 0x3C000000#32 = (((128 : ℝ)⁻¹ : ℝ) : EReal) := by
    simp [Ideal.ofBits, Ideal.ieee, -EReal.coe_mul]; norm_num
  rw [a, b]
  unfold Ideal.div
  rw [if_neg (by exact_mod_cast (by norm_num : (128 : ℝ) ≠ 0)), EReal.coe_inv]

/-- Of a sum over 256 columns, the matrix keeps the 128 of one head. -/
theorem sum_head (f : Fin 256 → EReal) (y : Fin 256) :
    (∑ x : Fin 256, f x * (if x.val / 128 = y.val / 128 then (1 : EReal) else 0) : EReal)
      = ∑ k : Fin 128, f ⟨128 * (y.val / 128) + k.val, by omega⟩ := by
  have e : ∀ x : Fin 256, f x * (if x.val / 128 = y.val / 128 then (1 : EReal) else 0) = if x.val / 128 = y.val / 128 then f x else 0 := by
    intro x
    split
    · exact mul_one (M := EReal) _
    · exact mul_zero (M₀ := EReal) _
  rw [Finset.sum_congr (M := EReal) rfl fun x _ => e x, ← Finset.sum_filter]
  symm
  refine Finset.sum_bij (M := EReal) (fun k _ => (⟨128 * (y.val / 128) + k.val, by omega⟩ : Fin 256)) ?_ ?_ ?_ ?_
  · intro k _
    simp only [Finset.mem_filter, Finset.mem_univ, true_and]
    omega
  · intro a _ b _ h
    have := congrArg Fin.val h
    simp only at this
    exact Fin.ext (by omega)
  · intro x hx
    simp only [Finset.mem_filter, Finset.mem_univ, true_and] at hx
    exact ⟨⟨x.val % 128, by omega⟩, Finset.mem_univ _, Fin.ext (by show 128 * (y.val / 128) + x.val % 128 = x.val; omega)⟩
  · intro _ _
    rfl

theorem pay2_raw (h : Vec Ideal S512x2048 .bf16) (w : Vec Ideal S1x2048x512 .f32) (b b' : Vec Ideal S256x256 .bf16) (g : Vec Ideal S1x512 .f32)
    (p : Fin 512) (q : Fin 512) :
    k0_pay2 h w b b' g (ix2 p q) = k0_pay3 h w (ix2 p q) * Ideal.rsqrt (
      (if e : q.val < 256 then ∑ k : Fin 256, k0_pay3 h w (ix2 p ⟨k.val, by omega⟩) * k0_pay3 h w (ix2 p ⟨k.val, by omega⟩) * b (ix2 k ⟨q.val, e⟩)
        else ∑ k : Fin 256, k0_pay3 h w (ix2 p ⟨256 + k.val, by omega⟩) * k0_pay3 h w (ix2 p ⟨256 + k.val, by omega⟩) * b' (ix2 k ⟨q.val - 256, by omega⟩))
      * Ideal.ofBits .f32 0x3C000000#32 + Ideal.ofBits .f32 0x358637BD#32) * g (ix2 0 q) := by
  simp only [pay3_apply]
  pointwise [k0_pay2]

/-- The word 128 in every place. -/
def w128 : IVec S256 32 := broadcastInDim S256 ![] bcast_S_S256 (constantI S_ 32 128#32)

/-- The host's floor division of a column's number by 128. -/
def fd : IVec S256 32 :=
  select (andi (cmpi .ne (signi (iotaInDim S256 32 0)) (broadcastInDim S256 ![] bcast_S_S256 (signi (constantI S_ 32 128#32))))
      (cmpi .ne (Host.remsi (iotaInDim S256 32 0) w128) (broadcastInDim S256 ![] bcast_S_S256 (constantI S_ 32 0#32))))
    (subi (Host.divsi (iotaInDim S256 32 0) w128) (broadcastInDim S256 ![] bcast_S_S256 (constantI S_ 32 1#32)))
    (Host.divsi (iotaInDim S256 32 0) w128)

theorem fd_apply : ∀ x : Fin 256, fd (ix1 x) = BitVec.ofNat 32 (x.val / 128) := by decide +kernel

theorem V_bd_eq (c : Dev nD) : (V m c main_v13 : Vec Ideal S256x256 .bf16)
    = (uitofp .bf16 (cmpi .eq (broadcastInDim S256x256 ![0, 1] bcast_S256x1_S256x256_0_1 (broadcastInDim S256x1 ![0] bcast_S256_S256x1_0 fd))
        (broadcastInDim S256x256 ![0, 1] bcast_S1x256_S256x256_0_1 (broadcastInDim S1x256 ![1] bcast_S256_S1x256_1 fd))) : FVec Ideal S256x256 .bf16) := by
  unfold_abbrev_sides
  simp only [hostOps0, hostOps0_1, hostOps0_2, List.flatten_cons, List.flatten_nil, List.append_nil, List.cons_append, List.nil_append]
  after_results
  rfl

theorem V_bd (c : Dev nD) : Diag (V m c main_v13 : Vec Ideal S256x256 .bf16) := by
  intro x y
  rw [V_bd_eq]
  have e : ∀ x y : Fin 256, (Scalar.cmpi .eq (fd (ix1 x)) (fd (ix1 y))) = if x.val / 128 = y.val / 128 then 1#1 else 0#1 := by
    intro x y
    rw [fd_apply, fd_apply]
    have hx : x.val / 128 < 2 := by omega
    have hy : y.val / 128 < 2 := by omega
    generalize x.val / 128 = a at hx ⊢
    generalize y.val / 128 = b at hy ⊢
    interval_cases a <;> interval_cases b <;> rfl
  have e' := e x y
  have r : (uitofp .bf16 (cmpi .eq (broadcastInDim S256x256 ![0, 1] bcast_S256x1_S256x256_0_1 (broadcastInDim S256x1 ![0] bcast_S256_S256x1_0 fd))
        (broadcastInDim S256x256 ![0, 1] bcast_S1x256_S256x256_0_1 (broadcastInDim S1x256 ![1] bcast_S256_S1x256_1 fd))) : FVec Ideal S256x256 .bf16) (ix2 x y)
      = (((Scalar.cmpi .eq (fd (ix1 x)) (fd (ix1 y)) : BitVec 1).toNat : ℝ) : EReal) := by
    pointwise
    rfl
  rw [r, e']
  split <;> simp

theorem V_gain (c : Dev nD) (q : Fin 512) : (V m c main_v5 : Vec Ideal S1x512 .f32) (ix2 0 q)
    = (m ((c : Thread nD τ).loc main_arg3) : Vec Ideal S128 .f32) (ix1 ⟨q.val % 128, by omega⟩) := by
  unfold_abbrev_sides
  simp only [hostOps0, hostOps0_1, hostOps0_2, List.flatten_cons, List.flatten_nil, List.append_nil, List.cons_append, List.nil_append]
  after_results
  pointwise

/-- The memory, as 512 rows. -/
def X (c : Dev nD) (r : Fin 512) (k : Fin 2048) : EReal :=
  (m ((c : Thread nD τ).loc main_arg0) : Vec Ideal S2x256x2048 .f32) (ix3 ⟨r.val / 256, by omega⟩ ⟨r.val % 256, by omega⟩ k)

/-- The norm's weights. -/
def NG (c : Dev nD) (k : Fin 2048) : EReal := (m ((c : Thread nD τ).loc main_arg1) : Vec Ideal S2048 .f32) (ix1 k)

/-- The weights of the first layer. -/
def W (c : Dev nD) (k : Fin 2048) (d : Fin 1024) : EReal := (m ((c : Thread nD τ).loc main_arg2) : Vec Ideal S4x2048x1024 .f32) (ix3 0 k d)

/-- The gains of a head's keys. -/
def KG (c : Dev nD) (k : Fin 128) : EReal := (m ((c : Thread nD τ).loc main_arg3) : Vec Ideal S128 .f32) (ix1 k)

theorem V_x (c : Dev nD) (r : Fin 512) (k : Fin 2048) : (V m c main_v0 : Vec Ideal S512x2048 .f32) (ix2 r k) = X m c r k := by
  unfold X
  unfold_abbrev_sides
  simp only [hostOps0, hostOps0_1, hostOps0_2, List.flatten_cons, List.flatten_nil, List.append_nil, List.cons_append, List.nil_append]
  after_results
  pointwise

theorem V_g (c : Dev nD) (k : Fin 2048) : (V m c main_v1 : Vec Ideal S1x2048 .f32) (ix2 0 k) = NG m c k := by
  unfold NG
  unfold_abbrev_sides
  simp only [hostOps0, hostOps0_1, hostOps0_2, List.flatten_cons, List.flatten_nil, List.append_nil, List.cons_append, List.nil_append]
  after_results
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val % 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem blk0 (c : Dev nD) (t : Fin cfg0.N) (p : Fin 512) (k : Fin 2048) :
    (iblk m c 0 t : Vec Ideal S512x2048 .f32) (ix2 p k) = X m c p k := by
  refine Eq.trans ?_ (V_x m c _ k)
  blk_ext [iblk, idx0]

theorem blk1 (c : Dev nD) (t : Fin cfg0.N) (k : Fin 2048) : (iblk m c 1 t : Vec Ideal S1x2048 .f32) (ix2 0 k) = NG m c k := by
  refine Eq.trans ?_ (V_g m c k)
  blk_ext [iblk, idx1]

theorem blk2 (c : Dev nD) (t : Fin cfg0.N) (k : Fin 2048) (q : Fin 512) :
    (iblk m c 2 t : Vec Ideal S1x2048x512 .f32) (ix3 0 k q) = W m c k ⟨512 * (t.val % 2) + q.val, by omega⟩ := by
  unfold W
  rw [← V_main_arg2 m c]
  blk_ext [iblk, idx2]

theorem blk3 (c : Dev nD) (t : Fin cfg0.N) : Diag (iblk m c 3 t : Vec Ideal S256x256 .bf16) := by
  intro x y
  refine Eq.trans ?_ (V_bd m c x y)
  blk_ext [iblk, idx3]

theorem blk4 (c : Dev nD) (t : Fin cfg0.N) (q : Fin 512) :
    (iblk m c 4 t : Vec Ideal S1x512 .f32) (ix2 0 q) = KG m c ⟨q.val % 128, by omega⟩ := by
  refine Eq.trans ?_ (V_gain m c q)
  blk_ext [iblk, idx4]

/-- The projection at a row and a column of the weights. -/
def Z (c : Dev nD) (r : Fin 512) (d : Fin 1024) : EReal := ∑ k : Fin 2048, rmsRow (X m c r) (NG m c) k * W m c k d

theorem rows_apply (c : Dev nD) (p : Fin 512) (k : Fin 2048) : rows m c (ix2 p k) = rmsRow (X m c p) (NG m c) k := by
  unfold rows
  rw [pay1_apply]
  simp only [blk0, blk1]

theorem prod_apply (c : Dev nD) (t : Fin cfg0.N) (p q : Fin 512) :
    k0_pay3 (rows m c) (iblk m c 2 t) (ix2 p q) = Z m c p ⟨512 * (t.val % 2) + q.val, by omega⟩ := by
  refine (pay3_apply ..).trans ?_
  unfold Z
  exact Finset.sum_congr (M := EReal) rfl fun k _ => congrArg₂ (fun y z : EReal => y * z) (rows_apply m c p k) (blk2 m c t k q)

/-- A key's column, normalised in its head. -/
def keyNorm (z : Fin 512 → EReal) (g : Fin 128 → EReal) (q : Fin 512) : EReal :=
  z q * Ideal.rsqrt (Ideal.div (∑ k : Fin 128, z ⟨128 * (q.val / 128) + k.val, by omega⟩ * z ⟨128 * (q.val / 128) + k.val, by omega⟩)
    (Ideal.ofBits .f32 0x43000000#32) + Ideal.ofBits .f32 0x358637BD#32) * g ⟨q.val % 128, by omega⟩

theorem pay2_apply (h : Vec Ideal S512x2048 .bf16) (w : Vec Ideal S1x2048x512 .f32) (b : Vec Ideal S256x256 .bf16) (hb : Diag b)
    (g : Vec Ideal S1x512 .f32) (kg : Fin 128 → EReal) (hg : ∀ q : Fin 512, g (ix2 0 q) = kg ⟨q.val % 128, by omega⟩) (p : Fin 512) (q : Fin 512) :
    k0_pay2 h w b b g (ix2 p q) = keyNorm (fun q => k0_pay3 h w (ix2 p q)) kg q := by
  unfold keyNorm
  rw [pay2_raw, hg, div_128]
  have e : (if e : q.val < 256 then ∑ k : Fin 256, k0_pay3 h w (ix2 p ⟨k.val, by omega⟩) * k0_pay3 h w (ix2 p ⟨k.val, by omega⟩) * b (ix2 k ⟨q.val, e⟩)
        else ∑ k : Fin 256, k0_pay3 h w (ix2 p ⟨256 + k.val, by omega⟩) * k0_pay3 h w (ix2 p ⟨256 + k.val, by omega⟩) * b (ix2 k ⟨q.val - 256, by omega⟩) : EReal)
      = ∑ k : Fin 128, k0_pay3 h w (ix2 p ⟨128 * (q.val / 128) + k.val, by omega⟩) * k0_pay3 h w (ix2 p ⟨128 * (q.val / 128) + k.val, by omega⟩) := by
    split
    · rename_i e
      rw [Finset.sum_congr (M := EReal) rfl fun k _ => congrArg _ (hb k ⟨q.val, e⟩)]
      exact sum_head (fun k => k0_pay3 h w (ix2 p ⟨k.val, by omega⟩) * k0_pay3 h w (ix2 p ⟨k.val, by omega⟩)) ⟨q.val, e⟩
    · rename_i e
      rw [Finset.sum_congr (M := EReal) rfl fun k _ => congrArg _ (hb k ⟨q.val - 256, by omega⟩)]
      refine (sum_head (fun k => k0_pay3 h w (ix2 p ⟨256 + k.val, by omega⟩) * k0_pay3 h w (ix2 p ⟨256 + k.val, by omega⟩)) ⟨q.val - 256, by omega⟩).trans ?_
      refine Finset.sum_congr (M := EReal) rfl fun k _ => ?_
      have i : (⟨256 + (128 * ((q.val - 256) / 128) + k.val), by omega⟩ : Fin 512) = ⟨128 * (q.val / 128) + k.val, by omega⟩ := Fin.ext (by show 256 + (128 * ((q.val - 256) / 128) + k.val) = 128 * (q.val / 128) + k.val; omega)
      exact congrArg (fun i : Fin 512 => (k0_pay3 h w (ix2 p i) * k0_pay3 h w (ix2 p i) : EReal)) i
  rw [e]

/-- The two results. -/
def G5 (c : Dev nD) : Vec Ideal S512x512 .f32 := fun j => keyNorm (fun q => Z m c (j 0) ⟨q.val, by omega⟩) (KG m c) (j 1)
def G6 (c : Dev nD) : Vec Ideal S512x512 .f32 := fun j => Z m c (j 0) ⟨512 + (j 1).val, by have := (j 1).isLt; simp at this; omega⟩

theorem k5_apply (c : Dev nD) (p q : Fin 512) : k5 m c (ix2 p q) = G5 m c (ix2 p q) := by
  unfold k5
  refine (pay2_apply _ _ _ (blk3 m c first) _ (KG m c) (blk4 m c first) p q).trans ?_
  refine congrArg (fun z => keyNorm z (KG m c) q) (funext fun q => ?_)
  refine (prod_apply m c first p q).trans (congrArg (Z m c p) (Fin.ext ?_))
  show 512 * (0 % 2) + q.val = q.val
  omega

theorem v6_apply (c : Dev nD) (p q : Fin 512) : v6 m c (ix2 p q) = G6 m c (ix2 p q) := by
  unfold v6
  refine (prod_apply m c second p q).trans (congrArg (Z m c p) (Fin.ext ?_))
  show 512 * (1 % 2) + q.val = 512 + q.val
  omega

/-! ## The arrays the kernel leaves -/

theorem final5 (c : Dev nD) (after) (h : ∀ t, (cfg0.win 5).flush t = true → after 5 t = k5 m c) :
    ((rdat m c).withAfter after).arrAt 5 cfg0.N = G5 m c := by
  refine Dat.arrAt_eq_of_covers _ 5 _ (by decide +kernel) fun t hf y => ?_
  blk_simp
  rw [RDat.withAfter_after, h t hf]
  idx_vars y
  refine (k5_apply m c y0 y1).trans ?_
  blk_ext [idx5]

theorem final6 (c : Dev nD) (after) (h : ∀ t, (cfg0.win 6).flush t = true → after 6 t = v6 m c) :
    ((rdat m c).withAfter after).arrAt 6 cfg0.N = G6 m c := by
  refine Dat.arrAt_eq_of_covers _ 6 _ (by decide +kernel) fun t hf y => ?_
  blk_simp
  rw [RDat.withAfter_after, h t hf]
  idx_vars y
  refine (v6_apply m c y0 y1).trans ?_
  blk_ext [idx6]

/-- The two arrays after the run. -/
theorem post (r : PUnit × MemSt nD τ sig (Elt Ideal)) (h : RDat.FramePost cfg0 (rdat m) (V m) r) (c : Dev nD) :
    r.2.mem ((c : Thread nD τ).loc main_v14_0) = G5 m c
      ∧ r.2.mem ((c : Thread nD τ).loc main_v14_1) = G6 m c := by
  obtain ⟨after, hL, hA⟩ := RDat.FramePost.exists_exact h c
  refine ⟨(hA 5).trans (final5 m c after fun t hf => ?_), (hA 6).trans (final6 m c after fun t hf => ?_)⟩
  · exact (said_5 m c t _).mp ((dat m c).toRRel_leaves (w := 5) rfl (hL 5 t hf))
  · exact (said_6 m c t _).mp ((dat m c).toRRel_leaves (w := 6) rfl (hL 6 t hf))
      (by have := (flush0_6 t).mp hf; have := t.isLt.trans_eq N_0; omega)

/-- The run, with the two arrays and the arguments named. -/
theorem run : θ_run defs (onTc (τ := τ) (main (F := Ideal))) ⟨m, fun _ => 0, ρ⟩ fun r => ∀ c : Dev nD,
      r.2.mem ((c : Thread nD τ).loc main_v14_0) = G5 m c
      ∧ r.2.mem ((c : Thread nD τ).loc main_v14_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post m r h c).1, (post m r h c).2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      kept_weights m r h c,
      ((h c).2 main_arg3 (Pipeline.mem_restRefs_of main_arg3 (by decide) (by decide))).trans (V_main_arg3 m c)⟩)
    (run_main m ρ)

end Cert.MemKvKernelIdeal.At

namespace Cert.MemKvReferenceIdeal.At

open Cert.MemKvReferenceIdeal Cert.MemKvReferenceIdeal.Gen Cert.MemKvReferenceIdeal.Read Idealize.ShloMosaic Idealize.ShloMosaic.TcCoe
open Cert.MemKvKernelIdeal.At (rmsRow keyNorm)

variable (x0 : Vec Ideal S2x256x2048 .f32) (x1 : Vec Ideal S2048 .f32) (x2 : Vec Ideal S4x2048x1024 .f32) (x3 : Vec Ideal S128 .f32)

/-- The normalised row at a position. -/
theorem norm_apply (b : Fin 2) (s : Fin 256) (k : Fin 2048) : val_main_v12 (F := Ideal) x0 x1 (ix3 b s k)
    = rmsRow (fun k => x0 (ix3 b s k)) (fun k => x1 (ix1 k)) k := by
  unfold rmsRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The projection. -/
theorem proj_apply (b : Fin 2) (s : Fin 256) (d : Fin 1024) : (val_main_v15 (F := Ideal) x0 x1 x2 : Vec Ideal S2x256x1024 .f32) (ix3 b s d)
    = ∑ k : Fin 2048, rmsRow (fun k => x0 (ix3 b s k)) (fun k => x1 (ix1 k)) k * x2 (ix3 0 k d) := by
  simp only [← norm_apply]
  pointwise [val_main_v15, val_main_v14, val_main_v13]

/-- A key before its norm. -/
theorem head_apply (b : Fin 2) (s : Fin 256) (h : Fin 4) (e : Fin 128) : (val_main_v18 (F := Ideal) x0 x1 x2 : Vec Ideal S2x256x4x128 .f32) (ix4 b s h e)
    = (val_main_v15 (F := Ideal) x0 x1 x2 : Vec Ideal S2x256x1024 .f32) (ix3 b s ⟨128 * h.val + e.val, by omega⟩) := by
  have i : (⟨128 * h.val + e.val, by omega⟩ : Fin 1024) = ⟨h.val * 128 + e.val, by omega⟩ := Fin.ext (by show 128 * h.val + e.val = h.val * 128 + e.val; omega)
  rw [i]
  pointwise [val_main_v18, val_main_v16]

/-- The keys. -/
theorem keys_apply (r q : Fin 512) : (val_main_v32 (F := Ideal) x0 x1 x2 x3 : Vec Ideal S512x512 .f32) (ix2 r q)
    = keyNorm (fun q => (val_main_v15 (F := Ideal) x0 x1 x2 : Vec Ideal S2x256x1024 .f32) (ix3 ⟨r.val / 256, by omega⟩ ⟨r.val % 256, by omega⟩ ⟨q.val, by omega⟩))
        (fun e => x3 (ix1 e)) q := by
  have a : (val_main_v32 (F := Ideal) x0 x1 x2 x3 : Vec Ideal S512x512 .f32) (ix2 r q)
      = (val_main_v31 (F := Ideal) x0 x1 x2 x3 : Vec Ideal S2x256x4x128 .f32) (ix4 ⟨r.val / 256, by omega⟩ ⟨r.val % 256, by omega⟩ ⟨q.val / 128, by omega⟩ ⟨q.val % 128, by omega⟩) := by
    pointwise [val_main_v32]
  have n (b : Fin 2) (s : Fin 256) (h : Fin 4) (e : Fin 128) : (val_main_v31 (F := Ideal) x0 x1 x2 x3 : Vec Ideal S2x256x4x128 .f32) (ix4 b s h e)
      = (val_main_v18 (F := Ideal) x0 x1 x2 : Vec Ideal S2x256x4x128 .f32) (ix4 b s h e)
        * Ideal.rsqrt (Ideal.div (∑ k : Fin 128, (val_main_v18 (F := Ideal) x0 x1 x2 : Vec Ideal S2x256x4x128 .f32) (ix4 b s h k) * (val_main_v18 (F := Ideal) x0 x1 x2 : Vec Ideal S2x256x4x128 .f32) (ix4 b s h k))
          (Ideal.ofBits .f32 0x43000000#32) + Ideal.ofBits .f32 0x358637BD#32) * x3 (ix1 e) := by
    pointwise [val_main_v31, val_main_v30, val_main_v29, val_main_v28, val_main_v27, val_main_v26, val_main_v25, val_main_v24, val_main_v23,
      val_main_v22, val_main_v21, val_main_v20, val_main_v19, val_main_cst_2, val_main_cst_3, val_main_cst_4]
  rw [a, n]
  simp only [head_apply]
  unfold keyNorm
  have i : (⟨128 * (q.val / 128) + q.val % 128, by omega⟩ : Fin 1024) = ⟨q.val, by omega⟩ := Fin.ext (by show 128 * (q.val / 128) + q.val % 128 = q.val; omega)
  rw [i]

/-- The values. -/
theorem values_apply (r q : Fin 512) : (val_main_v33 (F := Ideal) x0 x1 x2 : Vec Ideal S512x512 .f32) (ix2 r q)
    = (val_main_v15 (F := Ideal) x0 x1 x2 : Vec Ideal S2x256x1024 .f32) (ix3 ⟨r.val / 256, by omega⟩ ⟨r.val % 256, by omega⟩ ⟨512 + q.val, by omega⟩) := by
  pointwise [val_main_v33, val_main_v17]

end Cert.MemKvReferenceIdeal.At

namespace Cert.Proof.MemKv

open Idealize.ShloMosaic Idealize.ShloMosaic.TcCoe

/-- The memory's keys and values are the reference's. -/
theorem algebraic : Cert.algebraic_MemKvKernelIdeal_MemKvReferenceIdeal := by
  pair_intro
  · run_from Cert.MemKvKernelIdeal.At.run m g
  · run_from Cert.MemKvReferenceIdeal.Value.run m' g'
    · obtain ⟨h0, h1, h2, h3⟩ := hagree c
      refine (Cert.MemKvReferenceIdeal.Read.val_main_v32_eq m' c).trans ?_
      rw [h0, h1, h2, h3]
      funext j
      idx_vars j
      refine (Cert.MemKvReferenceIdeal.At.keys_apply ..).trans ?_
      simp only [Cert.MemKvReferenceIdeal.At.proj_apply]
      rfl
    · obtain ⟨h0, h1, h2, h3⟩ := hagree c
      refine (Cert.MemKvReferenceIdeal.Read.val_main_v33_eq _ _ _).trans ?_
      funext j
      idx_vars j
      refine (Cert.MemKvReferenceIdeal.At.values_apply ..).trans ?_
      exact Cert.MemKvReferenceIdeal.At.proj_apply ..

end Cert.Proof.MemKv
-- ==== Proof.InSRead.lean ====
/-
  The sample group's in projection read at an index: the kernel's steps, the host's arrays that they read and the
  reference's lines.
-/
module

public import proofs.«01_k».proof.Proof.InSRun
public import proofs.«01_k».proof.Proof.Gen.InSReferenceIdeal.Read
public import proofs.«01_k».proof.Proof.Gen.InSReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.InSKernelIdeal.At

open Cert.InSKernelIdeal Cert.InSKernelIdeal.Gen Idealize.ShloMosaic Idealize.ShloMosaic.TcCoe Idealize.SL.Sem
open Idealize.ShloMosaic.Pipeline (Dat RDat)

variable (m : (ℓ : Loc nD τ sig) → Buf (Elt Ideal) ℓ)

/-- The padding's value. -/
theorem pad_zero : (FloatOps.sitofp (F := Ideal) .f32 (0#32 : BitVec 32) : EReal) = 0 := by
  show (((0#32 : BitVec 32).toInt : ℝ) : EReal) = 0
  simp

/-- A row's root mean square norm: the row over the root of its mean square plus the small constant, times the norm's
    weights. -/
def rmsRow (x g : Fin 2048 → EReal) (d : Fin 2048) : EReal :=
  x d * Ideal.rsqrt (Ideal.div (∑ k, x k * x k) (Ideal.ofBits .f32 0x45000000#32) + Ideal.ofBits .f32 0x358637BD#32) * g d

theorem pay1_apply (x : Vec Ideal S16x2048 .f32) (g : Vec Ideal S1x2048 .f32) (p : Fin 16) (k : Fin 2048) :
    k0_pay1 x g (ix2 p k) = rmsRow (fun k => x (ix2 p k)) (fun k => g (ix2 0 k)) k := by
  unfold rmsRow
  pointwise [k0_pay1]

theorem pay2_apply (w : Vec Ideal S1x2048x512 .f32) (k : Fin 2048) (q : Fin 512) : k0_pay2 w (ix2 k q) = w (ix3 0 k q) := by
  pointwise [k0_pay2]

theorem pay6_apply (w : Vec Ideal S1x2048x512 .f32) (k : Fin 2048) (q : Fin 512) : k0_pay6 w (ix2 k q) = w (ix3 0 k q) := by
  pointwise [k0_pay6]

theorem pay7_apply (h : Vec Ideal S16x2048 .bf16) (w : Vec Ideal S1x2048x512 .f32) (p : Fin 16) (q : Fin 512) :
    k0_pay7 h w (ix2 p q) = ∑ k : Fin 2048, h (ix2 p k) * w (ix3 0 k q) := by
  pointwise [k0_pay7]
  simp only [pay6_apply]

/-- The matrix that sums a head's columns: one where the two columns are of one head. -/
def Diag (b : Vec Ideal S256x256 .bf16) : Prop := ∀ x y : Fin 256, b (ix2 x y) = if x.val / 64 = y.val / 64 then (1 : EReal) else 0

theorem div_64 (x : EReal) : Ideal.div x (Ideal.ofBits .f32 0x42800000#32) = x * Ideal.ofBits .f32 0x3C800000#32 := by
  have a : Ideal.ofBits .f32 0x42800000#32 = ((64 : ℝ) : EReal) := by
    simp [Ideal.ofBits, Ideal.ieee, -EReal.coe_mul]; norm_num
  have b : Ideal.ofBits .f32 0x3C800000#32 = (((64 : ℝ)⁻¹ : ℝ) : EReal) := by
    simp [Ideal.ofBits, Ideal.ieee, -EReal.coe_mul]; norm_num
  rw [a, b]
  unfold Ideal.div
  rw [if_neg (by exact_mod_cast (by norm_num : (64 : ℝ) ≠ 0)), EReal.coe_inv]

/-- Of a sum over 256 columns, the matrix keeps the 64 of one head. -/
theorem sum_head (f : Fin 256 → EReal) (y : Fin 256) :
    (∑ x : Fin 256, f x * (if x.val / 64 = y.val / 64 then (1 : EReal) else 0) : EReal)
      = ∑ k : Fin 64, f ⟨64 * (y.val / 64) + k.val, by omega⟩ := by
  have e : ∀ x : Fin 256, f x * (if x.val / 64 = y.val / 64 then (1 : EReal) else 0) = if x.val / 64 = y.val / 64 then f x else 0 := by
    intro x
    split
    · exact mul_one (M := EReal) _
    · exact mul_zero (M₀ := EReal) _
  rw [Finset.sum_congr (M := EReal) rfl fun x _ => e x, ← Finset.sum_filter]
  symm
  refine Finset.sum_bij (M := EReal) (fun k _ => (⟨64 * (y.val / 64) + k.val, by omega⟩ : Fin 256)) ?_ ?_ ?_ ?_
  · intro k _
    simp only [Finset.mem_filter, Finset.mem_univ, true_and]
    omega
  · intro a _ b _ h
    have := congrArg Fin.val h
    simp only at this
    exact Fin.ext (by omega)
  · intro x hx
    simp only [Finset.mem_filter, Finset.mem_univ, true_and] at hx
    exact ⟨⟨x.val % 64, by omega⟩, Finset.mem_univ _, Fin.ext (by show 64 * (y.val / 64) + x.val % 64 = x.val; omega)⟩
  · intro _ _
    rfl

theorem pay3_raw (h : Vec Ideal S16x2048 .bf16) (w : Vec Ideal S1x2048x512 .f32) (b b' : Vec Ideal S256x256 .bf16) (g : Vec Ideal S1x512 .f32)
    (p : Fin 16) (q : Fin 512) :
    k0_pay3 h w b b' g (ix2 p q) = k0_pay7 h w (ix2 p q) * Ideal.rsqrt (
      (if e : q.val < 256 then ∑ k : Fin 256, k0_pay7 h w (ix2 p ⟨k.val, by omega⟩) * k0_pay7 h w (ix2 p ⟨k.val, by omega⟩) * b (ix2 k ⟨q.val, e⟩)
        else ∑ k : Fin 256, k0_pay7 h w (ix2 p ⟨256 + k.val, by omega⟩) * k0_pay7 h w (ix2 p ⟨256 + k.val, by omega⟩) * b' (ix2 k ⟨q.val - 256, by omega⟩))
      * Ideal.ofBits .f32 0x3C800000#32 + Ideal.ofBits .f32 0x358637BD#32) * g (ix2 0 q) := by
  simp only [pay7_apply]
  pointwise [k0_pay3]
  simp only [pay2_apply]

/-- The word 64 in every place. -/
def w64 : IVec S256 32 := broadcastInDim S256 ![] bcast_S_S256 (constantI S_ 32 64#32)

/-- The host's floor division of a column's number by 64. -/
def fd : IVec S256 32 :=
  select (andi (cmpi .ne (signi (iotaInDim S256 32 0)) (broadcastInDim S256 ![] bcast_S_S256 (signi (constantI S_ 32 64#32))))
      (cmpi .ne (Host.remsi (iotaInDim S256 32 0) w64) (broadcastInDim S256 ![] bcast_S_S256 (constantI S_ 32 0#32))))
    (subi (Host.divsi (iotaInDim S256 32 0) w64) (broadcastInDim S256 ![] bcast_S_S256 (constantI S_ 32 1#32)))
    (Host.divsi (iotaInDim S256 32 0) w64)

theorem fd_apply : ∀ x : Fin 256, fd (ix1 x) = BitVec.ofNat 32 (x.val / 64) := by decide +kernel

theorem V_bd_eq (c : Dev nD) : (V m c main_v18 : Vec Ideal S256x256 .bf16)
    = (uitofp .bf16 (cmpi .eq (broadcastInDim S256x256 ![0, 1] bcast_S256x1_S256x256_0_1 (broadcastInDim S256x1 ![0] bcast_S256_S256x1_0 fd))
        (broadcastInDim S256x256 ![0, 1] bcast_S1x256_S256x256_0_1 (broadcastInDim S1x256 ![1] bcast_S256_S1x256_1 fd))) : FVec Ideal S256x256 .bf16) := by
  unfold_abbrev_sides
  simp only [hostOps0, hostOps0_1, hostOps0_2, hostOps0_3, hostOps0_4, List.flatten_cons, List.flatten_nil, List.append_nil, List.cons_append, List.nil_append]
  after_results
  rfl

theorem V_bd (c : Dev nD) : Diag (V m c main_v18 : Vec Ideal S256x256 .bf16) := by
  intro x y
  rw [V_bd_eq]
  have e : ∀ x y : Fin 256, (Scalar.cmpi .eq (fd (ix1 x)) (fd (ix1 y))) = if x.val / 64 = y.val / 64 then 1#1 else 0#1 := by
    intro x y
    rw [fd_apply, fd_apply]
    have hx : x.val / 64 < 4 := by omega
    have hy : y.val / 64 < 4 := by omega
    generalize x.val / 64 = a at hx ⊢
    generalize y.val / 64 = b at hy ⊢
    interval_cases a <;> interval_cases b <;> rfl
  have e' := e x y
  have r : (uitofp .bf16 (cmpi .eq (broadcastInDim S256x256 ![0, 1] bcast_S256x1_S256x256_0_1 (broadcastInDim S256x1 ![0] bcast_S256_S256x1_0 fd))
        (broadcastInDim S256x256 ![0, 1] bcast_S1x256_S256x256_0_1 (broadcastInDim S1x256 ![1] bcast_S256_S1x256_1 fd))) : FVec Ideal S256x256 .bf16) (ix2 x y)
      = (((Scalar.cmpi .eq (fd (ix1 x)) (fd (ix1 y)) : BitVec 1).toNat : ℝ) : EReal) := by
    pointwise
    rfl
  rw [r, e']
  split <;> simp

theorem V_qg (c : Dev nD) (q : Fin 512) : (V m c main_v6 : Vec Ideal S1x512 .f32) (ix2 0 q)
    = (m ((c : Thread nD τ).loc main_arg3) : Vec Ideal S64 .f32) (ix1 ⟨q.val % 64, by omega⟩) := by
  unfold_abbrev_sides
  simp only [hostOps0, hostOps0_1, hostOps0_2, hostOps0_3, hostOps0_4, List.flatten_cons, List.flatten_nil, List.append_nil, List.cons_append, List.nil_append]
  after_results
  pointwise

theorem V_kg (c : Dev nD) (q : Fin 512) : (V m c main_v10 : Vec Ideal S1x512 .f32) (ix2 0 q)
    = (m ((c : Thread nD τ).loc main_arg4) : Vec Ideal S64 .f32) (ix1 ⟨q.val % 64, by omega⟩) := by
  unfold_abbrev_sides
  simp only [hostOps0, hostOps0_1, hostOps0_2, hostOps0_3, hostOps0_4, List.flatten_cons, List.flatten_nil, List.append_nil, List.cons_append, List.nil_append]
  after_results
  pointwise

/-- The sequences' rows, zero after the sequences. -/
def X (c : Dev nD) (r : Fin 16) (k : Fin 2048) : EReal :=
  if h : r.val < 8 then (m ((c : Thread nD τ).loc main_arg0) : Vec Ideal S8x1x2048 .f32) (ix3 ⟨r.val, h⟩ 0 k) else 0

/-- The norm's weights. -/
def NG (c : Dev nD) (k : Fin 2048) : EReal := (m ((c : Thread nD τ).loc main_arg1) : Vec Ideal S2048 .f32) (ix1 k)

/-- The weights of the first layer. -/
def W (c : Dev nD) (k : Fin 2048) (d : Fin 5120) : EReal := (m ((c : Thread nD τ).loc main_arg2) : Vec Ideal S2x2048x5120 .f32) (ix3 0 k d)

/-- The gains of a head's queries. -/
def QG (c : Dev nD) (k : Fin 64) : EReal := (m ((c : Thread nD τ).loc main_arg3) : Vec Ideal S64 .f32) (ix1 k)

/-- The gains of a head's keys. -/
def KG (c : Dev nD) (k : Fin 64) : EReal := (m ((c : Thread nD τ).loc main_arg4) : Vec Ideal S64 .f32) (ix1 k)

theorem V_x (c : Dev nD) (r : Fin 16) (k : Fin 2048) : (V m c main_v1 : Vec Ideal S16x2048 .f32) (ix2 r k) = X m c r k := by
  unfold X
  unfold_abbrev_sides
  simp only [hostOps0, hostOps0_1, hostOps0_2, hostOps0_3, hostOps0_4, List.flatten_cons, List.flatten_nil, List.append_nil, List.cons_append, List.nil_append]
  after_reads_at
  rw [pad_zero]

theorem V_g (c : Dev nD) (k : Fin 2048) : (V m c main_v2 : Vec Ideal S1x2048 .f32) (ix2 0 k) = NG m c k := by
  unfold NG
  unfold_abbrev_sides
  simp only [hostOps0, hostOps0_1, hostOps0_2, hostOps0_3, hostOps0_4, List.flatten_cons, List.flatten_nil, List.append_nil, List.cons_append, List.nil_append]
  after_results
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val % 10] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, min t.val 2] := (by decide +kernel : ∀ t : Fin grid0.N, _)
theorem idx7 : ∀ t : Fin cfg0.N, win0_7.index t = ![0, min (t.val - 3) 2] := (by decide +kernel : ∀ t : Fin grid0.N, _)
theorem idx8 : ∀ t : Fin cfg0.N, win0_8.index t = ![0, min (t.val - 6) 2] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, t.val % 10] := (by decide +kernel : ∀ t : Fin grid0.N, _)

theorem blk0 (c : Dev nD) (t : Fin cfg0.N) (p : Fin 16) (k : Fin 2048) :
    (iblk m c 0 t : Vec Ideal S16x2048 .f32) (ix2 p k) = X m c p k := by
  refine Eq.trans ?_ (V_x m c _ k)
  blk_ext [iblk, idx0]

theorem blk1 (c : Dev nD) (t : Fin cfg0.N) (k : Fin 2048) : (iblk m c 1 t : Vec Ideal S1x2048 .f32) (ix2 0 k) = NG m c k := by
  refine Eq.trans ?_ (V_g m c k)
  blk_ext [iblk, idx1]

theorem blk2 (c : Dev nD) (t : Fin cfg0.N) (k : Fin 2048) (q : Fin 512) :
    (iblk m c 2 t : Vec Ideal S1x2048x512 .f32) (ix3 0 k q) = W m c k ⟨512 * (t.val % 10) + q.val, by omega⟩ := by
  unfold W
  rw [← V_main_arg2 m c]
  blk_ext [iblk, idx2]

theorem blk3 (c : Dev nD) (t : Fin cfg0.N) : Diag (iblk m c 3 t : Vec Ideal S256x256 .bf16) := by
  intro x y
  refine Eq.trans ?_ (V_bd m c x y)
  blk_ext [iblk, idx3]

theorem blk4 (c : Dev nD) (t : Fin cfg0.N) (q : Fin 512) :
    (iblk m c 4 t : Vec Ideal S1x512 .f32) (ix2 0 q) = QG m c ⟨q.val % 64, by omega⟩ := by
  refine Eq.trans ?_ (V_qg m c q)
  blk_ext [iblk, idx4]

theorem blk5 (c : Dev nD) (t : Fin cfg0.N) (q : Fin 512) :
    (iblk m c 5 t : Vec Ideal S1x512 .f32) (ix2 0 q) = KG m c ⟨q.val % 64, by omega⟩ := by
  refine Eq.trans ?_ (V_kg m c q)
  blk_ext [iblk, idx5]

/-- The projection at a row and a column of the weights. -/
def Z (c : Dev nD) (r : Fin 16) (d : Fin 5120) : EReal := ∑ k : Fin 2048, rmsRow (X m c r) (NG m c) k * W m c k d

/-- A sequence's row of the projection. -/
theorem Z_in (c : Dev nD) (r : Fin 16) (h : r.val < 8) (d : Fin 5120) : Z m c r d
    = ∑ k : Fin 2048, rmsRow (fun k => (m ((c : Thread nD τ).loc main_arg0) : Vec Ideal S8x1x2048 .f32) (ix3 ⟨r.val, h⟩ 0 k)) (NG m c) k * W m c k d := by
  unfold Z
  have e : X m c r = fun k => (m ((c : Thread nD τ).loc main_arg0) : Vec Ideal S8x1x2048 .f32) (ix3 ⟨r.val, h⟩ 0 k) :=
    funext fun k => by unfold X; rw [dif_pos h]
  rw [e]

/-- After the sequences the projection is zero: zero times anything is zero. -/
theorem Z_out (c : Dev nD) (r : Fin 16) (h : ¬r.val < 8) (d : Fin 5120) : Z m c r d = 0 := by
  unfold Z
  have e : X m c r = fun _ => 0 := funext fun k => by unfold X; rw [dif_neg h]
  rw [e]
  refine Finset.sum_eq_zero (M := EReal) fun k _ => ?_
  unfold rmsRow
  rw [zero_mul (M₀ := EReal), zero_mul (M₀ := EReal), zero_mul (M₀ := EReal)]

/-- A column of a tile, normalised in its head. -/
def keyNorm (z : Fin 512 → EReal) (g : Fin 64 → EReal) (q : Fin 512) : EReal :=
  z q * Ideal.rsqrt (Ideal.div (∑ k : Fin 64, z ⟨64 * (q.val / 64) + k.val, by omega⟩ * z ⟨64 * (q.val / 64) + k.val, by omega⟩)
    (Ideal.ofBits .f32 0x42800000#32) + Ideal.ofBits .f32 0x358637BD#32) * g ⟨q.val % 64, by omega⟩

theorem pay3_apply (h : Vec Ideal S16x2048 .bf16) (w : Vec Ideal S1x2048x512 .f32) (b : Vec Ideal S256x256 .bf16) (hb : Diag b)
    (g : Vec Ideal S1x512 .f32) (kg : Fin 64 → EReal) (hg : ∀ q : Fin 512, g (ix2 0 q) = kg ⟨q.val % 64, by omega⟩) (p : Fin 16) (q : Fin 512) :
    k0_pay3 h w b b g (ix2 p q) = keyNorm (fun q => k0_pay7 h w (ix2 p q)) kg q := by
  unfold keyNorm
  rw [pay3_raw, hg, div_64]
  have e : (if e : q.val < 256 then ∑ k : Fin 256, k0_pay7 h w (ix2 p ⟨k.val, by omega⟩) * k0_pay7 h w (ix2 p ⟨k.val, by omega⟩) * b (ix2 k ⟨q.val, e⟩)
        else ∑ k : Fin 256, k0_pay7 h w (ix2 p ⟨256 + k.val, by omega⟩) * k0_pay7 h w (ix2 p ⟨256 + k.val, by omega⟩) * b (ix2 k ⟨q.val - 256, by omega⟩) : EReal)
      = ∑ k : Fin 64, k0_pay7 h w (ix2 p ⟨64 * (q.val / 64) + k.val, by omega⟩) * k0_pay7 h w (ix2 p ⟨64 * (q.val / 64) + k.val, by omega⟩) := by
    split
    · rename_i e
      rw [Finset.sum_congr (M := EReal) rfl fun k _ => congrArg _ (hb k ⟨q.val, e⟩)]
      exact sum_head (fun k => k0_pay7 h w (ix2 p ⟨k.val, by omega⟩) * k0_pay7 h w (ix2 p ⟨k.val, by omega⟩)) ⟨q.val, e⟩
    · rename_i e
      rw [Finset.sum_congr (M := EReal) rfl fun k _ => congrArg _ (hb k ⟨q.val - 256, by omega⟩)]
      refine (sum_head (fun k => k0_pay7 h w (ix2 p ⟨256 + k.val, by omega⟩) * k0_pay7 h w (ix2 p ⟨256 + k.val, by omega⟩)) ⟨q.val - 256, by omega⟩).trans ?_
      refine Finset.sum_congr (M := EReal) rfl fun k _ => ?_
      have i : (⟨256 + (64 * ((q.val - 256) / 64) + k.val), by omega⟩ : Fin 512) = ⟨64 * (q.val / 64) + k.val, by omega⟩ := Fin.ext (by show 256 + (64 * ((q.val - 256) / 64) + k.val) = 64 * (q.val / 64) + k.val; omega)
      exact congrArg (fun i : Fin 512 => (k0_pay7 h w (ix2 p i) * k0_pay7 h w (ix2 p i) : EReal)) i
  rw [e]

/-- A column of the queries or of the keys, normalised in its head. -/
def headNorm (z : Fin 1536 → EReal) (g : Fin 64 → EReal) (q : Fin 1536) : EReal :=
  z q * Ideal.rsqrt (Ideal.div (∑ k : Fin 64, z ⟨64 * (q.val / 64) + k.val, by omega⟩ * z ⟨64 * (q.val / 64) + k.val, by omega⟩)
    (Ideal.ofBits .f32 0x42800000#32) + Ideal.ofBits .f32 0x358637BD#32) * g ⟨q.val % 64, by omega⟩

/-- A head lies in one tile. -/
theorem tile_norm (z : Fin 1536 → EReal) (g : Fin 64 → EReal) (a : Fin 3) (q : Fin 512) :
    keyNorm (fun q => z ⟨512 * a.val + q.val, by omega⟩) g q = headNorm z g ⟨512 * a.val + q.val, by omega⟩ := by
  unfold keyNorm headNorm
  have e : ∀ k : Fin 64, (⟨512 * a.val + (64 * (q.val / 64) + k.val), by omega⟩ : Fin 1536) = ⟨64 * ((512 * a.val + q.val) / 64) + k.val, by omega⟩ :=
    fun k => Fin.ext (by show 512 * a.val + (64 * (q.val / 64) + k.val) = 64 * ((512 * a.val + q.val) / 64) + k.val; omega)
  have f : (⟨q.val % 64, by omega⟩ : Fin 64) = ⟨(512 * a.val + q.val) % 64, by omega⟩ :=
    Fin.ext (by show q.val % 64 = (512 * a.val + q.val) % 64; omega)
  simp only [e, f]

theorem headNorm_zero (g : Fin 64 → EReal) (q : Fin 1536) : headNorm (fun _ => 0) g q = 0 := by
  unfold headNorm
  rw [zero_mul (M₀ := EReal), zero_mul (M₀ := EReal)]

end Cert.InSKernelIdeal.At

namespace Cert.InSReferenceIdeal.At

open Cert.InSReferenceIdeal Cert.InSReferenceIdeal.Gen Cert.InSReferenceIdeal.Read Idealize.ShloMosaic Idealize.ShloMosaic.TcCoe
open Cert.InSKernelIdeal.At (rmsRow headNorm)

variable (x0 : Vec Ideal S8x1x2048 .f32) (x1 : Vec Ideal S2048 .f32) (x2 : Vec Ideal S2x2048x5120 .f32) (x3 x4 : Vec Ideal S64 .f32)

/-- The normalised row of a sequence. -/
theorem norm_apply (b : Fin 8) (k : Fin 2048) : val_main_v12 (F := Ideal) x0 x1 (ix3 b 0 k)
    = rmsRow (fun k => x0 (ix3 b 0 k)) (fun k => x1 (ix1 k)) k := by
  unfold rmsRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem dot_apply (b : Fin 8) (d : Fin 5120) : (val_main_v15 (F := Ideal) x0 x1 x2 : Vec Ideal S8x1x5120 .f32) (ix3 b 0 d)
    = ∑ k : Fin 2048, rmsRow (fun k => x0 (ix3 b 0 k)) (fun k => x1 (ix1 k)) k * x2 (ix3 0 k d) := by
  simp only [← norm_apply]
  pointwise [val_main_v15, val_main_v14, val_main_v13]

theorem flat_apply (b : Fin 8) (d : Fin 5120) : (val_main_v16 (F := Ideal) x0 x1 x2 : Vec Ideal S8x5120 .f32) (ix2 b d)
    = (val_main_v15 (F := Ideal) x0 x1 x2 : Vec Ideal S8x1x5120 .f32) (ix3 b 0 d) := by
  pointwise [val_main_v16]

/-- The projection. -/
theorem proj_apply (b : Fin 8) (d : Fin 5120) : (val_main_v16 (F := Ideal) x0 x1 x2 : Vec Ideal S8x5120 .f32) (ix2 b d)
    = ∑ k : Fin 2048, rmsRow (fun k => x0 (ix3 b 0 k)) (fun k => x1 (ix1 k)) k * x2 (ix3 0 k d) :=
  (flat_apply ..).trans (dot_apply ..)

theorem queries_slice (b : Fin 8) (q : Fin 1536) : (val_main_v17 (F := Ideal) x0 x1 x2 : Vec Ideal S8x1536 .f32) (ix2 b q)
    = (val_main_v16 (F := Ideal) x0 x1 x2 : Vec Ideal S8x5120 .f32) (ix2 b ⟨q.val, by omega⟩) := by
  pointwise [val_main_v17]

theorem queries_head (b : Fin 8) (h : Fin 24) (e : Fin 64) : (val_main_v21 (F := Ideal) x0 x1 x2 : Vec Ideal S8x24x64 .f32) (ix3 b h e)
    = (val_main_v17 (F := Ideal) x0 x1 x2 : Vec Ideal S8x1536 .f32) (ix2 b ⟨64 * h.val + e.val, by omega⟩) := by
  have i : (⟨64 * h.val + e.val, by omega⟩ : Fin 1536) = ⟨h.val * 64 + e.val, by omega⟩ := Fin.ext (by show 64 * h.val + e.val = h.val * 64 + e.val; omega)
  rw [i]
  pointwise [val_main_v21]

/-- The queries. -/
theorem queries_apply (b : Fin 8) (q : Fin 1536) : (val_main_v35 (F := Ideal) x0 x1 x2 x3 : Vec Ideal S8x1536 .f32) (ix2 b q)
    = headNorm (fun q => (val_main_v16 (F := Ideal) x0 x1 x2 : Vec Ideal S8x5120 .f32) (ix2 b ⟨q.val, by omega⟩)) (fun e => x3 (ix1 e)) q := by
  have a : (val_main_v35 (F := Ideal) x0 x1 x2 x3 : Vec Ideal S8x1536 .f32) (ix2 b q)
      = (val_main_v34 (F := Ideal) x0 x1 x2 x3 : Vec Ideal S8x24x64 .f32) (ix3 b ⟨q.val / 64, by omega⟩ ⟨q.val % 64, by omega⟩) := by
    pointwise [val_main_v35]
  have n (b : Fin 8) (h : Fin 24) (e : Fin 64) : (val_main_v34 (F := Ideal) x0 x1 x2 x3 : Vec Ideal S8x24x64 .f32) (ix3 b h e)
      = (val_main_v21 (F := Ideal) x0 x1 x2 : Vec Ideal S8x24x64 .f32) (ix3 b h e)
        * Ideal.rsqrt (Ideal.div (∑ k : Fin 64, (val_main_v21 (F := Ideal) x0 x1 x2 : Vec Ideal S8x24x64 .f32) (ix3 b h k) * (val_main_v21 (F := Ideal) x0 x1 x2 : Vec Ideal S8x24x64 .f32) (ix3 b h k))
          (Ideal.ofBits .f32 0x42800000#32) + Ideal.ofBits .f32 0x358637BD#32) * x3 (ix1 e) := by
    pointwise [val_main_v34, val_main_v33, val_main_v32, val_main_v31, val_main_v30, val_main_v29, val_main_v28, val_main_v27, val_main_v26,
      val_main_v25, val_main_v24, val_main_v23, val_main_v22, val_main_cst_2, val_main_cst_3, val_main_cst_4]
  rw [a, n]
  simp only [queries_head]
  simp only [← queries_slice]
  unfold headNorm
  have i : (⟨64 * (q.val / 64) + q.val % 64, by omega⟩ : Fin 1536) = q := Fin.ext (by show 64 * (q.val / 64) + q.val % 64 = q.val; omega)
  rw [i]

theorem keys_slice (b : Fin 8) (q : Fin 1536) : (val_main_v18 (F := Ideal) x0 x1 x2 : Vec Ideal S8x1536 .f32) (ix2 b q)
    = (val_main_v16 (F := Ideal) x0 x1 x2 : Vec Ideal S8x5120 .f32) (ix2 b ⟨1536 + q.val, by omega⟩) := by
  pointwise [val_main_v18]

theorem keys_head (b : Fin 8) (h : Fin 24) (e : Fin 64) : (val_main_v36 (F := Ideal) x0 x1 x2 : Vec Ideal S8x24x64 .f32) (ix3 b h e)
    = (val_main_v18 (F := Ideal) x0 x1 x2 : Vec Ideal S8x1536 .f32) (ix2 b ⟨64 * h.val + e.val, by omega⟩) := by
  have i : (⟨64 * h.val + e.val, by omega⟩ : Fin 1536) = ⟨h.val * 64 + e.val, by omega⟩ := Fin.ext (by show 64 * h.val + e.val = h.val * 64 + e.val; omega)
  rw [i]
  pointwise [val_main_v36]

/-- The keys. -/
theorem keys_apply (b : Fin 8) (q : Fin 1536) : (val_main_v50 (F := Ideal) x0 x1 x2 x4 : Vec Ideal S8x1536 .f32) (ix2 b q)
    = headNorm (fun q => (val_main_v16 (F := Ideal) x0 x1 x2 : Vec Ideal S8x5120 .f32) (ix2 b ⟨1536 + q.val, by omega⟩)) (fun e => x4 (ix1 e)) q := by
  have a : (val_main_v50 (F := Ideal) x0 x1 x2 x4 : Vec Ideal S8x1536 .f32) (ix2 b q)
      = (val_main_v49 (F := Ideal) x0 x1 x2 x4 : Vec Ideal S8x24x64 .f32) (ix3 b ⟨q.val / 64, by omega⟩ ⟨q.val % 64, by omega⟩) := by
    pointwise [val_main_v50]
  have n (b : Fin 8) (h : Fin 24) (e : Fin 64) : (val_main_v49 (F := Ideal) x0 x1 x2 x4 : Vec Ideal S8x24x64 .f32) (ix3 b h e)
      = (val_main_v36 (F := Ideal) x0 x1 x2 : Vec Ideal S8x24x64 .f32) (ix3 b h e)
        * Ideal.rsqrt (Ideal.div (∑ k : Fin 64, (val_main_v36 (F := Ideal) x0 x1 x2 : Vec Ideal S8x24x64 .f32) (ix3 b h k) * (val_main_v36 (F := Ideal) x0 x1 x2 : Vec Ideal S8x24x64 .f32) (ix3 b h k))
          (Ideal.ofBits .f32 0x42800000#32) + Ideal.ofBits .f32 0x358637BD#32) * x4 (ix1 e) := by
    pointwise [val_main_v49, val_main_v48, val_main_v47, val_main_v46, val_main_v45, val_main_v44, val_main_v43, val_main_v42, val_main_v41,
      val_main_v40, val_main_v39, val_main_v38, val_main_v37, val_main_cst_5, val_main_cst_6, val_main_cst_7]
  rw [a, n]
  simp only [keys_head]
  simp only [← keys_slice]
  unfold headNorm
  have i : (⟨64 * (q.val / 64) + q.val % 64, by omega⟩ : Fin 1536) = q := Fin.ext (by show 64 * (q.val / 64) + q.val % 64 = q.val; omega)
  rw [i]

/-- The values. -/
theorem values_apply (b : Fin 8) (q : Fin 1536) : (val_main_v19 (F := Ideal) x0 x1 x2 : Vec Ideal S8x1536 .f32) (ix2 b q)
    = (val_main_v16 (F := Ideal) x0 x1 x2 : Vec Ideal S8x5120 .f32) (ix2 b ⟨3072 + q.val, by omega⟩) := by
  pointwise [val_main_v19]

/-- The memory's queries. -/
theorem mem_apply (b : Fin 8) (q : Fin 512) : (val_main_v20 (F := Ideal) x0 x1 x2 : Vec Ideal S8x512 .f32) (ix2 b q)
    = (val_main_v16 (F := Ideal) x0 x1 x2 : Vec Ideal S8x5120 .f32) (ix2 b ⟨4608 + q.val, by omega⟩) := by
  pointwise [val_main_v20]

theorem pad51_apply (r : Fin 16) (q : Fin 1536) : (val_main_v51 (F := Ideal) x0 x1 x2 x3 : Vec Ideal S16x1536 .f32) (ix2 r q)
    = if h : r.val < 8 then (val_main_v35 (F := Ideal) x0 x1 x2 x3 : Vec Ideal S8x1536 .f32) (ix2 ⟨r.val, h⟩ q) else 0 := by
  pointwise [val_main_v51, val_main_call0_v0, val_main_c]
  rw [Cert.InSKernelIdeal.At.pad_zero]

theorem pad52_apply (r : Fin 16) (q : Fin 1536) : (val_main_v52 (F := Ideal) x0 x1 x2 x4 : Vec Ideal S16x1536 .f32) (ix2 r q)
    = if h : r.val < 8 then (val_main_v50 (F := Ideal) x0 x1 x2 x4 : Vec Ideal S8x1536 .f32) (ix2 ⟨r.val, h⟩ q) else 0 := by
  pointwise [val_main_v52, val_main_call1_v0, val_main_c_8]
  rw [Cert.InSKernelIdeal.At.pad_zero]

theorem pad53_apply (r : Fin 16) (q : Fin 1536) : (val_main_v53 (F := Ideal) x0 x1 x2 : Vec Ideal S16x1536 .f32) (ix2 r q)
    = if h : r.val < 8 then (val_main_v19 (F := Ideal) x0 x1 x2 : Vec Ideal S8x1536 .f32) (ix2 ⟨r.val, h⟩ q) else 0 := by
  pointwise [val_main_v53, val_main_call2_v0, val_main_c_9]
  rw [Cert.InSKernelIdeal.At.pad_zero]

theorem pad54_apply (r : Fin 16) (q : Fin 512) : (val_main_v54 (F := Ideal) x0 x1 x2 : Vec Ideal S16x512 .f32) (ix2 r q)
    = if h : r.val < 8 then (val_main_v20 (F := Ideal) x0 x1 x2 : Vec Ideal S8x512 .f32) (ix2 ⟨r.val, h⟩ q) else 0 := by
  pointwise [val_main_v54, val_main_call3_v0, val_main_c_10]
  rw [Cert.InSKernelIdeal.At.pad_zero]

theorem weights_apply (k : Fin 2048) (d : Fin 5120) : (val_main_v57 (F := Ideal) x2 : Vec Ideal S2048x5120 .bf16) (ix2 k d) = x2 (ix3 0 k d) := by
  pointwise [val_main_v57, val_main_v56, val_main_v55]

end Cert.InSReferenceIdeal.At
-- ==== Proof.InSEq.lean ====
/-
  The sample group's in projection is the reference's: the products of the sequences' normalised rows with the weights,
  the queries and the keys normalised head by head, the values and the memory's queries as they are, and the weights' copy.
  The rows after the sequences are zero.
-/
module

public import proofs.«01_k».proof.Proof.InSFrame
public import proofs.«01_k».proof.Proof.InSRead
public import proofs.«01_k».proof.Proof.Gen.InSReferenceIdeal.Read
public import proofs.«01_k».proof.Proof.Gen.InSReferenceIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.InSKernelIdeal.At

open Cert.InSKernelIdeal Cert.InSKernelIdeal.Gen Cert.InSKernelIdeal.Step Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

theorem rows_apply (c : Dev nD) (p : Fin 16) (k : Fin 2048) : rows m c (ix2 p k) = rmsRow (X m c p) (NG m c) k := by
  unfold rows
  rw [pay1_apply]
  simp only [blk0, blk1]

theorem prod_apply (c : Dev nD) (t : Fin cfg0.N) (p : Fin 16) (q : Fin 512) :
    k0_pay7 (rows m c) (iblk m c 2 t) (ix2 p q) = Z m c p ⟨512 * (t.val % 10) + q.val, by omega⟩ := by
  refine (pay7_apply ..).trans ?_
  unfold Z
  exact Finset.sum_congr (M := EReal) rfl fun k _ => congrArg₂ (fun y z : EReal => y * z) (rows_apply m c p k) (blk2 m c t k q)

/-- The five results. -/
def G6 (c : Dev nD) : Vec Ideal S16x1536 .f32 := fun j => headNorm (fun q => Z m c (j 0) ⟨q.val, by omega⟩) (QG m c) (j 1)
def G7 (c : Dev nD) : Vec Ideal S16x1536 .f32 := fun j => headNorm (fun q => Z m c (j 0) ⟨1536 + q.val, by omega⟩) (KG m c) (j 1)
def G8 (c : Dev nD) : Vec Ideal S16x1536 .f32 := fun j => Z m c (j 0) ⟨3072 + (j 1).val, by have := (j 1).isLt; simp at this; omega⟩
def G9 (c : Dev nD) : Vec Ideal S16x512 .f32 := fun j => Z m c (j 0) ⟨4608 + (j 1).val, by have := (j 1).isLt; simp at this; omega⟩
def G10 (c : Dev nD) : Vec Ideal S2048x5120 .bf16 := fun j => W m c (j 0) (j 1)

theorem q6_apply (c : Dev nD) (t : Fin cfg0.N) (p : Fin 16) (q : Fin 512) :
    q6 m c t (ix2 p q) = G6 m c (ix2 p ⟨512 * min t.val 2 + q.val, by omega⟩) := by
  unfold q6 qTile
  refine (pay3_apply _ _ _ (blk3 m c _) _ (QG m c) (blk4 m c _) p q).trans ?_
  refine Eq.trans (congrArg (fun z => keyNorm z (QG m c) q) (funext fun q => ?_))
    (tile_norm (fun q => Z m c p ⟨q.val, by omega⟩) (QG m c) ⟨min t.val 2, by omega⟩ q)
  refine (prod_apply m c _ p q).trans (congrArg (Z m c p) (Fin.ext ?_))
  show 512 * (min t.val 2 % 10 % 10) + q.val = 512 * min t.val 2 + q.val
  omega

theorem k7_apply (c : Dev nD) (t : Fin cfg0.N) (h : 3 ≤ t.val) (p : Fin 16) (q : Fin 512) :
    k7 m c t (ix2 p q) = G7 m c (ix2 p ⟨512 * min (t.val - 3) 2 + q.val, by omega⟩) := by
  unfold k7 kTile
  refine (pay3_apply _ _ _ (blk3 m c _) _ (KG m c) (blk5 m c _) p q).trans ?_
  refine Eq.trans (congrArg (fun z => keyNorm z (KG m c) q) (funext fun q => ?_))
    (tile_norm (fun q => Z m c p ⟨1536 + q.val, by omega⟩) (KG m c) ⟨min (t.val - 3) 2, by omega⟩ q)
  refine (prod_apply m c _ p q).trans (congrArg (Z m c p) (Fin.ext ?_))
  show 512 * (min t.val 5 % 10 % 10) + q.val = 1536 + (512 * min (t.val - 3) 2 + q.val)
  omega

theorem v8_apply (c : Dev nD) (t : Fin cfg0.N) (h : 6 ≤ t.val) (p : Fin 16) (q : Fin 512) :
    v8 m c t (ix2 p q) = G8 m c (ix2 p ⟨512 * min (t.val - 6) 2 + q.val, by omega⟩) := by
  unfold v8 vTile
  refine (prod_apply m c _ p q).trans (congrArg (Z m c p) (Fin.ext ?_))
  show 512 * (min t.val 8 % 10 % 10) + q.val = 3072 + (512 * min (t.val - 6) 2 + q.val)
  omega

theorem m9_apply (c : Dev nD) (t : Fin cfg0.N) (h : t.val = 9) (p : Fin 16) (q : Fin 512) :
    m9 m c t (ix2 p q) = G9 m c (ix2 p q) := by
  unfold m9 vTile
  refine (prod_apply m c _ p q).trans (congrArg (Z m c p) (Fin.ext ?_))
  show 512 * (t.val % 10) + q.val = 4608 + q.val
  omega

theorem w10_apply (c : Dev nD) (t : Fin cfg0.N) (k : Fin 2048) (q : Fin 512) :
    w10 m c t (ix2 k q) = G10 m c (ix2 k ⟨512 * (t.val % 10) + q.val, by omega⟩) := by
  unfold w10
  exact (pay2_apply ..).trans (blk2 m c t k q)

/-! ## The arrays the kernel leaves -/

theorem final6 (c : Dev nD) (after) (h : ∀ t, (cfg0.win 6).flush t = true → after 6 t = q6 m c t) :
    ((rdat m c).withAfter after).arrAt 6 cfg0.N = G6 m c := by
  refine Dat.arrAt_eq_of_covers _ 6 _ (by decide +kernel) fun t hf y => ?_
  blk_simp
  rw [RDat.withAfter_after, h t hf]
  idx_vars y
  refine (q6_apply m c t y0 y1).trans ?_
  blk_ext [idx6]

theorem final7 (c : Dev nD) (after) (h : ∀ t, (cfg0.win 7).flush t = true → after 7 t = k7 m c t) :
    ((rdat m c).withAfter after).arrAt 7 cfg0.N = G7 m c := by
  refine Dat.arrAt_eq_of_covers _ 7 _ (by decide +kernel) fun t hf y => ?_
  blk_simp
  rw [RDat.withAfter_after, h t hf]
  idx_vars y
  refine (k7_apply m c t (by have := (flush7_iff t).mp hf; omega) y0 y1).trans ?_
  blk_ext [idx7]

theorem final8 (c : Dev nD) (after) (h : ∀ t, (cfg0.win 8).flush t = true → after 8 t = v8 m c t) :
    ((rdat m c).withAfter after).arrAt 8 cfg0.N = G8 m c := by
  refine Dat.arrAt_eq_of_covers _ 8 _ (by decide +kernel) fun t hf y => ?_
  blk_simp
  rw [RDat.withAfter_after, h t hf]
  idx_vars y
  refine (v8_apply m c t (by have := (flush8_iff t).mp hf; omega) y0 y1).trans ?_
  blk_ext [idx8]

theorem final9 (c : Dev nD) (after) (h : ∀ t, (cfg0.win 9).flush t = true → after 9 t = m9 m c t) :
    ((rdat m c).withAfter after).arrAt 9 cfg0.N = G9 m c := by
  refine Dat.arrAt_eq_of_covers _ 9 _ (by decide +kernel) fun t hf y => ?_
  blk_simp
  rw [RDat.withAfter_after, h t hf]
  idx_vars y
  refine (m9_apply m c t ((flush9_iff t).mp hf) y0 y1).trans ?_
  blk_ext [idx9]

theorem final10 (c : Dev nD) (after) (h : ∀ t, (cfg0.win 10).flush t = true → after 10 t = w10 m c t) :
    ((rdat m c).withAfter after).arrAt 10 cfg0.N = G10 m c := by
  refine Dat.arrAt_eq_of_covers _ 10 _ (by decide +kernel) fun t hf y => ?_
  blk_simp
  rw [RDat.withAfter_after, h t hf]
  idx_vars y
  refine (w10_apply m c t y0 y1).trans ?_
  blk_ext [idx10]

/-- The five arrays after the run. -/
theorem post (r : PUnit × MemSt nD τ sig (Elt Ideal)) (h : RDat.FramePost cfg0 (rdat m) (V m) r) (c : Dev nD) :
    r.2.mem ((c : Thread nD τ).loc main_v19_0) = G6 m c
      ∧ r.2.mem ((c : Thread nD τ).loc main_v19_1) = G7 m c
      ∧ r.2.mem ((c : Thread nD τ).loc main_v19_2) = G8 m c
      ∧ r.2.mem ((c : Thread nD τ).loc main_v19_3) = G9 m c
      ∧ r.2.mem ((c : Thread nD τ).loc main_v19_4) = G10 m c := by
  obtain ⟨after, hL, hA⟩ := RDat.FramePost.exists_exact h c
  refine ⟨(hA 6).trans (final6 m c after fun t hf => ?_), (hA 7).trans (final7 m c after fun t hf => ?_), (hA 8).trans (final8 m c after fun t hf => ?_), (hA 9).trans (final9 m c after fun t hf => ?_), (hA 10).trans (final10 m c after fun t hf => ?_)⟩
  · exact (said_6 m c t _).mp ((dat m c).toRRel_leaves (w := 6) rfl (hL 6 t hf))
  · exact (said_7 m c t _).mp ((dat m c).toRRel_leaves (w := 7) rfl (hL 7 t hf)) (by have := (flush7_iff t).mp hf; omega)
  · exact (said_8 m c t _).mp ((dat m c).toRRel_leaves (w := 8) rfl (hL 8 t hf)) (by have := (flush8_iff t).mp hf; omega)
  · exact (said_9 m c t _).mp ((dat m c).toRRel_leaves (w := 9) rfl (hL 9 t hf)) ((flush9_iff t).mp hf)
  · exact (said_10 m c t _).mp ((dat m c).toRRel_leaves (w := 10) rfl (hL 10 t hf))

/-- The run, with the five arrays and the arguments named. -/
theorem run : θ_run defs (onTc (τ := τ) (main (F := Ideal))) ⟨m, fun _ => 0, ρ⟩ fun r => ∀ c : Dev nD,
      r.2.mem ((c : Thread nD τ).loc main_v19_0) = G6 m c
      ∧ r.2.mem ((c : Thread nD τ).loc main_v19_1) = G7 m c
      ∧ r.2.mem ((c : Thread nD τ).loc main_v19_2) = G8 m c
      ∧ r.2.mem ((c : Thread nD τ).loc main_v19_3) = G9 m c
      ∧ r.2.mem ((c : Thread nD τ).loc main_v19_4) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post m r h c).1, (post m r h c).2.1, (post m r h c).2.2.1, (post m r h c).2.2.2.1, (post m r h c).2.2.2.2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      kept_weights m r h c,
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.InSKernelIdeal.At

namespace Cert.Proof.InS

open Idealize.ShloMosaic Idealize.ShloMosaic.TcCoe

/-- The sample group's in projection is the reference's. -/
theorem algebraic : Cert.algebraic_InSKernelIdeal_InSReferenceIdeal := by
  pair_intro
  · run_from Cert.InSKernelIdeal.At.run m g
  · run_from Cert.InSReferenceIdeal.Value.run m' g'
    · obtain ⟨h0, h1, h2, h3, h4⟩ := hagree c
      refine (Cert.InSReferenceIdeal.Read.val_main_v51_eq m' c).trans ?_
      rw [h0, h1, h2, h3]
      funext j
      idx_vars j
      refine (Cert.InSReferenceIdeal.At.pad51_apply ..).trans ?_
      show _ = Cert.InSKernelIdeal.At.headNorm (fun q => Cert.InSKernelIdeal.At.Z m c j0 ⟨q.val, by omega⟩) (Cert.InSKernelIdeal.At.QG m c) j1
      split
      · rename_i h
        refine (Cert.InSReferenceIdeal.At.queries_apply ..).trans ?_
        refine congrArg (fun z => Cert.InSKernelIdeal.At.headNorm z (Cert.InSKernelIdeal.At.QG m c) j1) (funext fun q => ?_)
        exact (Cert.InSReferenceIdeal.At.proj_apply ..).trans (Cert.InSKernelIdeal.At.Z_in m c j0 h _).symm
      · rename_i h
        simp only [Cert.InSKernelIdeal.At.Z_out m c j0 h]
        exact (Cert.InSKernelIdeal.At.headNorm_zero ..).symm
    · obtain ⟨h0, h1, h2, h3, h4⟩ := hagree c
      refine (Cert.InSReferenceIdeal.Read.val_main_v52_eq m' c).trans ?_
      rw [h0, h1, h2, h4]
      funext j
      idx_vars j
      refine (Cert.InSReferenceIdeal.At.pad52_apply ..).trans ?_
      show _ = Cert.InSKernelIdeal.At.headNorm (fun q => Cert.InSKernelIdeal.At.Z m c j0 ⟨1536 + q.val, by omega⟩) (Cert.InSKernelIdeal.At.KG m c) j1
      split
      · rename_i h
        refine (Cert.InSReferenceIdeal.At.keys_apply ..).trans ?_
        refine congrArg (fun z => Cert.InSKernelIdeal.At.headNorm z (Cert.InSKernelIdeal.At.KG m c) j1) (funext fun q => ?_)
        exact (Cert.InSReferenceIdeal.At.proj_apply ..).trans (Cert.InSKernelIdeal.At.Z_in m c j0 h _).symm
      · rename_i h
        simp only [Cert.InSKernelIdeal.At.Z_out m c j0 h]
        exact (Cert.InSKernelIdeal.At.headNorm_zero ..).symm
    · obtain ⟨h0, h1, h2, h3, h4⟩ := hagree c
      refine (Cert.InSReferenceIdeal.Read.val_main_v53_eq _ _ _).trans ?_
      funext j
      idx_vars j
      refine (Cert.InSReferenceIdeal.At.pad53_apply ..).trans ?_
      show _ = Cert.InSKernelIdeal.At.Z m c j0 ⟨3072 + j1.val, by omega⟩
      split
      · rename_i h
        refine (Cert.InSReferenceIdeal.At.values_apply ..).trans ?_
        exact (Cert.InSReferenceIdeal.At.proj_apply ..).trans (Cert.InSKernelIdeal.At.Z_in m c j0 h _).symm
      · rename_i h
        exact (Cert.InSKernelIdeal.At.Z_out m c j0 h _).symm
    · obtain ⟨h0, h1, h2, h3, h4⟩ := hagree c
      refine (Cert.InSReferenceIdeal.Read.val_main_v54_eq _ _ _).trans ?_
      funext j
      idx_vars j
      refine (Cert.InSReferenceIdeal.At.pad54_apply ..).trans ?_
      show _ = Cert.InSKernelIdeal.At.Z m c j0 ⟨4608 + j1.val, by omega⟩
      split
      · rename_i h
        refine (Cert.InSReferenceIdeal.At.mem_apply ..).trans ?_
        exact (Cert.InSReferenceIdeal.At.proj_apply ..).trans (Cert.InSKernelIdeal.At.Z_in m c j0 h _).symm
      · rename_i h
        exact (Cert.InSKernelIdeal.At.Z_out m c j0 h _).symm
    · obtain ⟨h0, h1, h2, h3, h4⟩ := hagree c
      refine (Cert.InSReferenceIdeal.Read.val_main_v57_eq _).trans ?_
      funext j
      idx_vars j
      exact Cert.InSReferenceIdeal.At.weights_apply ..

end Cert.Proof.InS
-- ==== Proof.lean ====
/-
  The claims' proofs. The kernels' frames are the generated ones, but for
  those proved in a module of their own under Proof/; the references' come from their runs; the value claims
  are proved in the modules under Proof/.
-/
module

public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnKernelIdeal.Value
public import proofs.«01_k».proof.Proof.Gen.FfnReferenceIdeal.Run
public import proofs.«01_k».proof.Proof.Gen.MixerKernel
public import proofs.«01_k».proof.Proof.Gen.MixerKernel.Skeleton
public import proofs.«01_k».proof.Proof.Gen.MixerKernel.Launch
public import proofs.«01_k».proof.Proof.Gen.MixerKernel.Points
public import proofs.«01_k».proof.Proof.Gen.MixerKernel.Frame
public import proofs.«01_k».proof.Proof.Gen.MixerKernelIdeal
public import proofs.«01_k».proof.Proof.Gen.MixerKernelIdeal.Skeleton
public import proofs.«01_k».proof.Proof.Gen.MixerKernelIdeal.Launch
public import proofs.«01_k».proof.Proof.Gen.MixerKernelIdeal.Points
public import proofs.«01_k».proof.Proof.Gen.MixerKernelIdeal.Frame
public import proofs.«01_k».proof.Proof.Gen.MixerReferenceIdeal
public import proofs.«01_k».proof.Proof.Gen.MixerKernelIdeal.Value
public import proofs.«01_k».proof.Proof.Gen.MixerReferenceIdeal.Run
public import proofs.«01_k».proof.Proof.Gen.MemoryKernel
public import proofs.«01_k».proof.Proof.Gen.MemoryKernel.Skeleton
public import proofs.«01_k».proof.Proof.Gen.MemoryKernel.Launch
public import proofs.«01_k».proof.Proof.Gen.MemoryKernel.Points
public import proofs.«01_k».proof.Proof.Gen.MemoryKernel.Frame
public import proofs.«01_k».proof.Proof.Gen.MemoryKernelIdeal
public import proofs.«01_k».proof.Proof.Gen.MemoryKernelIdeal.Skeleton
public import proofs.«01_k».proof.Proof.Gen.MemoryKernelIdeal.Launch
public import proofs.«01_k».proof.Proof.Gen.MemoryKernelIdeal.Points
public import proofs.«01_k».proof.Proof.Gen.MemoryKernelIdeal.Frame
public import proofs.«01_k».proof.Proof.Gen.MemoryReferenceIdeal
public import proofs.«01_k».proof.Proof.Gen.MemoryKernelIdeal.Value
public import proofs.«01_k».proof.Proof.Gen.MemoryReferenceIdeal.Run
public import proofs.«01_k».proof.Proof.Gen.MixerSKernel
public import proofs.«01_k».proof.Proof.Gen.MixerSKernel.Skeleton
public import proofs.«01_k».proof.Proof.Gen.MixerSKernel.Launch
public import proofs.«01_k».proof.Proof.Gen.MixerSKernel.Points
public import proofs.«01_k».proof.Proof.Gen.MixerSKernel.Frame
public import proofs.«01_k».proof.Proof.Gen.MixerSKernelIdeal
public import proofs.«01_k».proof.Proof.Gen.MixerSKernelIdeal.Skeleton
public import proofs.«01_k».proof.Proof.Gen.MixerSKernelIdeal.Launch
public import proofs.«01_k».proof.Proof.Gen.MixerSKernelIdeal.Points
public import proofs.«01_k».proof.Proof.Gen.MixerSKernelIdeal.Frame
public import proofs.«01_k».proof.Proof.Gen.MixerSReferenceIdeal
public import proofs.«01_k».proof.Proof.Gen.MixerSKernelIdeal.Value
public import proofs.«01_k».proof.Proof.Gen.MixerSReferenceIdeal.Run
public import proofs.«01_k».proof.Proof.Gen.FfnSKernel
public import proofs.«01_k».proof.Proof.Gen.FfnSKernel.Skeleton
public import proofs.«01_k».proof.Proof.Gen.FfnSKernel.Launch
public import proofs.«01_k».proof.Proof.Gen.FfnSKernel.Points
public import proofs.«01_k».proof.Proof.Gen.FfnSKernel.Frame
public import proofs.«01_k».proof.Proof.Gen.FfnSKernelIdeal
public import proofs.«01_k».proof.Proof.Gen.FfnSKernelIdeal.Skeleton
public import proofs.«01_k».proof.Proof.Gen.FfnSKernelIdeal.Launch
public import proofs.«01_k».proof.Proof.Gen.FfnSKernelIdeal.Points
public import proofs.«01_k».proof.Proof.Gen.FfnSKernelIdeal.Frame
public import proofs.«01_k».proof.Proof.Gen.FfnSReferenceIdeal
public import proofs.«01_k».proof.Proof.Gen.FfnSKernelIdeal.Value
public import proofs.«01_k».proof.Proof.Gen.FfnSReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutKernelIdeal.Value
public import proofs.«01_k».proof.Proof.Gen.OutReferenceIdeal.Run
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.GateRun
public import proofs.«01_k».proof.Proof.GateFrame
public import proofs.«01_k».proof.Proof.GateRunP
public import proofs.«01_k».proof.Proof.GateFrameP
public import proofs.«01_k».proof.Proof.Gen.GateReferenceIdeal
public import proofs.«01_k».proof.Proof.Gen.GateReferenceIdeal.Run
public import proofs.«01_k».proof.Proof.Gen.MemKvKernel
public import proofs.«01_k».proof.Proof.Gen.MemKvKernel.Skeleton
public import proofs.«01_k».proof.Proof.Gen.MemKvKernel.Launch
public import proofs.«01_k».proof.Proof.Gen.MemKvKernel.Points
public import proofs.«01_k».proof.Proof.Gen.MemKvKernel.Frame
public import proofs.«01_k».proof.Proof.Gen.MemKvKernelIdeal
public import proofs.«01_k».proof.Proof.Gen.MemKvKernelIdeal.Skeleton
public import proofs.«01_k».proof.Proof.Gen.MemKvKernelIdeal.Launch
public import proofs.«01_k».proof.Proof.Gen.MemKvKernelIdeal.Points
public import proofs.«01_k».proof.Proof.Gen.MemKvKernelIdeal.Frame
public import proofs.«01_k».proof.Proof.MemKvRun
public import proofs.«01_k».proof.Proof.MemKvFrame
public import proofs.«01_k».proof.Proof.MemKvRunP
public import proofs.«01_k».proof.Proof.MemKvFrameP
public import proofs.«01_k».proof.Proof.Gen.MemKvReferenceIdeal
public import proofs.«01_k».proof.Proof.Gen.MemKvReferenceIdeal.Run
public import proofs.«01_k».proof.Proof.Gen.InSKernel
public import proofs.«01_k».proof.Proof.Gen.InSKernel.Skeleton
public import proofs.«01_k».proof.Proof.Gen.InSKernel.Launch
public import proofs.«01_k».proof.Proof.Gen.InSKernel.Points
public import proofs.«01_k».proof.Proof.Gen.InSKernel.Frame
public import proofs.«01_k».proof.Proof.Gen.InSKernelIdeal
public import proofs.«01_k».proof.Proof.Gen.InSKernelIdeal.Skeleton
public import proofs.«01_k».proof.Proof.Gen.InSKernelIdeal.Launch
public import proofs.«01_k».proof.Proof.Gen.InSKernelIdeal.Points
public import proofs.«01_k».proof.Proof.Gen.InSKernelIdeal.Frame
public import proofs.«01_k».proof.Proof.InSRun
public import proofs.«01_k».proof.Proof.InSFrame
public import proofs.«01_k».proof.Proof.InSRunP
public import proofs.«01_k».proof.Proof.InSFrameP
public import proofs.«01_k».proof.Proof.Gen.InSReferenceIdeal
public import proofs.«01_k».proof.Proof.Gen.InSReferenceIdeal.Run
public import proofs.«01_k».proof.Proof.FfnEq
public import proofs.«01_k».proof.Proof.MixerEq
public import proofs.«01_k».proof.Proof.MemoryEq
public import proofs.«01_k».proof.Proof.MixerSEq
public import proofs.«01_k».proof.Proof.FfnSEq
public import proofs.«01_k».proof.Proof.OutEq
public import proofs.«01_k».proof.Proof.GateEq
public import proofs.«01_k».proof.Proof.MemKvEq
public import proofs.«01_k».proof.Proof.InSEq
public import Idealize.ShloMosaic.Adequacy
public import Idealize.ShloMosaic.Init

@[expose] public section

noncomputable section

namespace Cert.Proof

open Idealize.ShloMosaic Idealize.SL.Sem

/-- The feed-forward reference keeps its arguments and ends with every counter at zero. -/
theorem ffnReference : Cert.quiescent_FfnReferenceIdeal := fun m ρ _ =>
  (θ_run Cert.FfnReferenceIdeal.defs _ _).mono
    (fun r h => ⟨fun c => (h c).2.2, Idealize.ShloMosaic.sem_eq_zero_of_no_sems (by decide) r.2⟩)
    (Cert.FfnReferenceIdeal.Value.run (F := Ideal) m ρ)

/-- The mixer reference keeps its arguments and ends with every counter at zero. -/
theorem mixerReference : Cert.quiescent_MixerReferenceIdeal := fun m ρ _ =>
  (θ_run Cert.MixerReferenceIdeal.defs _ _).mono
    (fun r h => ⟨fun c => (h c).2, Idealize.ShloMosaic.sem_eq_zero_of_no_sems (by decide) r.2⟩)
    (Cert.MixerReferenceIdeal.Value.run (F := Ideal) m ρ)

/-- The memory attention reference keeps its arguments and ends with every counter at zero. -/
theorem memoryReference : Cert.quiescent_MemoryReferenceIdeal := fun m ρ _ =>
  (θ_run Cert.MemoryReferenceIdeal.defs _ _).mono
    (fun r h => ⟨fun c => (h c).2, Idealize.ShloMosaic.sem_eq_zero_of_no_sems (by decide) r.2⟩)
    (Cert.MemoryReferenceIdeal.Value.run (F := Ideal) m ρ)

/-- The sample group's mixer reference keeps its arguments and ends with every counter at zero. -/
theorem mixerSReference : Cert.quiescent_MixerSReferenceIdeal := fun m ρ _ =>
  (θ_run Cert.MixerSReferenceIdeal.defs _ _).mono
    (fun r h => ⟨fun c => (h c).2.2, Idealize.ShloMosaic.sem_eq_zero_of_no_sems (by decide) r.2⟩)
    (Cert.MixerSReferenceIdeal.Value.run (F := Ideal) m ρ)

/-- The sample group's feed-forward reference keeps its arguments and ends with every counter at zero. -/
theorem ffnSReference : Cert.quiescent_FfnSReferenceIdeal := fun m ρ _ =>
  (θ_run Cert.FfnSReferenceIdeal.defs _ _).mono
    (fun r h => ⟨fun c => (h c).2.2.2.2.2, Idealize.ShloMosaic.sem_eq_zero_of_no_sems (by decide) r.2⟩)
    (Cert.FfnSReferenceIdeal.Value.run (F := Ideal) m ρ)

/-- The output projection reference keeps its arguments and ends with every counter at zero. -/
theorem outReference : Cert.quiescent_OutReferenceIdeal := fun m ρ _ =>
  (θ_run Cert.OutReferenceIdeal.defs _ _).mono
    (fun r h => ⟨fun c => (h c).2, Idealize.ShloMosaic.sem_eq_zero_of_no_sems (by decide) r.2⟩)
    (Cert.OutReferenceIdeal.Value.run (F := Ideal) m ρ)

/-- The in projection reference keeps its arguments and ends with every counter at zero. -/
theorem gateReference : Cert.quiescent_GateReferenceIdeal := fun m ρ _ =>
  (θ_run Cert.GateReferenceIdeal.defs _ _).mono
    (fun r h => ⟨fun c => (h c).2.2.2, Idealize.ShloMosaic.sem_eq_zero_of_no_sems (by decide) r.2⟩)
    (Cert.GateReferenceIdeal.Value.run (F := Ideal) m ρ)

/-- The memory's keys and values reference keeps its arguments and ends with every counter at zero. -/
theorem memKvReference : Cert.quiescent_MemKvReferenceIdeal := fun m ρ _ =>
  (θ_run Cert.MemKvReferenceIdeal.defs _ _).mono
    (fun r h => ⟨fun c => (h c).2.2, Idealize.ShloMosaic.sem_eq_zero_of_no_sems (by decide) r.2⟩)
    (Cert.MemKvReferenceIdeal.Value.run (F := Ideal) m ρ)

/-- The sample group's in projection reference keeps its arguments and ends with every counter at zero. -/
theorem inSReference : Cert.quiescent_InSReferenceIdeal := fun m ρ _ =>
  (θ_run Cert.InSReferenceIdeal.defs _ _).mono
    (fun r h => ⟨fun c => (h c).2.2.2.2.2, Idealize.ShloMosaic.sem_eq_zero_of_no_sems (by decide) r.2⟩)
    (Cert.InSReferenceIdeal.Value.run (F := Ideal) m ρ)

theorem claim : Cert.Claim := ⟨Cert.FfnKernel.Gen.facts, Cert.FfnKernelIdeal.Gen.facts, Cert.FfnReferenceIdeal.Gen.facts,
  Cert.MixerKernel.Gen.facts, Cert.MixerKernelIdeal.Gen.facts, Cert.MixerReferenceIdeal.Gen.facts,
  Cert.MemoryKernel.Gen.facts, Cert.MemoryKernelIdeal.Gen.facts, Cert.MemoryReferenceIdeal.Gen.facts,
  Cert.MixerSKernel.Gen.facts, Cert.MixerSKernelIdeal.Gen.facts, Cert.MixerSReferenceIdeal.Gen.facts,
  Cert.FfnSKernel.Gen.facts, Cert.FfnSKernelIdeal.Gen.facts, Cert.FfnSReferenceIdeal.Gen.facts,
  Cert.OutKernel.Gen.facts, Cert.OutKernelIdeal.Gen.facts, Cert.OutReferenceIdeal.Gen.facts,
  Cert.GateKernel.Gen.facts, Cert.GateKernelIdeal.Gen.facts, Cert.GateReferenceIdeal.Gen.facts,
  Cert.MemKvKernel.Gen.facts, Cert.MemKvKernelIdeal.Gen.facts, Cert.MemKvReferenceIdeal.Gen.facts,
  Cert.InSKernel.Gen.facts, Cert.InSKernelIdeal.Gen.facts, Cert.InSReferenceIdeal.Gen.facts,
  fun m ρ _ => Cert.FfnKernel.Gen.frame m ρ,
  fun m ρ _ => Cert.FfnKernelIdeal.Gen.frame m ρ,
  ffnReference,
  fun m ρ _ => Cert.MixerKernel.Gen.frame m ρ,
  fun m ρ _ => Cert.MixerKernelIdeal.Gen.frame m ρ,
  mixerReference,
  fun m ρ _ => Cert.MemoryKernel.Gen.frame m ρ,
  fun m ρ _ => Cert.MemoryKernelIdeal.Gen.frame m ρ,
  memoryReference,
  fun m ρ _ => Cert.MixerSKernel.Gen.frame m ρ,
  fun m ρ _ => Cert.MixerSKernelIdeal.Gen.frame m ρ,
  mixerSReference,
  fun m ρ _ => Cert.FfnSKernel.Gen.frame m ρ,
  fun m ρ _ => Cert.FfnSKernelIdeal.Gen.frame m ρ,
  ffnSReference,
  fun m ρ _ => Cert.OutKernel.Gen.frame m ρ,
  fun m ρ _ => Cert.OutKernelIdeal.Gen.frame m ρ,
  outReference,
  fun m ρ _ => Cert.GateKernel.Step.frame m ρ,
  fun m ρ _ => Cert.GateKernelIdeal.Step.frame m ρ,
  gateReference,
  fun m ρ _ => Cert.MemKvKernel.Step.frame m ρ,
  fun m ρ _ => Cert.MemKvKernelIdeal.Step.frame m ρ,
  memKvReference,
  fun m ρ _ => Cert.InSKernel.Step.frame m ρ,
  fun m ρ _ => Cert.InSKernelIdeal.Step.frame m ρ,
  inSReference,
  trivial,
  Cert.Proof.Ffn.algebraic,
  trivial,
  Cert.Proof.Mixer.algebraic,
  trivial,
  Cert.Proof.Memory.algebraic,
  trivial,
  Cert.Proof.MixerS.algebraic,
  trivial,
  Cert.Proof.FfnS.algebraic,
  trivial,
  Cert.Proof.Out.algebraic,
  trivial,
  Cert.Proof.Gate.algebraic,
  trivial,
  Cert.Proof.MemKv.algebraic,
  trivial,
  Cert.Proof.InS.algebraic⟩

end Cert.Proof

end
